-- ==== Defs.lean ====
def Pre_Ssd (m : (ℓ : Loc Cert.Ssd.nD Cert.Ssd.τ Cert.Ssd.sig) → Buf (Elt Bits) ℓ) : Prop :=
  True

def Pre_SsdIdeal (m : (ℓ : Loc Cert.SsdIdeal.nD Cert.SsdIdeal.τ Cert.SsdIdeal.sig) → Buf (Elt Ideal) ℓ) : Prop :=
  True

def Pre_SsdRefIdeal (m : (ℓ : Loc Cert.SsdRefIdeal.nD Cert.SsdRefIdeal.τ Cert.SsdRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Cmp (m : (ℓ : Loc Cert.Cmp.nD Cert.Cmp.τ Cert.Cmp.sig) → Buf (Elt Bits) ℓ) : Prop :=
  True

def Pre_CmpIdeal (m : (ℓ : Loc Cert.CmpIdeal.nD Cert.CmpIdeal.τ Cert.CmpIdeal.sig) → Buf (Elt Ideal) ℓ) : Prop :=
  True

def Pre_CmpRefIdeal (m : (ℓ : Loc Cert.CmpRefIdeal.nD Cert.CmpRefIdeal.τ Cert.CmpRefIdeal.sig) → Buf (Elt Ideal) ℓ) : Prop :=
  True

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1)
      ∧ r.2.mem ((c.tc : Thread Cert.Ssd.nD Cert.Ssd.τ).loc Cert.Ssd.main_arg2) = m ((c.tc : Thread Cert.Ssd.nD Cert.Ssd.τ).loc Cert.Ssd.main_arg2)
      ∧ r.2.mem ((c.tc : Thread Cert.Ssd.nD Cert.Ssd.τ).loc Cert.Ssd.main_arg3) = m ((c.tc : Thread Cert.Ssd.nD Cert.Ssd.τ).loc Cert.Ssd.main_arg3)
      ∧ r.2.mem ((c.tc : Thread Cert.Ssd.nD Cert.Ssd.τ).loc Cert.Ssd.main_arg4) = m ((c.tc : Thread Cert.Ssd.nD Cert.Ssd.τ).loc Cert.Ssd.main_arg4)
      ∧ r.2.mem ((c.tc : Thread Cert.Ssd.nD Cert.Ssd.τ).loc Cert.Ssd.main_arg5) = m ((c.tc : Thread Cert.Ssd.nD Cert.Ssd.τ).loc Cert.Ssd.main_arg5)
      ∧ r.2.mem ((c.tc : Thread Cert.Ssd.nD Cert.Ssd.τ).loc Cert.Ssd.main_arg6) = m ((c.tc : Thread Cert.Ssd.nD Cert.Ssd.τ).loc Cert.Ssd.main_arg6))
      ∧ r.2.sem = fun _ => 0)

def quiescent_SsdIdeal [hSsdIdeal : Cert.SsdIdeal.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6))
      ∧ r.2.sem = fun _ => 0)

def quiescent_SsdRefIdeal [hSsdRefIdeal : Cert.SsdRefIdeal.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3)
      ∧ r.2.mem ((c.tc : Thread Cert.SsdRefIdeal.nD Cert.SsdRefIdeal.τ).loc Cert.SsdRefIdeal.main_arg4) = m ((c.tc : Thread Cert.SsdRefIdeal.nD Cert.SsdRefIdeal.τ).loc Cert.SsdRefIdeal.main_arg4)
      ∧ r.2.mem ((c.tc : Thread Cert.SsdRefIdeal.nD Cert.SsdRefIdeal.τ).loc Cert.SsdRefIdeal.main_arg5) = m ((c.tc : Thread Cert.SsdRefIdeal.nD Cert.SsdRefIdeal.τ).loc Cert.SsdRefIdeal.main_arg5)
      ∧ r.2.mem ((c.tc : Thread Cert.SsdRefIdeal.nD Cert.SsdRefIdeal.τ).loc Cert.SsdRefIdeal.main_arg6) = m ((c.tc : Thread Cert.SsdRefIdeal.nD Cert.SsdRefIdeal.τ).loc Cert.SsdRefIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_Cmp [hCmp : Cert.Cmp.Facts] : Prop :=
  ∀ (m : (ℓ : Loc Cert.Cmp.nD Cert.Cmp.τ Cert.Cmp.sig) → Buf (Elt Bits) ℓ) (g : Dev Cert.Cmp.nD → PrngReg), Pre_Cmp m →
    θ_run (Cert.Cmp.defs (F := Bits)) (onTc (τ := Cert.Cmp.τ) (Cert.Cmp.main (F := Bits))) ⟨m, fun _ => 0, g⟩ (fun r => (∀ c : Dev Cert.Cmp.nD,
      r.2.mem ((c.tc : Thread Cert.Cmp.nD Cert.Cmp.τ).loc Cert.Cmp.main_arg0) = m ((c.tc : Thread Cert.Cmp.nD Cert.Cmp.τ).loc Cert.Cmp.main_arg0)
      ∧ r.2.mem ((c.tc : Thread Cert.Cmp.nD Cert.Cmp.τ).loc Cert.Cmp.main_arg1) = m ((c.tc : Thread Cert.Cmp.nD Cert.Cmp.τ).loc Cert.Cmp.main_arg1)
      ∧ r.2.mem ((c.tc : Thread Cert.Cmp.nD Cert.Cmp.τ).loc Cert.Cmp.main_arg2) = m ((c.tc : Thread Cert.Cmp.nD Cert.Cmp.τ).loc Cert.Cmp.main_arg2)
      ∧ r.2.mem ((c.tc : Thread Cert.Cmp.nD Cert.Cmp.τ).loc Cert.Cmp.main_arg3) = m ((c.tc : Thread Cert.Cmp.nD Cert.Cmp.τ).loc Cert.Cmp.main_arg3)
      ∧ r.2.mem ((c.tc : Thread Cert.Cmp.nD Cert.Cmp.τ).loc Cert.Cmp.main_arg4) = m ((c.tc : Thread Cert.Cmp.nD Cert.Cmp.τ).loc Cert.Cmp.main_arg4)
      ∧ r.2.mem ((c.tc : Thread Cert.Cmp.nD Cert.Cmp.τ).loc Cert.Cmp.main_arg5) = m ((c.tc : Thread Cert.Cmp.nD Cert.Cmp.τ).loc Cert.Cmp.main_arg5)
      ∧ r.2.mem ((c.tc : Thread Cert.Cmp.nD Cert.Cmp.τ).loc Cert.Cmp.main_arg6) = m ((c.tc : Thread Cert.Cmp.nD Cert.Cmp.τ).loc Cert.Cmp.main_arg6))
      ∧ r.2.sem = fun _ => 0)

def quiescent_CmpIdeal [hCmpIdeal : Cert.CmpIdeal.Facts] : Prop :=
  ∀ (m : (ℓ : Loc Cert.CmpIdeal.nD Cert.CmpIdeal.τ Cert.CmpIdeal.sig) → Buf (Elt Ideal) ℓ) (g : Dev Cert.CmpIdeal.nD → PrngReg), Pre_CmpIdeal m →
    θ_run (Cert.CmpIdeal.defs (F := Ideal)) (onTc (τ := Cert.CmpIdeal.τ) (Cert.CmpIdeal.main (F := Ideal))) ⟨m, fun _ => 0, g⟩ (fun r => (∀ c : Dev Cert.CmpIdeal.nD,
      r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
      ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
      ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
      ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3)
      ∧ r.2.mem ((c.tc : Thread Cert.CmpIdeal.nD Cert.CmpIdeal.τ).loc Cert.CmpIdeal.main_arg4) = m ((c.tc : Thread Cert.CmpIdeal.nD Cert.CmpIdeal.τ).loc Cert.CmpIdeal.main_arg4)
      ∧ r.2.mem ((c.tc : Thread Cert.CmpIdeal.nD Cert.CmpIdeal.τ).loc Cert.CmpIdeal.main_arg5) = m ((c.tc : Thread Cert.CmpIdeal.nD Cert.CmpIdeal.τ).loc Cert.CmpIdeal.main_arg5)
      ∧ r.2.mem ((c.tc : Thread Cert.CmpIdeal.nD Cert.CmpIdeal.τ).loc Cert.CmpIdeal.main_arg6) = m ((c.tc : Thread Cert.CmpIdeal.nD Cert.CmpIdeal.τ).loc Cert.CmpIdeal.main_arg6))
      ∧ r.2.sem = fun _ => 0)

def quiescent_CmpRefIdeal [hCmpRefIdeal : Cert.CmpRefIdeal.Facts] : Prop :=
  ∀ (m : (ℓ : Loc Cert.CmpRefIdeal.nD Cert.CmpRefIdeal.τ Cert.CmpRefIdeal.sig) → Buf (Elt Ideal) ℓ) (g : Dev Cert.CmpRefIdeal.nD → PrngReg), Pre_CmpRefIdeal m →
    θ_run (Cert.CmpRefIdeal.defs (F := Ideal)) (onTc (τ := Cert.CmpRefIdeal.τ) (Cert.CmpRefIdeal.main (F := Ideal))) ⟨m, fun _ => 0, g⟩ (fun r => (∀ c : Dev Cert.CmpRefIdeal.nD,
      r.2.mem ((c.tc : Thread Cert.CmpRefIdeal.nD Cert.CmpRefIdeal.τ).loc Cert.CmpRefIdeal.main_arg0) = m ((c.tc : Thread Cert.CmpRefIdeal.nD Cert.CmpRefIdeal.τ).loc Cert.CmpRefIdeal.main_arg0)
      ∧ r.2.mem ((c.tc : Thread Cert.CmpRefIdeal.nD Cert.CmpRefIdeal.τ).loc Cert.CmpRefIdeal.main_arg1) = m ((c.tc : Thread Cert.CmpRefIdeal.nD Cert.CmpRefIdeal.τ).loc Cert.CmpRefIdeal.main_arg1)
      ∧ r.2.mem ((c.tc : Thread Cert.CmpRefIdeal.nD Cert.CmpRefIdeal.τ).loc Cert.CmpRefIdeal.main_arg2) = m ((c.tc : Thread Cert.CmpRefIdeal.nD Cert.CmpRefIdeal.τ).loc Cert.CmpRefIdeal.main_arg2)
      ∧ r.2.mem ((c.tc : Thread Cert.CmpRefIdeal.nD Cert.CmpRefIdeal.τ).loc Cert.CmpRefIdeal.main_arg3) = m ((c.tc : Thread Cert.CmpRefIdeal.nD Cert.CmpRefIdeal.τ).loc Cert.CmpRefIdeal.main_arg3)
      ∧ r.2.mem ((c.tc : Thread Cert.CmpRefIdeal.nD Cert.CmpRefIdeal.τ).loc Cert.CmpRefIdeal.main_arg4) = m ((c.tc : Thread Cert.CmpRefIdeal.nD Cert.CmpRefIdeal.τ).loc Cert.CmpRefIdeal.main_arg4)
      ∧ r.2.mem ((c.tc : Thread Cert.CmpRefIdeal.nD Cert.CmpRefIdeal.τ).loc Cert.CmpRefIdeal.main_arg5) = m ((c.tc : Thread Cert.CmpRefIdeal.nD Cert.CmpRefIdeal.τ).loc Cert.CmpRefIdeal.main_arg5)
      ∧ r.2.mem ((c.tc : Thread Cert.CmpRefIdeal.nD Cert.CmpRefIdeal.τ).loc Cert.CmpRefIdeal.main_arg6) = m ((c.tc : Thread Cert.CmpRefIdeal.nD Cert.CmpRefIdeal.τ).loc Cert.CmpRefIdeal.main_arg6))
      ∧ r.2.sem = fun _ => 0)

def preserves_Ssd_SsdIdeal : Prop :=
  True

def algebraic_SsdIdeal_SsdRefIdeal [hSsdIdeal : Cert.SsdIdeal.Facts] [hSsdRefIdeal : Cert.SsdRefIdeal.Facts] : Prop :=
  ∀ (m : (ℓ : Loc Cert.SsdIdeal.nD Cert.SsdIdeal.τ Cert.SsdIdeal.sig) → Buf (Elt Ideal) ℓ) (g : Dev Cert.SsdIdeal.nD → PrngReg)
    (m' : (ℓ : Loc Cert.SsdRefIdeal.nD Cert.SsdRefIdeal.τ Cert.SsdRefIdeal.sig) → Buf (Elt Ideal) ℓ) (g' : Dev Cert.SsdRefIdeal.nD → PrngReg), Pre_SsdIdeal m →
    (∀ c : Dev Cert.SsdIdeal.nD,
      m' ((c.tc : Thread Cert.SsdRefIdeal.nD Cert.SsdRefIdeal.τ).loc Cert.SsdRefIdeal.main_arg0) = m ((c.tc : Thread Cert.SsdIdeal.nD Cert.SsdIdeal.τ).loc Cert.SsdIdeal.main_arg0)
      ∧ m' ((c.tc : Thread Cert.SsdRefIdeal.nD Cert.SsdRefIdeal.τ).loc Cert.SsdRefIdeal.main_arg1) = m ((c.tc : Thread Cert.SsdIdeal.nD Cert.SsdIdeal.τ).loc Cert.SsdIdeal.main_arg1)
      ∧ m' ((c.tc : Thread Cert.SsdRefIdeal.nD Cert.SsdRefIdeal.τ).loc Cert.SsdRefIdeal.main_arg2) = m ((c.tc : Thread Cert.SsdIdeal.nD Cert.SsdIdeal.τ).loc Cert.SsdIdeal.main_arg2)
      ∧ m' ((c.tc : Thread Cert.SsdRefIdeal.nD Cert.SsdRefIdeal.τ).loc Cert.SsdRefIdeal.main_arg3) = m ((c.tc : Thread Cert.SsdIdeal.nD Cert.SsdIdeal.τ).loc Cert.SsdIdeal.main_arg3)
      ∧ m' ((c.tc : Thread Cert.SsdRefIdeal.nD Cert.SsdRefIdeal.τ).loc Cert.SsdRefIdeal.main_arg4) = m ((c.tc : Thread Cert.SsdIdeal.nD Cert.SsdIdeal.τ).loc Cert.SsdIdeal.main_arg4)
      ∧ m' ((c.tc : Thread Cert.SsdRefIdeal.nD Cert.SsdRefIdeal.τ).loc Cert.SsdRefIdeal.main_arg5) = m ((c.tc : Thread Cert.SsdIdeal.nD Cert.SsdIdeal.τ).loc Cert.SsdIdeal.main_arg5)
      ∧ m' ((c.tc : Thread Cert.SsdRefIdeal.nD Cert.SsdRefIdeal.τ).loc Cert.SsdRefIdeal.main_arg6) = m ((c.tc : Thread Cert.SsdIdeal.nD Cert.SsdIdeal.τ).loc Cert.SsdIdeal.main_arg6)) →
    ∃ (v0 : (c : Dev Cert.SsdIdeal.nD) → Buf (Elt Ideal) ((c.tc : Thread Cert.SsdIdeal.nD Cert.SsdIdeal.τ).loc Cert.SsdIdeal.main_v26)),
      θ_run (Cert.SsdIdeal.defs (F := Ideal)) (onTc (τ := Cert.SsdIdeal.τ) (Cert.SsdIdeal.main (F := Ideal))) ⟨m, fun _ => 0, g⟩ (fun r => ∀ c : Dev Cert.SsdIdeal.nD,
          r.2.mem ((c.tc : Thread Cert.SsdIdeal.nD Cert.SsdIdeal.τ).loc Cert.SsdIdeal.main_v26) = v0 c
          ∧ r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
          ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
          ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
          ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
          ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
          ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
          ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6))
      ∧ θ_run (Cert.SsdRefIdeal.defs (F := Ideal)) (onTc (τ := Cert.SsdRefIdeal.τ) (Cert.SsdRefIdeal.main (F := Ideal))) ⟨m', fun _ => 0, g'⟩ (fun r => ∀ c : Dev Cert.SsdRefIdeal.nD,
          r.2.mem ((c.tc : Thread Cert.SsdRefIdeal.nD Cert.SsdRefIdeal.τ).loc Cert.SsdRefIdeal.main_v48) = v0 c
          ∧ r.2.mem ((c.tc : Thread Cert.SsdRefIdeal.nD Cert.SsdRefIdeal.τ).loc Cert.SsdRefIdeal.main_arg0) = m' ((c.tc : Thread Cert.SsdRefIdeal.nD Cert.SsdRefIdeal.τ).loc Cert.SsdRefIdeal.main_arg0)
          ∧ r.2.mem ((c.tc : Thread Cert.SsdRefIdeal.nD Cert.SsdRefIdeal.τ).loc Cert.SsdRefIdeal.main_arg1) = m' ((c.tc : Thread Cert.SsdRefIdeal.nD Cert.SsdRefIdeal.τ).loc Cert.SsdRefIdeal.main_arg1)
          ∧ r.2.mem ((c.tc : Thread Cert.SsdRefIdeal.nD Cert.SsdRefIdeal.τ).loc Cert.SsdRefIdeal.main_arg2) = m' ((c.tc : Thread Cert.SsdRefIdeal.nD Cert.SsdRefIdeal.τ).loc Cert.SsdRefIdeal.main_arg2)
          ∧ r.2.mem ((c.tc : Thread Cert.SsdRefIdeal.nD Cert.SsdRefIdeal.τ).loc Cert.SsdRefIdeal.main_arg3) = m' ((c.tc : Thread Cert.SsdRefIdeal.nD Cert.SsdRefIdeal.τ).loc Cert.SsdRefIdeal.main_arg3)
          ∧ r.2.mem ((c.tc : Thread Cert.SsdRefIdeal.nD Cert.SsdRefIdeal.τ).loc Cert.SsdRefIdeal.main_arg4) = m' ((c.tc : Thread Cert.SsdRefIdeal.nD Cert.SsdRefIdeal.τ).loc Cert.SsdRefIdeal.main_arg4)
          ∧ r.2.mem ((c.tc : Thread Cert.SsdRefIdeal.nD Cert.SsdRefIdeal.τ).loc Cert.SsdRefIdeal.main_arg5) = m' ((c.tc : Thread Cert.SsdRefIdeal.nD Cert.SsdRefIdeal.τ).loc Cert.SsdRefIdeal.main_arg5)
          ∧ r.2.mem ((c.tc : Thread Cert.SsdRefIdeal.nD Cert.SsdRefIdeal.τ).loc Cert.SsdRefIdeal.main_arg6) = m' ((c.tc : Thread Cert.SsdRefIdeal.nD Cert.SsdRefIdeal.τ).loc Cert.SsdRefIdeal.main_arg6))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v7)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v7) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v36) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v14)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v14) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v25) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v3)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v3) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v7) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_Cmp_CmpIdeal : Prop :=
  True

def algebraic_CmpIdeal_CmpRefIdeal [hCmpIdeal : Cert.CmpIdeal.Facts] [hCmpRefIdeal : Cert.CmpRefIdeal.Facts] : Prop :=
  ∀ (m : (ℓ : Loc Cert.CmpIdeal.nD Cert.CmpIdeal.τ Cert.CmpIdeal.sig) → Buf (Elt Ideal) ℓ) (g : Dev Cert.CmpIdeal.nD → PrngReg)
    (m' : (ℓ : Loc Cert.CmpRefIdeal.nD Cert.CmpRefIdeal.τ Cert.CmpRefIdeal.sig) → Buf (Elt Ideal) ℓ) (g' : Dev Cert.CmpRefIdeal.nD → PrngReg), Pre_CmpIdeal m →
    (∀ c : Dev Cert.CmpIdeal.nD,
      m' ((c.tc : Thread Cert.CmpRefIdeal.nD Cert.CmpRefIdeal.τ).loc Cert.CmpRefIdeal.main_arg0) = m ((c.tc : Thread Cert.CmpIdeal.nD Cert.CmpIdeal.τ).loc Cert.CmpIdeal.main_arg0)
      ∧ m' ((c.tc : Thread Cert.CmpRefIdeal.nD Cert.CmpRefIdeal.τ).loc Cert.CmpRefIdeal.main_arg1) = m ((c.tc : Thread Cert.CmpIdeal.nD Cert.CmpIdeal.τ).loc Cert.CmpIdeal.main_arg1)
      ∧ m' ((c.tc : Thread Cert.CmpRefIdeal.nD Cert.CmpRefIdeal.τ).loc Cert.CmpRefIdeal.main_arg2) = m ((c.tc : Thread Cert.CmpIdeal.nD Cert.CmpIdeal.τ).loc Cert.CmpIdeal.main_arg2)
      ∧ m' ((c.tc : Thread Cert.CmpRefIdeal.nD Cert.CmpRefIdeal.τ).loc Cert.CmpRefIdeal.main_arg3) = m ((c.tc : Thread Cert.CmpIdeal.nD Cert.CmpIdeal.τ).loc Cert.CmpIdeal.main_arg3)
      ∧ m' ((c.tc : Thread Cert.CmpRefIdeal.nD Cert.CmpRefIdeal.τ).loc Cert.CmpRefIdeal.main_arg4) = m ((c.tc : Thread Cert.CmpIdeal.nD Cert.CmpIdeal.τ).loc Cert.CmpIdeal.main_arg4)
      ∧ m' ((c.tc : Thread Cert.CmpRefIdeal.nD Cert.CmpRefIdeal.τ).loc Cert.CmpRefIdeal.main_arg5) = m ((c.tc : Thread Cert.CmpIdeal.nD Cert.CmpIdeal.τ).loc Cert.CmpIdeal.main_arg5)
      ∧ m' ((c.tc : Thread Cert.CmpRefIdeal.nD Cert.CmpRefIdeal.τ).loc Cert.CmpRefIdeal.main_arg6) = m ((c.tc : Thread Cert.CmpIdeal.nD Cert.CmpIdeal.τ).loc Cert.CmpIdeal.main_arg6)) →
    ∃ (v0 : (c : Dev Cert.CmpIdeal.nD) → Buf (Elt Ideal) ((c.tc : Thread Cert.CmpIdeal.nD Cert.CmpIdeal.τ).loc Cert.CmpIdeal.main_v26_0)) (v1 : (c : Dev Cert.CmpIdeal.nD) → Buf (Elt Ideal) ((c.tc : Thread Cert.CmpIdeal.nD Cert.CmpIdeal.τ).loc Cert.CmpIdeal.main_v26_1)),
      θ_run (Cert.CmpIdeal.defs (F := Ideal)) (onTc (τ := Cert.CmpIdeal.τ) (Cert.CmpIdeal.main (F := Ideal))) ⟨m, fun _ => 0, g⟩ (fun r => ∀ c : Dev Cert.CmpIdeal.nD,
          r.2.mem ((c.tc : Thread Cert.CmpIdeal.nD Cert.CmpIdeal.τ).loc Cert.CmpIdeal.main_v26_0) = v0 c
          ∧ r.2.mem ((c.tc : Thread Cert.CmpIdeal.nD Cert.CmpIdeal.τ).loc Cert.CmpIdeal.main_v26_1) = v1 c
          ∧ r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
          ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
          ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
          ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3)
          ∧ r.2.mem ((c.tc : Thread Cert.CmpIdeal.nD Cert.CmpIdeal.τ).loc Cert.CmpIdeal.main_arg4) = m ((c.tc : Thread Cert.CmpIdeal.nD Cert.CmpIdeal.τ).loc Cert.CmpIdeal.main_arg4)
          ∧ r.2.mem ((c.tc : Thread Cert.CmpIdeal.nD Cert.CmpIdeal.τ).loc Cert.CmpIdeal.main_arg5) = m ((c.tc : Thread Cert.CmpIdeal.nD Cert.CmpIdeal.τ).loc Cert.CmpIdeal.main_arg5)
          ∧ r.2.mem ((c.tc : Thread Cert.CmpIdeal.nD Cert.CmpIdeal.τ).loc Cert.CmpIdeal.main_arg6) = m ((c.tc : Thread Cert.CmpIdeal.nD Cert.CmpIdeal.τ).loc Cert.CmpIdeal.main_arg6))
      ∧ θ_run (Cert.CmpRefIdeal.defs (F := Ideal)) (onTc (τ := Cert.CmpRefIdeal.τ) (Cert.CmpRefIdeal.main (F := Ideal))) ⟨m', fun _ => 0, g'⟩ (fun r => ∀ c : Dev Cert.CmpRefIdeal.nD,
          r.2.mem ((c.tc : Thread Cert.CmpRefIdeal.nD Cert.CmpRefIdeal.τ).loc Cert.CmpRefIdeal.main_v58) = v0 c
          ∧ r.2.mem ((c.tc : Thread Cert.CmpRefIdeal.nD Cert.CmpRefIdeal.τ).loc Cert.CmpRefIdeal.main_v65) = v1 c
          ∧ r.2.mem ((c.tc : Thread Cert.CmpRefIdeal.nD Cert.CmpRefIdeal.τ).loc Cert.CmpRefIdeal.main_arg0) = m' ((c.tc : Thread Cert.CmpRefIdeal.nD Cert.CmpRefIdeal.τ).loc Cert.CmpRefIdeal.main_arg0)
          ∧ r.2.mem ((c.tc : Thread Cert.CmpRefIdeal.nD Cert.CmpRefIdeal.τ).loc Cert.CmpRefIdeal.main_arg1) = m' ((c.tc : Thread Cert.CmpRefIdeal.nD Cert.CmpRefIdeal.τ).loc Cert.CmpRefIdeal.main_arg1)
          ∧ r.2.mem ((c.tc : Thread Cert.CmpRefIdeal.nD Cert.CmpRefIdeal.τ).loc Cert.CmpRefIdeal.main_arg2) = m' ((c.tc : Thread Cert.CmpRefIdeal.nD Cert.CmpRefIdeal.τ).loc Cert.CmpRefIdeal.main_arg2)
          ∧ r.2.mem ((c.tc : Thread Cert.CmpRefIdeal.nD Cert.CmpRefIdeal.τ).loc Cert.CmpRefIdeal.main_arg3) = m' ((c.tc : Thread Cert.CmpRefIdeal.nD Cert.CmpRefIdeal.τ).loc Cert.CmpRefIdeal.main_arg3)
          ∧ r.2.mem ((c.tc : Thread Cert.CmpRefIdeal.nD Cert.CmpRefIdeal.τ).loc Cert.CmpRefIdeal.main_arg4) = m' ((c.tc : Thread Cert.CmpRefIdeal.nD Cert.CmpRefIdeal.τ).loc Cert.CmpRefIdeal.main_arg4)
          ∧ r.2.mem ((c.tc : Thread Cert.CmpRefIdeal.nD Cert.CmpRefIdeal.τ).loc Cert.CmpRefIdeal.main_arg5) = m' ((c.tc : Thread Cert.CmpRefIdeal.nD Cert.CmpRefIdeal.τ).loc Cert.CmpRefIdeal.main_arg5)
          ∧ r.2.mem ((c.tc : Thread Cert.CmpRefIdeal.nD Cert.CmpRefIdeal.τ).loc Cert.CmpRefIdeal.main_arg6) = m' ((c.tc : Thread Cert.CmpRefIdeal.nD Cert.CmpRefIdeal.τ).loc Cert.CmpRefIdeal.main_arg6))

def Claim : Prop :=
  ∃ (hSsd : Cert.Ssd.Facts) (hSsdIdeal : Cert.SsdIdeal.Facts) (hSsdRefIdeal : Cert.SsdRefIdeal.Facts) (hFfn : Cert.Ffn.Facts) (hFfnIdeal : Cert.FfnIdeal.Facts) (hFfnRefIdeal : Cert.FfnRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hCmp : Cert.Cmp.Facts) (hCmpIdeal : Cert.CmpIdeal.Facts) (hCmpRefIdeal : Cert.CmpRefIdeal.Facts),
    quiescent_Ssd (hSsd := hSsd)
    ∧ quiescent_SsdIdeal (hSsdIdeal := hSsdIdeal)
    ∧ quiescent_SsdRefIdeal (hSsdRefIdeal := hSsdRefIdeal)
    ∧ quiescent_Ffn (hFfn := hFfn)
    ∧ quiescent_FfnIdeal (hFfnIdeal := hFfnIdeal)
    ∧ quiescent_FfnRefIdeal (hFfnRefIdeal := hFfnRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Cmp (hCmp := hCmp)
    ∧ quiescent_CmpIdeal (hCmpIdeal := hCmpIdeal)
    ∧ quiescent_CmpRefIdeal (hCmpRefIdeal := hCmpRefIdeal)
    ∧ preserves_Ssd_SsdIdeal
    ∧ algebraic_SsdIdeal_SsdRefIdeal (hSsdIdeal := hSsdIdeal) (hSsdRefIdeal := hSsdRefIdeal)
    ∧ preserves_Ffn_FfnIdeal
    ∧ algebraic_FfnIdeal_FfnRefIdeal (hFfnIdeal := hFfnIdeal) (hFfnRefIdeal := hFfnRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_Cmp_CmpIdeal
    ∧ algebraic_CmpIdeal_CmpRefIdeal (hCmpIdeal := hCmpIdeal) (hCmpRefIdeal := hCmpRefIdeal)
-- ==== Ssd.lean ====
abbrev S8192x5376 : Shape := ⟨2, ![8192, 5376]⟩
abbrev S1x4x1536 : Shape := ⟨3, ![1, 4, 1536]⟩
abbrev S1x1536 : Shape := ⟨2, ![1, 1536]⟩
abbrev S1x16 : Shape := ⟨2, ![1, 16]⟩
abbrev S1x1024 : Shape := ⟨2, ![1, 1024]⟩
abbrev S4x1536 : Shape := ⟨2, ![4, 1536]⟩
abbrev S1536 : Shape := ⟨1, ![1536]⟩
abbrev S16 : Shape := ⟨1, ![16]⟩
abbrev S_ : Shape := ⟨0, ![]⟩
abbrev S1x128 : Shape := ⟨2, ![1, 128]⟩
abbrev S16x64 : Shape := ⟨2, ![16, 64]⟩
abbrev S1024 : Shape := ⟨1, ![1024]⟩
abbrev S128x128 : Shape := ⟨2, ![128, 128]⟩
abbrev S128x1024 : Shape := ⟨2, ![128, 1024]⟩
abbrev S8192x1024 : Shape := ⟨2, ![8192, 1024]⟩
abbrev S256x1536 : Shape := ⟨2, ![256, 1536]⟩
abbrev S256x1024 : Shape := ⟨2, ![256, 1024]⟩
abbrev S256x128 : Shape := ⟨2, ![256, 128]⟩
abbrev S136x1536 : Shape := ⟨2, ![136, 1536]⟩
abbrev S2x128x512 : Shape := ⟨3, ![2, 128, 512]⟩
abbrev S2x128x1024 : Shape := ⟨3, ![2, 128, 1024]⟩
abbrev S8x1536 : Shape := ⟨2, ![8, 1536]⟩
abbrev S128x1536 : Shape := ⟨2, ![128, 1536]⟩
abbrev S128x256 : Shape := ⟨2, ![128, 256]⟩
abbrev S384x128 : Shape := ⟨2, ![384, 128]⟩
abbrev S384x1024 : Shape := ⟨2, ![384, 1024]⟩
abbrev S1x128x512 : Shape := ⟨3, ![1, 128, 512]⟩
abbrev S128x512 : Shape := ⟨2, ![128, 512]⟩
abbrev S1x512 : Shape := ⟨2, ![1, 512]⟩
abbrev S128x1 : Shape := ⟨2, ![128, 1]⟩
abbrev S1x128x1024 : Shape := ⟨3, ![1, 128, 1024]⟩
abbrev S128 : Shape := ⟨1, ![128]⟩

abbrev nBuf : Space → Nat
  | .hbm => 55
  | .vmem => 19
  | .smem => 0
  | _ => 0

abbrev bufTy : (tb : Table) → Fin (tcTables nBuf tb) → BufTy
  | .hbm, ⟨0, _⟩ => ⟨S8192x5376, .f32⟩
  | .hbm, ⟨1, _⟩ => ⟨S1x4x1536, .f32⟩
  | .hbm, ⟨2, _⟩ => ⟨S1x1536, .f32⟩
  | .hbm, ⟨3, _⟩ => ⟨S1x16, .f32⟩
  | .hbm, ⟨4, _⟩ => ⟨S1x16, .f32⟩
  | .hbm, ⟨5, _⟩ => ⟨S1x16, .f32⟩
  | .hbm, ⟨6, _⟩ => ⟨S1x1024, .f32⟩
  | .hbm, ⟨7, _⟩ => ⟨S4x1536, .f32⟩
  | .hbm, ⟨8, _⟩ => ⟨S1536, .f32⟩
  | .hbm, ⟨9, _⟩ => ⟨S1x1536, .f32⟩
  | .hbm, ⟨10, _⟩ => ⟨S16, .f32⟩
  | .hbm, ⟨11, _⟩ => ⟨S1x16, .f32⟩
  | .hbm, ⟨12, _⟩ => ⟨S_, .i32⟩
  | .hbm, ⟨13, _⟩ => ⟨S_, .f32⟩
  | .hbm, ⟨14, _⟩ => ⟨S1x128, .f32⟩
  | .hbm, ⟨15, _⟩ => ⟨S16, .f32⟩
  | .hbm, ⟨16, _⟩ => ⟨S1x16, .f32⟩
  | .hbm, ⟨17, _⟩ => ⟨S_, .i32⟩
  | .hbm, ⟨18, _⟩ => ⟨S_, .f32⟩
  | .hbm, ⟨19, _⟩ => ⟨S1x128, .f32⟩
  | .hbm, ⟨20, _⟩ => ⟨S16, .f32⟩
  | .hbm, ⟨21, _⟩ => ⟨S16x64, .f32⟩
  | .hbm, ⟨22, _⟩ => ⟨S1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S128x128, .i32⟩
  | .hbm, ⟨27, _⟩ => ⟨S128x128, .i32⟩
  | .hbm, ⟨28, _⟩ => ⟨S128x128, .i1⟩
  | .hbm, ⟨29, _⟩ => ⟨S128x128, .f32⟩
  | .hbm, ⟨30, _⟩ => ⟨S128x128, .bf16⟩
  | .hbm, ⟨31, _⟩ => ⟨S128x1024, .i32⟩
  | .hbm, ⟨32, _⟩ => ⟨S_, .i32⟩
  | .hbm, ⟨33, _⟩ => ⟨S_, .i32⟩
  | .hbm, ⟨34, _⟩ => ⟨S128x1024, .i32⟩
  | .hbm, ⟨35, _⟩ => ⟨S128x1024, .i32⟩
  | .hbm, ⟨36, _⟩ => ⟨S128x1024, .i32⟩
  | .hbm, ⟨37, _⟩ => ⟨S_, .i32⟩
  | .hbm, ⟨38, _⟩ => ⟨S128x1024, .i32⟩
  | .hbm, ⟨39, _⟩ => ⟨S128x1024, .i1⟩
  | .hbm, ⟨40, _⟩ => ⟨S128x1024, .i32⟩
  | .hbm, ⟨41, _⟩ => ⟨S128x1024, .i32⟩
  | .hbm, ⟨42, _⟩ => ⟨S_, .i32⟩
  | .hbm, ⟨43, _⟩ => ⟨S128x1024, .i32⟩
  | .hbm, ⟨44, _⟩ => ⟨S128x1024, .i1⟩
  | .hbm, ⟨45, _⟩ => ⟨S128x1024, .i1⟩
  | .hbm, ⟨46, _⟩ => ⟨S_, .i32⟩
  | .hbm, ⟨47, _⟩ => ⟨S128x1024, .i32⟩
  | .hbm, ⟨48, _⟩ => ⟨S128x1024, .i32⟩
  | .hbm, ⟨49, _⟩ => ⟨S128x1024, .i32⟩
  | .hbm, ⟨50, _⟩ => ⟨S128x1024, .i32⟩
  | .hbm, ⟨51, _⟩ => ⟨S128x1024, .i1⟩
  | .hbm, ⟨52, _⟩ => ⟨S128x1024, .f32⟩
  | .hbm, ⟨53, _⟩ => ⟨S128x1024, .bf16⟩
  | .hbm, ⟨54, _⟩ => ⟨S8192x1024, .bf16⟩
  | .local _ .vmem, ⟨0, _⟩ => ⟨S256x1536, .f32⟩
  | .local _ .vmem, ⟨1, _⟩ => ⟨S256x1536, .f32⟩
  | .local _ .vmem, ⟨2, _⟩ => ⟨S256x1024, .f32⟩
  | .local _ .vmem, ⟨3, _⟩ => ⟨S256x1024, .f32⟩
  | .local _ .vmem, ⟨4, _⟩ => ⟨S256x128, .f32⟩
  | .local _ .vmem, ⟨5, _⟩ => ⟨S256x128, .f32⟩
  | .local _ .vmem, ⟨6, _⟩ => ⟨S4x1536, .f32⟩
  | .local _ .vmem, ⟨7, _⟩ => ⟨S1x1536, .f32⟩
  | .local _ .vmem, ⟨8, _⟩ => ⟨S1x128, .f32⟩
  | .local _ .vmem, ⟨9, _⟩ => ⟨S1x128, .f32⟩
  | .local _ .vmem, ⟨10, _⟩ => ⟨S1x1024, .f32⟩
  | .local _ .vmem, ⟨11, _⟩ => ⟨S1x1024, .f32⟩
  | .local _ .vmem, ⟨12, _⟩ => ⟨S128x128, .bf16⟩
  | .local _ .vmem, ⟨13, _⟩ => ⟨S128x1024, .bf16⟩
  | .local _ .vmem, ⟨14, _⟩ => ⟨S256x1024, .bf16⟩
  | .local _ .vmem, ⟨15, _⟩ => ⟨S256x1024, .bf16⟩
  | .local _ .vmem, ⟨16, _⟩ => ⟨S136x1536, .f32⟩
  | .local _ .vmem, ⟨17, _⟩ => ⟨S2x128x512, .f32⟩
  | .local _ .vmem, ⟨18, _⟩ => ⟨S2x128x1024, .f32⟩
  | _, _ => ⟨S8192x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_call1_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_1 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_call2_v5 : Ref sig .tc := ⟨.hbm, 38, rfl⟩
abbrev main_call2_v6 : Ref sig .tc := ⟨.hbm, 39, rfl⟩
abbrev main_call2_v7 : Ref sig .tc := ⟨.hbm, 40, rfl⟩
abbrev main_call2_v8 : Ref sig .tc := ⟨.hbm, 41, rfl⟩
abbrev main_call2_c : Ref sig .tc := ⟨.hbm, 42, rfl⟩
abbrev main_call2_v9 : Ref sig .tc := ⟨.hbm, 43, rfl⟩
abbrev main_call2_v10 : Ref sig .tc := ⟨.hbm, 44, rfl⟩
abbrev main_call2_v11 : Ref sig .tc := ⟨.hbm, 45, rfl⟩
abbrev main_call2_c_0 : Ref sig .tc := ⟨.hbm, 46, rfl⟩
abbrev main_call2_v12 : Ref sig .tc := ⟨.hbm, 47, rfl⟩
abbrev main_call2_v13 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c3_i32 : BitVec 32 := 3#32
  let c0_i32 : BitVec 32 := 0#32
  ![v1.toNat, c3_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c40_i32 : BitVec 32 := 40#32
  let c0_i32 : BitVec 32 := 0#32
  ![v1.toNat, c40_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== SsdRefIdeal.lean ====
abbrev S8192x5376 : Shape := ⟨2, ![8192, 5376]⟩
abbrev S1x4x1536 : Shape := ⟨3, ![1, 4, 1536]⟩
abbrev S1x1536 : Shape := ⟨2, ![1, 1536]⟩
abbrev S1x16 : Shape := ⟨2, ![1, 16]⟩
abbrev S1x1024 : Shape := ⟨2, ![1, 1024]⟩
abbrev S2x4096x5376 : Shape := ⟨3, ![2, 4096, 5376]⟩
abbrev S2x4096x1536 : Shape := ⟨3, ![2, 4096, 1536]⟩
abbrev S2x4096x1024 : Shape := ⟨3, ![2, 4096, 1024]⟩
abbrev S2x4096x16 : Shape := ⟨3, ![2, 4096, 16]⟩
abbrev S4x1536 : Shape := ⟨2, ![4, 1536]⟩
abbrev S_ : Shape := ⟨0, ![]⟩
abbrev S2x4099x1536 : Shape := ⟨3, ![2, 4099, 1536]⟩
abbrev S1536 : Shape := ⟨1, ![1536]⟩
abbrev S1x1x1536 : Shape := ⟨3, ![1, 1, 1536]⟩
abbrev S2x2x8x64x128 : Shape := ⟨5, ![2, 2, 8, 64, 128]⟩
abbrev S2x32x128x1536 : Shape := ⟨4, ![2, 32, 128, 1536]⟩
abbrev S32x2x128x1536 : Shape := ⟨4, ![32, 2, 128, 1536]⟩
abbrev S2x32x128x1024 : Shape := ⟨4, ![2, 32, 128, 1024]⟩
abbrev S32x2x128x1024 : Shape := ⟨4, ![32, 2, 128, 1024]⟩
abbrev S2x32x128x16 : Shape := ⟨4, ![2, 32, 128, 16]⟩
abbrev S32x2x128x16 : Shape := ⟨4, ![32, 2, 128, 16]⟩
abbrev S1x2x128x1536 : Shape := ⟨4, ![1, 2, 128, 1536]⟩
abbrev S2x128x1536 : Shape := ⟨3, ![2, 128, 1536]⟩
abbrev S1x2x128x1024 : Shape := ⟨4, ![1, 2, 128, 1024]⟩
abbrev S2x128x1024 : Shape := ⟨3, ![2, 128, 1024]⟩
abbrev S1x2x128x16 : Shape := ⟨4, ![1, 2, 128, 16]⟩
abbrev S2x128x16 : Shape := ⟨3, ![2, 128, 16]⟩
abbrev S2x128x2x8x64 : Shape := ⟨5, ![2, 128, 2, 8, 64]⟩
abbrev S2x128x256 : Shape := ⟨3, ![2, 128, 256]⟩
abbrev S2x128x2x128 : Shape := ⟨4, ![2, 128, 2, 128]⟩
abbrev S16 : Shape := ⟨1, ![16]⟩
abbrev S1x1x16 : Shape := ⟨3, ![1, 1, 16]⟩
abbrev S2x128x2x8 : Shape := ⟨4, ![2, 128, 2, 8]⟩
abbrev S2x8 : Shape := ⟨2, ![2, 8]⟩
abbrev S2x128x2x8x1 : Shape := ⟨5, ![2, 128, 2, 8, 1]⟩
abbrev S1x1x2x8 : Shape := ⟨4, ![1, 1, 2, 8]⟩
abbrev S128x128 : Shape := ⟨2, ![128, 128]⟩
abbrev S128x128x1x1 : Shape := ⟨4, ![128, 128, 1, 1]⟩
abbrev S2x128x1x2x8 : Shape := ⟨5, ![2, 128, 1, 2, 8]⟩
abbrev S2x1x128x2x8 : Shape := ⟨5, ![2, 1, 128, 2, 8]⟩
abbrev S2x128x128x2x8 : Shape := ⟨5, ![2, 128, 128, 2, 8]⟩
abbrev S2x2x128x128 : Shape := ⟨4, ![2, 2, 128, 128]⟩
abbrev S2x128x128x2 : Shape := ⟨4, ![2, 128, 128, 2]⟩
abbrev S2x128x128x2x1 : Shape := ⟨5, ![2, 128, 128, 2, 1]⟩
abbrev S2x1x2x8 : Shape := ⟨4, ![2, 1, 2, 8]⟩
abbrev S2x8x1 : Shape := ⟨3, ![2, 8, 1]⟩
abbrev S1x1x2x8x1 : Shape := ⟨5, ![1, 1, 2, 8, 1]⟩
abbrev S1024 : Shape := ⟨1, ![1024]⟩
abbrev S2x128 : Shape := ⟨2, ![2, 128]⟩
abbrev S2x128x1 : Shape := ⟨3, ![2, 128, 1]⟩
abbrev S1x1x1024 : Shape := ⟨3, ![1, 1, 1024]⟩
abbrev S2x2x8 : Shape := ⟨3, ![2, 2, 8]⟩
abbrev S2x2x8x1x1 : Shape := ⟨5, ![2, 2, 8, 1, 1]⟩
abbrev S8192x1024 : Shape := ⟨2, ![8192, 1024]⟩

abbrev nBuf : Space → Nat
  | .hbm => 227
  | .vmem => 0
  | .smem => 0
  | _ => 0

abbrev hbmTy0_0 (i : Nat) : BufTy := match i % 128 with
  | 0 => ⟨S8192x5376, .f32⟩
  | 1 => ⟨S1x4x1536, .f32⟩
  | 2 => ⟨S1x1536, .f32⟩
  | 3 => ⟨S1x16, .f32⟩
  | 4 => ⟨S1x16, .f32⟩
  | 5 => ⟨S1x16, .f32⟩
  | 6 => ⟨S1x1024, .f32⟩
  | 7 => ⟨S2x4096x5376, .f32⟩
  | 8 => ⟨S2x4096x1536, .f32⟩
  | 9 => ⟨S2x4096x1024, .f32⟩
  | 10 => ⟨S2x4096x16, .f32⟩
  | 11 => ⟨S4x1536, .f32⟩
  | 12 => ⟨S_, .i32⟩
  | 13 => ⟨S_, .f32⟩
  | 14 => ⟨S2x4099x1536, .f32⟩
  | 15 => ⟨S2x4096x1536, .f32⟩
  | 16 => ⟨S1x1536, .f32⟩
  | 17 => ⟨S1536, .f32⟩
  | 18 => ⟨S1x1x1536, .f32⟩
  | 19 => ⟨S2x4096x1536, .f32⟩
  | 20 => ⟨S2x4096x1536, .f32⟩
  | 21 => ⟨S2x4096x1536, .f32⟩
  | 22 => ⟨S1x1536, .f32⟩
  | 23 => ⟨S1536, .f32⟩
  | 24 => ⟨S1x1x1536, .f32⟩
  | 25 => ⟨S2x4096x1536, .f32⟩
  | 26 => ⟨S2x4096x1536, .f32⟩
  | 27 => ⟨S2x4096x1536, .f32⟩
  | 28 => ⟨S2x4096x1536, .f32⟩
  | 29 => ⟨S1x1536, .f32⟩
  | 30 => ⟨S1536, .f32⟩
  | 31 => ⟨S1x1x1536, .f32⟩
  | 32 => ⟨S2x4096x1536, .f32⟩
  | 33 => ⟨S2x4096x1536, .f32⟩
  | 34 => ⟨S2x4096x1536, .f32⟩
  | 35 => ⟨S2x4096x1536, .f32⟩
  | 36 => ⟨S1x1536, .f32⟩
  | 37 => ⟨S1536, .f32⟩
  | 38 => ⟨S1x1x1536, .f32⟩
  | 39 => ⟨S2x4096x1536, .f32⟩
  | 40 => ⟨S2x4096x1536, .f32⟩
  | 41 => ⟨S2x4096x1536, .f32⟩
  | 42 => ⟨S1536, .f32⟩
  | 43 => ⟨S1x1x1536, .f32⟩
  | 44 => ⟨S2x4096x1536, .f32⟩
  | 45 => ⟨S2x4096x1536, .f32⟩
  | 46 => ⟨S_, .f32⟩
  | 47 => ⟨S2x2x8x64x128, .f32⟩
  | 48 => ⟨S2x32x128x1536, .f32⟩
  | 49 => ⟨S32x2x128x1536, .f32⟩
  | 50 => ⟨S2x32x128x1024, .f32⟩
  | 51 => ⟨S32x2x128x1024, .f32⟩
  | 52 => ⟨S2x32x128x16, .f32⟩
  | 53 => ⟨S32x2x128x16, .f32⟩
  | 54 => ⟨S_, .f32⟩
  | 55 => ⟨S32x2x128x1024, .f32⟩
  | 56 => ⟨S_, .i32⟩
  | 57 => ⟨S32x2x128x1536, .f32⟩
  | 58 => ⟨S32x2x128x1024, .f32⟩
  | 59 => ⟨S32x2x128x16, .f32⟩
  | 60 => ⟨S1x16, .f32⟩
  | 61 => ⟨S1x16, .f32⟩
  | 62 => ⟨S1x16, .f32⟩
  | 63 => ⟨S1x1024, .f32⟩
  | 64 => ⟨S_, .i32⟩
  | 65 => ⟨S2x2x8x64x128, .f32⟩
  | 66 => ⟨S32x2x128x1024, .f32⟩
  | 67 => ⟨S_, .i32⟩
  | 68 => ⟨S_, .i1⟩
  | 69 => ⟨S_, .i32⟩
  | 70 => ⟨S_, .i32⟩
  | 71 => ⟨S_, .i32⟩
  | 72 => ⟨S1x2x128x1536, .f32⟩
  | 73 => ⟨S2x128x1536, .f32⟩
  | 74 => ⟨S_, .i32⟩
  | 75 => ⟨S_, .i32⟩
  | 76 => ⟨S_, .i32⟩
  | 77 => ⟨S1x2x128x1024, .f32⟩
  | 78 => ⟨S2x128x1024, .f32⟩
  | 79 => ⟨S_, .i32⟩
  | 80 => ⟨S_, .i32⟩
  | 81 => ⟨S_, .i32⟩
  | 82 => ⟨S1x2x128x16, .f32⟩
  | 83 => ⟨S2x128x16, .f32⟩
  | 84 => ⟨S2x128x1536, .f32⟩
  | 85 => ⟨S2x128x1536, .f32⟩
  | 86 => ⟨S_, .f32⟩
  | 87 => ⟨S2x128x1536, .f32⟩
  | 88 => ⟨S2x128x1536, .f32⟩
  | 89 => ⟨S_, .f32⟩
  | 90 => ⟨S2x128x1536, .f32⟩
  | 91 => ⟨S2x128x1536, .f32⟩
  | 92 => ⟨S2x128x1536, .f32⟩
  | 93 => ⟨S2x128x1024, .f32⟩
  | 94 => ⟨S2x128x2x8x64, .f32⟩
  | 95 => ⟨S2x128x256, .f32⟩
  | 96 => ⟨S2x128x2x128, .f32⟩
  | 97 => ⟨S2x128x256, .f32⟩
  | 98 => ⟨S2x128x2x128, .f32⟩
  | 99 => ⟨S16, .f32⟩
  | 100 => ⟨S1x1x16, .f32⟩
  | 101 => ⟨S2x128x16, .f32⟩
  | 102 => ⟨S2x128x16, .f32⟩
  | 103 => ⟨S_, .f32⟩
  | 104 => ⟨S2x128x16, .f32⟩
  | 105 => ⟨S2x128x16, .f32⟩
  | 106 => ⟨S2x128x16, .f32⟩
  | 107 => ⟨S2x128x16, .f32⟩
  | 108 => ⟨S2x128x16, .i1⟩
  | 109 => ⟨S2x128x16, .f32⟩
  | 110 => ⟨S2x128x16, .f32⟩
  | 111 => ⟨S2x128x16, .f32⟩
  | 112 => ⟨S2x128x16, .f32⟩
  | 113 => ⟨S2x128x16, .f32⟩
  | 114 => ⟨S2x128x16, .f32⟩
  | 115 => ⟨S2x128x16, .f32⟩
  | 116 => ⟨S2x128x16, .f32⟩
  | 117 => ⟨S2x128x2x8, .f32⟩
  | 118 => ⟨S16, .f32⟩
  | 119 => ⟨S16, .f32⟩
  | 120 => ⟨S2x8, .f32⟩
  | 121 => ⟨S2x8, .f32⟩
  | 122 => ⟨S2x128x2x8x1, .f32⟩
  | 123 => ⟨S2x128x2x8x64, .f32⟩
  | 124 => ⟨S2x128x2x8x64, .f32⟩
  | 125 => ⟨S1x1x2x8, .f32⟩
  | 126 => ⟨S2x128x2x8, .f32⟩
  | 127 => ⟨S2x128x2x8, .f32⟩
  | _ => ⟨S8192x5376, .f32⟩

abbrev hbmTy0_1 (i : Nat) : BufTy := match i % 128 with
  | 0 => ⟨S_, .f32⟩
  | 1 => ⟨S_, .f32⟩
  | 2 => ⟨S2x128x2x8, .f32⟩
  | 3 => ⟨S_, .i1⟩
  | 4 => ⟨S128x128, .i1⟩
  | 5 => ⟨S128x128, .i32⟩
  | 6 => ⟨S_, .i32⟩
  | 7 => ⟨S128x128, .i32⟩
  | 8 => ⟨S128x128, .i32⟩
  | 9 => ⟨S128x128, .i32⟩
  | 10 => ⟨S128x128, .i1⟩
  | 11 => ⟨S_, .i1⟩
  | 12 => ⟨S128x128, .i1⟩
  | 13 => ⟨S128x128, .i1⟩
  | 14 => ⟨S128x128x1x1, .i1⟩
  | 15 => ⟨S2x128x1x2x8, .f32⟩
  | 16 => ⟨S2x1x128x2x8, .f32⟩
  | 17 => ⟨S2x128x128x2x8, .f32⟩
  | 18 => ⟨S2x128x128x2x8, .f32⟩
  | 19 => ⟨S2x128x128x2x8, .f32⟩
  | 20 => ⟨S_, .f32⟩
  | 21 => ⟨S_, .f32⟩
  | 22 => ⟨S2x128x128x2x8, .i1⟩
  | 23 => ⟨S2x128x128x2x8, .f32⟩
  | 24 => ⟨S2x128x128x2x8, .f32⟩
  | 25 => ⟨S2x128x128x2x8, .f32⟩
  | 26 => ⟨S2x2x128x128, .f32⟩
  | 27 => ⟨S2x128x128x2, .f32⟩
  | 28 => ⟨S2x128x128x2x1, .f32⟩
  | 29 => ⟨S2x128x128x2x8, .f32⟩
  | 30 => ⟨S2x128x128x2x8, .f32⟩
  | 31 => ⟨S2x2x8x64x128, .f32⟩
  | 32 => ⟨S2x128x2x8x64, .f32⟩
  | 33 => ⟨S2x1x2x8, .f32⟩
  | 34 => ⟨S2x128x2x8, .f32⟩
  | 35 => ⟨S2x128x2x8, .f32⟩
  | 36 => ⟨S2x128x2x8, .f32⟩
  | 37 => ⟨S2x128x2x8x1, .f32⟩
  | 38 => ⟨S2x128x2x8x64, .f32⟩
  | 39 => ⟨S2x128x2x8x64, .f32⟩
  | 40 => ⟨S2x2x8x64x128, .f32⟩
  | 41 => ⟨S2x2x8x64x128, .f32⟩
  | 42 => ⟨S2x128x2x8x64, .f32⟩
  | 43 => ⟨S2x128x2x8, .f32⟩
  | 44 => ⟨S2x128x2x8x1, .f32⟩
  | 45 => ⟨S2x128x2x8x64, .f32⟩
  | 46 => ⟨S2x128x2x8x64, .f32⟩
  | 47 => ⟨S2x128x2x8x64, .f32⟩
  | 48 => ⟨S16, .f32⟩
  | 49 => ⟨S2x8x1, .f32⟩
  | 50 => ⟨S1x1x2x8x1, .f32⟩
  | 51 => ⟨S2x128x2x8x64, .f32⟩
  | 52 => ⟨S2x128x2x8x64, .f32⟩
  | 53 => ⟨S2x128x2x8x64, .f32⟩
  | 54 => ⟨S2x128x1024, .f32⟩
  | 55 => ⟨S2x128x1024, .f32⟩
  | 56 => ⟨S2x128x1024, .f32⟩
  | 57 => ⟨S_, .f32⟩
  | 58 => ⟨S2x128x1024, .f32⟩
  | 59 => ⟨S2x128x1024, .f32⟩
  | 60 => ⟨S_, .f32⟩
  | 61 => ⟨S2x128x1024, .f32⟩
  | 62 => ⟨S2x128x1024, .f32⟩
  | 63 => ⟨S2x128x1024, .f32⟩
  | 64 => ⟨S2x128x1024, .f32⟩
  | 65 => ⟨S1024, .f32⟩
  | 66 => ⟨S2x128x1024, .f32⟩
  | 67 => ⟨S_, .f32⟩
  | 68 => ⟨S2x128, .f32⟩
  | 69 => ⟨S2x128x1, .f32⟩
  | 70 => ⟨S_, .f32⟩
  | 71 => ⟨S2x128x1, .f32⟩
  | 72 => ⟨S2x128x1, .f32⟩
  | 73 => ⟨S_, .f32⟩
  | 74 => ⟨S2x128x1, .f32⟩
  | 75 => ⟨S2x128x1, .f32⟩
  | 76 => ⟨S2x128x1, .f32⟩
  | 77 => ⟨S2x128x1024, .f32⟩
  | 78 => ⟨S2x128x1024, .f32⟩
  | 79 => ⟨S1x1x1024, .f32⟩
  | 80 => ⟨S2x128x1024, .f32⟩
  | 81 => ⟨S2x128x1024, .f32⟩
  | 82 => ⟨S2x1x2x8, .f32⟩
  | 83 => ⟨S2x2x8, .f32⟩
  | 84 => ⟨S2x2x8, .f32⟩
  | 85 => ⟨S2x2x8x1x1, .f32⟩
  | 86 => ⟨S2x2x8x64x128, .f32⟩
  | 87 => ⟨S2x2x8x64x128, .f32⟩
  | 88 => ⟨S2x2x8x64x128, .f32⟩
  | 89 => ⟨S1x2x128x1024, .f32⟩
  | 90 => ⟨S_, .i32⟩
  | 91 => ⟨S_, .i32⟩
  | 92 => ⟨S_, .i32⟩
  | 93 => ⟨S32x2x128x1024, .f32⟩
  | 94 => ⟨S_, .i32⟩
  | 95 => ⟨S_, .i32⟩
  | 96 => ⟨S2x32x128x1024, .f32⟩
  | 97 => ⟨S8192x1024, .f32⟩
  | 98 => ⟨S8192x1024, .bf16⟩
  | _ => ⟨S8192x5376, .f32⟩

abbrev hbmTy (i : Nat) : BufTy := match i / 128 with
  | 0 => hbmTy0_0 i
  | 1 => hbmTy0_1 i
  | _ => ⟨S8192x5376, .f32⟩

abbrev bufTy : (tb : Table) → Fin (tcTables nBuf tb) → BufTy
  | .hbm, ⟨i, _⟩ => hbmTy i
  | _, _ => ⟨S8192x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_0 : Ref sig .tc := ⟨.hbm, 54, rfl⟩
abbrev main_v44 : Ref sig .tc := ⟨.hbm, 55, rfl⟩
abbrev main_c_1 : Ref sig .tc := ⟨.hbm, 56, rfl⟩
abbrev main_v45_0 : Ref sig .tc := ⟨.hbm, 57, rfl⟩
abbrev main_v45_1 : Ref sig .tc := ⟨.hbm, 58, rfl⟩
abbrev main_v45_2 : Ref sig .tc := ⟨.hbm, 59, rfl⟩
abbrev main_v45_3 : Ref sig .tc := ⟨.hbm, 60, rfl⟩
abbrev main_v45_4 : Ref sig .tc := ⟨.hbm, 61, rfl⟩
abbrev main_v45_5 : Ref sig .tc := ⟨.hbm, 62, rfl⟩
abbrev main_v45_6 : Ref sig .tc := ⟨.hbm, 63, rfl⟩
abbrev main_v45_7 : Ref sig .tc := ⟨.hbm, 64, rfl⟩
abbrev main_v45_8 : Ref sig .tc := ⟨.hbm, 65, rfl⟩
abbrev main_v45_9 : Ref sig .tc := ⟨.hbm, 66, rfl⟩
abbrev main_while0c_c_11 : Ref sig .tc := ⟨.hbm, 67, rfl⟩
abbrev main_while0c_v49 : Ref sig .tc := ⟨.hbm, 68, rfl⟩
abbrev main_while0b_call1_c : Ref sig .tc := ⟨.hbm, 69, rfl⟩
abbrev main_while0b_call1_c_0 : Ref sig .tc := ⟨.hbm, 70, rfl⟩
abbrev main_while0b_call1_c_1 : Ref sig .tc := ⟨.hbm, 71, rfl⟩
abbrev main_while0b_call1_v0 : Ref sig .tc := ⟨.hbm, 72, rfl⟩
abbrev main_while0b_v49 : Ref sig .tc := ⟨.hbm, 73, rfl⟩
abbrev main_while0b_call2_c : Ref sig .tc := ⟨.hbm, 74, rfl⟩
abbrev main_while0b_call2_c_0 : Ref sig .tc := ⟨.hbm, 75, rfl⟩
abbrev main_while0b_call2_c_1 : Ref sig .tc := ⟨.hbm, 76, rfl⟩
abbrev main_while0b_call2_v0 : Ref sig .tc := ⟨.hbm, 77, rfl⟩
abbrev main_while0b_v50 : Ref sig .tc := ⟨.hbm, 78, rfl⟩
abbrev main_while0b_call3_c : Ref sig .tc := ⟨.hbm, 79, rfl⟩
abbrev main_while0b_call3_c_0 : Ref sig .tc := ⟨.hbm, 80, rfl⟩
abbrev main_while0b_call3_c_1 : Ref sig .tc := ⟨.hbm, 81, rfl⟩
abbrev main_while0b_call3_v0 : Ref sig .tc := ⟨.hbm, 82, rfl⟩
abbrev main_while0b_v51 : Ref sig .tc := ⟨.hbm, 83, rfl⟩
abbrev main_while0b_call4_v0 : Ref sig .tc := ⟨.hbm, 84, rfl⟩
abbrev main_while0b_call4_v1 : Ref sig .tc := ⟨.hbm, 85, rfl⟩
abbrev main_while0b_call4_cst : Ref sig .tc := ⟨.hbm, 86, rfl⟩
abbrev main_while0b_call4_v2 : Ref sig .tc := ⟨.hbm, 87, rfl⟩
abbrev main_while0b_call4_v3 : Ref sig .tc := ⟨.hbm, 88, rfl⟩
abbrev main_while0b_call4_cst_0 : Ref sig .tc := ⟨.hbm, 89, rfl⟩
abbrev main_while0b_call4_v4 : Ref sig .tc := ⟨.hbm, 90, rfl⟩
abbrev main_while0b_call4_v5 : Ref sig .tc := ⟨.hbm, 91, rfl⟩
abbrev main_while0b_v52 : Ref sig .tc := ⟨.hbm, 92, rfl⟩
abbrev main_while0b_v53 : Ref sig .tc := ⟨.hbm, 93, rfl⟩
abbrev main_while0b_v54 : Ref sig .tc := ⟨.hbm, 94, rfl⟩
abbrev main_while0b_v55 : Ref sig .tc := ⟨.hbm, 95, rfl⟩
abbrev main_while0b_v56 : Ref sig .tc := ⟨.hbm, 96, rfl⟩
abbrev main_while0b_v57 : Ref sig .tc := ⟨.hbm, 97, rfl⟩
abbrev main_while0b_v58 : Ref sig .tc := ⟨.hbm, 98, rfl⟩
abbrev main_while0b_v59 : Ref sig .tc := ⟨.hbm, 99, rfl⟩
abbrev main_while0b_v60 : Ref sig .tc := ⟨.hbm, 100, rfl⟩
abbrev main_while0b_v61 : Ref sig .tc := ⟨.hbm, 101, rfl⟩
abbrev main_while0b_v62 : Ref sig .tc := ⟨.hbm, 102, rfl⟩
abbrev main_while0b_call5_cst : Ref sig .tc := ⟨.hbm, 103, rfl⟩
abbrev main_while0b_call5_v0 : Ref sig .tc := ⟨.hbm, 104, rfl⟩
abbrev main_while0b_call5_v1 : Ref sig .tc := ⟨.hbm, 105, rfl⟩
abbrev main_while0b_call5_v2 : Ref sig .tc := ⟨.hbm, 106, rfl⟩
abbrev main_while0b_call5_v3 : Ref sig .tc := ⟨.hbm, 107, rfl⟩
abbrev main_while0b_call5_v4 : Ref sig .tc := ⟨.hbm, 108, rfl⟩
abbrev main_while0b_call5_v5 : Ref sig .tc := ⟨.hbm, 109, rfl⟩
abbrev main_while0b_call5_v6 : Ref sig .tc := ⟨.hbm, 110, rfl⟩
abbrev main_while0b_call5_v7 : Ref sig .tc := ⟨.hbm, 111, rfl⟩
abbrev main_while0b_call5_v8 : Ref sig .tc := ⟨.hbm, 112, rfl⟩
abbrev main_while0b_call5_v9 : Ref sig .tc := ⟨.hbm, 113, rfl⟩
abbrev main_while0b_call5_v10 : Ref sig .tc := ⟨.hbm, 114, rfl⟩
abbrev main_while0b_call5_v11 : Ref sig .tc := ⟨.hbm, 115, rfl⟩
abbrev main_while0b_v63 : Ref sig .tc := ⟨.hbm, 116, rfl⟩
abbrev main_while0b_v64 : Ref sig .tc := ⟨.hbm, 117, rfl⟩
abbrev main_while0b_v65 : Ref sig .tc := ⟨.hbm, 118, rfl⟩
abbrev main_while0b_v66 : Ref sig .tc := ⟨.hbm, 119, rfl⟩
abbrev main_while0b_v67 : Ref sig .tc := ⟨.hbm, 120, rfl⟩
abbrev main_while0b_v68 : Ref sig .tc := ⟨.hbm, 121, rfl⟩
abbrev main_while0b_v69 : Ref sig .tc := ⟨.hbm, 122, rfl⟩
abbrev main_while0b_v70 : Ref sig .tc := ⟨.hbm, 123, rfl⟩
abbrev main_while0b_v71 : Ref sig .tc := ⟨.hbm, 124, rfl⟩
abbrev main_while0b_v72 : Ref sig .tc := ⟨.hbm, 125, rfl⟩
abbrev main_while0b_v73 : Ref sig .tc := ⟨.hbm, 126, rfl⟩
abbrev main_while0b_v74 : Ref sig .tc := ⟨.hbm, 127, rfl⟩
abbrev main_while0b_call6_call0_cst : Ref sig .tc := ⟨.hbm, 128, rfl⟩
abbrev main_while0b_call6_call0_v0 : Ref sig .tc := ⟨.hbm, 129, rfl⟩
abbrev main_while0b_v75 : Ref sig .tc := ⟨.hbm, 130, rfl⟩
abbrev main_while0b_c_11 : Ref sig .tc := ⟨.hbm, 131, rfl⟩
abbrev main_while0b_v76 : Ref sig .tc := ⟨.hbm, 132, rfl⟩
abbrev main_while0b_call7_v0 : Ref sig .tc := ⟨.hbm, 133, rfl⟩
abbrev main_while0b_call7_c : Ref sig .tc := ⟨.hbm, 134, rfl⟩
abbrev main_while0b_call7_v1 : Ref sig .tc := ⟨.hbm, 135, rfl⟩
abbrev main_while0b_call7_v2 : Ref sig .tc := ⟨.hbm, 136, rfl⟩
abbrev main_while0b_call7_v3 : Ref sig .tc := ⟨.hbm, 137, rfl⟩
abbrev main_while0b_call7_v4 : Ref sig .tc := ⟨.hbm, 138, rfl⟩
abbrev main_while0b_call7_c_0 : Ref sig .tc := ⟨.hbm, 139, rfl⟩
abbrev main_while0b_call7_v5 : Ref sig .tc := ⟨.hbm, 140, rfl⟩
abbrev main_while0b_v77 : Ref sig .tc := ⟨.hbm, 141, rfl⟩
abbrev main_while0b_v78 : Ref sig .tc := ⟨.hbm, 142, rfl⟩
abbrev main_while0b_v79 : Ref sig .tc := ⟨.hbm, 143, rfl⟩
abbrev main_while0b_v80 : Ref sig .tc := ⟨.hbm, 144, rfl⟩
abbrev main_while0b_v81 : Ref sig .tc := ⟨.hbm, 145, rfl⟩
abbrev main_while0b_v82 : Ref sig .tc := ⟨.hbm, 146, rfl⟩
abbrev main_while0b_v83 : Ref sig .tc := ⟨.hbm, 147, rfl⟩
abbrev main_while0b_cst_12 : Ref sig .tc := ⟨.hbm, 148, rfl⟩
abbrev main_while0b_call8_v0 : Ref sig .tc := ⟨.hbm, 149, rfl⟩
abbrev main_while0b_call8_v1 : Ref sig .tc := ⟨.hbm, 150, rfl⟩
abbrev main_while0b_call8_v2 : Ref sig .tc := ⟨.hbm, 151, rfl⟩
abbrev main_while0b_v84 : Ref sig .tc := ⟨.hbm, 152, rfl⟩
abbrev main_while0b_v85 : Ref sig .tc := ⟨.hbm, 153, rfl⟩
abbrev main_while0b_v86 : Ref sig .tc := ⟨.hbm, 154, rfl⟩
abbrev main_while0b_v87 : Ref sig .tc := ⟨.hbm, 155, rfl⟩
abbrev main_while0b_v88 : Ref sig .tc := ⟨.hbm, 156, rfl⟩
abbrev main_while0b_v89 : Ref sig .tc := ⟨.hbm, 157, rfl⟩
abbrev main_while0b_v90 : Ref sig .tc := ⟨.hbm, 158, rfl⟩
abbrev main_while0b_v91 : Ref sig .tc := ⟨.hbm, 159, rfl⟩
abbrev main_while0b_v92 : Ref sig .tc := ⟨.hbm, 160, rfl⟩
abbrev main_while0b_v93 : Ref sig .tc := ⟨.hbm, 161, rfl⟩
abbrev main_while0b_v94 : Ref sig .tc := ⟨.hbm, 162, rfl⟩
abbrev main_while0b_v95 : Ref sig .tc := ⟨.hbm, 163, rfl⟩
abbrev main_while0b_v96 : Ref sig .tc := ⟨.hbm, 164, rfl⟩
abbrev main_while0b_v97 : Ref sig .tc := ⟨.hbm, 165, rfl⟩
abbrev main_while0b_v98 : Ref sig .tc := ⟨.hbm, 166, rfl⟩
abbrev main_while0b_v99 : Ref sig .tc := ⟨.hbm, 167, rfl⟩
abbrev main_while0b_v100 : Ref sig .tc := ⟨.hbm, 168, rfl⟩
abbrev main_while0b_v101 : Ref sig .tc := ⟨.hbm, 169, rfl⟩
abbrev main_while0b_v102 : Ref sig .tc := ⟨.hbm, 170, rfl⟩
abbrev main_while0b_v103 : Ref sig .tc := ⟨.hbm, 171, rfl⟩
abbrev main_while0b_v104 : Ref sig .tc := ⟨.hbm, 172, rfl⟩
abbrev main_while0b_v105 : Ref sig .tc := ⟨.hbm, 173, rfl⟩
abbrev main_while0b_v106 : Ref sig .tc := ⟨.hbm, 174, rfl⟩
abbrev main_while0b_v107 : Ref sig .tc := ⟨.hbm, 175, rfl⟩
abbrev main_while0b_v108 : Ref sig .tc := ⟨.hbm, 176, rfl⟩
abbrev main_while0b_v109 : Ref sig .tc := ⟨.hbm, 177, rfl⟩
abbrev main_while0b_v110 : Ref sig .tc := ⟨.hbm, 178, rfl⟩
abbrev main_while0b_v111 : Ref sig .tc := ⟨.hbm, 179, rfl⟩
abbrev main_while0b_v112 : Ref sig .tc := ⟨.hbm, 180, rfl⟩
abbrev main_while0b_v113 : Ref sig .tc := ⟨.hbm, 181, rfl⟩
abbrev main_while0b_v114 : Ref sig .tc := ⟨.hbm, 182, rfl⟩
abbrev main_while0b_call9_v0 : Ref sig .tc := ⟨.hbm, 183, rfl⟩
abbrev main_while0b_call9_v1 : Ref sig .tc := ⟨.hbm, 184, rfl⟩
abbrev main_while0b_call9_cst : Ref sig .tc := ⟨.hbm, 185, rfl⟩
abbrev main_while0b_call9_v2 : Ref sig .tc := ⟨.hbm, 186, rfl⟩
abbrev main_while0b_call9_v3 : Ref sig .tc := ⟨.hbm, 187, rfl⟩
abbrev main_while0b_call9_cst_0 : Ref sig .tc := ⟨.hbm, 188, rfl⟩
abbrev main_while0b_call9_v4 : Ref sig .tc := ⟨.hbm, 189, rfl⟩
abbrev main_while0b_call9_v5 : Ref sig .tc := ⟨.hbm, 190, rfl⟩
abbrev main_while0b_v115 : Ref sig .tc := ⟨.hbm, 191, rfl⟩
abbrev main_while0b_v116 : Ref sig .tc := ⟨.hbm, 192, rfl⟩
abbrev main_while0b_v117 : Ref sig .tc := ⟨.hbm, 193, rfl⟩
abbrev main_while0b_v118 : Ref sig .tc := ⟨.hbm, 194, rfl⟩
abbrev main_while0b_cst_13 : Ref sig .tc := ⟨.hbm, 195, rfl⟩
abbrev main_while0b_v119 : Ref sig .tc := ⟨.hbm, 196, rfl⟩
abbrev main_while0b_v120 : Ref sig .tc := ⟨.hbm, 197, rfl⟩
abbrev main_while0b_cst_14 : Ref sig .tc := ⟨.hbm, 198, rfl⟩
abbrev main_while0b_v121 : Ref sig .tc := ⟨.hbm, 199, rfl⟩
abbrev main_while0b_v122 : Ref sig .tc := ⟨.hbm, 200, rfl⟩
abbrev main_while0b_cst_15 : Ref sig .tc := ⟨.hbm, 201, rfl⟩
abbrev main_while0b_v123 : Ref sig .tc := ⟨.hbm, 202, rfl⟩
abbrev main_while0b_v124 : Ref sig .tc := ⟨.hbm, 203, rfl⟩
abbrev main_while0b_v125 : Ref sig .tc := ⟨.hbm, 204, rfl⟩
abbrev main_while0b_v126 : Ref sig .tc := ⟨.hbm, 205, rfl⟩
abbrev main_while0b_v127 : Ref sig .tc := ⟨.hbm, 206, rfl⟩
abbrev main_while0b_v128 : Ref sig .tc := ⟨.hbm, 207, rfl⟩
abbrev main_while0b_v129 : Ref sig .tc := ⟨.hbm, 208, rfl⟩
abbrev main_while0b_v130 : Ref sig .tc := ⟨.hbm, 209, rfl⟩
abbrev main_while0b_v131 : Ref sig .tc := ⟨.hbm, 210, rfl⟩
abbrev main_while0b_v132 : Ref sig .tc := ⟨.hbm, 211, rfl⟩
abbrev main_while0b_v133 : Ref sig .tc := ⟨.hbm, 212, rfl⟩
abbrev main_while0b_v134 : Ref sig .tc := ⟨.hbm, 213, rfl⟩
abbrev main_while0b_v135 : Ref sig .tc := ⟨.hbm, 214, rfl⟩
abbrev main_while0b_v136 : Ref sig .tc := ⟨.hbm, 215, rfl⟩
abbrev main_while0b_v137 : Ref sig .tc := ⟨.hbm, 216, rfl⟩
abbrev main_while0b_call10_v0 : Ref sig .tc := ⟨.hbm, 217, rfl⟩
abbrev main_while0b_call10_c : Ref sig .tc := ⟨.hbm, 218, rfl⟩
abbrev main_while0b_call10_c_0 : Ref sig .tc := ⟨.hbm, 219, rfl⟩
abbrev main_while0b_call10_c_1 : Ref sig .tc := ⟨.hbm, 220, rfl⟩
abbrev main_while0b_v138 : Ref sig .tc := ⟨.hbm, 221, rfl⟩
abbrev main_while0b_c_16 : Ref sig .tc := ⟨.hbm, 222, rfl⟩
abbrev main_while0b_v139 : Ref sig .tc := ⟨.hbm, 223, rfl⟩
abbrev main_v46 : Ref sig .tc := ⟨.hbm, 224, rfl⟩
abbrev main_v47 : Ref sig .tc := ⟨.hbm, 225, rfl⟩
abbrev main_v48 : Ref sig .tc := ⟨.hbm, 226, rfl⟩

abbrev nD : Nat := 1
abbrev τ : Topo := Topo.v7x

variable {F : FTy → Type} [FloatOps F]

abbrev main_while0_count : Scf.Loop 32 := ⟨0#32, 32#32, 1#32⟩
-- ==== Ffn.lean ====
abbrev S2x4096x2048 : Shape := ⟨3, ![2, 4096, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S8192x2048 : Shape := ⟨2, ![8192, 2048]⟩
abbrev S2048x5632 : Shape := ⟨2, ![2048, 5632]⟩
abbrev S5632x2048 : Shape := ⟨2, ![5632, 2048]⟩
abbrev S1024x2048 : Shape := ⟨2, ![1024, 2048]⟩
abbrev S2048x256 : Shape := ⟨2, ![2048, 256]⟩
abbrev S256x2048 : Shape := ⟨2, ![256, 2048]⟩
abbrev S1024 : Shape := ⟨1, ![1024]⟩
abbrev S1024x1 : Shape := ⟨2, ![1024, 1]⟩
abbrev S1024x256 : Shape := ⟨2, ![1024, 256]⟩

abbrev nBuf : Space → Nat
  | .hbm => 14
  | .vmem => 13
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S8192x2048, .f32⟩
  | .hbm, ⟨7, _⟩ => ⟨S2048, .f32⟩
  | .hbm, ⟨8, _⟩ => ⟨S1x2048, .f32⟩
  | .hbm, ⟨9, _⟩ => ⟨S1x2048, .f32⟩
  | .hbm, ⟨10, _⟩ => ⟨S2048x5632, .f32⟩
  | .hbm, ⟨11, _⟩ => ⟨S2048x5632, .f32⟩
  | .hbm, ⟨12, _⟩ => ⟨S5632x2048, .f32⟩
  | .hbm, ⟨13, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S256x2048, .f32⟩
  | .local _ .vmem, ⟨9, _⟩ => ⟨S256x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S2x4096x2048 : Shape := ⟨3, ![2, 4096, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x5632 : Shape := ⟨2, ![2048, 5632]⟩
abbrev S2x4096x5632 : Shape := ⟨3, ![2, 4096, 5632]⟩
abbrev S5632x2048 : Shape := ⟨2, ![5632, 2048]⟩
abbrev S8192x2048 : Shape := ⟨2, ![8192, 2048]⟩

abbrev nBuf : Space → Nat
  | .hbm => 57
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S2048, .f32⟩
  | .hbm, ⟨7, _⟩ => ⟨S2x4096x2048, .f32⟩
  | .hbm, ⟨8, _⟩ => ⟨S_, .f32⟩
  | .hbm, ⟨9, _⟩ => ⟨S2x4096, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S2x4096x1, .f32⟩
  | .hbm, ⟨18, _⟩ => ⟨S2x4096x2048, .f32⟩
  | .hbm, ⟨19, _⟩ => ⟨S2x4096x2048, .f32⟩
  | .hbm, ⟨20, _⟩ => ⟨S1x1x2048, .f32⟩
  | .hbm, ⟨21, _⟩ => ⟨S2x4096x2048, .f32⟩
  | .hbm, ⟨22, _⟩ => ⟨S2x4096x2048, .f32⟩
  | .hbm, ⟨23, _⟩ => ⟨S2048x5632, .f32⟩
  | .hbm, ⟨24, _⟩ => ⟨S2x4096x5632, .f32⟩
  | .hbm, ⟨25, _⟩ => ⟨S2x4096x5632, .f32⟩
  | .hbm, ⟨26, _⟩ => ⟨S2x4096x5632, .f32⟩
  | .hbm, ⟨27, _⟩ => ⟨S_, .f32⟩
  | .hbm, ⟨28, _⟩ => ⟨S2x4096x5632, .f32⟩
  | .hbm, ⟨29, _⟩ => ⟨S2x4096x5632, .f32⟩
  | .hbm, ⟨30, _⟩ => ⟨S_, .f32⟩
  | .hbm, ⟨31, _⟩ => ⟨S2x4096x5632, .f32⟩
  | .hbm, ⟨32, _⟩ => ⟨S2x4096x5632, .f32⟩
  | .hbm, ⟨33, _⟩ => ⟨S2x4096x5632, .f32⟩
  | .hbm, ⟨34, _⟩ => ⟨S2048x5632, .f32⟩
  | .hbm, ⟨35, _⟩ => ⟨S2x4096x5632, .f32⟩
  | .hbm, ⟨36, _⟩ => ⟨S2x4096x5632, .f32⟩
  | .hbm, ⟨37, _⟩ => ⟨S5632x2048, .f32⟩
  | .hbm, ⟨38, _⟩ => ⟨S2x4096x2048, .f32⟩
  | .hbm, ⟨39, _⟩ => ⟨S2x4096x2048, .f32⟩
  | .hbm, ⟨40, _⟩ => ⟨S2x4096x2048, .f32⟩
  | .hbm, ⟨41, _⟩ => ⟨S_, .f32⟩
  | .hbm, ⟨42, _⟩ => ⟨S2x4096, .f32⟩
  | .hbm, ⟨43, _⟩ => ⟨S2x4096x1, .f32⟩
  | .hbm, ⟨44, _⟩ => ⟨S_, .f32⟩
  | .hbm, ⟨45, _⟩ => ⟨S2x4096x1, .f32⟩
  | .hbm, ⟨46, _⟩ => ⟨S2x4096x1, .f32⟩
  | .hbm, ⟨47, _⟩ => ⟨S_, .f32⟩
  | .hbm, ⟨48, _⟩ => ⟨S2x4096x1, .f32⟩
  | .hbm, ⟨49, _⟩ => ⟨S2x4096x1, .f32⟩
  | .hbm, ⟨50, _⟩ => ⟨S2x4096x1, .f32⟩
  | .hbm, ⟨51, _⟩ => ⟨S2x4096x2048, .f32⟩
  | .hbm, ⟨52, _⟩ => ⟨S2x4096x2048, .f32⟩
  | .hbm, ⟨53, _⟩ => ⟨S1x1x2048, .f32⟩
  | .hbm, ⟨54, _⟩ => ⟨S2x4096x2048, .f32⟩
  | .hbm, ⟨55, _⟩ => ⟨S2x4096x2048, .f32⟩
  | .hbm, ⟨56, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== InProj.lean ====
abbrev S2x4096x2048 : Shape := ⟨3, ![2, 4096, 2048]⟩
abbrev S1x2048 : Shape := ⟨2, ![1, 2048]⟩
abbrev S1x2048x5184 : Shape := ⟨3, ![1, 2048, 5184]⟩
abbrev S8192x2048 : Shape := ⟨2, ![8192, 2048]⟩
abbrev S2048x5184 : Shape := ⟨2, ![2048, 5184]⟩
abbrev S2048x1536 : Shape := ⟨2, ![2048, 1536]⟩
abbrev S2048x1024 : Shape := ⟨2, ![2048, 1024]⟩
abbrev S2048x16 : Shape := ⟨2, ![2048, 16]⟩
abbrev S_ : Shape := ⟨0, ![]⟩
abbrev S2048x128 : Shape := ⟨2, ![2048, 128]⟩
abbrev S2048x48 : Shape := ⟨2, ![2048, 48]⟩
abbrev S2048x5376 : Shape := ⟨2, ![2048, 5376]⟩
abbrev S2048 : Shape := ⟨1, ![2048]⟩
abbrev S8192x5376 : Shape := ⟨2, ![8192, 5376]⟩
abbrev S1024x2048 : Shape := ⟨2, ![1024, 2048]⟩
abbrev S2048x1792 : Shape := ⟨2, ![2048, 1792]⟩
abbrev S1024x1792 : Shape := ⟨2, ![1024, 1792]⟩
abbrev S1024 : Shape := ⟨1, ![1024]⟩
abbrev S1024x1 : Shape := ⟨2, ![1024, 1]⟩

abbrev nBuf : Space → Nat
  | .hbm => 22
  | .vmem => 8
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x5184, .f32⟩
  | .hbm, ⟨3, _⟩ => ⟨S8192x2048, .f32⟩
  | .hbm, ⟨4, _⟩ => ⟨S2048x5184, .f32⟩
  | .hbm, ⟨5, _⟩ => ⟨S2048x1536, .f32⟩
  | .hbm, ⟨6, _⟩ => ⟨S2048x1536, .f32⟩
  | .hbm, ⟨7, _⟩ => ⟨S2048x1024, .f32⟩
  | .hbm, ⟨8, _⟩ => ⟨S2048x1024, .f32⟩
  | .hbm, ⟨9, _⟩ => ⟨S2048x16, .f32⟩
  | .hbm, ⟨10, _⟩ => ⟨S_, .i32⟩
  | .hbm, ⟨11, _⟩ => ⟨S_, .f32⟩
  | .hbm, ⟨12, _⟩ => ⟨S2048x128, .f32⟩
  | .hbm, ⟨13, _⟩ => ⟨S2048x48, .f32⟩
  | .hbm, ⟨14, _⟩ => ⟨S_, .i32⟩
  | .hbm, ⟨15, _⟩ => ⟨S_, .f32⟩
  | .hbm, ⟨16, _⟩ => ⟨S2048x128, .f32⟩
  | .hbm, ⟨17, _⟩ => ⟨S2048x5376, .f32⟩
  | .hbm, ⟨18, _⟩ => ⟨S2048x5376, .bf16⟩
  | .hbm, ⟨19, _⟩ => ⟨S2048, .f32⟩
  | .hbm, ⟨20, _⟩ => ⟨S1x2048, .f32⟩
  | .hbm, ⟨21, _⟩ => ⟨S8192x5376, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1792, .bf16⟩
  | .local _ .vmem, ⟨4, _⟩ => ⟨S2048x1792, .bf16⟩
  | .local _ .vmem, ⟨5, _⟩ => ⟨S1024x1792, .f32⟩
  | .local _ .vmem, ⟨6, _⟩ => ⟨S1024x1792, .f32⟩
  | .local _ .vmem, ⟨7, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_call1_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InProjRefIdeal.lean ====
abbrev S2x4096x2048 : Shape := ⟨3, ![2, 4096, 2048]⟩
abbrev S1x2048 : Shape := ⟨2, ![1, 2048]⟩
abbrev S1x2048x5184 : Shape := ⟨3, ![1, 2048, 5184]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x5184 : Shape := ⟨2, ![2048, 5184]⟩
abbrev S2x4096x5184 : Shape := ⟨3, ![2, 4096, 5184]⟩
abbrev S2x4096x1024 : Shape := ⟨3, ![2, 4096, 1024]⟩
abbrev S2x4096x1536 : Shape := ⟨3, ![2, 4096, 1536]⟩
abbrev S2x4096x16 : Shape := ⟨3, ![2, 4096, 16]⟩
abbrev S2x4096x48 : Shape := ⟨3, ![2, 4096, 48]⟩
abbrev S2x4096x128 : Shape := ⟨3, ![2, 4096, 128]⟩
abbrev S2x4096x5376 : Shape := ⟨3, ![2, 4096, 5376]⟩
abbrev S8192x5376 : Shape := ⟨2, ![8192, 5376]⟩

abbrev nBuf : Space → Nat
  | .hbm => 36
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048, .f32⟩
  | .hbm, ⟨2, _⟩ => ⟨S1x2048x5184, .f32⟩
  | .hbm, ⟨3, _⟩ => ⟨S2048, .f32⟩
  | .hbm, ⟨4, _⟩ => ⟨S2x4096x2048, .f32⟩
  | .hbm, ⟨5, _⟩ => ⟨S_, .f32⟩
  | .hbm, ⟨6, _⟩ => ⟨S2x4096, .f32⟩
  | .hbm, ⟨7, _⟩ => ⟨S2x4096x1, .f32⟩
  | .hbm, ⟨8, _⟩ => ⟨S_, .f32⟩
  | .hbm, ⟨9, _⟩ => ⟨S2x4096x1, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S2x4096x1, .f32⟩
  | .hbm, ⟨15, _⟩ => ⟨S2x4096x2048, .f32⟩
  | .hbm, ⟨16, _⟩ => ⟨S2x4096x2048, .f32⟩
  | .hbm, ⟨17, _⟩ => ⟨S1x1x2048, .f32⟩
  | .hbm, ⟨18, _⟩ => ⟨S2x4096x2048, .f32⟩
  | .hbm, ⟨19, _⟩ => ⟨S2x4096x2048, .f32⟩
  | .hbm, ⟨20, _⟩ => ⟨S2048x5184, .f32⟩
  | .hbm, ⟨21, _⟩ => ⟨S2x4096x5184, .f32⟩
  | .hbm, ⟨22, _⟩ => ⟨S2x4096x1024, .f32⟩
  | .hbm, ⟨23, _⟩ => ⟨S2x4096x1536, .f32⟩
  | .hbm, ⟨24, _⟩ => ⟨S2x4096x16, .f32⟩
  | .hbm, ⟨25, _⟩ => ⟨S2x4096x1024, .f32⟩
  | .hbm, ⟨26, _⟩ => ⟨S2x4096x1536, .f32⟩
  | .hbm, ⟨27, _⟩ => ⟨S2x4096x48, .f32⟩
  | .hbm, ⟨28, _⟩ => ⟨S_, .i32⟩
  | .hbm, ⟨29, _⟩ => ⟨S_, .f32⟩
  | .hbm, ⟨30, _⟩ => ⟨S2x4096x128, .f32⟩
  | .hbm, ⟨31, _⟩ => ⟨S_, .i32⟩
  | .hbm, ⟨32, _⟩ => ⟨S_, .f32⟩
  | .hbm, ⟨33, _⟩ => ⟨S2x4096x128, .f32⟩
  | .hbm, ⟨34, _⟩ => ⟨S2x4096x5376, .f32⟩
  | .hbm, ⟨35, _⟩ => ⟨S8192x5376, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c : Ref sig .tc := ⟨.hbm, 28, rfl⟩
abbrev main_call0_v0 : Ref sig .tc := ⟨.hbm, 29, rfl⟩
abbrev main_v22 : Ref sig .tc := ⟨.hbm, 30, rfl⟩
abbrev main_c_2 : Ref sig .tc := ⟨.hbm, 31, rfl⟩
abbrev main_call1_v0 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== OutProj.lean ====
abbrev S2x4096x2048 : Shape := ⟨3, ![2, 4096, 2048]⟩
abbrev S8192x1024 : Shape := ⟨2, ![8192, 1024]⟩
abbrev S1x2048x2048 : Shape := ⟨3, ![1, 2048, 2048]⟩
abbrev S8192x2048 : Shape := ⟨2, ![8192, 2048]⟩
abbrev S2048x2048 : Shape := ⟨2, ![2048, 2048]⟩
abbrev S512x2048 : Shape := ⟨2, ![512, 2048]⟩
abbrev S512x1024 : Shape := ⟨2, ![512, 1024]⟩
abbrev S1024x2048 : Shape := ⟨2, ![1024, 2048]⟩

abbrev nBuf : Space → Nat
  | .hbm => 8
  | .vmem => 10
  | .smem => 0
  | _ => 0

abbrev bufTy : (tb : Table) → Fin (tcTables nBuf tb) → BufTy
  | .hbm, ⟨0, _⟩ => ⟨S2x4096x2048, .f32⟩
  | .hbm, ⟨1, _⟩ => ⟨S8192x1024, .bf16⟩
  | .hbm, ⟨2, _⟩ => ⟨S8192x1024, .bf16⟩
  | .hbm, ⟨3, _⟩ => ⟨S1x2048x2048, .f32⟩
  | .hbm, ⟨4, _⟩ => ⟨S8192x2048, .f32⟩
  | .hbm, ⟨5, _⟩ => ⟨S2048x2048, .f32⟩
  | .hbm, ⟨6, _⟩ => ⟨S2048x2048, .bf16⟩
  | .hbm, ⟨7, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x2048, .bf16⟩
  | .local _ .vmem, ⟨7, _⟩ => ⟨S1024x2048, .bf16⟩
  | .local _ .vmem, ⟨8, _⟩ => ⟨S512x2048, .f32⟩
  | .local _ .vmem, ⟨9, _⟩ => ⟨S512x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutProjRefIdeal.lean ====
abbrev S2x4096x2048 : Shape := ⟨3, ![2, 4096, 2048]⟩
abbrev S8192x1024 : Shape := ⟨2, ![8192, 1024]⟩
abbrev S1x2048x2048 : Shape := ⟨3, ![1, 2048, 2048]⟩
abbrev S8192x2048 : Shape := ⟨2, ![8192, 2048]⟩
abbrev S2048x2048 : Shape := ⟨2, ![2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S8192x1024, .bf16⟩
  | .hbm, ⟨2, _⟩ => ⟨S8192x1024, .bf16⟩
  | .hbm, ⟨3, _⟩ => ⟨S1x2048x2048, .f32⟩
  | .hbm, ⟨4, _⟩ => ⟨S8192x1024, .f32⟩
  | .hbm, ⟨5, _⟩ => ⟨S8192x1024, .f32⟩
  | .hbm, ⟨6, _⟩ => ⟨S8192x2048, .f32⟩
  | .hbm, ⟨7, _⟩ => ⟨S2x4096x2048, .f32⟩
  | .hbm, ⟨8, _⟩ => ⟨S2048x2048, .f32⟩
  | .hbm, ⟨9, _⟩ => ⟨S2x4096x2048, .f32⟩
  | .hbm, ⟨10, _⟩ => ⟨S2x4096x2048, .f32⟩
  | .hbm, ⟨11, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Cmp.lean ====
abbrev S8192x5376 : Shape := ⟨2, ![8192, 5376]⟩
abbrev S1x2048x256 : Shape := ⟨3, ![1, 2048, 256]⟩
abbrev S1x256x64 : Shape := ⟨3, ![1, 256, 64]⟩
abbrev S1x32x64 : Shape := ⟨3, ![1, 32, 64]⟩
abbrev S2048x256 : Shape := ⟨2, ![2048, 256]⟩
abbrev S256x64 : Shape := ⟨2, ![256, 64]⟩
abbrev S32x64 : Shape := ⟨2, ![32, 64]⟩
abbrev S1x32x1x64 : Shape := ⟨4, ![1, 32, 1, 64]⟩
abbrev S1x32x2x64 : Shape := ⟨4, ![1, 32, 2, 64]⟩
abbrev S32x128 : Shape := ⟨2, ![32, 128]⟩
abbrev S32x64x256 : Shape := ⟨3, ![32, 64, 256]⟩
abbrev S1x32x1x64x1x256 : Shape := ⟨6, ![1, 32, 1, 64, 1, 256]⟩
abbrev S1x32x2x64x1x256 : Shape := ⟨6, ![1, 32, 2, 64, 1, 256]⟩
abbrev S32x128x256 : Shape := ⟨3, ![32, 128, 256]⟩
abbrev S64x256 : Shape := ⟨2, ![64, 256]⟩
abbrev S_ : Shape := ⟨0, ![]⟩
abbrev S256x128 : Shape := ⟨2, ![256, 128]⟩
abbrev S2x4x256x1024 : Shape := ⟨4, ![2, 4, 256, 1024]⟩
abbrev S2x4x1024x512 : Shape := ⟨4, ![2, 4, 1024, 512]⟩
abbrev S4096x128 : Shape := ⟨2, ![4096, 128]⟩
abbrev S1x1x256x1024 : Shape := ⟨4, ![1, 1, 256, 1024]⟩
abbrev S1x1x1024x512 : Shape := ⟨4, ![1, 1, 1024, 512]⟩
abbrev S264x256 : Shape := ⟨2, ![264, 256]⟩
abbrev S256x256 : Shape := ⟨2, ![256, 256]⟩
abbrev S1x128 : Shape := ⟨2, ![1, 128]⟩
abbrev S1x128x256 : Shape := ⟨3, ![1, 128, 256]⟩
abbrev S128x256 : Shape := ⟨2, ![128, 256]⟩
abbrev S8x256 : Shape := ⟨2, ![8, 256]⟩
abbrev S1x1x64x256 : Shape := ⟨4, ![1, 1, 64, 256]⟩
abbrev S1x1x256x128 : Shape := ⟨4, ![1, 1, 256, 128]⟩

abbrev nBuf : Space → Nat
  | .hbm => 37
  | .vmem => 15
  | .smem => 0
  | _ => 0

abbrev bufTy : (tb : Table) → Fin (tcTables nBuf tb) → BufTy
  | .hbm, ⟨0, _⟩ => ⟨S8192x5376, .f32⟩
  | .hbm, ⟨1, _⟩ => ⟨S1x2048x256, .f32⟩
  | .hbm, ⟨2, _⟩ => ⟨S1x256x64, .f32⟩
  | .hbm, ⟨3, _⟩ => ⟨S1x2048x256, .f32⟩
  | .hbm, ⟨4, _⟩ => ⟨S1x256x64, .f32⟩
  | .hbm, ⟨5, _⟩ => ⟨S1x32x64, .f32⟩
  | .hbm, ⟨6, _⟩ => ⟨S1x32x64, .f32⟩
  | .hbm, ⟨7, _⟩ => ⟨S2048x256, .f32⟩
  | .hbm, ⟨8, _⟩ => ⟨S256x64, .f32⟩
  | .hbm, ⟨9, _⟩ => ⟨S2048x256, .f32⟩
  | .hbm, ⟨10, _⟩ => ⟨S256x64, .f32⟩
  | .hbm, ⟨11, _⟩ => ⟨S32x64, .f32⟩
  | .hbm, ⟨12, _⟩ => ⟨S32x64, .f32⟩
  | .hbm, ⟨13, _⟩ => ⟨S1x32x1x64, .f32⟩
  | .hbm, ⟨14, _⟩ => ⟨S1x32x2x64, .f32⟩
  | .hbm, ⟨15, _⟩ => ⟨S32x128, .f32⟩
  | .hbm, ⟨16, _⟩ => ⟨S1x32x1x64, .f32⟩
  | .hbm, ⟨17, _⟩ => ⟨S1x32x2x64, .f32⟩
  | .hbm, ⟨18, _⟩ => ⟨S32x128, .f32⟩
  | .hbm, ⟨19, _⟩ => ⟨S2048x256, .bf16⟩
  | .hbm, ⟨20, _⟩ => ⟨S32x64x256, .bf16⟩
  | .hbm, ⟨21, _⟩ => ⟨S1x32x1x64x1x256, .bf16⟩
  | .hbm, ⟨22, _⟩ => ⟨S1x32x2x64x1x256, .bf16⟩
  | .hbm, ⟨23, _⟩ => ⟨S32x128x256, .bf16⟩
  | .hbm, ⟨24, _⟩ => ⟨S2048x256, .bf16⟩
  | .hbm, ⟨25, _⟩ => ⟨S32x64x256, .bf16⟩
  | .hbm, ⟨26, _⟩ => ⟨S1x32x1x64x1x256, .bf16⟩
  | .hbm, ⟨27, _⟩ => ⟨S1x32x2x64x1x256, .bf16⟩
  | .hbm, ⟨28, _⟩ => ⟨S32x128x256, .bf16⟩
  | .hbm, ⟨29, _⟩ => ⟨S64x256, .f32⟩
  | .hbm, ⟨30, _⟩ => ⟨S64x256, .bf16⟩
  | .hbm, ⟨31, _⟩ => ⟨S_, .i32⟩
  | .hbm, ⟨32, _⟩ => ⟨S_, .f32⟩
  | .hbm, ⟨33, _⟩ => ⟨S256x128, .f32⟩
  | .hbm, ⟨34, _⟩ => ⟨S256x128, .bf16⟩
  | .hbm, ⟨35, _⟩ => ⟨S2x4x256x1024, .bf16⟩
  | .hbm, ⟨36, _⟩ => ⟨S2x4x1024x512, .bf16⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S32x128, .f32⟩
  | .local _ .vmem, ⟨5, _⟩ => ⟨S32x128, .f32⟩
  | .local _ .vmem, ⟨6, _⟩ => ⟨S32x128x256, .bf16⟩
  | .local _ .vmem, ⟨7, _⟩ => ⟨S32x128x256, .bf16⟩
  | .local _ .vmem, ⟨8, _⟩ => ⟨S64x256, .bf16⟩
  | .local _ .vmem, ⟨9, _⟩ => ⟨S256x128, .bf16⟩
  | .local _ .vmem, ⟨10, _⟩ => ⟨S1x1x256x1024, .bf16⟩
  | .local _ .vmem, ⟨11, _⟩ => ⟨S1x1x256x1024, .bf16⟩
  | .local _ .vmem, ⟨12, _⟩ => ⟨S1x1x1024x512, .bf16⟩
  | .local _ .vmem, ⟨13, _⟩ => ⟨S1x1x1024x512, .bf16⟩
  | .local _ .vmem, ⟨14, _⟩ => ⟨S264x256, .f32⟩
  | _, _ => ⟨S8192x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c : Ref sig .tc := ⟨.hbm, 31, rfl⟩
abbrev main_call0_v0 : Ref sig .tc := ⟨.hbm, 32, rfl⟩
abbrev main_v24 : Ref sig .tc := ⟨.hbm, 33, rfl⟩
abbrev main_v25 : Ref sig .tc := ⟨.hbm, 34, rfl⟩
abbrev main_v26_0 : Ref sig .tc := ⟨.hbm, 35, rfl⟩
abbrev main_v26_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c12_i32 : BitVec 32 := 12#32
  let v17 : BitVec 32 := Scalar.addi c12_i32 v16
  let c0_i32_4 : BitVec 32 := 0#32
  ![arg0.toNat, v17.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c14_i32 : BitVec 32 := 14#32
  let v17 : BitVec 32 := Scalar.addi c14_i32 v16
  let c0_i32_4 : BitVec 32 := 0#32
  ![arg0.toNat, v17.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== CmpRefIdeal.lean ====
abbrev S8192x5376 : Shape := ⟨2, ![8192, 5376]⟩
abbrev S1x2048x256 : Shape := ⟨3, ![1, 2048, 256]⟩
abbrev S1x256x64 : Shape := ⟨3, ![1, 256, 64]⟩
abbrev S1x32x64 : Shape := ⟨3, ![1, 32, 64]⟩
abbrev S2x4096x5376 : Shape := ⟨3, ![2, 4096, 5376]⟩
abbrev S2x4096x256 : Shape := ⟨3, ![2, 4096, 256]⟩
abbrev S2048x256 : Shape := ⟨2, ![2048, 256]⟩
abbrev S256x64 : Shape := ⟨2, ![256, 64]⟩
abbrev S32x64 : Shape := ⟨2, ![32, 64]⟩
abbrev S2x256x16x4x64 : Shape := ⟨5, ![2, 256, 16, 4, 64]⟩
abbrev S16x64 : Shape := ⟨2, ![16, 64]⟩
abbrev S16x1x64 : Shape := ⟨3, ![16, 1, 64]⟩
abbrev S1x1x16x1x64 : Shape := ⟨5, ![1, 1, 16, 1, 64]⟩
abbrev S2x255x16x4x64 : Shape := ⟨5, ![2, 255, 16, 4, 64]⟩
abbrev S_ : Shape := ⟨0, ![]⟩
abbrev S2x256x32x4x64 : Shape := ⟨5, ![2, 256, 32, 4, 64]⟩
abbrev S2x256x4x32x64 : Shape := ⟨5, ![2, 256, 4, 32, 64]⟩
abbrev S2x256x4x2048 : Shape := ⟨4, ![2, 256, 4, 2048]⟩
abbrev S2x256x4x256 : Shape := ⟨4, ![2, 256, 4, 256]⟩
abbrev S2x256x4x64 : Shape := ⟨4, ![2, 256, 4, 64]⟩
abbrev S2x4x64x256 : Shape := ⟨4, ![2, 4, 64, 256]⟩
abbrev S2x4x256x64 : Shape := ⟨4, ![2, 4, 256, 64]⟩
abbrev S2x4x256x128 : Shape := ⟨4, ![2, 4, 256, 128]⟩
abbrev S2x4x4x64x4x256 : Shape := ⟨6, ![2, 4, 4, 64, 4, 256]⟩
abbrev S2x4x1x64x1x256 : Shape := ⟨6, ![2, 4, 1, 64, 1, 256]⟩
abbrev S2x4x256x1024 : Shape := ⟨4, ![2, 4, 256, 1024]⟩
abbrev S2x4x4x256x4x128 : Shape := ⟨6, ![2, 4, 4, 256, 4, 128]⟩
abbrev S2x4x1x256x1x128 : Shape := ⟨6, ![2, 4, 1, 256, 1, 128]⟩
abbrev S2x4x1024x512 : Shape := ⟨4, ![2, 4, 1024, 512]⟩

abbrev nBuf : Space → Nat
  | .hbm => 99
  | .vmem => 0
  | .smem => 0
  | _ => 0

abbrev bufTy : (tb : Table) → Fin (tcTables nBuf tb) → BufTy
  | .hbm, ⟨0, _⟩ => ⟨S8192x5376, .f32⟩
  | .hbm, ⟨1, _⟩ => ⟨S1x2048x256, .f32⟩
  | .hbm, ⟨2, _⟩ => ⟨S1x256x64, .f32⟩
  | .hbm, ⟨3, _⟩ => ⟨S1x2048x256, .f32⟩
  | .hbm, ⟨4, _⟩ => ⟨S1x256x64, .f32⟩
  | .hbm, ⟨5, _⟩ => ⟨S1x32x64, .f32⟩
  | .hbm, ⟨6, _⟩ => ⟨S1x32x64, .f32⟩
  | .hbm, ⟨7, _⟩ => ⟨S2x4096x5376, .f32⟩
  | .hbm, ⟨8, _⟩ => ⟨S2x4096x256, .f32⟩
  | .hbm, ⟨9, _⟩ => ⟨S2x4096x256, .f32⟩
  | .hbm, ⟨10, _⟩ => ⟨S2048x256, .f32⟩
  | .hbm, ⟨11, _⟩ => ⟨S256x64, .f32⟩
  | .hbm, ⟨12, _⟩ => ⟨S32x64, .f32⟩
  | .hbm, ⟨13, _⟩ => ⟨S2x256x16x4x64, .f32⟩
  | .hbm, ⟨14, _⟩ => ⟨S16x64, .f32⟩
  | .hbm, ⟨15, _⟩ => ⟨S16x1x64, .f32⟩
  | .hbm, ⟨16, _⟩ => ⟨S1x1x16x1x64, .f32⟩
  | .hbm, ⟨17, _⟩ => ⟨S2x256x16x4x64, .f32⟩
  | .hbm, ⟨18, _⟩ => ⟨S2x256x16x4x64, .f32⟩
  | .hbm, ⟨19, _⟩ => ⟨S2x255x16x4x64, .f32⟩
  | .hbm, ⟨20, _⟩ => ⟨S16x64, .f32⟩
  | .hbm, ⟨21, _⟩ => ⟨S16x1x64, .f32⟩
  | .hbm, ⟨22, _⟩ => ⟨S1x1x16x1x64, .f32⟩
  | .hbm, ⟨23, _⟩ => ⟨S2x255x16x4x64, .f32⟩
  | .hbm, ⟨24, _⟩ => ⟨S2x255x16x4x64, .f32⟩
  | .hbm, ⟨25, _⟩ => ⟨S_, .i32⟩
  | .hbm, ⟨26, _⟩ => ⟨S_, .f32⟩
  | .hbm, ⟨27, _⟩ => ⟨S2x256x16x4x64, .f32⟩
  | .hbm, ⟨28, _⟩ => ⟨S2x256x32x4x64, .f32⟩
  | .hbm, ⟨29, _⟩ => ⟨S2x256x4x32x64, .f32⟩
  | .hbm, ⟨30, _⟩ => ⟨S2x256x4x2048, .f32⟩
  | .hbm, ⟨31, _⟩ => ⟨S2x256x4x256, .f32⟩
  | .hbm, ⟨32, _⟩ => ⟨S2x256x4x256, .f32⟩
  | .hbm, ⟨33, _⟩ => ⟨S2x256x4x256, .f32⟩
  | .hbm, ⟨34, _⟩ => ⟨S_, .f32⟩
  | .hbm, ⟨35, _⟩ => ⟨S2x256x4x256, .f32⟩
  | .hbm, ⟨36, _⟩ => ⟨S2x256x4x256, .f32⟩
  | .hbm, ⟨37, _⟩ => ⟨S_, .f32⟩
  | .hbm, ⟨38, _⟩ => ⟨S2x256x4x256, .f32⟩
  | .hbm, ⟨39, _⟩ => ⟨S2x256x4x256, .f32⟩
  | .hbm, ⟨40, _⟩ => ⟨S2x256x4x256, .f32⟩
  | .hbm, ⟨41, _⟩ => ⟨S2x256x4x64, .f32⟩
  | .hbm, ⟨42, _⟩ => ⟨S2048x256, .f32⟩
  | .hbm, ⟨43, _⟩ => ⟨S256x64, .f32⟩
  | .hbm, ⟨44, _⟩ => ⟨S32x64, .f32⟩
  | .hbm, ⟨45, _⟩ => ⟨S2x256x16x4x64, .f32⟩
  | .hbm, ⟨46, _⟩ => ⟨S16x64, .f32⟩
  | .hbm, ⟨47, _⟩ => ⟨S16x1x64, .f32⟩
  | .hbm, ⟨48, _⟩ => ⟨S1x1x16x1x64, .f32⟩
  | .hbm, ⟨49, _⟩ => ⟨S2x256x16x4x64, .f32⟩
  | .hbm, ⟨50, _⟩ => ⟨S2x256x16x4x64, .f32⟩
  | .hbm, ⟨51, _⟩ => ⟨S2x255x16x4x64, .f32⟩
  | .hbm, ⟨52, _⟩ => ⟨S16x64, .f32⟩
  | .hbm, ⟨53, _⟩ => ⟨S16x1x64, .f32⟩
  | .hbm, ⟨54, _⟩ => ⟨S1x1x16x1x64, .f32⟩
  | .hbm, ⟨55, _⟩ => ⟨S2x255x16x4x64, .f32⟩
  | .hbm, ⟨56, _⟩ => ⟨S2x255x16x4x64, .f32⟩
  | .hbm, ⟨57, _⟩ => ⟨S_, .i32⟩
  | .hbm, ⟨58, _⟩ => ⟨S_, .f32⟩
  | .hbm, ⟨59, _⟩ => ⟨S2x256x16x4x64, .f32⟩
  | .hbm, ⟨60, _⟩ => ⟨S2x256x32x4x64, .f32⟩
  | .hbm, ⟨61, _⟩ => ⟨S2x256x4x32x64, .f32⟩
  | .hbm, ⟨62, _⟩ => ⟨S2x256x4x2048, .f32⟩
  | .hbm, ⟨63, _⟩ => ⟨S2x256x4x256, .f32⟩
  | .hbm, ⟨64, _⟩ => ⟨S2x256x4x256, .f32⟩
  | .hbm, ⟨65, _⟩ => ⟨S2x256x4x256, .f32⟩
  | .hbm, ⟨66, _⟩ => ⟨S_, .f32⟩
  | .hbm, ⟨67, _⟩ => ⟨S2x256x4x256, .f32⟩
  | .hbm, ⟨68, _⟩ => ⟨S2x256x4x256, .f32⟩
  | .hbm, ⟨69, _⟩ => ⟨S_, .f32⟩
  | .hbm, ⟨70, _⟩ => ⟨S2x256x4x256, .f32⟩
  | .hbm, ⟨71, _⟩ => ⟨S2x256x4x256, .f32⟩
  | .hbm, ⟨72, _⟩ => ⟨S2x256x4x256, .f32⟩
  | .hbm, ⟨73, _⟩ => ⟨S2x256x4x64, .f32⟩
  | .hbm, ⟨74, _⟩ => ⟨S2x4x64x256, .f32⟩
  | .hbm, ⟨75, _⟩ => ⟨S2x4x64x256, .bf16⟩
  | .hbm, ⟨76, _⟩ => ⟨S2x4x256x64, .f32⟩
  | .hbm, ⟨77, _⟩ => ⟨S_, .i32⟩
  | .hbm, ⟨78, _⟩ => ⟨S_, .f32⟩
  | .hbm, ⟨79, _⟩ => ⟨S2x4x256x128, .f32⟩
  | .hbm, ⟨80, _⟩ => ⟨S2x4x256x128, .bf16⟩
  | .hbm, ⟨81, _⟩ => ⟨S2x4x4x64x4x256, .i32⟩
  | .hbm, ⟨82, _⟩ => ⟨S2x4x4x64x4x256, .i32⟩
  | .hbm, ⟨83, _⟩ => ⟨S2x4x1x64x1x256, .bf16⟩
  | .hbm, ⟨84, _⟩ => ⟨S2x4x4x64x4x256, .bf16⟩
  | .hbm, ⟨85, _⟩ => ⟨S2x4x4x64x4x256, .i1⟩
  | .hbm, ⟨86, _⟩ => ⟨S_, .bf16⟩
  | .hbm, ⟨87, _⟩ => ⟨S2x4x4x64x4x256, .bf16⟩
  | .hbm, ⟨88, _⟩ => ⟨S2x4x4x64x4x256, .bf16⟩
  | .hbm, ⟨89, _⟩ => ⟨S2x4x256x1024, .bf16⟩
  | .hbm, ⟨90, _⟩ => ⟨S2x4x4x256x4x128, .i32⟩
  | .hbm, ⟨91, _⟩ => ⟨S2x4x4x256x4x128, .i32⟩
  | .hbm, ⟨92, _⟩ => ⟨S2x4x1x256x1x128, .bf16⟩
  | .hbm, ⟨93, _⟩ => ⟨S2x4x4x256x4x128, .bf16⟩
  | .hbm, ⟨94, _⟩ => ⟨S2x4x4x256x4x128, .i1⟩
  | .hbm, ⟨95, _⟩ => ⟨S_, .bf16⟩
  | .hbm, ⟨96, _⟩ => ⟨S2x4x4x256x4x128, .bf16⟩
  | .hbm, ⟨97, _⟩ => ⟨S2x4x4x256x4x128, .bf16⟩
  | .hbm, ⟨98, _⟩ => ⟨S2x4x1024x512, .bf16⟩
  | _, _ => ⟨S8192x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.hbm, 25, rfl⟩
abbrev main_call0_v0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_call1_v0 : Ref sig .tc := ⟨.hbm, 32, rfl⟩
abbrev main_call1_v1 : Ref sig .tc := ⟨.hbm, 33, rfl⟩
abbrev main_call1_cst : Ref sig .tc := ⟨.hbm, 34, rfl⟩
abbrev main_call1_v2 : Ref sig .tc := ⟨.hbm, 35, rfl⟩
abbrev main_call1_v3 : Ref sig .tc := ⟨.hbm, 36, rfl⟩
abbrev main_call1_cst_0 : Ref sig .tc := ⟨.hbm, 37, rfl⟩
abbrev main_call1_v4 : Ref sig .tc := ⟨.hbm, 38, rfl⟩
abbrev main_call1_v5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_0 : Ref sig .tc := ⟨.hbm, 57, rfl⟩
abbrev main_call2_v0 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_call3_v0 : Ref sig .tc := ⟨.hbm, 64, rfl⟩
abbrev main_call3_v1 : Ref sig .tc := ⟨.hbm, 65, rfl⟩
abbrev main_call3_cst : Ref sig .tc := ⟨.hbm, 66, rfl⟩
abbrev main_call3_v2 : Ref sig .tc := ⟨.hbm, 67, rfl⟩
abbrev main_call3_v3 : Ref sig .tc := ⟨.hbm, 68, rfl⟩
abbrev main_call3_cst_0 : Ref sig .tc := ⟨.hbm, 69, rfl⟩
abbrev main_call3_v4 : Ref sig .tc := ⟨.hbm, 70, rfl⟩
abbrev main_call3_v5 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_c_1 : Ref sig .tc := ⟨.hbm, 77, rfl⟩
abbrev main_call4_v0 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst : Ref sig .tc := ⟨.hbm, 86, rfl⟩
abbrev main_call5_v0 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_2 : Ref sig .tc := ⟨.hbm, 95, rfl⟩
abbrev main_call6_v0 : Ref sig .tc := ⟨.hbm, 96, rfl⟩
abbrev main_v64 : Ref sig .tc := ⟨.hbm, 97, rfl⟩
abbrev main_v65 : Ref sig .tc := ⟨.hbm, 98, rfl⟩

abbrev nD : Nat := 1
abbrev τ : Topo := Topo.v7x

variable {F : FTy → Type} [FloatOps F]
-- ==== Proof.FfnValue.lean ====
/- The feed-forward part: what the kernel leaves in its result array is the reference's term of the same arguments. -/
module

public import proofs.«01_k».proof.Proof.Gen.FfnIdeal.Value
public import proofs.«01_k».proof.Proof.Gen.FfnRefIdeal.Read
public import proofs.«01_k».proof.Proof.Gen.FfnRefIdeal.Run
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Claim

@[expose] public section

set_option maxRecDepth 16384

noncomputable section

namespace Cert.Proof.Ffn

open Cert.FfnIdeal Cert.FfnIdeal.Gen Idealize.ShloMosaic Idealize.ShloMosaic.TcCoe Idealize.SL.Sem
open Idealize.ShloMosaic.Pipeline (Dat)
open Cert.FfnRefIdeal.Read

variable (m : (ℓ : Loc nD τ sig) → Buf (Elt Ideal) ℓ)

/-- The block indices of the windows at every point of the grid. -/
theorem idx : ∀ t : Fin cfg0.N, win0_0.index t = ![t.val / 22, 0] ∧ win0_1.index t = ![0, 0] ∧ win0_2.index t = ![0, 0] ∧
    win0_3.index t = ![0, t.val % 22] ∧ win0_4.index t = ![0, t.val % 22] ∧ win0_5.index t = ![t.val % 22, 0] ∧ win0_6.index t = ![t.val / 22, 0] :=
  (by decide +kernel : ∀ t : Fin grid0.N, _)

theorem rd0 (c : Dev nD) (t : Fin cfg0.N) (y : S1024x2048.Idx) (a : Fin 2) (b : Fin 4096) (l : Fin 2048)
    (h : a.val * 4096 + b.val = t.val / 22 * 1024 + (y 0).val) (hl : l.val = (y 1).val) :
    iblk m c 0 t y = m ((c : Thread nD τ).loc main_arg0) (ix3 a b l) := by
  blk_simp [iblk]
  entry_read
  pointwise
  blk_ext [idx t]

theorem rd1 (c : Dev nD) (t : Fin cfg0.N) (y : S1x2048.Idx) (l : Fin 2048) (hl : l.val = (y 1).val) :
    iblk m c 1 t y = m ((c : Thread nD τ).loc main_arg1) (ix2 0 l) := by
  blk_simp [iblk]
  entry_read
  pointwise
  blk_ext [idx t]

theorem rd2 (c : Dev nD) (t : Fin cfg0.N) (y : S1x2048.Idx) (l : Fin 2048) (hl : l.val = (y 1).val) :
    iblk m c 2 t y = m ((c : Thread nD τ).loc main_arg5) (ix1 l) := by
  blk_simp [iblk]
  entry_read
  pointwise
  blk_ext [idx t]

theorem rd3 (c : Dev nD) (t : Fin cfg0.N) (y : S2048x256.Idx) (k : Fin 2048) (l : Fin 5632)
    (hk : k.val = (y 0).val) (hl : l.val = t.val % 22 * 256 + (y 1).val) :
    iblk m c 3 t y = m ((c : Thread nD τ).loc main_arg2) (ix3 0 k l) := by
  blk_simp [iblk]
  entry_read
  pointwise
  blk_ext [idx t]

theorem rd4 (c : Dev nD) (t : Fin cfg0.N) (y : S2048x256.Idx) (k : Fin 2048) (l : Fin 5632)
    (hk : k.val = (y 0).val) (hl : l.val = t.val % 22 * 256 + (y 1).val) :
    iblk m c 4 t y = m ((c : Thread nD τ).loc main_arg3) (ix3 0 k l) := by
  blk_simp [iblk]
  entry_read
  pointwise
  blk_ext [idx t]

theorem rd5 (c : Dev nD) (t : Fin cfg0.N) (y : S256x2048.Idx) (k : Fin 5632) (l : Fin 2048)
    (hk : k.val = t.val % 22 * 256 + (y 0).val) (hl : l.val = (y 1).val) :
    iblk m c 5 t y = m ((c : Thread nD τ).loc main_arg4) (ix3 0 k l) := by
  blk_simp [iblk]
  entry_read
  pointwise
  blk_ext [idx t]

theorem core_u (c : Dev nD) (t : Fin cfg0.N) (y : S1024x2048.Idx) (a : Fin 2) (b : Fin 4096)
    (h : a.val * 4096 + b.val = t.val / 22 * 1024 + (y 0).val) :
    k0_pay2 (iblk m c 0 t) (iblk m c 1 t) y
      = val_main_v13 (F := Ideal) (m ((c : Thread nD τ).loc main_arg0)) (m ((c : Thread nD τ).loc main_arg1)) (ix3 a b (y 1)) := by
  pointwise [k0_pay2, k0_pay1, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  have e : ∀ x : Fin 2048, iblk m c 0 t (ix2 (y 0) x) = m ((c : Thread nD τ).loc main_arg0) (ix3 a b x) := fun x => rd0 m c t _ a b x h rfl
  rw [rd1 m c t _ (y 1) rfl, rd0 m c t y a b (y 1) h rfl]
  simp only [e]

/-- One block of the hidden width: what a point adds to the accumulated row. -/
theorem term_at (c : Dev nD) (t : Fin cfg0.N) (y : S1024x2048.Idx) (a : Fin 2) (b : Fin 4096) (v : FVec Ideal S1024x2048 .bf16) (acc : FVec Ideal S1024x2048 .f32)
    (X : FVec Ideal S2x4096x2048 .f32) (X1 : FVec Ideal S1x2048 .f32)
    (hv : ∀ d : Fin 2048, v (ix2 (y 0) d) = val_main_v13 (F := Ideal) X X1 (ix3 a b d)) :
    k0_pay3 v (iblk m c 3 t) (iblk m c 4 t) acc (iblk m c 5 t) y
      = acc y + ∑ k : Fin 256, val_main_v19 (F := Ideal) X X1 (m ((c : Thread nD τ).loc main_arg2)) (m ((c : Thread nD τ).loc main_arg3)) (ix3 a b ⟨t.val % 22 * 256 + k.val, by omega⟩)
          * val_main_v20 (F := Ideal) (m ((c : Thread nD τ).loc main_arg4)) (ix2 ⟨t.val % 22 * 256 + k.val, by omega⟩ (y 1)) := by
  pointwise [k0_pay3, val_main_v20, val_main_v19, val_main_v18, val_main_v17, val_main_v16, val_main_v15, val_main_v14, val_main_call0_v0, val_main_call0_v1, val_main_call0_cst, val_main_call0_v2, val_main_call0_v3, val_main_call0_cst_0, val_main_call0_v4, val_main_call0_v5]
  refine congrArg₂ _ rfl (Finset.sum_congr rfl fun k _ => ?_)
  have e3 : ∀ d : Fin 2048, iblk m c 3 t (ix2 d k) = m ((c : Thread nD τ).loc main_arg2) (ix3 0 d ⟨t.val % 22 * 256 + k.val, by omega⟩) := fun d => rd3 m c t _ d _ rfl rfl
  have e4 : ∀ d : Fin 2048, iblk m c 4 t (ix2 d k) = m ((c : Thread nD τ).loc main_arg3) (ix3 0 d ⟨t.val % 22 * 256 + k.val, by omega⟩) := fun d => rd4 m c t _ d _ rfl rfl
  rw [rd5 m c t (ix2 k (y 1)) ⟨t.val % 22 * 256 + k.val, by omega⟩ (y 1) rfl rfl]
  simp only [hv, e3, e4]
  rfl

/-- The normalization of a row, at a place of it. -/
def nrm (u : Fin 2048 → EReal) (l : Fin 2048) : EReal :=
  u l * Ideal.rsqrt (Ideal.div (∑ x, u x * u x) (Ideal.ofBits FTy.f32 1157627904#32) + Ideal.ofBits FTy.f32 897988541#32)

theorem pay4_at (v : FVec Ideal S1024x2048 .f32) (w : FVec Ideal S1x2048 .f32) (y : S1024x2048.Idx) :
    (k0_pay4 (F := Ideal) v w) y = nrm (fun d => v (ix2 (y 0) d)) (y 1) * w (ix2 0 (y 1)) := by
  have hy : y = ix2 (y 0) (y 1) := by funext i; fin_cases i <;> rfl
  have e : v y = v (ix2 (y 0) (y 1)) := congrArg v hy
  pointwise [k0_pay4]
  rw [e]
  rfl

theorem ref_at (X : FVec Ideal S2x4096x2048 .f32) (X1 : FVec Ideal S1x2048 .f32) (X2 X3 : FVec Ideal S1x2048x5632 .f32) (X4 : FVec Ideal S1x5632x2048 .f32) (X5 : FVec Ideal S2048 .f32)
    (j : Cert.FfnRefIdeal.S8192x2048.Idx) (hA : (j 0).val / 4096 < 2) (hB : (j 0).val % 4096 < 4096) :
    val_main_v36 (F := Ideal) X X1 X2 X3 X4 X5 j
      = nrm (fun d => val_main_v22 (F := Ideal) X X1 X2 X3 X4 (ix3 ⟨(j 0).val / 4096, hA⟩ ⟨(j 0).val % 4096, hB⟩ d)) (j 1) * X5 (ix1 (j 1)) := by
  pointwise [val_main_v36, val_main_v35, val_main_v34, val_main_v33, val_main_v32, val_main_v31, val_main_v30, val_main_v29, val_main_v28, val_main_v27, val_main_v26, val_main_v25, val_main_v24, val_main_v23, val_main_cst_2, val_main_cst_3, val_main_cst_4]
  rfl

/-- What the carried scratch holds at a point: the normalized rows of the point's row block. -/
theorem held (c : Dev nD) (t : Fin cfg0.N) (y : S1024x2048.Idx) (a : Fin 2) (b : Fin 4096)
    (h : a.val * 4096 + b.val = t.val / 22 * 1024 + (y 0).val) :
    (outsAt0 m c t.val t.isLt).2 y
      = val_main_v13 (F := Ideal) (m ((c : Thread nD τ).loc main_arg0)) (m ((c : Thread nD τ).loc main_arg1)) (ix3 a b (y 1)) := by
  rw [Pipeline.eq_of_write_hold_apply (fun n h => (outsAt0 m c n h).2) 22 (fun t => k0_pay2 (iblk m c 0 t) (iblk m c 1 t))
    (fun t h i => by rw [outsAt0_A m c t h (by omega)]; frame_out)
    (fun t h i => by
      by_cases h' : t.val % 22 = 21
      · rw [outsAt0_C m c t h h']; rfl
      · rw [outsAt0_B m c t h h']; rfl) t y]
  refine core_u m c _ y a b ?_
  rw [h]
  show _ = 22 * (t.val / 22) / 22 * 1024 + _
  have e : 22 * (t.val / 22) / 22 = t.val / 22 := by omega
  rw [e]

theorem out_A (c : Dev nD) (t : Fin cfg0.N) (h : t.val % 22 = 0) :
    (outsAt0 m c t.val t.isLt).1 = k0_pay3 (outsAt0 m c t.val t.isLt).2 (iblk m c 3 t) (iblk m c 4 t) (k0_pay1 (iblk m c 0 t)) (iblk m c 5 t) := by
  rw [outsAt0_A m c t h (by omega)]; frame_out

theorem out_B (c : Dev nD) (t : Fin cfg0.N) (h : ¬t.val % 22 = 0) (h' : ¬t.val % 22 = 21) :
    (outsAt0 m c t.val t.isLt).1 = k0_pay3 (outsAt0 m c t.val t.isLt).2 (iblk m c 3 t) (iblk m c 4 t)
      (outsAt0 m c (t.val - 1) (Nat.lt_of_le_of_lt (Nat.sub_le _ _) t.isLt)).1 (iblk m c 5 t) := by
  rw [outsAt0_B m c t h h']; frame_out; simp only [read_unread_whole]; rfl

theorem out_C (c : Dev nD) (t : Fin cfg0.N) (h' : t.val % 22 = 21) :
    (outsAt0 m c t.val t.isLt).1 = k0_pay4 (k0_pay3 (outsAt0 m c t.val t.isLt).2 (iblk m c 3 t) (iblk m c 4 t)
      (outsAt0 m c (t.val - 1) (Nat.lt_of_le_of_lt (Nat.sub_le _ _) t.isLt)).1 (iblk m c 5 t)) (iblk m c 2 t) := by
  rw [outsAt0_C m c t (by omega) h']; frame_out; simp only [read_unread_whole]; rfl

/-- One product of the second layer, over the whole naturals: zero beyond the hidden width. -/
def prod (c : Dev nD) (a : Fin 2) (b : Fin 4096) (l : Fin 2048) (n : ℕ) : EReal :=
  if h : n < 5632 then
    val_main_v19 (F := Ideal) (m ((c : Thread nD τ).loc main_arg0)) (m ((c : Thread nD τ).loc main_arg1)) (m ((c : Thread nD τ).loc main_arg2)) (m ((c : Thread nD τ).loc main_arg3)) (ix3 a b ⟨n, h⟩)
      * val_main_v20 (F := Ideal) (m ((c : Thread nD τ).loc main_arg4)) (ix2 ⟨n, h⟩ l)
  else 0

def row (c : Dev nD) (a : Fin 2) (b : Fin 4096) (l : Fin 2048) : EReal := m ((c : Thread nD τ).loc main_arg0) (ix3 a b l)

theorem term_held (c : Dev nD) (t : Fin cfg0.N) (y : S1024x2048.Idx) (a : Fin 2) (b : Fin 4096) (acc : FVec Ideal S1024x2048 .f32)
    (h : a.val * 4096 + b.val = t.val / 22 * 1024 + (y 0).val) :
    k0_pay3 (outsAt0 m c t.val t.isLt).2 (iblk m c 3 t) (iblk m c 4 t) acc (iblk m c 5 t) y
      = acc y + ∑ k : Fin 256, prod m c a b (y 1) (t.val % 22 * 256 + k.val) := by
  rw [term_at m c t y a b _ acc _ _ fun d => held m c t (ix2 (y 0) d) a b h]
  refine congrArg₂ _ rfl (Finset.sum_congr rfl fun k _ => ?_)
  unfold prod
  have e : t.val % 22 * 256 + k.val < 5632 := by omega
  simp only [e, dite_true]

/-- The accumulated rows before the closing normalization. -/
theorem acc_at (c : Dev nD) (y : S1024x2048.Idx) (a : Fin 2) (b : Fin 4096) : ∀ (n : ℕ) (hn : n < cfg0.N), ¬n % 22 = 21 →
    a.val * 4096 + b.val = n / 22 * 1024 + (y 0).val →
    (outsAt0 m c n hn).1 y = row m c a b (y 1)
      + ∑ s ∈ Finset.range (n % 22 + 1), ∑ k : Fin 256, prod m c a b (y 1) (s * 256 + k.val) := by
  intro n
  induction n with
  | zero =>
    intro hn h h1
    rw [out_A m c ⟨0, hn⟩ rfl, term_held m c ⟨0, hn⟩ y a b _ h1]
    show k0_pay1 _ y + _ = _
    rw [show k0_pay1 (iblk m c 0 ⟨0, hn⟩) y = row m c a b (y 1) by
      pointwise [k0_pay1]; exact rd0 m c _ y a b _ h1 rfl]
    simp
  | succ n ih =>
    intro hn h h1
    by_cases h0 : (n + 1) % 22 = 0
    · rw [out_A m c ⟨n + 1, hn⟩ h0, term_held m c ⟨n + 1, hn⟩ y a b _ h1]
      rw [show k0_pay1 (iblk m c 0 ⟨n + 1, hn⟩) y = row m c a b (y 1) by
        pointwise [k0_pay1]; exact rd0 m c _ y a b _ h1 rfl]
      simp [h0]
    · rw [out_B m c ⟨n + 1, hn⟩ h0 h, term_held m c ⟨n + 1, hn⟩ y a b _ h1]
      show (outsAt0 m c n _).1 y + _ = _
      rw [ih (by omega) (by omega) (by omega), add_assoc]
      have e : n % 22 + 1 = (n + 1) % 22 := by omega
      rw [e, Finset.sum_range_succ]

/-- At a row block's last point the sums of the whole hidden width stand before the closing normalization. -/
theorem whole_at (c : Dev nD) (t : Fin cfg0.N) (ht : t.val % 22 = 21) (y : S1024x2048.Idx) (a : Fin 2) (b : Fin 4096)
    (h : a.val * 4096 + b.val = t.val / 22 * 1024 + (y 0).val) :
    k0_pay3 (outsAt0 m c t.val t.isLt).2 (iblk m c 3 t) (iblk m c 4 t)
      (outsAt0 m c (t.val - 1) (Nat.lt_of_le_of_lt (Nat.sub_le _ _) t.isLt)).1 (iblk m c 5 t) y
      = val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 a b (y 1)) := by
  rw [term_held m c t y a b _ h, acc_at m c y a b (t.val - 1) _ (by omega) (by omega), add_assoc]
  have e : (t.val - 1) % 22 + 1 = 21 := by omega
  rw [e, ht, ← Finset.sum_range_succ (fun s => ∑ k : Fin 256, prod m c a b (y 1) (s * 256 + k.val)) 21]
  pointwise [val_main_v22, val_main_v21]
  refine congrArg₂ _ rfl ?_
  rw [← Fin.sum_univ_eq_sum_range (fun s => ∑ k : Fin 256, prod m c a b (y 1) (s * 256 + k.val)) 22]
  refine Fin.sum_mul_add_congr fun s k hl => ?_
  unfold prod
  simp only [hl, dite_true]

/-- The reference's term over the kernel's argument arrays. -/
abbrev G (c : Dev nD) : FVec Ideal S8192x2048 .f32 :=
  val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

theorem core (c : Dev nD) (t : Fin cfg0.N) (ht : t.val % 22 = 21) (y : S1024x2048.Idx) (j : S8192x2048.Idx)
    (h0 : (j 0 : ℕ) = t.val / 22 * 1024 + (y 0).val) (h1 : (j 1 : ℕ) = (y 1).val) :
    (outsAt0 m c t.val t.isLt).1 y = G m c j := by
  have b0 : (j 0 : ℕ) < 8192 := (j 0).isLt
  rw [out_C m c t ht]
  refine (pay4_at _ _ y).trans (Eq.trans ?_ (ref_at _ _ _ _ _ _ j (by omega) (by omega)).symm)
  refine congrArg₂ (fun p q : EReal => p * q) (congrArg₂ nrm (funext fun d => ?_) (Fin.ext h1.symm)) (rd2 m c t _ (j 1) h1)
  refine whole_at m c t ht (ix2 (y 0) d) _ _ ?_
  show (j 0).val / 4096 * 4096 + (j 0).val % 4096 = t.val / 22 * 1024 + (y 0).val
  omega

theorem final (c : Dev nD) : (dats m 0 c).arrAt 6 cfg0.N = G m c := by
  refine (dats m 0 c).arrAt_eq_of_covers 6 _ (by decide +kernel) fun t hf y => ?_
  blk_simp
  rw [after0_6]
  exact core m c t ((flush0_6 t).mp hf) y _ (by blk_simp [idx t]) (by blk_simp [idx t])

end Cert.Proof.Ffn

end
-- ==== Proof.SsdRun.lean ====
/- The reference's loop: every value of one trip is that of the step at the state held before it, so the loop leaves the step
   applied as often as it runs, and the result is the field of the last state. -/
module

public import proofs.«01_k».proof.Proof.Gen.SsdRefIdeal.Run
public import proofs.«01_k».proof.Proof.Gen.SsdRefIdeal.Step

@[expose] public section

noncomputable section

namespace Cert.SsdRefIdeal.StepRun

open Idealize.ShloMosaic Idealize.ShloMosaic.TcCoe Idealize.SL.Sem Idealize.ShloMosaic.StableHlo
open Cert.SsdRefIdeal Cert.SsdRefIdeal.Gen Cert.SsdRefIdeal.Value
open Cert.SsdRefIdeal.Step (State step init)

variable {F : FTy → Type} [FloatOps F]

variable (V0 : Valuation τ sig (Elt F)) (s : State F) (j : ℕ)

/-- The valuation holds the state, the set-up values and the trip's number. -/
structure Holds : Prop where
  f_8 : V0 (Proc.devRef .tc main_v45_8) = s.main_v45_8
  f_9 : V0 (Proc.devRef .tc main_v45_9) = s.main_v45_9
  f_0 : V0 (Proc.devRef .tc main_v45_0) = s.main_v45_0
  f_1 : V0 (Proc.devRef .tc main_v45_1) = s.main_v45_1
  f_2 : V0 (Proc.devRef .tc main_v45_2) = s.main_v45_2
  f_3 : V0 (Proc.devRef .tc main_v45_3) = s.main_v45_3
  f_4 : V0 (Proc.devRef .tc main_v45_4) = s.main_v45_4
  f_5 : V0 (Proc.devRef .tc main_v45_5) = s.main_v45_5
  f_6 : V0 (Proc.devRef .tc main_v45_6) = s.main_v45_6
  n_7 : V0 (Proc.devRef .tc main_v45_7) = constantI S_ 32 (BitVec.ofNat 32 j)

variable {V0 s j}

set_option maxRecDepth 8192 in
theorem al_0 (h : Holds V0 s j) : (constantI S_ 32 0#32 : (Proc.devRef .tc main_while0b_call1_c : DevRef τ sig).ty.Contents (Elt F)) = Cert.SsdRefIdeal.Step.b0 j s := by
  unfold Cert.SsdRefIdeal.Step.b0
  rfl
set_option maxRecDepth 8192 in
theorem al_1 (h : Holds V0 s j) : (constantI S_ 32 0#32 : (Proc.devRef .tc main_while0b_call1_c_0 : DevRef τ sig).ty.Contents (Elt F)) = Cert.SsdRefIdeal.Step.b1 j s := by
  unfold Cert.SsdRefIdeal.Step.b1
  rfl
set_option maxRecDepth 8192 in
theorem al_2 (h : Holds V0 s j) : (constantI S_ 32 0#32 : (Proc.devRef .tc main_while0b_call1_c_1 : DevRef τ sig).ty.Contents (Elt F)) = Cert.SsdRefIdeal.Step.b2 j s := by
  unfold Cert.SsdRefIdeal.Step.b2
  rfl
set_option maxRecDepth 8192 in
theorem al_3 (h : Holds V0 s j) : (Host.dynamicSlice S1x2x128x1536 (V0 (Proc.devRef .tc main_v45_0)) (fun k => (((![V0 (Proc.devRef .tc main_v45_7), constantI S_ 32 0#32, constantI S_ 32 0#32, constantI S_ 32 0#32] : Fin 4 → (⟨S_, .i32⟩ : BufTy).Contents (Elt F))) k (Shape.Idx.first h_S_)).toInt) sliceFits_S32x2x128x1536_S1x2x128x1536 : (Proc.devRef .tc main_while0b_call1_v0 : DevRef τ sig).ty.Contents (Elt F)) = Cert.SsdRefIdeal.Step.b3 j s := by
  unfold Cert.SsdRefIdeal.Step.b3
  rw [← al_0 h, ← al_1 h, ← al_2 h, h.f_0, h.n_7]
  try rfl
set_option maxRecDepth 8192 in
theorem al_4 (h : Holds V0 s j) : (res_main_while0b_v49 V0 : (Proc.devRef .tc main_while0b_v49 : DevRef τ sig).ty.Contents (Elt F)) = Cert.SsdRefIdeal.Step.b4 j s := by
  unfold res_main_while0b_v49 Cert.SsdRefIdeal.Step.b4
  rw [← al_3 h]
  try rfl
set_option maxRecDepth 8192 in
theorem al_5 (h : Holds V0 s j) : (constantI S_ 32 0#32 : (Proc.devRef .tc main_while0b_call2_c : DevRef τ sig).ty.Contents (Elt F)) = Cert.SsdRefIdeal.Step.b5 j s := by
  unfold Cert.SsdRefIdeal.Step.b5
  rfl
set_option maxRecDepth 8192 in
theorem al_6 (h : Holds V0 s j) : (constantI S_ 32 0#32 : (Proc.devRef .tc main_while0b_call2_c_0 : DevRef τ sig).ty.Contents (Elt F)) = Cert.SsdRefIdeal.Step.b6 j s := by
  unfold Cert.SsdRefIdeal.Step.b6
  rfl
set_option maxRecDepth 8192 in
theorem al_7 (h : Holds V0 s j) : (constantI S_ 32 0#32 : (Proc.devRef .tc main_while0b_call2_c_1 : DevRef τ sig).ty.Contents (Elt F)) = Cert.SsdRefIdeal.Step.b7 j s := by
  unfold Cert.SsdRefIdeal.Step.b7
  rfl
set_option maxRecDepth 8192 in
theorem al_8 (h : Holds V0 s j) : (Host.dynamicSlice S1x2x128x1024 (V0 (Proc.devRef .tc main_v45_1)) (fun k => (((![V0 (Proc.devRef .tc main_v45_7), constantI S_ 32 0#32, constantI S_ 32 0#32, constantI S_ 32 0#32] : Fin 4 → (⟨S_, .i32⟩ : BufTy).Contents (Elt F))) k (Shape.Idx.first h_S_)).toInt) sliceFits_S32x2x128x1024_S1x2x128x1024 : (Proc.devRef .tc main_while0b_call2_v0 : DevRef τ sig).ty.Contents (Elt F)) = Cert.SsdRefIdeal.Step.b8 j s := by
  unfold Cert.SsdRefIdeal.Step.b8
  rw [← al_5 h, ← al_6 h, ← al_7 h, h.f_1, h.n_7]
  try rfl
set_option maxRecDepth 8192 in
theorem al_9 (h : Holds V0 s j) : (res_main_while0b_v50 V0 : (Proc.devRef .tc main_while0b_v50 : DevRef τ sig).ty.Contents (Elt F)) = Cert.SsdRefIdeal.Step.b9 j s := by
  unfold res_main_while0b_v50 Cert.SsdRefIdeal.Step.b9
  rw [← al_8 h]
  try rfl
set_option maxRecDepth 8192 in
theorem al_10 (h : Holds V0 s j) : (constantI S_ 32 0#32 : (Proc.devRef .tc main_while0b_call3_c : DevRef τ sig).ty.Contents (Elt F)) = Cert.SsdRefIdeal.Step.b10 j s := by
  unfold Cert.SsdRefIdeal.Step.b10
  rfl
set_option maxRecDepth 8192 in
theorem al_11 (h : Holds V0 s j) : (constantI S_ 32 0#32 : (Proc.devRef .tc main_while0b_call3_c_0 : DevRef τ sig).ty.Contents (Elt F)) = Cert.SsdRefIdeal.Step.b11 j s := by
  unfold Cert.SsdRefIdeal.Step.b11
  rfl
set_option maxRecDepth 8192 in
theorem al_12 (h : Holds V0 s j) : (constantI S_ 32 0#32 : (Proc.devRef .tc main_while0b_call3_c_1 : DevRef τ sig).ty.Contents (Elt F)) = Cert.SsdRefIdeal.Step.b12 j s := by
  unfold Cert.SsdRefIdeal.Step.b12
  rfl
set_option maxRecDepth 8192 in
theorem al_13 (h : Holds V0 s j) : (Host.dynamicSlice S1x2x128x16 (V0 (Proc.devRef .tc main_v45_2)) (fun k => (((![V0 (Proc.devRef .tc main_v45_7), constantI S_ 32 0#32, constantI S_ 32 0#32, constantI S_ 32 0#32] : Fin 4 → (⟨S_, .i32⟩ : BufTy).Contents (Elt F))) k (Shape.Idx.first h_S_)).toInt) sliceFits_S32x2x128x16_S1x2x128x16 : (Proc.devRef .tc main_while0b_call3_v0 : DevRef τ sig).ty.Contents (Elt F)) = Cert.SsdRefIdeal.Step.b13 j s := by
  unfold Cert.SsdRefIdeal.Step.b13
  rw [← al_10 h, ← al_11 h, ← al_12 h, h.f_2, h.n_7]
  try rfl
set_option maxRecDepth 8192 in
theorem al_14 (h : Holds V0 s j) : (shapeCast S2x128x16 (Host.dynamicSlice S1x2x128x16 (V0 (Proc.devRef .tc main_v45_2)) (fun k => (((![V0 (Proc.devRef .tc main_v45_7), constantI S_ 32 0#32, constantI S_ 32 0#32, constantI S_ 32 0#32] : Fin 4 → (⟨S_, .i32⟩ : BufTy).Contents (Elt F))) k (Shape.Idx.first h_S_)).toInt) sliceFits_S32x2x128x16_S1x2x128x16) shapeCasts_S1x2x128x16_S2x128x16 : (Proc.devRef .tc main_while0b_v51 : DevRef τ sig).ty.Contents (Elt F)) = Cert.SsdRefIdeal.Step.b14 j s := by
  unfold Cert.SsdRefIdeal.Step.b14
  rw [← al_13 h]
  try rfl
set_option maxRecDepth 8192 in
theorem al_15 (h : Holds V0 s j) : (Host.negf (res_main_while0b_v49 V0) : (Proc.devRef .tc main_while0b_call4_v0 : DevRef τ sig).ty.Contents (Elt F)) = Cert.SsdRefIdeal.Step.b15 j s := by
  unfold Cert.SsdRefIdeal.Step.b15
  rw [← al_4 h]
  try rfl
set_option maxRecDepth 8192 in
theorem al_16 (h : Holds V0 s j) : (Host.exp (Host.negf (res_main_while0b_v49 V0)) : (Proc.devRef .tc main_while0b_call4_v1 : DevRef τ sig).ty.Contents (Elt F)) = Cert.SsdRefIdeal.Step.b16 j s := by
  unfold Cert.SsdRefIdeal.Step.b16
  rw [← al_15 h]
  try rfl
set_option maxRecDepth 8192 in
theorem al_17 (h : Holds V0 s j) : (constant S_ .f32 0x3F800000#32 : (Proc.devRef .tc main_while0b_call4_cst : DevRef τ sig).ty.Contents (Elt F)) = Cert.SsdRefIdeal.Step.b17 j s := by
  unfold Cert.SsdRefIdeal.Step.b17
  rfl
set_option maxRecDepth 8192 in
theorem al_18 (h : Holds V0 s j) : (broadcastInDim S2x128x1536 ![] bcast_S_S2x128x1536 (constant S_ .f32 0x3F800000#32) : (Proc.devRef .tc main_while0b_call4_v2 : DevRef τ sig).ty.Contents (Elt F)) = Cert.SsdRefIdeal.Step.b18 j s := by
  unfold Cert.SsdRefIdeal.Step.b18
  rw [← al_17 h]
  try rfl
set_option maxRecDepth 8192 in
theorem al_19 (h : Holds V0 s j) : (addf (broadcastInDim S2x128x1536 ![] bcast_S_S2x128x1536 (constant S_ .f32 0x3F800000#32)) (Host.exp (Host.negf (res_main_while0b_v49 V0))) : (Proc.devRef .tc main_while0b_call4_v3 : DevRef τ sig).ty.Contents (Elt F)) = Cert.SsdRefIdeal.Step.b19 j s := by
  unfold Cert.SsdRefIdeal.Step.b19
  rw [← al_18 h, ← al_16 h]
  try rfl
set_option maxRecDepth 8192 in
theorem al_20 (h : Holds V0 s j) : (constant S_ .f32 0x3F800000#32 : (Proc.devRef .tc main_while0b_call4_cst_0 : DevRef τ sig).ty.Contents (Elt F)) = Cert.SsdRefIdeal.Step.b20 j s := by
  unfold Cert.SsdRefIdeal.Step.b20
  rfl
set_option maxRecDepth 8192 in
theorem al_21 (h : Holds V0 s j) : (broadcastInDim S2x128x1536 ![] bcast_S_S2x128x1536 (constant S_ .f32 0x3F800000#32) : (Proc.devRef .tc main_while0b_call4_v4 : DevRef τ sig).ty.Contents (Elt F)) = Cert.SsdRefIdeal.Step.b21 j s := by
  unfold Cert.SsdRefIdeal.Step.b21
  rw [← al_20 h]
  try rfl
set_option maxRecDepth 8192 in
theorem al_22 (h : Holds V0 s j) : (Host.divf (broadcastInDim S2x128x1536 ![] bcast_S_S2x128x1536 (constant S_ .f32 0x3F800000#32)) (addf (broadcastInDim S2x128x1536 ![] bcast_S_S2x128x1536 (constant S_ .f32 0x3F800000#32)) (Host.exp (Host.negf (res_main_while0b_v49 V0)))) : (Proc.devRef .tc main_while0b_call4_v5 : DevRef τ sig).ty.Contents (Elt F)) = Cert.SsdRefIdeal.Step.b22 j s := by
  unfold Cert.SsdRefIdeal.Step.b22
  rw [← al_21 h, ← al_19 h]
  try rfl
set_option maxRecDepth 8192 in
theorem al_23 (h : Holds V0 s j) : (res_main_while0b_v52 V0 : (Proc.devRef .tc main_while0b_v52 : DevRef τ sig).ty.Contents (Elt F)) = Cert.SsdRefIdeal.Step.b23 j s := by
  unfold res_main_while0b_v52 Cert.SsdRefIdeal.Step.b23
  rw [← al_4 h, ← al_22 h]
  try rfl
set_option maxRecDepth 8192 in
theorem al_24 (h : Holds V0 s j) : (extractStridedSlice S2x128x1024 ![0, 0, 0] (res_main_while0b_v52 V0) slices_S2x128x1536_S2x128x1024_0_0_0 : (Proc.devRef .tc main_while0b_v53 : DevRef τ sig).ty.Contents (Elt F)) = Cert.SsdRefIdeal.Step.b24 j s := by
  unfold Cert.SsdRefIdeal.Step.b24
  rw [← al_23 h]
  try rfl
set_option maxRecDepth 8192 in
theorem al_25 (h : Holds V0 s j) : (res_main_while0b_v54 V0 : (Proc.devRef .tc main_while0b_v54 : DevRef τ sig).ty.Contents (Elt F)) = Cert.SsdRefIdeal.Step.b25 j s := by
  unfold res_main_while0b_v54 Cert.SsdRefIdeal.Step.b25
  rw [← al_24 h]
  try rfl
set_option maxRecDepth 8192 in
theorem al_26 (h : Holds V0 s j) : (extractStridedSlice S2x128x256 ![0, 0, 1024] (res_main_while0b_v52 V0) slices_S2x128x1536_S2x128x256_0_0_1024 : (Proc.devRef .tc main_while0b_v55 : DevRef τ sig).ty.Contents (Elt F)) = Cert.SsdRefIdeal.Step.b26 j s := by
  unfold Cert.SsdRefIdeal.Step.b26
  rw [← al_23 h]
  try rfl
set_option maxRecDepth 8192 in
theorem al_27 (h : Holds V0 s j) : (res_main_while0b_v56 V0 : (Proc.devRef .tc main_while0b_v56 : DevRef τ sig).ty.Contents (Elt F)) = Cert.SsdRefIdeal.Step.b27 j s := by
  unfold res_main_while0b_v56 Cert.SsdRefIdeal.Step.b27
  rw [← al_26 h]
  try rfl
set_option maxRecDepth 8192 in
theorem al_28 (h : Holds V0 s j) : (extractStridedSlice S2x128x256 ![0, 0, 1280] (res_main_while0b_v52 V0) slices_S2x128x1536_S2x128x256_0_0_1280 : (Proc.devRef .tc main_while0b_v57 : DevRef τ sig).ty.Contents (Elt F)) = Cert.SsdRefIdeal.Step.b28 j s := by
  unfold Cert.SsdRefIdeal.Step.b28
  rw [← al_23 h]
  try rfl
set_option maxRecDepth 8192 in
theorem al_29 (h : Holds V0 s j) : (res_main_while0b_v58 V0 : (Proc.devRef .tc main_while0b_v58 : DevRef τ sig).ty.Contents (Elt F)) = Cert.SsdRefIdeal.Step.b29 j s := by
  unfold res_main_while0b_v58 Cert.SsdRefIdeal.Step.b29
  rw [← al_28 h]
  try rfl
set_option maxRecDepth 8192 in
theorem al_30 (h : Holds V0 s j) : (shapeCast S16 (V0 (Proc.devRef .tc main_v45_3)) shapeCasts_S1x16_S16 : (Proc.devRef .tc main_while0b_v59 : DevRef τ sig).ty.Contents (Elt F)) = Cert.SsdRefIdeal.Step.b30 j s := by
  unfold Cert.SsdRefIdeal.Step.b30
  rw [h.f_3]
  try rfl
set_option maxRecDepth 8192 in
theorem al_31 (h : Holds V0 s j) : (broadcastInDim S1x1x16 ![2] bcast_S16_S1x1x16_2 (shapeCast S16 (V0 (Proc.devRef .tc main_v45_3)) shapeCasts_S1x16_S16) : (Proc.devRef .tc main_while0b_v60 : DevRef τ sig).ty.Contents (Elt F)) = Cert.SsdRefIdeal.Step.b31 j s := by
  unfold Cert.SsdRefIdeal.Step.b31
  rw [← al_30 h]
  try rfl
set_option maxRecDepth 8192 in
theorem al_32 (h : Holds V0 s j) : (broadcastInDim S2x128x16 ![0, 1, 2] bcast_S1x1x16_S2x128x16_0_1_2 (broadcastInDim S1x1x16 ![2] bcast_S16_S1x1x16_2 (shapeCast S16 (V0 (Proc.devRef .tc main_v45_3)) shapeCasts_S1x16_S16)) : (Proc.devRef .tc main_while0b_v61 : DevRef τ sig).ty.Contents (Elt F)) = Cert.SsdRefIdeal.Step.b32 j s := by
  unfold Cert.SsdRefIdeal.Step.b32
  rw [← al_31 h]
  try rfl
set_option maxRecDepth 8192 in
theorem al_33 (h : Holds V0 s j) : (res_main_while0b_v62 V0 : (Proc.devRef .tc main_while0b_v62 : DevRef τ sig).ty.Contents (Elt F)) = Cert.SsdRefIdeal.Step.b33 j s := by
  unfold res_main_while0b_v62 Cert.SsdRefIdeal.Step.b33
  rw [← al_14 h, ← al_32 h]
  try rfl
set_option maxRecDepth 8192 in
theorem al_34 (h : Holds V0 s j) : (res_main_while0b_call5_cst V0 : (Proc.devRef .tc main_while0b_call5_cst : DevRef τ sig).ty.Contents (Elt F)) = Cert.SsdRefIdeal.Step.b34 j s := by
  unfold res_main_while0b_call5_cst Cert.SsdRefIdeal.Step.b34
  rfl
set_option maxRecDepth 8192 in
theorem al_35 (h : Holds V0 s j) : (broadcastInDim S2x128x16 ![] bcast_S_S2x128x16 (res_main_while0b_call5_cst V0) : (Proc.devRef .tc main_while0b_call5_v0 : DevRef τ sig).ty.Contents (Elt F)) = Cert.SsdRefIdeal.Step.b35 j s := by
  unfold Cert.SsdRefIdeal.Step.b35
  rw [← al_34 h]
  try rfl
set_option maxRecDepth 8192 in
theorem al_36 (h : Holds V0 s j) : (maximumf (res_main_while0b_v62 V0) (broadcastInDim S2x128x16 ![] bcast_S_S2x128x16 (res_main_while0b_call5_cst V0)) : (Proc.devRef .tc main_while0b_call5_v1 : DevRef τ sig).ty.Contents (Elt F)) = Cert.SsdRefIdeal.Step.b36 j s := by
  unfold Cert.SsdRefIdeal.Step.b36
  rw [← al_33 h, ← al_35 h]
  try rfl
set_option maxRecDepth 8192 in
theorem al_37 (h : Holds V0 s j) : (broadcastInDim S2x128x16 ![] bcast_S_S2x128x16 (res_main_while0b_call5_cst V0) : (Proc.devRef .tc main_while0b_call5_v2 : DevRef τ sig).ty.Contents (Elt F)) = Cert.SsdRefIdeal.Step.b37 j s := by
  unfold Cert.SsdRefIdeal.Step.b37
  rw [← al_34 h]
  try rfl
set_option maxRecDepth 8192 in
theorem al_38 (h : Holds V0 s j) : (res_main_while0b_call5_v3 V0 : (Proc.devRef .tc main_while0b_call5_v3 : DevRef τ sig).ty.Contents (Elt F)) = Cert.SsdRefIdeal.Step.b38 j s := by
  unfold res_main_while0b_call5_v3 Cert.SsdRefIdeal.Step.b38
  rw [← al_33 h, ← al_37 h]
  try rfl
set_option maxRecDepth 8192 in
theorem al_39 (h : Holds V0 s j) : (cmpf .une (res_main_while0b_call5_v3 V0) (res_main_while0b_call5_v3 V0) : (Proc.devRef .tc main_while0b_call5_v4 : DevRef τ sig).ty.Contents (Elt F)) = Cert.SsdRefIdeal.Step.b39 j s := by
  unfold Cert.SsdRefIdeal.Step.b39
  rw [← al_38 h]
  try rfl
set_option maxRecDepth 8192 in
theorem al_40 (h : Holds V0 s j) : (broadcastInDim S2x128x16 ![] bcast_S_S2x128x16 (res_main_while0b_call5_cst V0) : (Proc.devRef .tc main_while0b_call5_v5 : DevRef τ sig).ty.Contents (Elt F)) = Cert.SsdRefIdeal.Step.b40 j s := by
  unfold Cert.SsdRefIdeal.Step.b40
  rw [← al_34 h]
  try rfl
set_option maxRecDepth 8192 in
theorem al_41 (h : Holds V0 s j) : (addf (res_main_while0b_v62 V0) (broadcastInDim S2x128x16 ![] bcast_S_S2x128x16 (res_main_while0b_call5_cst V0)) : (Proc.devRef .tc main_while0b_call5_v6 : DevRef τ sig).ty.Contents (Elt F)) = Cert.SsdRefIdeal.Step.b41 j s := by
  unfold Cert.SsdRefIdeal.Step.b41
  rw [← al_33 h, ← al_40 h]
  try rfl
set_option maxRecDepth 8192 in
theorem al_42 (h : Holds V0 s j) : (Host.absf (res_main_while0b_call5_v3 V0) : (Proc.devRef .tc main_while0b_call5_v7 : DevRef τ sig).ty.Contents (Elt F)) = Cert.SsdRefIdeal.Step.b42 j s := by
  unfold Cert.SsdRefIdeal.Step.b42
  rw [← al_38 h]
  try rfl
set_option maxRecDepth 8192 in
theorem al_43 (h : Holds V0 s j) : (Host.negf (Host.absf (res_main_while0b_call5_v3 V0)) : (Proc.devRef .tc main_while0b_call5_v8 : DevRef τ sig).ty.Contents (Elt F)) = Cert.SsdRefIdeal.Step.b43 j s := by
  unfold Cert.SsdRefIdeal.Step.b43
  rw [← al_42 h]
  try rfl
set_option maxRecDepth 8192 in
theorem al_44 (h : Holds V0 s j) : (Host.exp (Host.negf (Host.absf (res_main_while0b_call5_v3 V0))) : (Proc.devRef .tc main_while0b_call5_v9 : DevRef τ sig).ty.Contents (Elt F)) = Cert.SsdRefIdeal.Step.b44 j s := by
  unfold Cert.SsdRefIdeal.Step.b44
  rw [← al_43 h]
  try rfl
set_option maxRecDepth 8192 in
theorem al_45 (h : Holds V0 s j) : (Host.log1p (Host.exp (Host.negf (Host.absf (res_main_while0b_call5_v3 V0)))) : (Proc.devRef .tc main_while0b_call5_v10 : DevRef τ sig).ty.Contents (Elt F)) = Cert.SsdRefIdeal.Step.b45 j s := by
  unfold Cert.SsdRefIdeal.Step.b45
  rw [← al_44 h]
  try rfl
set_option maxRecDepth 8192 in
theorem al_46 (h : Holds V0 s j) : (addf (maximumf (res_main_while0b_v62 V0) (broadcastInDim S2x128x16 ![] bcast_S_S2x128x16 (res_main_while0b_call5_cst V0))) (Host.log1p (Host.exp (Host.negf (Host.absf (res_main_while0b_call5_v3 V0))))) : (Proc.devRef .tc main_while0b_call5_v11 : DevRef τ sig).ty.Contents (Elt F)) = Cert.SsdRefIdeal.Step.b46 j s := by
  unfold Cert.SsdRefIdeal.Step.b46
  rw [← al_36 h, ← al_45 h]
  try rfl
set_option maxRecDepth 8192 in
theorem al_47 (h : Holds V0 s j) : (select (cmpf .une (res_main_while0b_call5_v3 V0) (res_main_while0b_call5_v3 V0)) (addf (res_main_while0b_v62 V0) (broadcastInDim S2x128x16 ![] bcast_S_S2x128x16 (res_main_while0b_call5_cst V0))) (addf (maximumf (res_main_while0b_v62 V0) (broadcastInDim S2x128x16 ![] bcast_S_S2x128x16 (res_main_while0b_call5_cst V0))) (Host.log1p (Host.exp (Host.negf (Host.absf (res_main_while0b_call5_v3 V0)))))) : (Proc.devRef .tc main_while0b_v63 : DevRef τ sig).ty.Contents (Elt F)) = Cert.SsdRefIdeal.Step.b47 j s := by
  unfold Cert.SsdRefIdeal.Step.b47
  rw [← al_39 h, ← al_41 h, ← al_46 h]
  try rfl
set_option maxRecDepth 8192 in
theorem al_48 (h : Holds V0 s j) : (res_main_while0b_v64 V0 : (Proc.devRef .tc main_while0b_v64 : DevRef τ sig).ty.Contents (Elt F)) = Cert.SsdRefIdeal.Step.b48 j s := by
  unfold res_main_while0b_v64 Cert.SsdRefIdeal.Step.b48
  rw [← al_47 h]
  try rfl
set_option maxRecDepth 8192 in
theorem al_49 (h : Holds V0 s j) : (shapeCast S16 (V0 (Proc.devRef .tc main_v45_4)) shapeCasts_S1x16_S16 : (Proc.devRef .tc main_while0b_v65 : DevRef τ sig).ty.Contents (Elt F)) = Cert.SsdRefIdeal.Step.b49 j s := by
  unfold Cert.SsdRefIdeal.Step.b49
  rw [h.f_4]
  try rfl
set_option maxRecDepth 8192 in
theorem al_50 (h : Holds V0 s j) : (Host.exp (shapeCast S16 (V0 (Proc.devRef .tc main_v45_4)) shapeCasts_S1x16_S16) : (Proc.devRef .tc main_while0b_v66 : DevRef τ sig).ty.Contents (Elt F)) = Cert.SsdRefIdeal.Step.b50 j s := by
  unfold Cert.SsdRefIdeal.Step.b50
  rw [← al_49 h]
  try rfl
set_option maxRecDepth 8192 in
theorem al_51 (h : Holds V0 s j) : (shapeCast S2x8 (Host.exp (shapeCast S16 (V0 (Proc.devRef .tc main_v45_4)) shapeCasts_S1x16_S16)) shapeCasts_S16_S2x8 : (Proc.devRef .tc main_while0b_v67 : DevRef τ sig).ty.Contents (Elt F)) = Cert.SsdRefIdeal.Step.b51 j s := by
  unfold Cert.SsdRefIdeal.Step.b51
  rw [← al_50 h]
  try rfl
set_option maxRecDepth 8192 in
theorem al_52 (h : Holds V0 s j) : (Host.negf (shapeCast S2x8 (Host.exp (shapeCast S16 (V0 (Proc.devRef .tc main_v45_4)) shapeCasts_S1x16_S16)) shapeCasts_S16_S2x8) : (Proc.devRef .tc main_while0b_v68 : DevRef τ sig).ty.Contents (Elt F)) = Cert.SsdRefIdeal.Step.b52 j s := by
  unfold Cert.SsdRefIdeal.Step.b52
  rw [← al_51 h]
  try rfl
set_option maxRecDepth 8192 in
theorem al_53 (h : Holds V0 s j) : (broadcastInDim S2x128x2x8x1 ![0, 1, 2, 3] bcast_S2x128x2x8_S2x128x2x8x1_0_1_2_3 (res_main_while0b_v64 V0) : (Proc.devRef .tc main_while0b_v69 : DevRef τ sig).ty.Contents (Elt F)) = Cert.SsdRefIdeal.Step.b53 j s := by
  unfold Cert.SsdRefIdeal.Step.b53
  rw [← al_48 h]
  try rfl
set_option maxRecDepth 8192 in
theorem al_54 (h : Holds V0 s j) : (broadcastInDim S2x128x2x8x64 ![0, 1, 2, 3, 4] bcast_S2x128x2x8x1_S2x128x2x8x64_0_1_2_3_4 (broadcastInDim S2x128x2x8x1 ![0, 1, 2, 3] bcast_S2x128x2x8_S2x128x2x8x1_0_1_2_3 (res_main_while0b_v64 V0)) : (Proc.devRef .tc main_while0b_v70 : DevRef τ sig).ty.Contents (Elt F)) = Cert.SsdRefIdeal.Step.b54 j s := by
  unfold Cert.SsdRefIdeal.Step.b54
  rw [← al_53 h]
  try rfl
set_option maxRecDepth 8192 in
theorem al_55 (h : Holds V0 s j) : (res_main_while0b_v71 V0 : (Proc.devRef .tc main_while0b_v71 : DevRef τ sig).ty.Contents (Elt F)) = Cert.SsdRefIdeal.Step.b55 j s := by
  unfold res_main_while0b_v71 Cert.SsdRefIdeal.Step.b55
  rw [← al_25 h, ← al_54 h]
  try rfl
set_option maxRecDepth 8192 in
theorem al_56 (h : Holds V0 s j) : (broadcastInDim S1x1x2x8 ![2, 3] bcast_S2x8_S1x1x2x8_2_3 (Host.negf (shapeCast S2x8 (Host.exp (shapeCast S16 (V0 (Proc.devRef .tc main_v45_4)) shapeCasts_S1x16_S16)) shapeCasts_S16_S2x8)) : (Proc.devRef .tc main_while0b_v72 : DevRef τ sig).ty.Contents (Elt F)) = Cert.SsdRefIdeal.Step.b56 j s := by
  unfold Cert.SsdRefIdeal.Step.b56
  rw [← al_52 h]
  try rfl
set_option maxRecDepth 8192 in
theorem al_57 (h : Holds V0 s j) : (broadcastInDim S2x128x2x8 ![0, 1, 2, 3] bcast_S1x1x2x8_S2x128x2x8_0_1_2_3 (broadcastInDim S1x1x2x8 ![2, 3] bcast_S2x8_S1x1x2x8_2_3 (Host.negf (shapeCast S2x8 (Host.exp (shapeCast S16 (V0 (Proc.devRef .tc main_v45_4)) shapeCasts_S1x16_S16)) shapeCasts_S16_S2x8))) : (Proc.devRef .tc main_while0b_v73 : DevRef τ sig).ty.Contents (Elt F)) = Cert.SsdRefIdeal.Step.b57 j s := by
  unfold Cert.SsdRefIdeal.Step.b57
  rw [← al_56 h]
  try rfl
set_option maxRecDepth 8192 in
theorem al_58 (h : Holds V0 s j) : (mulf (broadcastInDim S2x128x2x8 ![0, 1, 2, 3] bcast_S1x1x2x8_S2x128x2x8_0_1_2_3 (broadcastInDim S1x1x2x8 ![2, 3] bcast_S2x8_S1x1x2x8_2_3 (Host.negf (shapeCast S2x8 (Host.exp (shapeCast S16 (V0 (Proc.devRef .tc main_v45_4)) shapeCasts_S1x16_S16)) shapeCasts_S16_S2x8)))) (res_main_while0b_v64 V0) : (Proc.devRef .tc main_while0b_v74 : DevRef τ sig).ty.Contents (Elt F)) = Cert.SsdRefIdeal.Step.b58 j s := by
  unfold Cert.SsdRefIdeal.Step.b58
  rw [← al_57 h, ← al_48 h]
  try rfl
set_option maxRecDepth 8192 in
theorem al_59 (h : Holds V0 s j) : (constant S_ .f32 0x00000000#32 : (Proc.devRef .tc main_while0b_call6_call0_cst : DevRef τ sig).ty.Contents (Elt F)) = Cert.SsdRefIdeal.Step.b59 j s := by
  unfold Cert.SsdRefIdeal.Step.b59
  rfl
set_option maxRecDepth 8192 in
theorem al_60 (h : Holds V0 s j) : (broadcastInDim S_ ![] bcast_S_S_ (constant S_ .f32 0x00000000#32) : (Proc.devRef .tc main_while0b_call6_call0_v0 : DevRef τ sig).ty.Contents (Elt F)) = Cert.SsdRefIdeal.Step.b60 j s := by
  unfold Cert.SsdRefIdeal.Step.b60
  rw [← al_59 h]
  try rfl
set_option maxRecDepth 8192 in
theorem al_61 (h : Holds V0 s j) : (res_main_while0b_v75 V0 : (Proc.devRef .tc main_while0b_v75 : DevRef τ sig).ty.Contents (Elt F)) = Cert.SsdRefIdeal.Step.b61 j s := by
  unfold res_main_while0b_v75 Cert.SsdRefIdeal.Step.b61
  rw [← al_58 h, ← al_60 h]
  try rfl
set_option maxRecDepth 8192 in
theorem al_62 (h : Holds V0 s j) : (constantI S_ 1 1#1 : (Proc.devRef .tc main_while0b_c_11 : DevRef τ sig).ty.Contents (Elt F)) = Cert.SsdRefIdeal.Step.b62 j s := by
  unfold Cert.SsdRefIdeal.Step.b62
  rfl
set_option maxRecDepth 8192 in
theorem al_63 (h : Holds V0 s j) : (broadcastInDim S128x128 ![] bcast_S_S128x128 (constantI S_ 1 1#1) : (Proc.devRef .tc main_while0b_v76 : DevRef τ sig).ty.Contents (Elt F)) = Cert.SsdRefIdeal.Step.b63 j s := by
  unfold Cert.SsdRefIdeal.Step.b63
  rw [← al_62 h]
  try rfl
set_option maxRecDepth 8192 in
theorem al_64 (h : Holds V0 s j) : (iotaInDim S128x128 32 0 : (Proc.devRef .tc main_while0b_call7_v0 : DevRef τ sig).ty.Contents (Elt F)) = Cert.SsdRefIdeal.Step.b64 j s := by
  unfold Cert.SsdRefIdeal.Step.b64
  rfl
set_option maxRecDepth 8192 in
theorem al_65 (h : Holds V0 s j) : (constantI S_ 32 0#32 : (Proc.devRef .tc main_while0b_call7_c : DevRef τ sig).ty.Contents (Elt F)) = Cert.SsdRefIdeal.Step.b65 j s := by
  unfold Cert.SsdRefIdeal.Step.b65
  rfl
set_option maxRecDepth 8192 in
theorem al_66 (h : Holds V0 s j) : (broadcastInDim S128x128 ![] bcast_S_S128x128 (constantI S_ 32 0#32) : (Proc.devRef .tc main_while0b_call7_v1 : DevRef τ sig).ty.Contents (Elt F)) = Cert.SsdRefIdeal.Step.b66 j s := by
  unfold Cert.SsdRefIdeal.Step.b66
  rw [← al_65 h]
  try rfl
set_option maxRecDepth 8192 in
theorem al_67 (h : Holds V0 s j) : (addi (iotaInDim S128x128 32 0) (broadcastInDim S128x128 ![] bcast_S_S128x128 (constantI S_ 32 0#32)) : (Proc.devRef .tc main_while0b_call7_v2 : DevRef τ sig).ty.Contents (Elt F)) = Cert.SsdRefIdeal.Step.b67 j s := by
  unfold Cert.SsdRefIdeal.Step.b67
  rw [← al_64 h, ← al_66 h]
  try rfl
set_option maxRecDepth 8192 in
theorem al_68 (h : Holds V0 s j) : (iotaInDim S128x128 32 1 : (Proc.devRef .tc main_while0b_call7_v3 : DevRef τ sig).ty.Contents (Elt F)) = Cert.SsdRefIdeal.Step.b68 j s := by
  unfold Cert.SsdRefIdeal.Step.b68
  rfl
set_option maxRecDepth 8192 in
theorem al_69 (h : Holds V0 s j) : (cmpi .sge (addi (iotaInDim S128x128 32 0) (broadcastInDim S128x128 ![] bcast_S_S128x128 (constantI S_ 32 0#32))) (iotaInDim S128x128 32 1) : (Proc.devRef .tc main_while0b_call7_v4 : DevRef τ sig).ty.Contents (Elt F)) = Cert.SsdRefIdeal.Step.b69 j s := by
  unfold Cert.SsdRefIdeal.Step.b69
  rw [← al_67 h, ← al_68 h]
  try rfl
set_option maxRecDepth 8192 in
theorem al_70 (h : Holds V0 s j) : (constantI S_ 1 0#1 : (Proc.devRef .tc main_while0b_call7_c_0 : DevRef τ sig).ty.Contents (Elt F)) = Cert.SsdRefIdeal.Step.b70 j s := by
  unfold Cert.SsdRefIdeal.Step.b70
  rfl
set_option maxRecDepth 8192 in
theorem al_71 (h : Holds V0 s j) : (broadcastInDim S128x128 ![] bcast_S_S128x128 (constantI S_ 1 0#1) : (Proc.devRef .tc main_while0b_call7_v5 : DevRef τ sig).ty.Contents (Elt F)) = Cert.SsdRefIdeal.Step.b71 j s := by
  unfold Cert.SsdRefIdeal.Step.b71
  rw [← al_70 h]
  try rfl
set_option maxRecDepth 8192 in
theorem al_72 (h : Holds V0 s j) : (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1)) : (Proc.devRef .tc main_while0b_v77 : DevRef τ sig).ty.Contents (Elt F)) = Cert.SsdRefIdeal.Step.b72 j s := by
  unfold Cert.SsdRefIdeal.Step.b72
  rw [← al_69 h, ← al_63 h, ← al_71 h]
  try rfl
set_option maxRecDepth 8192 in
theorem al_73 (h : Holds V0 s j) : (broadcastInDim S128x128x1x1 ![0, 1] bcast_S128x128_S128x128x1x1_0_1 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))) : (Proc.devRef .tc main_while0b_v78 : DevRef τ sig).ty.Contents (Elt F)) = Cert.SsdRefIdeal.Step.b73 j s := by
  unfold Cert.SsdRefIdeal.Step.b73
  rw [← al_72 h]
  try rfl
set_option maxRecDepth 8192 in
theorem al_74 (h : Holds V0 s j) : (broadcastInDim S2x128x1x2x8 ![0, 1, 3, 4] bcast_S2x128x2x8_S2x128x1x2x8_0_1_3_4 (res_main_while0b_v75 V0) : (Proc.devRef .tc main_while0b_v79 : DevRef τ sig).ty.Contents (Elt F)) = Cert.SsdRefIdeal.Step.b74 j s := by
  unfold Cert.SsdRefIdeal.Step.b74
  rw [← al_61 h]
  try rfl
set_option maxRecDepth 8192 in
theorem al_75 (h : Holds V0 s j) : (broadcastInDim S2x1x128x2x8 ![0, 2, 3, 4] bcast_S2x128x2x8_S2x1x128x2x8_0_2_3_4 (res_main_while0b_v75 V0) : (Proc.devRef .tc main_while0b_v80 : DevRef τ sig).ty.Contents (Elt F)) = Cert.SsdRefIdeal.Step.b75 j s := by
  unfold Cert.SsdRefIdeal.Step.b75
  rw [← al_61 h]
  try rfl
set_option maxRecDepth 8192 in
theorem al_76 (h : Holds V0 s j) : (broadcastInDim S2x128x128x2x8 ![0, 1, 2, 3, 4] bcast_S2x128x1x2x8_S2x128x128x2x8_0_1_2_3_4 (broadcastInDim S2x128x1x2x8 ![0, 1, 3, 4] bcast_S2x128x2x8_S2x128x1x2x8_0_1_3_4 (res_main_while0b_v75 V0)) : (Proc.devRef .tc main_while0b_v81 : DevRef τ sig).ty.Contents (Elt F)) = Cert.SsdRefIdeal.Step.b76 j s := by
  unfold Cert.SsdRefIdeal.Step.b76
  rw [← al_74 h]
  try rfl
set_option maxRecDepth 8192 in
theorem al_77 (h : Holds V0 s j) : (broadcastInDim S2x128x128x2x8 ![0, 1, 2, 3, 4] bcast_S2x1x128x2x8_S2x128x128x2x8_0_1_2_3_4 (broadcastInDim S2x1x128x2x8 ![0, 2, 3, 4] bcast_S2x128x2x8_S2x1x128x2x8_0_2_3_4 (res_main_while0b_v75 V0)) : (Proc.devRef .tc main_while0b_v82 : DevRef τ sig).ty.Contents (Elt F)) = Cert.SsdRefIdeal.Step.b77 j s := by
  unfold Cert.SsdRefIdeal.Step.b77
  rw [← al_75 h]
  try rfl
set_option maxRecDepth 8192 in
theorem al_78 (h : Holds V0 s j) : (subf (broadcastInDim S2x128x128x2x8 ![0, 1, 2, 3, 4] bcast_S2x128x1x2x8_S2x128x128x2x8_0_1_2_3_4 (broadcastInDim S2x128x1x2x8 ![0, 1, 3, 4] bcast_S2x128x2x8_S2x128x1x2x8_0_1_3_4 (res_main_while0b_v75 V0))) (broadcastInDim S2x128x128x2x8 ![0, 1, 2, 3, 4] bcast_S2x1x128x2x8_S2x128x128x2x8_0_1_2_3_4 (broadcastInDim S2x1x128x2x8 ![0, 2, 3, 4] bcast_S2x128x2x8_S2x1x128x2x8_0_2_3_4 (res_main_while0b_v75 V0))) : (Proc.devRef .tc main_while0b_v83 : DevRef τ sig).ty.Contents (Elt F)) = Cert.SsdRefIdeal.Step.b78 j s := by
  unfold Cert.SsdRefIdeal.Step.b78
  rw [← al_76 h, ← al_77 h]
  try rfl
set_option maxRecDepth 8192 in
theorem al_79 (h : Holds V0 s j) : (constant S_ .f32 0xFF800000#32 : (Proc.devRef .tc main_while0b_cst_12 : DevRef τ sig).ty.Contents (Elt F)) = Cert.SsdRefIdeal.Step.b79 j s := by
  unfold Cert.SsdRefIdeal.Step.b79
  rfl
set_option maxRecDepth 8192 in
theorem al_80 (h : Holds V0 s j) : (id (constant S_ .f32 0xFF800000#32) : (Proc.devRef .tc main_while0b_call8_v0 : DevRef τ sig).ty.Contents (Elt F)) = Cert.SsdRefIdeal.Step.b80 j s := by
  unfold Cert.SsdRefIdeal.Step.b80
  rw [← al_79 h]
  try rfl
set_option maxRecDepth 8192 in
theorem al_81 (h : Holds V0 s j) : (broadcastInDim S2x128x128x2x8 ![1, 2, 3, 4] bcast_S128x128x1x1_S2x128x128x2x8_1_2_3_4 (broadcastInDim S128x128x1x1 ![0, 1] bcast_S128x128_S128x128x1x1_0_1 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1)))) : (Proc.devRef .tc main_while0b_call8_v1 : DevRef τ sig).ty.Contents (Elt F)) = Cert.SsdRefIdeal.Step.b81 j s := by
  unfold Cert.SsdRefIdeal.Step.b81
  rw [← al_73 h]
  try rfl
set_option maxRecDepth 8192 in
theorem al_82 (h : Holds V0 s j) : (broadcastInDim S2x128x128x2x8 ![] bcast_S_S2x128x128x2x8 (id (constant S_ .f32 0xFF800000#32)) : (Proc.devRef .tc main_while0b_call8_v2 : DevRef τ sig).ty.Contents (Elt F)) = Cert.SsdRefIdeal.Step.b82 j s := by
  unfold Cert.SsdRefIdeal.Step.b82
  rw [← al_80 h]
  try rfl
set_option maxRecDepth 8192 in
theorem al_83 (h : Holds V0 s j) : (select (broadcastInDim S2x128x128x2x8 ![1, 2, 3, 4] bcast_S128x128x1x1_S2x128x128x2x8_1_2_3_4 (broadcastInDim S128x128x1x1 ![0, 1] bcast_S128x128_S128x128x1x1_0_1 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))) (subf (broadcastInDim S2x128x128x2x8 ![0, 1, 2, 3, 4] bcast_S2x128x1x2x8_S2x128x128x2x8_0_1_2_3_4 (broadcastInDim S2x128x1x2x8 ![0, 1, 3, 4] bcast_S2x128x2x8_S2x128x1x2x8_0_1_3_4 (res_main_while0b_v75 V0))) (broadcastInDim S2x128x128x2x8 ![0, 1, 2, 3, 4] bcast_S2x1x128x2x8_S2x128x128x2x8_0_1_2_3_4 (broadcastInDim S2x1x128x2x8 ![0, 2, 3, 4] bcast_S2x128x2x8_S2x1x128x2x8_0_2_3_4 (res_main_while0b_v75 V0)))) (broadcastInDim S2x128x128x2x8 ![] bcast_S_S2x128x128x2x8 (id (constant S_ .f32 0xFF800000#32))) : (Proc.devRef .tc main_while0b_v84 : DevRef τ sig).ty.Contents (Elt F)) = Cert.SsdRefIdeal.Step.b83 j s := by
  unfold Cert.SsdRefIdeal.Step.b83
  rw [← al_81 h, ← al_78 h, ← al_82 h]
  try rfl
set_option maxRecDepth 8192 in
theorem al_84 (h : Holds V0 s j) : (Host.exp (select (broadcastInDim S2x128x128x2x8 ![1, 2, 3, 4] bcast_S128x128x1x1_S2x128x128x2x8_1_2_3_4 (broadcastInDim S128x128x1x1 ![0, 1] bcast_S128x128_S128x128x1x1_0_1 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))) (subf (broadcastInDim S2x128x128x2x8 ![0, 1, 2, 3, 4] bcast_S2x128x1x2x8_S2x128x128x2x8_0_1_2_3_4 (broadcastInDim S2x128x1x2x8 ![0, 1, 3, 4] bcast_S2x128x2x8_S2x128x1x2x8_0_1_3_4 (res_main_while0b_v75 V0))) (broadcastInDim S2x128x128x2x8 ![0, 1, 2, 3, 4] bcast_S2x1x128x2x8_S2x128x128x2x8_0_1_2_3_4 (broadcastInDim S2x1x128x2x8 ![0, 2, 3, 4] bcast_S2x128x2x8_S2x1x128x2x8_0_2_3_4 (res_main_while0b_v75 V0)))) (broadcastInDim S2x128x128x2x8 ![] bcast_S_S2x128x128x2x8 (id (constant S_ .f32 0xFF800000#32)))) : (Proc.devRef .tc main_while0b_v85 : DevRef τ sig).ty.Contents (Elt F)) = Cert.SsdRefIdeal.Step.b84 j s := by
  unfold Cert.SsdRefIdeal.Step.b84
  rw [← al_83 h]
  try rfl
set_option maxRecDepth 8192 in
theorem al_85 (h : Holds V0 s j) : (Host.dotGeneral dot_S2x128x2x128_S2x128x2x128_S2x2x128x128_3_3_1_1_02_02 none (res_main_while0b_v56 V0) (res_main_while0b_v58 V0) : (Proc.devRef .tc main_while0b_v86 : DevRef τ sig).ty.Contents (Elt F)) = Cert.SsdRefIdeal.Step.b85 j s := by
  unfold Cert.SsdRefIdeal.Step.b85
  rw [← al_27 h, ← al_29 h]
  try rfl
set_option maxRecDepth 8192 in
theorem al_86 (h : Holds V0 s j) : (transpose S2x128x128x2 [0, 3, 2, 1] (Host.dotGeneral dot_S2x128x2x128_S2x128x2x128_S2x2x128x128_3_3_1_1_02_02 none (res_main_while0b_v56 V0) (res_main_while0b_v58 V0)) transposes_S2x2x128x128_S2x128x128x2_0_3_2_1 : (Proc.devRef .tc main_while0b_v87 : DevRef τ sig).ty.Contents (Elt F)) = Cert.SsdRefIdeal.Step.b86 j s := by
  unfold Cert.SsdRefIdeal.Step.b86
  rw [← al_85 h]
  try rfl
set_option maxRecDepth 8192 in
theorem al_87 (h : Holds V0 s j) : (broadcastInDim S2x128x128x2x1 ![0, 1, 2, 3] bcast_S2x128x128x2_S2x128x128x2x1_0_1_2_3 (transpose S2x128x128x2 [0, 3, 2, 1] (Host.dotGeneral dot_S2x128x2x128_S2x128x2x128_S2x2x128x128_3_3_1_1_02_02 none (res_main_while0b_v56 V0) (res_main_while0b_v58 V0)) transposes_S2x2x128x128_S2x128x128x2_0_3_2_1) : (Proc.devRef .tc main_while0b_v88 : DevRef τ sig).ty.Contents (Elt F)) = Cert.SsdRefIdeal.Step.b87 j s := by
  unfold Cert.SsdRefIdeal.Step.b87
  rw [← al_86 h]
  try rfl
set_option maxRecDepth 8192 in
theorem al_88 (h : Holds V0 s j) : (broadcastInDim S2x128x128x2x8 ![0, 1, 2, 3, 4] bcast_S2x128x128x2x1_S2x128x128x2x8_0_1_2_3_4 (broadcastInDim S2x128x128x2x1 ![0, 1, 2, 3] bcast_S2x128x128x2_S2x128x128x2x1_0_1_2_3 (transpose S2x128x128x2 [0, 3, 2, 1] (Host.dotGeneral dot_S2x128x2x128_S2x128x2x128_S2x2x128x128_3_3_1_1_02_02 none (res_main_while0b_v56 V0) (res_main_while0b_v58 V0)) transposes_S2x2x128x128_S2x128x128x2_0_3_2_1)) : (Proc.devRef .tc main_while0b_v89 : DevRef τ sig).ty.Contents (Elt F)) = Cert.SsdRefIdeal.Step.b88 j s := by
  unfold Cert.SsdRefIdeal.Step.b88
  rw [← al_87 h]
  try rfl
set_option maxRecDepth 8192 in
theorem al_89 (h : Holds V0 s j) : (mulf (broadcastInDim S2x128x128x2x8 ![0, 1, 2, 3, 4] bcast_S2x128x128x2x1_S2x128x128x2x8_0_1_2_3_4 (broadcastInDim S2x128x128x2x1 ![0, 1, 2, 3] bcast_S2x128x128x2_S2x128x128x2x1_0_1_2_3 (transpose S2x128x128x2 [0, 3, 2, 1] (Host.dotGeneral dot_S2x128x2x128_S2x128x2x128_S2x2x128x128_3_3_1_1_02_02 none (res_main_while0b_v56 V0) (res_main_while0b_v58 V0)) transposes_S2x2x128x128_S2x128x128x2_0_3_2_1))) (Host.exp (select (broadcastInDim S2x128x128x2x8 ![1, 2, 3, 4] bcast_S128x128x1x1_S2x128x128x2x8_1_2_3_4 (broadcastInDim S128x128x1x1 ![0, 1] bcast_S128x128_S128x128x1x1_0_1 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))) (subf (broadcastInDim S2x128x128x2x8 ![0, 1, 2, 3, 4] bcast_S2x128x1x2x8_S2x128x128x2x8_0_1_2_3_4 (broadcastInDim S2x128x1x2x8 ![0, 1, 3, 4] bcast_S2x128x2x8_S2x128x1x2x8_0_1_3_4 (res_main_while0b_v75 V0))) (broadcastInDim S2x128x128x2x8 ![0, 1, 2, 3, 4] bcast_S2x1x128x2x8_S2x128x128x2x8_0_1_2_3_4 (broadcastInDim S2x1x128x2x8 ![0, 2, 3, 4] bcast_S2x128x2x8_S2x1x128x2x8_0_2_3_4 (res_main_while0b_v75 V0)))) (broadcastInDim S2x128x128x2x8 ![] bcast_S_S2x128x128x2x8 (id (constant S_ .f32 0xFF800000#32))))) : (Proc.devRef .tc main_while0b_v90 : DevRef τ sig).ty.Contents (Elt F)) = Cert.SsdRefIdeal.Step.b89 j s := by
  unfold Cert.SsdRefIdeal.Step.b89
  rw [← al_88 h, ← al_84 h]
  try rfl
set_option maxRecDepth 8192 in
theorem al_90 (h : Holds V0 s j) : (Host.dotGeneral dot_S2x128x2x8x64_S2x128x128x2x8_S2x2x8x64x128_1_2_4_1_023_034 none (res_main_while0b_v71 V0) (mulf (broadcastInDim S2x128x128x2x8 ![0, 1, 2, 3, 4] bcast_S2x128x128x2x1_S2x128x128x2x8_0_1_2_3_4 (broadcastInDim S2x128x128x2x1 ![0, 1, 2, 3] bcast_S2x128x128x2_S2x128x128x2x1_0_1_2_3 (transpose S2x128x128x2 [0, 3, 2, 1] (Host.dotGeneral dot_S2x128x2x128_S2x128x2x128_S2x2x128x128_3_3_1_1_02_02 none (res_main_while0b_v56 V0) (res_main_while0b_v58 V0)) transposes_S2x2x128x128_S2x128x128x2_0_3_2_1))) (Host.exp (select (broadcastInDim S2x128x128x2x8 ![1, 2, 3, 4] bcast_S128x128x1x1_S2x128x128x2x8_1_2_3_4 (broadcastInDim S128x128x1x1 ![0, 1] bcast_S128x128_S128x128x1x1_0_1 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))) (subf (broadcastInDim S2x128x128x2x8 ![0, 1, 2, 3, 4] bcast_S2x128x1x2x8_S2x128x128x2x8_0_1_2_3_4 (broadcastInDim S2x128x1x2x8 ![0, 1, 3, 4] bcast_S2x128x2x8_S2x128x1x2x8_0_1_3_4 (res_main_while0b_v75 V0))) (broadcastInDim S2x128x128x2x8 ![0, 1, 2, 3, 4] bcast_S2x1x128x2x8_S2x128x128x2x8_0_1_2_3_4 (broadcastInDim S2x1x128x2x8 ![0, 2, 3, 4] bcast_S2x128x2x8_S2x1x128x2x8_0_2_3_4 (res_main_while0b_v75 V0)))) (broadcastInDim S2x128x128x2x8 ![] bcast_S_S2x128x128x2x8 (id (constant S_ .f32 0xFF800000#32)))))) : (Proc.devRef .tc main_while0b_v91 : DevRef τ sig).ty.Contents (Elt F)) = Cert.SsdRefIdeal.Step.b90 j s := by
  unfold Cert.SsdRefIdeal.Step.b90
  rw [← al_55 h, ← al_89 h]
  try rfl
set_option maxRecDepth 8192 in
theorem al_91 (h : Holds V0 s j) : (transpose S2x128x2x8x64 [0, 4, 1, 2, 3] (Host.dotGeneral dot_S2x128x2x8x64_S2x128x128x2x8_S2x2x8x64x128_1_2_4_1_023_034 none (res_main_while0b_v71 V0) (mulf (broadcastInDim S2x128x128x2x8 ![0, 1, 2, 3, 4] bcast_S2x128x128x2x1_S2x128x128x2x8_0_1_2_3_4 (broadcastInDim S2x128x128x2x1 ![0, 1, 2, 3] bcast_S2x128x128x2_S2x128x128x2x1_0_1_2_3 (transpose S2x128x128x2 [0, 3, 2, 1] (Host.dotGeneral dot_S2x128x2x128_S2x128x2x128_S2x2x128x128_3_3_1_1_02_02 none (res_main_while0b_v56 V0) (res_main_while0b_v58 V0)) transposes_S2x2x128x128_S2x128x128x2_0_3_2_1))) (Host.exp (select (broadcastInDim S2x128x128x2x8 ![1, 2, 3, 4] bcast_S128x128x1x1_S2x128x128x2x8_1_2_3_4 (broadcastInDim S128x128x1x1 ![0, 1] bcast_S128x128_S128x128x1x1_0_1 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))) (subf (broadcastInDim S2x128x128x2x8 ![0, 1, 2, 3, 4] bcast_S2x128x1x2x8_S2x128x128x2x8_0_1_2_3_4 (broadcastInDim S2x128x1x2x8 ![0, 1, 3, 4] bcast_S2x128x2x8_S2x128x1x2x8_0_1_3_4 (res_main_while0b_v75 V0))) (broadcastInDim S2x128x128x2x8 ![0, 1, 2, 3, 4] bcast_S2x1x128x2x8_S2x128x128x2x8_0_1_2_3_4 (broadcastInDim S2x1x128x2x8 ![0, 2, 3, 4] bcast_S2x128x2x8_S2x1x128x2x8_0_2_3_4 (res_main_while0b_v75 V0)))) (broadcastInDim S2x128x128x2x8 ![] bcast_S_S2x128x128x2x8 (id (constant S_ .f32 0xFF800000#32))))))) transposes_S2x2x8x64x128_S2x128x2x8x64_0_4_1_2_3 : (Proc.devRef .tc main_while0b_v92 : DevRef τ sig).ty.Contents (Elt F)) = Cert.SsdRefIdeal.Step.b91 j s := by
  unfold Cert.SsdRefIdeal.Step.b91
  rw [← al_90 h]
  try rfl
set_option maxRecDepth 8192 in
theorem al_92 (h : Holds V0 s j) : (extractStridedSlice S2x1x2x8 ![0, 127, 0, 0] (res_main_while0b_v75 V0) slices_S2x128x2x8_S2x1x2x8_0_127_0_0 : (Proc.devRef .tc main_while0b_v93 : DevRef τ sig).ty.Contents (Elt F)) = Cert.SsdRefIdeal.Step.b92 j s := by
  unfold Cert.SsdRefIdeal.Step.b92
  rw [← al_61 h]
  try rfl
set_option maxRecDepth 8192 in
theorem al_93 (h : Holds V0 s j) : (broadcastInDim S2x128x2x8 ![0, 1, 2, 3] bcast_S2x1x2x8_S2x128x2x8_0_1_2_3 (extractStridedSlice S2x1x2x8 ![0, 127, 0, 0] (res_main_while0b_v75 V0) slices_S2x128x2x8_S2x1x2x8_0_127_0_0) : (Proc.devRef .tc main_while0b_v94 : DevRef τ sig).ty.Contents (Elt F)) = Cert.SsdRefIdeal.Step.b93 j s := by
  unfold Cert.SsdRefIdeal.Step.b93
  rw [← al_92 h]
  try rfl
set_option maxRecDepth 8192 in
theorem al_94 (h : Holds V0 s j) : (subf (broadcastInDim S2x128x2x8 ![0, 1, 2, 3] bcast_S2x1x2x8_S2x128x2x8_0_1_2_3 (extractStridedSlice S2x1x2x8 ![0, 127, 0, 0] (res_main_while0b_v75 V0) slices_S2x128x2x8_S2x1x2x8_0_127_0_0)) (res_main_while0b_v75 V0) : (Proc.devRef .tc main_while0b_v95 : DevRef τ sig).ty.Contents (Elt F)) = Cert.SsdRefIdeal.Step.b94 j s := by
  unfold Cert.SsdRefIdeal.Step.b94
  rw [← al_93 h, ← al_61 h]
  try rfl
set_option maxRecDepth 8192 in
theorem al_95 (h : Holds V0 s j) : (Host.exp (subf (broadcastInDim S2x128x2x8 ![0, 1, 2, 3] bcast_S2x1x2x8_S2x128x2x8_0_1_2_3 (extractStridedSlice S2x1x2x8 ![0, 127, 0, 0] (res_main_while0b_v75 V0) slices_S2x128x2x8_S2x1x2x8_0_127_0_0)) (res_main_while0b_v75 V0)) : (Proc.devRef .tc main_while0b_v96 : DevRef τ sig).ty.Contents (Elt F)) = Cert.SsdRefIdeal.Step.b95 j s := by
  unfold Cert.SsdRefIdeal.Step.b95
  rw [← al_94 h]
  try rfl
set_option maxRecDepth 8192 in
theorem al_96 (h : Holds V0 s j) : (broadcastInDim S2x128x2x8x1 ![0, 1, 2, 3] bcast_S2x128x2x8_S2x128x2x8x1_0_1_2_3 (Host.exp (subf (broadcastInDim S2x128x2x8 ![0, 1, 2, 3] bcast_S2x1x2x8_S2x128x2x8_0_1_2_3 (extractStridedSlice S2x1x2x8 ![0, 127, 0, 0] (res_main_while0b_v75 V0) slices_S2x128x2x8_S2x1x2x8_0_127_0_0)) (res_main_while0b_v75 V0))) : (Proc.devRef .tc main_while0b_v97 : DevRef τ sig).ty.Contents (Elt F)) = Cert.SsdRefIdeal.Step.b96 j s := by
  unfold Cert.SsdRefIdeal.Step.b96
  rw [← al_95 h]
  try rfl
set_option maxRecDepth 8192 in
theorem al_97 (h : Holds V0 s j) : (broadcastInDim S2x128x2x8x64 ![0, 1, 2, 3, 4] bcast_S2x128x2x8x1_S2x128x2x8x64_0_1_2_3_4 (broadcastInDim S2x128x2x8x1 ![0, 1, 2, 3] bcast_S2x128x2x8_S2x128x2x8x1_0_1_2_3 (Host.exp (subf (broadcastInDim S2x128x2x8 ![0, 1, 2, 3] bcast_S2x1x2x8_S2x128x2x8_0_1_2_3 (extractStridedSlice S2x1x2x8 ![0, 127, 0, 0] (res_main_while0b_v75 V0) slices_S2x128x2x8_S2x1x2x8_0_127_0_0)) (res_main_while0b_v75 V0)))) : (Proc.devRef .tc main_while0b_v98 : DevRef τ sig).ty.Contents (Elt F)) = Cert.SsdRefIdeal.Step.b97 j s := by
  unfold Cert.SsdRefIdeal.Step.b97
  rw [← al_96 h]
  try rfl
set_option maxRecDepth 8192 in
theorem al_98 (h : Holds V0 s j) : (mulf (res_main_while0b_v71 V0) (broadcastInDim S2x128x2x8x64 ![0, 1, 2, 3, 4] bcast_S2x128x2x8x1_S2x128x2x8x64_0_1_2_3_4 (broadcastInDim S2x128x2x8x1 ![0, 1, 2, 3] bcast_S2x128x2x8_S2x128x2x8x1_0_1_2_3 (Host.exp (subf (broadcastInDim S2x128x2x8 ![0, 1, 2, 3] bcast_S2x1x2x8_S2x128x2x8_0_1_2_3 (extractStridedSlice S2x1x2x8 ![0, 127, 0, 0] (res_main_while0b_v75 V0) slices_S2x128x2x8_S2x1x2x8_0_127_0_0)) (res_main_while0b_v75 V0))))) : (Proc.devRef .tc main_while0b_v99 : DevRef τ sig).ty.Contents (Elt F)) = Cert.SsdRefIdeal.Step.b98 j s := by
  unfold Cert.SsdRefIdeal.Step.b98
  rw [← al_55 h, ← al_97 h]
  try rfl
set_option maxRecDepth 8192 in
theorem al_99 (h : Holds V0 s j) : (Host.dotGeneral dot_S2x128x2x8x64_S2x128x2x128_S2x2x8x64x128_1_1_34_3_02_02 none (mulf (res_main_while0b_v71 V0) (broadcastInDim S2x128x2x8x64 ![0, 1, 2, 3, 4] bcast_S2x128x2x8x1_S2x128x2x8x64_0_1_2_3_4 (broadcastInDim S2x128x2x8x1 ![0, 1, 2, 3] bcast_S2x128x2x8_S2x128x2x8x1_0_1_2_3 (Host.exp (subf (broadcastInDim S2x128x2x8 ![0, 1, 2, 3] bcast_S2x1x2x8_S2x128x2x8_0_1_2_3 (extractStridedSlice S2x1x2x8 ![0, 127, 0, 0] (res_main_while0b_v75 V0) slices_S2x128x2x8_S2x1x2x8_0_127_0_0)) (res_main_while0b_v75 V0)))))) (res_main_while0b_v56 V0) : (Proc.devRef .tc main_while0b_v100 : DevRef τ sig).ty.Contents (Elt F)) = Cert.SsdRefIdeal.Step.b99 j s := by
  unfold Cert.SsdRefIdeal.Step.b99
  rw [← al_98 h, ← al_27 h]
  try rfl
set_option maxRecDepth 8192 in
theorem al_100 (h : Holds V0 s j) : (Host.dotGeneral dot_S2x2x8x64x128_S2x128x2x128_S2x2x8x64x128_4_3_23_1_01_02 none (V0 (Proc.devRef .tc main_v45_8)) (res_main_while0b_v58 V0) : (Proc.devRef .tc main_while0b_v101 : DevRef τ sig).ty.Contents (Elt F)) = Cert.SsdRefIdeal.Step.b100 j s := by
  unfold Cert.SsdRefIdeal.Step.b100
  rw [← al_29 h, h.f_8]
  try rfl
set_option maxRecDepth 8192 in
theorem al_101 (h : Holds V0 s j) : (transpose S2x128x2x8x64 [0, 4, 1, 2, 3] (Host.dotGeneral dot_S2x2x8x64x128_S2x128x2x128_S2x2x8x64x128_4_3_23_1_01_02 none (V0 (Proc.devRef .tc main_v45_8)) (res_main_while0b_v58 V0)) transposes_S2x2x8x64x128_S2x128x2x8x64_0_4_1_2_3 : (Proc.devRef .tc main_while0b_v102 : DevRef τ sig).ty.Contents (Elt F)) = Cert.SsdRefIdeal.Step.b101 j s := by
  unfold Cert.SsdRefIdeal.Step.b101
  rw [← al_100 h]
  try rfl
set_option maxRecDepth 8192 in
theorem al_102 (h : Holds V0 s j) : (Host.exp (res_main_while0b_v75 V0) : (Proc.devRef .tc main_while0b_v103 : DevRef τ sig).ty.Contents (Elt F)) = Cert.SsdRefIdeal.Step.b102 j s := by
  unfold Cert.SsdRefIdeal.Step.b102
  rw [← al_61 h]
  try rfl
set_option maxRecDepth 8192 in
theorem al_103 (h : Holds V0 s j) : (broadcastInDim S2x128x2x8x1 ![0, 1, 2, 3] bcast_S2x128x2x8_S2x128x2x8x1_0_1_2_3 (Host.exp (res_main_while0b_v75 V0)) : (Proc.devRef .tc main_while0b_v104 : DevRef τ sig).ty.Contents (Elt F)) = Cert.SsdRefIdeal.Step.b103 j s := by
  unfold Cert.SsdRefIdeal.Step.b103
  rw [← al_102 h]
  try rfl
set_option maxRecDepth 8192 in
theorem al_104 (h : Holds V0 s j) : (broadcastInDim S2x128x2x8x64 ![0, 1, 2, 3, 4] bcast_S2x128x2x8x1_S2x128x2x8x64_0_1_2_3_4 (broadcastInDim S2x128x2x8x1 ![0, 1, 2, 3] bcast_S2x128x2x8_S2x128x2x8x1_0_1_2_3 (Host.exp (res_main_while0b_v75 V0))) : (Proc.devRef .tc main_while0b_v105 : DevRef τ sig).ty.Contents (Elt F)) = Cert.SsdRefIdeal.Step.b104 j s := by
  unfold Cert.SsdRefIdeal.Step.b104
  rw [← al_103 h]
  try rfl
set_option maxRecDepth 8192 in
theorem al_105 (h : Holds V0 s j) : (mulf (transpose S2x128x2x8x64 [0, 4, 1, 2, 3] (Host.dotGeneral dot_S2x2x8x64x128_S2x128x2x128_S2x2x8x64x128_4_3_23_1_01_02 none (V0 (Proc.devRef .tc main_v45_8)) (res_main_while0b_v58 V0)) transposes_S2x2x8x64x128_S2x128x2x8x64_0_4_1_2_3) (broadcastInDim S2x128x2x8x64 ![0, 1, 2, 3, 4] bcast_S2x128x2x8x1_S2x128x2x8x64_0_1_2_3_4 (broadcastInDim S2x128x2x8x1 ![0, 1, 2, 3] bcast_S2x128x2x8_S2x128x2x8x1_0_1_2_3 (Host.exp (res_main_while0b_v75 V0)))) : (Proc.devRef .tc main_while0b_v106 : DevRef τ sig).ty.Contents (Elt F)) = Cert.SsdRefIdeal.Step.b105 j s := by
  unfold Cert.SsdRefIdeal.Step.b105
  rw [← al_101 h, ← al_104 h]
  try rfl
set_option maxRecDepth 8192 in
theorem al_106 (h : Holds V0 s j) : (addf (transpose S2x128x2x8x64 [0, 4, 1, 2, 3] (Host.dotGeneral dot_S2x128x2x8x64_S2x128x128x2x8_S2x2x8x64x128_1_2_4_1_023_034 none (res_main_while0b_v71 V0) (mulf (broadcastInDim S2x128x128x2x8 ![0, 1, 2, 3, 4] bcast_S2x128x128x2x1_S2x128x128x2x8_0_1_2_3_4 (broadcastInDim S2x128x128x2x1 ![0, 1, 2, 3] bcast_S2x128x128x2_S2x128x128x2x1_0_1_2_3 (transpose S2x128x128x2 [0, 3, 2, 1] (Host.dotGeneral dot_S2x128x2x128_S2x128x2x128_S2x2x128x128_3_3_1_1_02_02 none (res_main_while0b_v56 V0) (res_main_while0b_v58 V0)) transposes_S2x2x128x128_S2x128x128x2_0_3_2_1))) (Host.exp (select (broadcastInDim S2x128x128x2x8 ![1, 2, 3, 4] bcast_S128x128x1x1_S2x128x128x2x8_1_2_3_4 (broadcastInDim S128x128x1x1 ![0, 1] bcast_S128x128_S128x128x1x1_0_1 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))) (subf (broadcastInDim S2x128x128x2x8 ![0, 1, 2, 3, 4] bcast_S2x128x1x2x8_S2x128x128x2x8_0_1_2_3_4 (broadcastInDim S2x128x1x2x8 ![0, 1, 3, 4] bcast_S2x128x2x8_S2x128x1x2x8_0_1_3_4 (res_main_while0b_v75 V0))) (broadcastInDim S2x128x128x2x8 ![0, 1, 2, 3, 4] bcast_S2x1x128x2x8_S2x128x128x2x8_0_1_2_3_4 (broadcastInDim S2x1x128x2x8 ![0, 2, 3, 4] bcast_S2x128x2x8_S2x1x128x2x8_0_2_3_4 (res_main_while0b_v75 V0)))) (broadcastInDim S2x128x128x2x8 ![] bcast_S_S2x128x128x2x8 (id (constant S_ .f32 0xFF800000#32))))))) transposes_S2x2x8x64x128_S2x128x2x8x64_0_4_1_2_3) (mulf (transpose S2x128x2x8x64 [0, 4, 1, 2, 3] (Host.dotGeneral dot_S2x2x8x64x128_S2x128x2x128_S2x2x8x64x128_4_3_23_1_01_02 none (V0 (Proc.devRef .tc main_v45_8)) (res_main_while0b_v58 V0)) transposes_S2x2x8x64x128_S2x128x2x8x64_0_4_1_2_3) (broadcastInDim S2x128x2x8x64 ![0, 1, 2, 3, 4] bcast_S2x128x2x8x1_S2x128x2x8x64_0_1_2_3_4 (broadcastInDim S2x128x2x8x1 ![0, 1, 2, 3] bcast_S2x128x2x8_S2x128x2x8x1_0_1_2_3 (Host.exp (res_main_while0b_v75 V0))))) : (Proc.devRef .tc main_while0b_v107 : DevRef τ sig).ty.Contents (Elt F)) = Cert.SsdRefIdeal.Step.b106 j s := by
  unfold Cert.SsdRefIdeal.Step.b106
  rw [← al_91 h, ← al_105 h]
  try rfl
set_option maxRecDepth 8192 in
theorem al_107 (h : Holds V0 s j) : (shapeCast S16 (V0 (Proc.devRef .tc main_v45_5)) shapeCasts_S1x16_S16 : (Proc.devRef .tc main_while0b_v108 : DevRef τ sig).ty.Contents (Elt F)) = Cert.SsdRefIdeal.Step.b107 j s := by
  unfold Cert.SsdRefIdeal.Step.b107
  rw [h.f_5]
  try rfl
set_option maxRecDepth 8192 in
theorem al_108 (h : Holds V0 s j) : (shapeCast S2x8x1 (shapeCast S16 (V0 (Proc.devRef .tc main_v45_5)) shapeCasts_S1x16_S16) shapeCasts_S16_S2x8x1 : (Proc.devRef .tc main_while0b_v109 : DevRef τ sig).ty.Contents (Elt F)) = Cert.SsdRefIdeal.Step.b108 j s := by
  unfold Cert.SsdRefIdeal.Step.b108
  rw [← al_107 h]
  try rfl
set_option maxRecDepth 8192 in
theorem al_109 (h : Holds V0 s j) : (broadcastInDim S1x1x2x8x1 ![2, 3, 4] bcast_S2x8x1_S1x1x2x8x1_2_3_4 (shapeCast S2x8x1 (shapeCast S16 (V0 (Proc.devRef .tc main_v45_5)) shapeCasts_S1x16_S16) shapeCasts_S16_S2x8x1) : (Proc.devRef .tc main_while0b_v110 : DevRef τ sig).ty.Contents (Elt F)) = Cert.SsdRefIdeal.Step.b109 j s := by
  unfold Cert.SsdRefIdeal.Step.b109
  rw [← al_108 h]
  try rfl
set_option maxRecDepth 8192 in
theorem al_110 (h : Holds V0 s j) : (broadcastInDim S2x128x2x8x64 ![0, 1, 2, 3, 4] bcast_S1x1x2x8x1_S2x128x2x8x64_0_1_2_3_4 (broadcastInDim S1x1x2x8x1 ![2, 3, 4] bcast_S2x8x1_S1x1x2x8x1_2_3_4 (shapeCast S2x8x1 (shapeCast S16 (V0 (Proc.devRef .tc main_v45_5)) shapeCasts_S1x16_S16) shapeCasts_S16_S2x8x1)) : (Proc.devRef .tc main_while0b_v111 : DevRef τ sig).ty.Contents (Elt F)) = Cert.SsdRefIdeal.Step.b110 j s := by
  unfold Cert.SsdRefIdeal.Step.b110
  rw [← al_109 h]
  try rfl
set_option maxRecDepth 8192 in
theorem al_111 (h : Holds V0 s j) : (mulf (broadcastInDim S2x128x2x8x64 ![0, 1, 2, 3, 4] bcast_S1x1x2x8x1_S2x128x2x8x64_0_1_2_3_4 (broadcastInDim S1x1x2x8x1 ![2, 3, 4] bcast_S2x8x1_S1x1x2x8x1_2_3_4 (shapeCast S2x8x1 (shapeCast S16 (V0 (Proc.devRef .tc main_v45_5)) shapeCasts_S1x16_S16) shapeCasts_S16_S2x8x1))) (res_main_while0b_v54 V0) : (Proc.devRef .tc main_while0b_v112 : DevRef τ sig).ty.Contents (Elt F)) = Cert.SsdRefIdeal.Step.b111 j s := by
  unfold Cert.SsdRefIdeal.Step.b111
  rw [← al_110 h, ← al_25 h]
  try rfl
set_option maxRecDepth 8192 in
theorem al_112 (h : Holds V0 s j) : (addf (addf (transpose S2x128x2x8x64 [0, 4, 1, 2, 3] (Host.dotGeneral dot_S2x128x2x8x64_S2x128x128x2x8_S2x2x8x64x128_1_2_4_1_023_034 none (res_main_while0b_v71 V0) (mulf (broadcastInDim S2x128x128x2x8 ![0, 1, 2, 3, 4] bcast_S2x128x128x2x1_S2x128x128x2x8_0_1_2_3_4 (broadcastInDim S2x128x128x2x1 ![0, 1, 2, 3] bcast_S2x128x128x2_S2x128x128x2x1_0_1_2_3 (transpose S2x128x128x2 [0, 3, 2, 1] (Host.dotGeneral dot_S2x128x2x128_S2x128x2x128_S2x2x128x128_3_3_1_1_02_02 none (res_main_while0b_v56 V0) (res_main_while0b_v58 V0)) transposes_S2x2x128x128_S2x128x128x2_0_3_2_1))) (Host.exp (select (broadcastInDim S2x128x128x2x8 ![1, 2, 3, 4] bcast_S128x128x1x1_S2x128x128x2x8_1_2_3_4 (broadcastInDim S128x128x1x1 ![0, 1] bcast_S128x128_S128x128x1x1_0_1 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))) (subf (broadcastInDim S2x128x128x2x8 ![0, 1, 2, 3, 4] bcast_S2x128x1x2x8_S2x128x128x2x8_0_1_2_3_4 (broadcastInDim S2x128x1x2x8 ![0, 1, 3, 4] bcast_S2x128x2x8_S2x128x1x2x8_0_1_3_4 (res_main_while0b_v75 V0))) (broadcastInDim S2x128x128x2x8 ![0, 1, 2, 3, 4] bcast_S2x1x128x2x8_S2x128x128x2x8_0_1_2_3_4 (broadcastInDim S2x1x128x2x8 ![0, 2, 3, 4] bcast_S2x128x2x8_S2x1x128x2x8_0_2_3_4 (res_main_while0b_v75 V0)))) (broadcastInDim S2x128x128x2x8 ![] bcast_S_S2x128x128x2x8 (id (constant S_ .f32 0xFF800000#32))))))) transposes_S2x2x8x64x128_S2x128x2x8x64_0_4_1_2_3) (mulf (transpose S2x128x2x8x64 [0, 4, 1, 2, 3] (Host.dotGeneral dot_S2x2x8x64x128_S2x128x2x128_S2x2x8x64x128_4_3_23_1_01_02 none (V0 (Proc.devRef .tc main_v45_8)) (res_main_while0b_v58 V0)) transposes_S2x2x8x64x128_S2x128x2x8x64_0_4_1_2_3) (broadcastInDim S2x128x2x8x64 ![0, 1, 2, 3, 4] bcast_S2x128x2x8x1_S2x128x2x8x64_0_1_2_3_4 (broadcastInDim S2x128x2x8x1 ![0, 1, 2, 3] bcast_S2x128x2x8_S2x128x2x8x1_0_1_2_3 (Host.exp (res_main_while0b_v75 V0)))))) (mulf (broadcastInDim S2x128x2x8x64 ![0, 1, 2, 3, 4] bcast_S1x1x2x8x1_S2x128x2x8x64_0_1_2_3_4 (broadcastInDim S1x1x2x8x1 ![2, 3, 4] bcast_S2x8x1_S1x1x2x8x1_2_3_4 (shapeCast S2x8x1 (shapeCast S16 (V0 (Proc.devRef .tc main_v45_5)) shapeCasts_S1x16_S16) shapeCasts_S16_S2x8x1))) (res_main_while0b_v54 V0)) : (Proc.devRef .tc main_while0b_v113 : DevRef τ sig).ty.Contents (Elt F)) = Cert.SsdRefIdeal.Step.b112 j s := by
  unfold Cert.SsdRefIdeal.Step.b112
  rw [← al_106 h, ← al_111 h]
  try rfl
set_option maxRecDepth 8192 in
theorem al_113 (h : Holds V0 s j) : (shapeCast S2x128x1024 (addf (addf (transpose S2x128x2x8x64 [0, 4, 1, 2, 3] (Host.dotGeneral dot_S2x128x2x8x64_S2x128x128x2x8_S2x2x8x64x128_1_2_4_1_023_034 none (res_main_while0b_v71 V0) (mulf (broadcastInDim S2x128x128x2x8 ![0, 1, 2, 3, 4] bcast_S2x128x128x2x1_S2x128x128x2x8_0_1_2_3_4 (broadcastInDim S2x128x128x2x1 ![0, 1, 2, 3] bcast_S2x128x128x2_S2x128x128x2x1_0_1_2_3 (transpose S2x128x128x2 [0, 3, 2, 1] (Host.dotGeneral dot_S2x128x2x128_S2x128x2x128_S2x2x128x128_3_3_1_1_02_02 none (res_main_while0b_v56 V0) (res_main_while0b_v58 V0)) transposes_S2x2x128x128_S2x128x128x2_0_3_2_1))) (Host.exp (select (broadcastInDim S2x128x128x2x8 ![1, 2, 3, 4] bcast_S128x128x1x1_S2x128x128x2x8_1_2_3_4 (broadcastInDim S128x128x1x1 ![0, 1] bcast_S128x128_S128x128x1x1_0_1 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))) (subf (broadcastInDim S2x128x128x2x8 ![0, 1, 2, 3, 4] bcast_S2x128x1x2x8_S2x128x128x2x8_0_1_2_3_4 (broadcastInDim S2x128x1x2x8 ![0, 1, 3, 4] bcast_S2x128x2x8_S2x128x1x2x8_0_1_3_4 (res_main_while0b_v75 V0))) (broadcastInDim S2x128x128x2x8 ![0, 1, 2, 3, 4] bcast_S2x1x128x2x8_S2x128x128x2x8_0_1_2_3_4 (broadcastInDim S2x1x128x2x8 ![0, 2, 3, 4] bcast_S2x128x2x8_S2x1x128x2x8_0_2_3_4 (res_main_while0b_v75 V0)))) (broadcastInDim S2x128x128x2x8 ![] bcast_S_S2x128x128x2x8 (id (constant S_ .f32 0xFF800000#32))))))) transposes_S2x2x8x64x128_S2x128x2x8x64_0_4_1_2_3) (mulf (transpose S2x128x2x8x64 [0, 4, 1, 2, 3] (Host.dotGeneral dot_S2x2x8x64x128_S2x128x2x128_S2x2x8x64x128_4_3_23_1_01_02 none (V0 (Proc.devRef .tc main_v45_8)) (res_main_while0b_v58 V0)) transposes_S2x2x8x64x128_S2x128x2x8x64_0_4_1_2_3) (broadcastInDim S2x128x2x8x64 ![0, 1, 2, 3, 4] bcast_S2x128x2x8x1_S2x128x2x8x64_0_1_2_3_4 (broadcastInDim S2x128x2x8x1 ![0, 1, 2, 3] bcast_S2x128x2x8_S2x128x2x8x1_0_1_2_3 (Host.exp (res_main_while0b_v75 V0)))))) (mulf (broadcastInDim S2x128x2x8x64 ![0, 1, 2, 3, 4] bcast_S1x1x2x8x1_S2x128x2x8x64_0_1_2_3_4 (broadcastInDim S1x1x2x8x1 ![2, 3, 4] bcast_S2x8x1_S1x1x2x8x1_2_3_4 (shapeCast S2x8x1 (shapeCast S16 (V0 (Proc.devRef .tc main_v45_5)) shapeCasts_S1x16_S16) shapeCasts_S16_S2x8x1))) (res_main_while0b_v54 V0))) shapeCasts_S2x128x2x8x64_S2x128x1024 : (Proc.devRef .tc main_while0b_v114 : DevRef τ sig).ty.Contents (Elt F)) = Cert.SsdRefIdeal.Step.b113 j s := by
  unfold Cert.SsdRefIdeal.Step.b113
  rw [← al_112 h]
  try rfl
set_option maxRecDepth 8192 in
theorem al_114 (h : Holds V0 s j) : (Host.negf (res_main_while0b_v50 V0) : (Proc.devRef .tc main_while0b_call9_v0 : DevRef τ sig).ty.Contents (Elt F)) = Cert.SsdRefIdeal.Step.b114 j s := by
  unfold Cert.SsdRefIdeal.Step.b114
  rw [← al_9 h]
  try rfl
set_option maxRecDepth 8192 in
theorem al_115 (h : Holds V0 s j) : (Host.exp (Host.negf (res_main_while0b_v50 V0)) : (Proc.devRef .tc main_while0b_call9_v1 : DevRef τ sig).ty.Contents (Elt F)) = Cert.SsdRefIdeal.Step.b115 j s := by
  unfold Cert.SsdRefIdeal.Step.b115
  rw [← al_114 h]
  try rfl
set_option maxRecDepth 8192 in
theorem al_116 (h : Holds V0 s j) : (constant S_ .f32 0x3F800000#32 : (Proc.devRef .tc main_while0b_call9_cst : DevRef τ sig).ty.Contents (Elt F)) = Cert.SsdRefIdeal.Step.b116 j s := by
  unfold Cert.SsdRefIdeal.Step.b116
  rfl
set_option maxRecDepth 8192 in
theorem al_117 (h : Holds V0 s j) : (broadcastInDim S2x128x1024 ![] bcast_S_S2x128x1024 (constant S_ .f32 0x3F800000#32) : (Proc.devRef .tc main_while0b_call9_v2 : DevRef τ sig).ty.Contents (Elt F)) = Cert.SsdRefIdeal.Step.b117 j s := by
  unfold Cert.SsdRefIdeal.Step.b117
  rw [← al_116 h]
  try rfl
set_option maxRecDepth 8192 in
theorem al_118 (h : Holds V0 s j) : (addf (broadcastInDim S2x128x1024 ![] bcast_S_S2x128x1024 (constant S_ .f32 0x3F800000#32)) (Host.exp (Host.negf (res_main_while0b_v50 V0))) : (Proc.devRef .tc main_while0b_call9_v3 : DevRef τ sig).ty.Contents (Elt F)) = Cert.SsdRefIdeal.Step.b118 j s := by
  unfold Cert.SsdRefIdeal.Step.b118
  rw [← al_117 h, ← al_115 h]
  try rfl
set_option maxRecDepth 8192 in
theorem al_119 (h : Holds V0 s j) : (constant S_ .f32 0x3F800000#32 : (Proc.devRef .tc main_while0b_call9_cst_0 : DevRef τ sig).ty.Contents (Elt F)) = Cert.SsdRefIdeal.Step.b119 j s := by
  unfold Cert.SsdRefIdeal.Step.b119
  rfl
set_option maxRecDepth 8192 in
theorem al_120 (h : Holds V0 s j) : (broadcastInDim S2x128x1024 ![] bcast_S_S2x128x1024 (constant S_ .f32 0x3F800000#32) : (Proc.devRef .tc main_while0b_call9_v4 : DevRef τ sig).ty.Contents (Elt F)) = Cert.SsdRefIdeal.Step.b120 j s := by
  unfold Cert.SsdRefIdeal.Step.b120
  rw [← al_119 h]
  try rfl
set_option maxRecDepth 8192 in
theorem al_121 (h : Holds V0 s j) : (Host.divf (broadcastInDim S2x128x1024 ![] bcast_S_S2x128x1024 (constant S_ .f32 0x3F800000#32)) (addf (broadcastInDim S2x128x1024 ![] bcast_S_S2x128x1024 (constant S_ .f32 0x3F800000#32)) (Host.exp (Host.negf (res_main_while0b_v50 V0)))) : (Proc.devRef .tc main_while0b_call9_v5 : DevRef τ sig).ty.Contents (Elt F)) = Cert.SsdRefIdeal.Step.b121 j s := by
  unfold Cert.SsdRefIdeal.Step.b121
  rw [← al_120 h, ← al_118 h]
  try rfl
set_option maxRecDepth 8192 in
theorem al_122 (h : Holds V0 s j) : (mulf (res_main_while0b_v50 V0) (Host.divf (broadcastInDim S2x128x1024 ![] bcast_S_S2x128x1024 (constant S_ .f32 0x3F800000#32)) (addf (broadcastInDim S2x128x1024 ![] bcast_S_S2x128x1024 (constant S_ .f32 0x3F800000#32)) (Host.exp (Host.negf (res_main_while0b_v50 V0))))) : (Proc.devRef .tc main_while0b_v115 : DevRef τ sig).ty.Contents (Elt F)) = Cert.SsdRefIdeal.Step.b122 j s := by
  unfold Cert.SsdRefIdeal.Step.b122
  rw [← al_9 h, ← al_121 h]
  try rfl
set_option maxRecDepth 8192 in
theorem al_123 (h : Holds V0 s j) : (res_main_while0b_v116 V0 : (Proc.devRef .tc main_while0b_v116 : DevRef τ sig).ty.Contents (Elt F)) = Cert.SsdRefIdeal.Step.b123 j s := by
  unfold res_main_while0b_v116 Cert.SsdRefIdeal.Step.b123
  rw [← al_113 h, ← al_122 h]
  try rfl
set_option maxRecDepth 8192 in
theorem al_124 (h : Holds V0 s j) : (shapeCast S1024 (V0 (Proc.devRef .tc main_v45_6)) shapeCasts_S1x1024_S1024 : (Proc.devRef .tc main_while0b_v117 : DevRef τ sig).ty.Contents (Elt F)) = Cert.SsdRefIdeal.Step.b124 j s := by
  unfold Cert.SsdRefIdeal.Step.b124
  rw [h.f_6]
  try rfl
set_option maxRecDepth 8192 in
theorem al_125 (h : Holds V0 s j) : (mulf (res_main_while0b_v116 V0) (res_main_while0b_v116 V0) : (Proc.devRef .tc main_while0b_v118 : DevRef τ sig).ty.Contents (Elt F)) = Cert.SsdRefIdeal.Step.b125 j s := by
  unfold Cert.SsdRefIdeal.Step.b125
  rw [← al_123 h]
  try rfl
set_option maxRecDepth 8192 in
theorem al_126 (h : Holds V0 s j) : (constant S_ .f32 0x00000000#32 : (Proc.devRef .tc main_while0b_cst_13 : DevRef τ sig).ty.Contents (Elt F)) = Cert.SsdRefIdeal.Step.b126 j s := by
  unfold Cert.SsdRefIdeal.Step.b126
  rfl
set_option maxRecDepth 8192 in
theorem al_127 (h : Holds V0 s j) : (Host.reduceAdd (mulf (res_main_while0b_v116 V0) (res_main_while0b_v116 V0)) (constant S_ .f32 0x00000000#32) reducesTo_S2x128x1024_S2x128_d2 h_S_ : (Proc.devRef .tc main_while0b_v119 : DevRef τ sig).ty.Contents (Elt F)) = Cert.SsdRefIdeal.Step.b127 j s := by
  unfold Cert.SsdRefIdeal.Step.b127
  rw [← al_125 h, ← al_126 h]
  try rfl
set_option maxRecDepth 8192 in
theorem al_128 (h : Holds V0 s j) : (broadcastInDim S2x128x1 ![0, 1] bcast_S2x128_S2x128x1_0_1 (Host.reduceAdd (mulf (res_main_while0b_v116 V0) (res_main_while0b_v116 V0)) (constant S_ .f32 0x00000000#32) reducesTo_S2x128x1024_S2x128_d2 h_S_) : (Proc.devRef .tc main_while0b_v120 : DevRef τ sig).ty.Contents (Elt F)) = Cert.SsdRefIdeal.Step.b128 j s := by
  unfold Cert.SsdRefIdeal.Step.b128
  rw [← al_127 h]
  try rfl
set_option maxRecDepth 8192 in
theorem al_129 (h : Holds V0 s j) : (constant S_ .f32 0x44800000#32 : (Proc.devRef .tc main_while0b_cst_14 : DevRef τ sig).ty.Contents (Elt F)) = Cert.SsdRefIdeal.Step.b129 j s := by
  unfold Cert.SsdRefIdeal.Step.b129
  rfl
set_option maxRecDepth 8192 in
theorem al_130 (h : Holds V0 s j) : (broadcastInDim S2x128x1 ![] bcast_S_S2x128x1 (constant S_ .f32 0x44800000#32) : (Proc.devRef .tc main_while0b_v121 : DevRef τ sig).ty.Contents (Elt F)) = Cert.SsdRefIdeal.Step.b130 j s := by
  unfold Cert.SsdRefIdeal.Step.b130
  rw [← al_129 h]
  try rfl
set_option maxRecDepth 8192 in
theorem al_131 (h : Holds V0 s j) : (Host.divf (broadcastInDim S2x128x1 ![0, 1] bcast_S2x128_S2x128x1_0_1 (Host.reduceAdd (mulf (res_main_while0b_v116 V0) (res_main_while0b_v116 V0)) (constant S_ .f32 0x00000000#32) reducesTo_S2x128x1024_S2x128_d2 h_S_)) (broadcastInDim S2x128x1 ![] bcast_S_S2x128x1 (constant S_ .f32 0x44800000#32)) : (Proc.devRef .tc main_while0b_v122 : DevRef τ sig).ty.Contents (Elt F)) = Cert.SsdRefIdeal.Step.b131 j s := by
  unfold Cert.SsdRefIdeal.Step.b131
  rw [← al_128 h, ← al_130 h]
  try rfl
set_option maxRecDepth 8192 in
theorem al_132 (h : Holds V0 s j) : (constant S_ .f32 0x358637BD#32 : (Proc.devRef .tc main_while0b_cst_15 : DevRef τ sig).ty.Contents (Elt F)) = Cert.SsdRefIdeal.Step.b132 j s := by
  unfold Cert.SsdRefIdeal.Step.b132
  rfl
set_option maxRecDepth 8192 in
theorem al_133 (h : Holds V0 s j) : (broadcastInDim S2x128x1 ![] bcast_S_S2x128x1 (constant S_ .f32 0x358637BD#32) : (Proc.devRef .tc main_while0b_v123 : DevRef τ sig).ty.Contents (Elt F)) = Cert.SsdRefIdeal.Step.b133 j s := by
  unfold Cert.SsdRefIdeal.Step.b133
  rw [← al_132 h]
  try rfl
set_option maxRecDepth 8192 in
theorem al_134 (h : Holds V0 s j) : (addf (Host.divf (broadcastInDim S2x128x1 ![0, 1] bcast_S2x128_S2x128x1_0_1 (Host.reduceAdd (mulf (res_main_while0b_v116 V0) (res_main_while0b_v116 V0)) (constant S_ .f32 0x00000000#32) reducesTo_S2x128x1024_S2x128_d2 h_S_)) (broadcastInDim S2x128x1 ![] bcast_S_S2x128x1 (constant S_ .f32 0x44800000#32))) (broadcastInDim S2x128x1 ![] bcast_S_S2x128x1 (constant S_ .f32 0x358637BD#32)) : (Proc.devRef .tc main_while0b_v124 : DevRef τ sig).ty.Contents (Elt F)) = Cert.SsdRefIdeal.Step.b134 j s := by
  unfold Cert.SsdRefIdeal.Step.b134
  rw [← al_131 h, ← al_133 h]
  try rfl
set_option maxRecDepth 8192 in
theorem al_135 (h : Holds V0 s j) : (Host.rsqrt (addf (Host.divf (broadcastInDim S2x128x1 ![0, 1] bcast_S2x128_S2x128x1_0_1 (Host.reduceAdd (mulf (res_main_while0b_v116 V0) (res_main_while0b_v116 V0)) (constant S_ .f32 0x00000000#32) reducesTo_S2x128x1024_S2x128_d2 h_S_)) (broadcastInDim S2x128x1 ![] bcast_S_S2x128x1 (constant S_ .f32 0x44800000#32))) (broadcastInDim S2x128x1 ![] bcast_S_S2x128x1 (constant S_ .f32 0x358637BD#32))) : (Proc.devRef .tc main_while0b_v125 : DevRef τ sig).ty.Contents (Elt F)) = Cert.SsdRefIdeal.Step.b135 j s := by
  unfold Cert.SsdRefIdeal.Step.b135
  rw [← al_134 h]
  try rfl
set_option maxRecDepth 8192 in
theorem al_136 (h : Holds V0 s j) : (broadcastInDim S2x128x1024 ![0, 1, 2] bcast_S2x128x1_S2x128x1024_0_1_2 (Host.rsqrt (addf (Host.divf (broadcastInDim S2x128x1 ![0, 1] bcast_S2x128_S2x128x1_0_1 (Host.reduceAdd (mulf (res_main_while0b_v116 V0) (res_main_while0b_v116 V0)) (constant S_ .f32 0x00000000#32) reducesTo_S2x128x1024_S2x128_d2 h_S_)) (broadcastInDim S2x128x1 ![] bcast_S_S2x128x1 (constant S_ .f32 0x44800000#32))) (broadcastInDim S2x128x1 ![] bcast_S_S2x128x1 (constant S_ .f32 0x358637BD#32)))) : (Proc.devRef .tc main_while0b_v126 : DevRef τ sig).ty.Contents (Elt F)) = Cert.SsdRefIdeal.Step.b136 j s := by
  unfold Cert.SsdRefIdeal.Step.b136
  rw [← al_135 h]
  try rfl
set_option maxRecDepth 8192 in
theorem al_137 (h : Holds V0 s j) : (mulf (res_main_while0b_v116 V0) (broadcastInDim S2x128x1024 ![0, 1, 2] bcast_S2x128x1_S2x128x1024_0_1_2 (Host.rsqrt (addf (Host.divf (broadcastInDim S2x128x1 ![0, 1] bcast_S2x128_S2x128x1_0_1 (Host.reduceAdd (mulf (res_main_while0b_v116 V0) (res_main_while0b_v116 V0)) (constant S_ .f32 0x00000000#32) reducesTo_S2x128x1024_S2x128_d2 h_S_)) (broadcastInDim S2x128x1 ![] bcast_S_S2x128x1 (constant S_ .f32 0x44800000#32))) (broadcastInDim S2x128x1 ![] bcast_S_S2x128x1 (constant S_ .f32 0x358637BD#32))))) : (Proc.devRef .tc main_while0b_v127 : DevRef τ sig).ty.Contents (Elt F)) = Cert.SsdRefIdeal.Step.b137 j s := by
  unfold Cert.SsdRefIdeal.Step.b137
  rw [← al_123 h, ← al_136 h]
  try rfl
set_option maxRecDepth 8192 in
theorem al_138 (h : Holds V0 s j) : (broadcastInDim S1x1x1024 ![2] bcast_S1024_S1x1x1024_2 (shapeCast S1024 (V0 (Proc.devRef .tc main_v45_6)) shapeCasts_S1x1024_S1024) : (Proc.devRef .tc main_while0b_v128 : DevRef τ sig).ty.Contents (Elt F)) = Cert.SsdRefIdeal.Step.b138 j s := by
  unfold Cert.SsdRefIdeal.Step.b138
  rw [← al_124 h]
  try rfl
set_option maxRecDepth 8192 in
theorem al_139 (h : Holds V0 s j) : (broadcastInDim S2x128x1024 ![0, 1, 2] bcast_S1x1x1024_S2x128x1024_0_1_2 (broadcastInDim S1x1x1024 ![2] bcast_S1024_S1x1x1024_2 (shapeCast S1024 (V0 (Proc.devRef .tc main_v45_6)) shapeCasts_S1x1024_S1024)) : (Proc.devRef .tc main_while0b_v129 : DevRef τ sig).ty.Contents (Elt F)) = Cert.SsdRefIdeal.Step.b139 j s := by
  unfold Cert.SsdRefIdeal.Step.b139
  rw [← al_138 h]
  try rfl
set_option maxRecDepth 8192 in
theorem al_140 (h : Holds V0 s j) : (mulf (mulf (res_main_while0b_v116 V0) (broadcastInDim S2x128x1024 ![0, 1, 2] bcast_S2x128x1_S2x128x1024_0_1_2 (Host.rsqrt (addf (Host.divf (broadcastInDim S2x128x1 ![0, 1] bcast_S2x128_S2x128x1_0_1 (Host.reduceAdd (mulf (res_main_while0b_v116 V0) (res_main_while0b_v116 V0)) (constant S_ .f32 0x00000000#32) reducesTo_S2x128x1024_S2x128_d2 h_S_)) (broadcastInDim S2x128x1 ![] bcast_S_S2x128x1 (constant S_ .f32 0x44800000#32))) (broadcastInDim S2x128x1 ![] bcast_S_S2x128x1 (constant S_ .f32 0x358637BD#32)))))) (broadcastInDim S2x128x1024 ![0, 1, 2] bcast_S1x1x1024_S2x128x1024_0_1_2 (broadcastInDim S1x1x1024 ![2] bcast_S1024_S1x1x1024_2 (shapeCast S1024 (V0 (Proc.devRef .tc main_v45_6)) shapeCasts_S1x1024_S1024))) : (Proc.devRef .tc main_while0b_v130 : DevRef τ sig).ty.Contents (Elt F)) = Cert.SsdRefIdeal.Step.b140 j s := by
  unfold Cert.SsdRefIdeal.Step.b140
  rw [← al_137 h, ← al_139 h]
  try rfl
set_option maxRecDepth 8192 in
theorem al_141 (h : Holds V0 s j) : (extractStridedSlice S2x1x2x8 ![0, 127, 0, 0] (res_main_while0b_v75 V0) slices_S2x128x2x8_S2x1x2x8_0_127_0_0 : (Proc.devRef .tc main_while0b_v131 : DevRef τ sig).ty.Contents (Elt F)) = Cert.SsdRefIdeal.Step.b141 j s := by
  unfold Cert.SsdRefIdeal.Step.b141
  rw [← al_61 h]
  try rfl
set_option maxRecDepth 8192 in
theorem al_142 (h : Holds V0 s j) : (shapeCast S2x2x8 (extractStridedSlice S2x1x2x8 ![0, 127, 0, 0] (res_main_while0b_v75 V0) slices_S2x128x2x8_S2x1x2x8_0_127_0_0) shapeCasts_S2x1x2x8_S2x2x8 : (Proc.devRef .tc main_while0b_v132 : DevRef τ sig).ty.Contents (Elt F)) = Cert.SsdRefIdeal.Step.b142 j s := by
  unfold Cert.SsdRefIdeal.Step.b142
  rw [← al_141 h]
  try rfl
set_option maxRecDepth 8192 in
theorem al_143 (h : Holds V0 s j) : (Host.exp (shapeCast S2x2x8 (extractStridedSlice S2x1x2x8 ![0, 127, 0, 0] (res_main_while0b_v75 V0) slices_S2x128x2x8_S2x1x2x8_0_127_0_0) shapeCasts_S2x1x2x8_S2x2x8) : (Proc.devRef .tc main_while0b_v133 : DevRef τ sig).ty.Contents (Elt F)) = Cert.SsdRefIdeal.Step.b143 j s := by
  unfold Cert.SsdRefIdeal.Step.b143
  rw [← al_142 h]
  try rfl
set_option maxRecDepth 8192 in
theorem al_144 (h : Holds V0 s j) : (broadcastInDim S2x2x8x1x1 ![0, 1, 2] bcast_S2x2x8_S2x2x8x1x1_0_1_2 (Host.exp (shapeCast S2x2x8 (extractStridedSlice S2x1x2x8 ![0, 127, 0, 0] (res_main_while0b_v75 V0) slices_S2x128x2x8_S2x1x2x8_0_127_0_0) shapeCasts_S2x1x2x8_S2x2x8)) : (Proc.devRef .tc main_while0b_v134 : DevRef τ sig).ty.Contents (Elt F)) = Cert.SsdRefIdeal.Step.b144 j s := by
  unfold Cert.SsdRefIdeal.Step.b144
  rw [← al_143 h]
  try rfl
set_option maxRecDepth 8192 in
theorem al_145 (h : Holds V0 s j) : (broadcastInDim S2x2x8x64x128 ![0, 1, 2, 3, 4] bcast_S2x2x8x1x1_S2x2x8x64x128_0_1_2_3_4 (broadcastInDim S2x2x8x1x1 ![0, 1, 2] bcast_S2x2x8_S2x2x8x1x1_0_1_2 (Host.exp (shapeCast S2x2x8 (extractStridedSlice S2x1x2x8 ![0, 127, 0, 0] (res_main_while0b_v75 V0) slices_S2x128x2x8_S2x1x2x8_0_127_0_0) shapeCasts_S2x1x2x8_S2x2x8))) : (Proc.devRef .tc main_while0b_v135 : DevRef τ sig).ty.Contents (Elt F)) = Cert.SsdRefIdeal.Step.b145 j s := by
  unfold Cert.SsdRefIdeal.Step.b145
  rw [← al_144 h]
  try rfl
set_option maxRecDepth 8192 in
theorem al_146 (h : Holds V0 s j) : (mulf (V0 (Proc.devRef .tc main_v45_8)) (broadcastInDim S2x2x8x64x128 ![0, 1, 2, 3, 4] bcast_S2x2x8x1x1_S2x2x8x64x128_0_1_2_3_4 (broadcastInDim S2x2x8x1x1 ![0, 1, 2] bcast_S2x2x8_S2x2x8x1x1_0_1_2 (Host.exp (shapeCast S2x2x8 (extractStridedSlice S2x1x2x8 ![0, 127, 0, 0] (res_main_while0b_v75 V0) slices_S2x128x2x8_S2x1x2x8_0_127_0_0) shapeCasts_S2x1x2x8_S2x2x8)))) : (Proc.devRef .tc main_while0b_v136 : DevRef τ sig).ty.Contents (Elt F)) = Cert.SsdRefIdeal.Step.b146 j s := by
  unfold Cert.SsdRefIdeal.Step.b146
  rw [← al_145 h, h.f_8]
  try rfl
set_option maxRecDepth 8192 in
theorem al_147 (h : Holds V0 s j) : (addf (mulf (V0 (Proc.devRef .tc main_v45_8)) (broadcastInDim S2x2x8x64x128 ![0, 1, 2, 3, 4] bcast_S2x2x8x1x1_S2x2x8x64x128_0_1_2_3_4 (broadcastInDim S2x2x8x1x1 ![0, 1, 2] bcast_S2x2x8_S2x2x8x1x1_0_1_2 (Host.exp (shapeCast S2x2x8 (extractStridedSlice S2x1x2x8 ![0, 127, 0, 0] (res_main_while0b_v75 V0) slices_S2x128x2x8_S2x1x2x8_0_127_0_0) shapeCasts_S2x1x2x8_S2x2x8))))) (Host.dotGeneral dot_S2x128x2x8x64_S2x128x2x128_S2x2x8x64x128_1_1_34_3_02_02 none (mulf (res_main_while0b_v71 V0) (broadcastInDim S2x128x2x8x64 ![0, 1, 2, 3, 4] bcast_S2x128x2x8x1_S2x128x2x8x64_0_1_2_3_4 (broadcastInDim S2x128x2x8x1 ![0, 1, 2, 3] bcast_S2x128x2x8_S2x128x2x8x1_0_1_2_3 (Host.exp (subf (broadcastInDim S2x128x2x8 ![0, 1, 2, 3] bcast_S2x1x2x8_S2x128x2x8_0_1_2_3 (extractStridedSlice S2x1x2x8 ![0, 127, 0, 0] (res_main_while0b_v75 V0) slices_S2x128x2x8_S2x1x2x8_0_127_0_0)) (res_main_while0b_v75 V0)))))) (res_main_while0b_v56 V0)) : (Proc.devRef .tc main_while0b_v137 : DevRef τ sig).ty.Contents (Elt F)) = Cert.SsdRefIdeal.Step.b147 j s := by
  unfold Cert.SsdRefIdeal.Step.b147
  rw [← al_146 h, ← al_99 h]
  try rfl
set_option maxRecDepth 8192 in
theorem al_148 (h : Holds V0 s j) : (broadcastInDim S1x2x128x1024 ![1, 2, 3] bcast_S2x128x1024_S1x2x128x1024_1_2_3 (mulf (mulf (res_main_while0b_v116 V0) (broadcastInDim S2x128x1024 ![0, 1, 2] bcast_S2x128x1_S2x128x1024_0_1_2 (Host.rsqrt (addf (Host.divf (broadcastInDim S2x128x1 ![0, 1] bcast_S2x128_S2x128x1_0_1 (Host.reduceAdd (mulf (res_main_while0b_v116 V0) (res_main_while0b_v116 V0)) (constant S_ .f32 0x00000000#32) reducesTo_S2x128x1024_S2x128_d2 h_S_)) (broadcastInDim S2x128x1 ![] bcast_S_S2x128x1 (constant S_ .f32 0x44800000#32))) (broadcastInDim S2x128x1 ![] bcast_S_S2x128x1 (constant S_ .f32 0x358637BD#32)))))) (broadcastInDim S2x128x1024 ![0, 1, 2] bcast_S1x1x1024_S2x128x1024_0_1_2 (broadcastInDim S1x1x1024 ![2] bcast_S1024_S1x1x1024_2 (shapeCast S1024 (V0 (Proc.devRef .tc main_v45_6)) shapeCasts_S1x1024_S1024)))) : (Proc.devRef .tc main_while0b_call10_v0 : DevRef τ sig).ty.Contents (Elt F)) = Cert.SsdRefIdeal.Step.b148 j s := by
  unfold Cert.SsdRefIdeal.Step.b148
  rw [← al_140 h]
  try rfl
set_option maxRecDepth 8192 in
theorem al_149 (h : Holds V0 s j) : (constantI S_ 32 0#32 : (Proc.devRef .tc main_while0b_call10_c : DevRef τ sig).ty.Contents (Elt F)) = Cert.SsdRefIdeal.Step.b149 j s := by
  unfold Cert.SsdRefIdeal.Step.b149
  rfl
set_option maxRecDepth 8192 in
theorem al_150 (h : Holds V0 s j) : (constantI S_ 32 0#32 : (Proc.devRef .tc main_while0b_call10_c_0 : DevRef τ sig).ty.Contents (Elt F)) = Cert.SsdRefIdeal.Step.b150 j s := by
  unfold Cert.SsdRefIdeal.Step.b150
  rfl
set_option maxRecDepth 8192 in
theorem al_151 (h : Holds V0 s j) : (constantI S_ 32 0#32 : (Proc.devRef .tc main_while0b_call10_c_1 : DevRef τ sig).ty.Contents (Elt F)) = Cert.SsdRefIdeal.Step.b151 j s := by
  unfold Cert.SsdRefIdeal.Step.b151
  rfl
set_option maxRecDepth 8192 in
theorem al_152 (h : Holds V0 s j) : (Host.dynamicUpdateSlice (V0 (Proc.devRef .tc main_v45_9)) (broadcastInDim S1x2x128x1024 ![1, 2, 3] bcast_S2x128x1024_S1x2x128x1024_1_2_3 (mulf (mulf (res_main_while0b_v116 V0) (broadcastInDim S2x128x1024 ![0, 1, 2] bcast_S2x128x1_S2x128x1024_0_1_2 (Host.rsqrt (addf (Host.divf (broadcastInDim S2x128x1 ![0, 1] bcast_S2x128_S2x128x1_0_1 (Host.reduceAdd (mulf (res_main_while0b_v116 V0) (res_main_while0b_v116 V0)) (constant S_ .f32 0x00000000#32) reducesTo_S2x128x1024_S2x128_d2 h_S_)) (broadcastInDim S2x128x1 ![] bcast_S_S2x128x1 (constant S_ .f32 0x44800000#32))) (broadcastInDim S2x128x1 ![] bcast_S_S2x128x1 (constant S_ .f32 0x358637BD#32)))))) (broadcastInDim S2x128x1024 ![0, 1, 2] bcast_S1x1x1024_S2x128x1024_0_1_2 (broadcastInDim S1x1x1024 ![2] bcast_S1024_S1x1x1024_2 (shapeCast S1024 (V0 (Proc.devRef .tc main_v45_6)) shapeCasts_S1x1024_S1024))))) (fun k => (((![V0 (Proc.devRef .tc main_v45_7), constantI S_ 32 0#32, constantI S_ 32 0#32, constantI S_ 32 0#32] : Fin 4 → (⟨S_, .i32⟩ : BufTy).Contents (Elt F))) k (Shape.Idx.first h_S_)).toInt) updateFits_S32x2x128x1024_S1x2x128x1024 : (Proc.devRef .tc main_while0b_v138 : DevRef τ sig).ty.Contents (Elt F)) = Cert.SsdRefIdeal.Step.b152 j s := by
  unfold Cert.SsdRefIdeal.Step.b152
  rw [← al_148 h, ← al_149 h, ← al_150 h, ← al_151 h, h.f_9, h.n_7]
  try rfl

/-! One trip's step of the carried values is `step`, field by field; a counter steps to the next number. -/

theorem step_8 (h : Holds V0 s j) : step_main_v45_8 V0 = (step j s).main_v45_8 := by
  unfold step_main_v45_8 Cert.SsdRefIdeal.Step.step
  show id (addf (mulf (V0 (Proc.devRef .tc main_v45_8)) (broadcastInDim S2x2x8x64x128 ![0, 1, 2, 3, 4] bcast_S2x2x8x1x1_S2x2x8x64x128_0_1_2_3_4 (broadcastInDim S2x2x8x1x1 ![0, 1, 2] bcast_S2x2x8_S2x2x8x1x1_0_1_2 (Host.exp (shapeCast S2x2x8 (extractStridedSlice S2x1x2x8 ![0, 127, 0, 0] (res_main_while0b_v75 V0) slices_S2x128x2x8_S2x1x2x8_0_127_0_0) shapeCasts_S2x1x2x8_S2x2x8))))) (Host.dotGeneral dot_S2x128x2x8x64_S2x128x2x128_S2x2x8x64x128_1_1_34_3_02_02 none (mulf (res_main_while0b_v71 V0) (broadcastInDim S2x128x2x8x64 ![0, 1, 2, 3, 4] bcast_S2x128x2x8x1_S2x128x2x8x64_0_1_2_3_4 (broadcastInDim S2x128x2x8x1 ![0, 1, 2, 3] bcast_S2x128x2x8_S2x128x2x8x1_0_1_2_3 (Host.exp (subf (broadcastInDim S2x128x2x8 ![0, 1, 2, 3] bcast_S2x1x2x8_S2x128x2x8_0_1_2_3 (extractStridedSlice S2x1x2x8 ![0, 127, 0, 0] (res_main_while0b_v75 V0) slices_S2x128x2x8_S2x1x2x8_0_127_0_0)) (res_main_while0b_v75 V0)))))) (res_main_while0b_v56 V0))) = _
  rw [al_147 h]
  try rfl
theorem step_9 (h : Holds V0 s j) : step_main_v45_9 V0 = (step j s).main_v45_9 := by
  unfold step_main_v45_9 Cert.SsdRefIdeal.Step.step
  show id (Host.dynamicUpdateSlice (V0 (Proc.devRef .tc main_v45_9)) (broadcastInDim S1x2x128x1024 ![1, 2, 3] bcast_S2x128x1024_S1x2x128x1024_1_2_3 (mulf (mulf (res_main_while0b_v116 V0) (broadcastInDim S2x128x1024 ![0, 1, 2] bcast_S2x128x1_S2x128x1024_0_1_2 (Host.rsqrt (addf (Host.divf (broadcastInDim S2x128x1 ![0, 1] bcast_S2x128_S2x128x1_0_1 (Host.reduceAdd (mulf (res_main_while0b_v116 V0) (res_main_while0b_v116 V0)) (constant S_ .f32 0x00000000#32) reducesTo_S2x128x1024_S2x128_d2 h_S_)) (broadcastInDim S2x128x1 ![] bcast_S_S2x128x1 (constant S_ .f32 0x44800000#32))) (broadcastInDim S2x128x1 ![] bcast_S_S2x128x1 (constant S_ .f32 0x358637BD#32)))))) (broadcastInDim S2x128x1024 ![0, 1, 2] bcast_S1x1x1024_S2x128x1024_0_1_2 (broadcastInDim S1x1x1024 ![2] bcast_S1024_S1x1x1024_2 (shapeCast S1024 (V0 (Proc.devRef .tc main_v45_6)) shapeCasts_S1x1024_S1024))))) (fun k => (((![V0 (Proc.devRef .tc main_v45_7), constantI S_ 32 0#32, constantI S_ 32 0#32, constantI S_ 32 0#32] : Fin 4 → (⟨S_, .i32⟩ : BufTy).Contents (Elt F))) k (Shape.Idx.first h_S_)).toInt) updateFits_S32x2x128x1024_S1x2x128x1024) = _
  exact al_152 h
theorem step_7 (h : Holds V0 s j) : step_main_v45_7 V0 = constantI S_ 32 (BitVec.ofNat 32 (j + 1)) := by
  unfold step_main_v45_7
  rw [h.n_7]
  funext i
  show BitVec.ofNat 32 j + 1#32 = BitVec.ofNat 32 (j + 1)
  simp only [BitVec.ofNat_add]

set_option maxRecDepth 8192 in
theorem out_main_v48_holds (h : Holds V0 s j) : out_main_v48 V0 = Cert.SsdRefIdeal.Step.R_main_v48 s := by
  unfold out_main_v48 Cert.SsdRefIdeal.Step.R_main_v48
  rw [h.f_9]
  try rfl

/-- One trip keeps the valuation holding: `step` of the state, the same set-up values, the next number. -/
theorem holds_step (h : Holds V0 s j) : Holds (STEP V0) (step j s) (j + 1) where
  f_8 := (STEP_main_v45_8 V0).trans (step_8 h)
  f_9 := (STEP_main_v45_9 V0).trans (step_9 h)
  n_7 := (STEP_main_v45_7 V0).trans (step_7 h)
  f_0 := (STEP_main_v45_0 V0).trans h.f_0
  f_1 := (STEP_main_v45_1 V0).trans h.f_1
  f_2 := (STEP_main_v45_2 V0).trans h.f_2
  f_3 := (STEP_main_v45_3 V0).trans h.f_3
  f_4 := (STEP_main_v45_4 V0).trans h.f_4
  f_5 := (STEP_main_v45_5 V0).trans h.f_5
  f_6 := (STEP_main_v45_6 V0).trans h.f_6

/-- The state the first trip starts from, of the memory the run starts from. -/
abbrev initState (m : (ℓ : Loc nD τ sig) → Buf (Elt F) ℓ) (c : Dev nD) : State F :=
  init (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg0)) (m ((c.tc : Thread nD τ).loc main_arg1)) (m ((c.tc : Thread nD τ).loc main_arg2))

variable (m : (ℓ : Loc nD τ sig) → Buf (Elt F) ℓ) (c : Dev nD)

set_option maxRecDepth 65536 in
set_option maxHeartbeats 500000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `SsdRefIdeal` terminates with each result at its field of state
    number 32 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v48) = Cert.SsdRefIdeal.Step.R_main_v48 (it c 32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    have hk := holds_iter m c (it c) (h0 c) (hs c) 32
    ⟨(h c).1.trans (out_main_v48_holds hk), (h c).2.1, (h c).2.2.1, (h c).2.2.2.1, (h c).2.2.2.2.1, (h c).2.2.2.2.2.1, (h c).2.2.2.2.2.2.1, (h c).2.2.2.2.2.2.2⟩) (Value.run m ρ)

end Cert.SsdRefIdeal.StepRun

end
-- ==== Proof.SsdModel.lean ====
/- The equations of one chunk of the state-space scan over the extended reals, and what splitting a factor into a part and
   its rest does to them: the values it changes are infinite before and after, and the closing normalization clears their rows. -/
module

public import Idealize.ShloMosaic.Lib.WordCmp
public import Idealize.ShloMosaic.Lib.Pointwise
public import Idealize.ShloMosaic.PureOps.Ideal

@[expose] public section

noncomputable section

namespace Cert.Proof.Ssd

open Idealize.ShloMosaic

/-- What a chunk reads besides the state: the activated convolution, the step sizes, the decay rates, the gate, the skip
    weights and the norm's weights. -/
structure Chunk where
  A : Fin 128 → Fin 1536 → EReal
  D : Fin 128 → Fin 16 → EReal
  al : Fin 16 → EReal
  Z : Fin 128 → Fin 1024 → EReal
  dk : Fin 16 → EReal
  nw : Fin 1024 → EReal

/-- The head of a channel. -/
def hd (ch : Fin 1024) : Fin 16 := ⟨ch.val / 64, by omega⟩
/-- The group of a channel. -/
def gr (ch : Fin 1024) : Fin 2 := ⟨ch.val / 512, by omega⟩
def colX (ch : Fin 1024) : Fin 1536 := ⟨ch.val, by omega⟩
def colB (g : Fin 2) (n : Fin 128) : Fin 1536 := ⟨1024 + g.val * 128 + n.val, by omega⟩
def colC (g : Fin 2) (n : Fin 128) : Fin 1536 := ⟨1280 + g.val * 128 + n.val, by omega⟩

/-- The decay exponents summed up to a row. -/
def acum (I : Chunk) (l : Fin 128) (h : Fin 16) : EReal := ∑ s : Fin 128, if s ≤ l then I.al h * I.D s h else 0
def decay (I : Chunk) (l s : Fin 128) (h : Fin 16) : EReal := Ideal.exp (if s ≤ l then acum I l h - acum I s h else ⊥)
def cbv (I : Chunk) (g : Fin 2) (l s : Fin 128) : EReal := ∑ n : Fin 128, I.A l (colC g n) * I.A s (colB g n)

section
variable (φ : EReal → EReal) (I : Chunk) (S : Fin 128 → Fin 1024 → EReal)

def xdt (l : Fin 128) (ch : Fin 1024) : EReal := I.A l (colX ch) * φ (I.D l (hd ch))
def ydiag (l : Fin 128) (ch : Fin 1024) : EReal := ∑ s : Fin 128, cbv I (gr ch) l s * decay I l s (hd ch) * xdt φ I s ch
def yoff (l : Fin 128) (ch : Fin 1024) : EReal := (∑ n : Fin 128, I.A l (colC (gr ch) n) * S n ch) * φ (Ideal.exp (acum I l (hd ch)))
/-- The rows of a chunk before the gate. -/
def yv (l : Fin 128) (ch : Fin 1024) : EReal := ydiag φ I l ch + yoff φ I S l ch + I.dk (hd ch) * I.A l (colX ch)
/-- The state a chunk leaves. -/
def next (n : Fin 128) (ch : Fin 1024) : EReal :=
  S n ch * φ (Ideal.exp (acum I 127 (hd ch)))
    + ∑ l : Fin 128, I.A l (colB (gr ch) n) * (xdt φ I l ch * φ (Ideal.exp (acum I 127 (hd ch) - acum I l (hd ch))))
def gated (l : Fin 128) (ch : Fin 1024) : EReal := yv φ I S l ch * (I.Z l ch * Ideal.logistic (I.Z l ch))
end

/-- The normalization of a row, at a place of it. -/
def nrm (u : Fin 1024 → EReal) (x : Fin 1024) : EReal :=
  u x * Ideal.rsqrt (Ideal.div (∑ k, u k * u k) (Ideal.ofBits FTy.f32 0x44800000#32) + Ideal.ofBits FTy.f32 0x358637BD#32)

/-- The rows a chunk gives. -/
def rows (φ : EReal → EReal) (I : Chunk) (S : Fin 128 → Fin 1024 → EReal) (l : Fin 128) (ch : Fin 1024) : EReal :=
  nrm (gated φ I S l) ch * I.nw ch

/-- The state before a chunk, of the chunks before it. -/
def stateAt (φ : EReal → EReal) (I : ℕ → Chunk) : ℕ → Fin 128 → Fin 1024 → EReal
  | 0 => fun _ _ => 0
  | n + 1 => next φ (I n) (stateAt φ I n)

/-! ### Values that agree, or are both infinite -/

def Inf (x : EReal) : Prop := x = ⊤ ∨ x = ⊥

def Near (x y : EReal) : Prop := x = y ∨ (Inf x ∧ Inf y)

theorem Near.rfl' (x : EReal) : Near x x := Or.inl rfl

theorem inf_add (x y : EReal) : Inf (x + y) ↔ Inf x ∨ Inf y := by
  induction x <;> induction y <;> simp [Inf, ← EReal.coe_add]

theorem inf_mul (x y : EReal) : Inf (x * y) ↔ (Inf x ∧ y ≠ 0) ∨ (Inf y ∧ x ≠ 0) := by
  have hc : ∀ r : ℝ, (r : EReal) = 0 ↔ r = 0 := fun r => by exact_mod_cast Iff.rfl
  induction x with
  | bot => induction y with
    | bot => simp [Inf]
    | top => simp [Inf]
    | coe r =>
      rcases lt_trichotomy r 0 with h | h | h
      · simp [Inf, EReal.bot_mul_coe_of_neg h, h.ne]
      · subst h; simp [Inf]
      · simp [Inf, EReal.bot_mul_coe_of_pos h, h.ne']
  | top => induction y with
    | bot => simp [Inf]
    | top => simp [Inf]
    | coe r =>
      rcases lt_trichotomy r 0 with h | h | h
      · simp [Inf, EReal.top_mul_coe_of_neg h, h.ne]
      · subst h; simp [Inf]
      · simp [Inf, EReal.top_mul_coe_of_pos h, h.ne']
  | coe q => induction y with
    | bot =>
      rcases lt_trichotomy q 0 with h | h | h
      · simp [Inf, EReal.coe_mul_bot_of_neg h, h.ne]
      · subst h; simp [Inf]
      · simp [Inf, EReal.coe_mul_bot_of_pos h, h.ne']
    | top =>
      rcases lt_trichotomy q 0 with h | h | h
      · simp [Inf, EReal.coe_mul_top_of_neg h, h.ne]
      · subst h; simp [Inf]
      · simp [Inf, EReal.coe_mul_top_of_pos h, h.ne']
    | coe r => simp [Inf, ← EReal.coe_mul]

theorem Near.inf_iff {x y : EReal} (h : Near x y) : Inf x ↔ Inf y := by
  rcases h with h | ⟨a, b⟩
  · rw [h]
  · exact ⟨fun _ => b, fun _ => a⟩

theorem Inf.ne_zero {x : EReal} (h : Inf x) : x ≠ 0 := by
  rcases h with h | h <;> subst h <;> simp

theorem Near.zero_iff {x y : EReal} (h : Near x y) : x = 0 ↔ y = 0 := by
  rcases h with h | ⟨a, b⟩
  · rw [h]
  · exact ⟨fun e => absurd e a.ne_zero, fun e => absurd e b.ne_zero⟩

theorem Near.add {x y u v : EReal} (h : Near x y) (k : Near u v) : Near (x + u) (y + v) := by
  by_cases hi : Inf (x + u)
  · refine Or.inr ⟨hi, ?_⟩
    rw [inf_add] at hi ⊢
    rwa [← h.inf_iff, ← k.inf_iff]
  · have hi' := hi
    rw [inf_add] at hi'
    push Not at hi'
    refine Or.inl ?_
    rw [h.resolve_right fun e => hi'.1 e.1, k.resolve_right fun e => hi'.2 e.1]

theorem Near.mul {x y u v : EReal} (h : Near x y) (k : Near u v) : Near (x * u) (y * v) := by
  by_cases hi : Inf (x * u)
  · refine Or.inr ⟨hi, ?_⟩
    rw [inf_mul] at hi ⊢
    rwa [← h.inf_iff, ← k.inf_iff, ne_eq, ne_eq, ← h.zero_iff, ← k.zero_iff]
  · refine Or.inl ?_
    rw [inf_mul] at hi
    push Not at hi
    by_cases hx : x = 0
    · rw [hx, h.zero_iff.mp hx, zero_mul, zero_mul]
    by_cases hu : u = 0
    · rw [hu, k.zero_iff.mp hu, mul_zero, mul_zero]
    rw [h.resolve_right fun e => hu (hi.1 e.1), k.resolve_right fun e => hx (hi.2 e.1)]

theorem Near.sum {ι : Type} [Fintype ι] {f g : ι → EReal} (h : ∀ i, Near (f i) (g i)) : Near (∑ i, f i) (∑ i, g i) := by
  classical
  have key : ∀ s : Finset ι, Near (∑ i ∈ s, f i) (∑ i ∈ s, g i) := by
    intro s
    induction s using Finset.induction_on with
    | empty => simp only [Finset.sum_empty]; exact Near.rfl' 0
    | insert a s ha ih =>
      rw [Finset.sum_insert ha, Finset.sum_insert ha]
      exact (h a).add ih
  exact key _

/-- A factor split in two and put together again. -/
def fold2 (x : EReal) : EReal := x + (x - x)

theorem near_fold2 (x : EReal) : Near (fold2 x) x := by
  induction x with
  | bot => left; simp [fold2]
  | top => right; simp [fold2, Inf]
  | coe r => left; rw [fold2, EReal.sub_self (by simp) (by simp), add_zero]

theorem near_xdt (I : Chunk) (l ch) : Near (xdt fold2 I l ch) (xdt id I l ch) := (Near.rfl' _).mul (near_fold2 _)

theorem near_yv (I : Chunk) {S T : Fin 128 → Fin 1024 → EReal} (h : ∀ n ch, Near (S n ch) (T n ch)) (l ch) :
    Near (yv fold2 I S l ch) (yv id I T l ch) := by
  refine Near.add (Near.add ?_ ?_) (Near.rfl' _)
  · exact Near.sum fun s => (Near.rfl' _).mul (near_xdt I s ch)
  · exact (Near.sum fun n => (Near.rfl' _).mul (h n ch)).mul (near_fold2 _)

theorem near_next (I : Chunk) {S T : Fin 128 → Fin 1024 → EReal} (h : ∀ n ch, Near (S n ch) (T n ch)) (n ch) :
    Near (next fold2 I S n ch) (next id I T n ch) :=
  ((h n ch).mul (near_fold2 _)).add (Near.sum fun l => (Near.rfl' _).mul ((near_xdt I l ch).mul (near_fold2 _)))

theorem near_state (I : ℕ → Chunk) : ∀ k n ch, Near (stateAt fold2 I k n ch) (stateAt id I k n ch)
  | 0, _, _ => Near.rfl' _
  | k + 1, n, ch => near_next (I k) (near_state I k) n ch

theorem width_real : Ideal.ofBits FTy.f32 0x44800000#32 = ((1024 : ℝ) : EReal) := by
  simp [Ideal.ofBits, Ideal.ieee, -EReal.coe_mul]; norm_num

theorem eps_real : ∃ r : ℝ, Ideal.ofBits FTy.f32 0x358637BD#32 = (r : EReal) := by
  unfold Ideal.ofBits Ideal.ieee
  dsimp only
  rw [if_neg (by decide), if_neg (by decide)]
  exact ⟨_, rfl⟩

theorem sq_nonneg (x : EReal) : 0 ≤ x * x := by
  induction x with
  | bot => simp
  | top => simp
  | coe r => rw [← EReal.coe_mul]; exact_mod_cast mul_self_nonneg r

theorem nrm_inf (u : Fin 1024 → EReal) (k : Fin 1024) (h : Inf (u k)) (x : Fin 1024) : nrm u x = 0 := by
  have hk : u k * u k = ⊤ := by rcases h with h | h <;> rw [h] <;> simp
  have hs : (∑ j, u j * u j) = ⊤ := by
    refine top_le_iff.mp ?_
    rw [← hk]
    exact Finset.single_le_sum (f := fun j => u j * u j) (fun j _ => sq_nonneg (u j)) (Finset.mem_univ k)
  obtain ⟨r, hr⟩ := eps_real
  unfold nrm
  rw [hs, hr, width_real]
  have : Ideal.div ⊤ ((1024 : ℝ) : EReal) = ⊤ := by
    unfold Ideal.div
    rw [if_neg (by norm_num), ← EReal.coe_inv]
    exact EReal.top_mul_coe_of_pos (by norm_num)
  rw [this, EReal.top_add_coe]
  show u x * 0 = 0
  exact mul_zero _

theorem nrm_near (u v : Fin 1024 → EReal) (h : ∀ k, Near (u k) (v k)) (x : Fin 1024) : nrm u x = nrm v x := by
  by_cases hi : ∃ k, Inf (u k)
  · obtain ⟨k, hk⟩ := hi
    rw [nrm_inf u k hk, nrm_inf v k ((h k).inf_iff.mp hk)]
  · have e : u = v := funext fun k => (h k).resolve_right fun e => hi ⟨k, e.1⟩
    rw [e]

/-- The rows with the factors split are the rows. -/
theorem rows_eq (I : ℕ → Chunk) (k : ℕ) (l ch) :
    rows fold2 (I k) (stateAt fold2 I k) l ch = rows id (I k) (stateAt id I k) l ch := by
  unfold rows
  rw [nrm_near (gated fold2 (I k) (stateAt fold2 I k) l) (gated id (I k) (stateAt id I k) l)
    (fun x => (near_yv (I k) (near_state I k) l x).mul (Near.rfl' _)) ch]

/-! ### The three parts of a summand -/

theorem sum_split (f : Fin 128 → EReal) (hf : ∀ s, f s ≠ ⊤) (l : Fin 128) :
    (∑ s, (if s ≤ l then 1 else 0) * f s) + (∑ s, (if s ≤ l then 1 else 0) * (f s - f s))
        + (∑ s, (if s ≤ l then 1 else 0) * ((f s - f s) - (f s - f s)))
      = ∑ s : Fin 128, if s ≤ l then f s else 0 := by
  have e : ∀ g : Fin 128 → EReal, (∑ s, (if s ≤ l then (1 : EReal) else 0) * g s) = ∑ s, if s ≤ l then g s else 0 := fun g =>
    Finset.sum_congr rfl fun s _ => by split_ifs <;> simp
  rw [e, e, e]
  by_cases h : ∃ s, s ≤ l ∧ f s = ⊥
  · obtain ⟨s, hs, hb⟩ := h
    have : (∑ s, if s ≤ l then f s else 0) = ⊥ := by
      rw [← Finset.add_sum_erase _ _ (Finset.mem_univ s), if_pos hs, hb, EReal.bot_add]
    rw [this, EReal.bot_add, EReal.bot_add]
  · push Not at h
    have z : ∀ s, s ≤ l → f s - f s = 0 := fun s hs => EReal.sub_self (hf s) (h s hs)
    have z1 : (∑ s, if s ≤ l then f s - f s else 0) = 0 :=
      Finset.sum_eq_zero fun s _ => by split_ifs with hs; exacts [z s hs, rfl]
    have z2 : (∑ s, if s ≤ l then (f s - f s) - (f s - f s) else 0) = 0 :=
      Finset.sum_eq_zero fun s _ => by split_ifs with hs; exacts [by rw [z s hs, sub_zero], rfl]
    rw [z1, z2, add_zero, add_zero]

/-- The step size of a raw value. -/
def softplus (v : EReal) : EReal := max v 0 + Ideal.log1p (Ideal.exp (-(max v (-v))))

theorem exp_nonneg (x : EReal) : 0 ≤ Ideal.exp x := by
  induction x with
  | bot => exact le_refl _
  | top => exact le_top
  | coe r => exact EReal.coe_nonneg.mpr (Real.exp_pos r).le

theorem log1p_nonneg (x : EReal) (h : 0 ≤ x) : 0 ≤ Ideal.log1p x := by
  unfold Ideal.log1p
  induction x with
  | bot => exact absurd h (by simp)
  | top => exact le_top
  | coe r =>
    have hr : 0 ≤ r := by exact_mod_cast h
    have : (1 : EReal) + (r : EReal) = ((1 + r : ℝ) : EReal) := by push_cast; rfl
    rw [this]
    show 0 ≤ (if 1 + r ≤ 0 then (⊥ : EReal) else (Real.log (1 + r) : EReal))
    rw [if_neg (by linarith)]
    exact_mod_cast Real.log_nonneg (by linarith)

theorem softplus_nonneg (v : EReal) : 0 ≤ softplus v :=
  add_nonneg (le_max_right _ _) (log1p_nonneg _ (exp_nonneg _))

/-- A decay rate times a step size is not positive. -/
theorem rate_ne_top (w v : EReal) : -(Ideal.exp w) * softplus v ≠ ⊤ := by
  have : -(Ideal.exp w) * softplus v ≤ 0 := by
    rw [EReal.neg_mul]
    have h := EReal.neg_le_neg_iff.mpr (mul_nonneg (exp_nonneg w) (softplus_nonneg v))
    rwa [neg_zero] at h
  exact (lt_of_le_of_lt this EReal.zero_lt_top).ne

/-- The constant of the mask is the bottom. -/
theorem negInf : Ideal.ofBits FTy.f32 4286578688#32 = (⊥ : EReal) := by
  simp [Ideal.ofBits, Ideal.ieee]

theorem sel_ge (a b : ℕ) (ha : a < 1024) (hb : b < 1024) (x y : EReal) :
    Scalar.select (IntOp.cmpi .sge (BitVec.ofNat 32 a) (BitVec.ofNat 32 b)) x y = if b ≤ a then x else y := by
  have e : IntOp.cmpi .sge (BitVec.ofNat 32 a) (BitVec.ofNat 32 b) = 1 ↔ b ≤ a :=
    WordCmp.cmpi_sge_ofNat_eq_one_iff (w := 32) (by omega) (by omega)
  unfold Scalar.select
  by_cases h : b ≤ a
  · rw [if_pos h, if_pos (e.mpr h)]
  · rw [if_neg h, if_neg (fun hh => h (e.mp hh))]

theorem sel_lt (a b : ℕ) (ha : a < 1024) (hb : b < 1024) (x y : EReal) :
    Scalar.select (IntOp.cmpi .slt (BitVec.ofNat 32 a) (BitVec.ofNat 32 b)) x y = if a < b then x else y := by
  have e : IntOp.cmpi .slt (BitVec.ofNat 32 a) (BitVec.ofNat 32 b) = 1 ↔ a < b :=
    WordCmp.cmpi_slt_ofNat_eq_one_iff (w := 32) (by omega) (by omega)
  unfold Scalar.select
  by_cases h : a < b
  · rw [if_pos h, if_pos (e.mpr h)]
  · rw [if_neg h, if_neg (fun hh => h (e.mp hh))]

end Cert.Proof.Ssd

end
-- ==== Proof.SsdRef.lean ====
/- One trip of the reference's scan, as the equations of a chunk. -/
module

public import proofs.«01_k».proof.Proof.Gen.SsdRefIdeal.Step
public import proofs.«01_k».proof.Proof.SsdModel
public import Idealize.ShloMosaic.Lib.Pointwise
public import Idealize.ShloMosaic.Lib.WordCmp

@[expose] public section

set_option maxRecDepth 16384

noncomputable section

namespace Cert.Proof.Ssd

open Idealize.ShloMosaic

/-- The program's arguments, the projection over the whole naturals. -/
structure Args where
  P : ℕ → ℕ → EReal
  W : Fin 4 → Fin 1536 → EReal
  cb : Fin 1536 → EReal
  tb : Fin 16 → EReal
  lg : Fin 16 → EReal
  dk : Fin 16 → EReal
  nw : Fin 1024 → EReal

/-- Row `n` of a batch's convolved columns, three zero rows before the first. -/
def row (a : Args) (b n : ℕ) (ch : Fin 1536) : EReal := if 3 ≤ n then a.P (b * 4096 + (n - 3)) ch.val else 0

def conv (a : Args) (b n : ℕ) (ch : Fin 1536) : EReal :=
  row a b n ch * a.W 0 ch + row a b (n + 1) ch * a.W 1 ch + row a b (n + 2) ch * a.W 2 ch + row a b (n + 3) ch * a.W 3 ch + a.cb ch

/-- Chunk `k` of batch `b`. -/
def chunk (a : Args) (b k : ℕ) : Chunk where
  A l ch := conv a b (k * 128 + l.val) ch * Ideal.logistic (conv a b (k * 128 + l.val) ch)
  D l h := softplus (a.P (b * 4096 + (k * 128 + l.val)) (5120 + h.val) + a.tb h)
  al h := -Ideal.exp (a.lg h)
  Z l ch := a.P (b * 4096 + (k * 128 + l.val)) (3072 + ch.val)
  dk := a.dk
  nw := a.nw

theorem colB_eq (g : Fin 2) (n : Fin 128) (h : 1024 + (g.val * 128 + n.val) < 1536) : (⟨1024 + (g.val * 128 + n.val), h⟩ : Fin 1536) = colB g n :=
  Fin.ext (Nat.add_assoc 1024 (g.val * 128) n.val).symm
theorem colC_eq (g : Fin 2) (n : Fin 128) (h : 1280 + (g.val * 128 + n.val) < 1536) : (⟨1280 + (g.val * 128 + n.val), h⟩ : Fin 1536) = colC g n :=
  Fin.ext (Nat.add_assoc 1280 (g.val * 128) n.val).symm

section
open Cert.SsdRefIdeal Cert.SsdRefIdeal.Gen Cert.SsdRefIdeal.Step

/-- The arguments read off the arrays. -/
def argsOf (X0 : FVec Ideal S8192x5376 .f32) (X1 : FVec Ideal S1x4x1536 .f32) (X2 : FVec Ideal S1x1536 .f32)
    (X3 X4 X5 : FVec Ideal S1x16 .f32) (X6 : FVec Ideal S1x1024 .f32) : Args where
  P r c := if h : r < 8192 ∧ c < 5376 then X0 (ix2 ⟨r, h.1⟩ ⟨c, h.2⟩) else 0
  W i ch := X1 (ix3 0 i ch)
  cb ch := X2 (ix2 0 ch)
  tb h := X3 (ix2 0 h)
  lg h := X4 (ix2 0 h)
  dk h := X5 (ix2 0 h)
  nw ch := X6 (ix2 0 ch)

variable (X0 : FVec Ideal S8192x5376 .f32) (X1 : FVec Ideal S1x4x1536 .f32) (X2 : FVec Ideal S1x1536 .f32)
    (X3 X4 X5 : FVec Ideal S1x16 .f32) (X6 : FVec Ideal S1x1024 .f32)

theorem args_P (r : Fin 8192) (c : Fin 5376) (r' c' : ℕ) (hr : r.val = r') (hc : c.val = c') :
    X0 (ix2 r c) = (argsOf X0 X1 X2 X3 X4 X5 X6).P r' c' := by
  subst hr hc
  show _ = if h : r.val < 8192 ∧ c.val < 5376 then _ else _
  rw [dif_pos ⟨r.isLt, c.isLt⟩]

theorem pad_at (b : Fin 2) (n : Fin 4099) (ch : Fin 1536) :
    A_main_v5 (F := Ideal) X0 X1 X2 (ix3 b n ch) = row (argsOf X0 X1 X2 X3 X4 X5 X6) b.val n.val ch := by
  pointwise [A_main_v5, A_main_v1, A_main_v0, K_main_call0_v0, K_main_c]
  unfold row
  by_cases hc : 3 ≤ n.val
  · have hn := n.isLt
    rw [dif_pos ⟨hc, by omega⟩, if_pos hc]
    exact args_P X0 X1 X2 X3 X4 X5 X6 _ _ _ _ rfl rfl
  · rw [dif_neg (fun h => hc h.1), if_neg hc]
    show (((0#32 : BitVec 32).toInt : ℝ) : EReal) = 0
    simp

theorem conv_at (k : Fin 32) (b : Fin 2) (l : Fin 128) (ch : Fin 1536) :
    A_main_v39 (F := Ideal) X0 X1 X2 (ix4 k b l ch) = conv (argsOf X0 X1 X2 X3 X4 X5 X6) b.val (k.val * 128 + l.val) ch := by
  pointwise [A_main_v39, A_main_v38, A_main_v36, A_main_v35, A_main_v34, A_main_v33, A_main_v32, A_main_v31, A_main_v30, A_main_v29, A_main_v28, A_main_v27, A_main_v26, A_main_v25, A_main_v24, A_main_v23, A_main_v22, A_main_v21, A_main_v20, A_main_v19, A_main_v18, A_main_v17, A_main_v16, A_main_v15, A_main_v14, A_main_v13, A_main_v12, A_main_v11, A_main_v10, A_main_v9, A_main_v8, A_main_v7, A_main_v6, A_main_v4]
  rw [pad_at X0 X1 X2 X3 X4 X5 X6, pad_at X0 X1 X2 X3 X4 X5 X6, pad_at X0 X1 X2 X3 X4 X5 X6, pad_at X0 X1 X2 X3 X4 X5 X6]
  unfold conv
  rw [Nat.add_comm (k.val * 128 + l.val) 1, Nat.add_comm (k.val * 128 + l.val) 2, Nat.add_comm (k.val * 128 + l.val) 3]
  rfl

theorem z_at (k : Fin 32) (b : Fin 2) (l : Fin 128) (ch : Fin 1024) :
    A_main_v41 (F := Ideal) X0 X1 X2 (ix4 k b l ch) = (argsOf X0 X1 X2 X3 X4 X5 X6).P (b.val * 4096 + (k.val * 128 + l.val)) (3072 + ch.val) := by
  pointwise [A_main_v41, A_main_v40, A_main_v2, A_main_v0]
  exact args_P X0 X1 X2 X3 X4 X5 X6 _ _ _ _ rfl rfl

theorem dt_at (k : Fin 32) (b : Fin 2) (l : Fin 128) (h : Fin 16) :
    A_main_v43 (F := Ideal) X0 X1 X2 (ix4 k b l h) = (argsOf X0 X1 X2 X3 X4 X5 X6).P (b.val * 4096 + (k.val * 128 + l.val)) (5120 + h.val) := by
  pointwise [A_main_v43, A_main_v42, A_main_v3, A_main_v0]
  exact args_P X0 X1 X2 X3 X4 X5 X6 _ _ _ _ rfl rfl

/-- The running sum along the rows of a chunk. -/
theorem cumsum_at (x : FVec Ideal S2x128x2x8 .f32) (init : FVec Ideal S_ .f32) (hi : ∀ i, init i = (0 : EReal)) (h) (hu)
    (b : Fin 2) (l : Fin 128) (g : Fin 2) (hh : Fin 8) :
    Host.reduceWindowAdd (F := Ideal) (t := S2x128x2x8) ![1, 128, 1, 1] ![1, 1, 1, 1] ![0, 127, 0, 0] ![0, 0, 0, 0] x init h hu (ix4 b l g hh)
      = ∑ s : Fin 128, if s ≤ l then x (ix4 b s g hh) else (0 : EReal) := by
  have fold : ∀ {ι : Type} (f : ι → EReal) (L : List ι) (v : EReal), L.foldl (fun r n => r + f n) v = v + (L.map f).sum := by
    intro ι f L
    induction L with
    | nil => intro v; simp
    | cons a L ih => intro v; rw [List.foldl_cons, ih, List.map_cons, List.sum_cons, add_assoc]
  let e : (⟨4, ![1, 128, 1, 1]⟩ : Shape).Idx ≃ Fin 128 :=
    { toFun := fun w => w 1
      invFun := fun k => ix4 0 k 0 0
      left_inv := fun w => by
        funext i
        match i with
        | ⟨0, _⟩ => exact Subsingleton.elim (α := Fin 1) _ _
        | ⟨1, _⟩ => rfl
        | ⟨2, _⟩ => exact Subsingleton.elim (α := Fin 1) _ _
        | ⟨3, _⟩ => exact Subsingleton.elim (α := Fin 1) _ _
      right_inv := fun k => rfl }
  have hl := l.isLt
  show Host.reduceWindow (u := S_) (fun p q : EReal => p + q) ![1, 128, 1, 1] ![1, 1, 1, 1] ![0, 127, 0, 0] ![0, 0, 0, 0] x (fun _ => init (Shape.Idx.first hu)) h hu (ix4 b l g hh) = _
  unfold Host.reduceWindow
  rw [hi]
  refine (fold _ _ _).trans ?_
  rw [zero_add, ← Fin.sum_univ_def]
  rw [← Equiv.sum_comp ((⟨4, ![1, 128, 1, 1]⟩ : Shape).rowMajor)]
  simp only [Equiv.symm_apply_apply]
  rw [← Equiv.sum_comp e.symm]
  refine Eq.trans ?_ (Equiv.sum_comp (Equiv.addRight (l + 1)) (fun s : Fin 128 => if s ≤ l then x (ix4 b s g hh) else (0 : EReal)))
  refine Finset.sum_congr rfl fun k _ => ?_
  have hk := k.isLt
  have hs : (Equiv.addRight (l + 1) k : Fin 128).val = (k.val + l.val + 1) % 128 := by
    show (k + (l + 1)).val = _
    rw [Fin.val_add, Fin.val_add]
    show (k.val + (l.val + 1) % 128) % 128 = _
    omega
  by_cases hc : 127 ≤ l.val + k.val
  · rw [dif_pos, if_pos (Fin.le_def.mpr (by rw [hs]; omega))]
    · refine congrArg x (funext fun a => Fin.ext ?_)
      match a with
      | ⟨0, _⟩ => show b.val * 1 + 0 - 0 = b.val; omega
      | ⟨1, _⟩ => show l.val * 1 + k.val - 127 = (Equiv.addRight (l + 1) k : Fin 128).val; rw [hs]; omega
      | ⟨2, _⟩ => show g.val * 1 + 0 - 0 = g.val; omega
      | ⟨3, _⟩ => show hh.val * 1 + 0 - 0 = hh.val; omega
    · intro a
      match a with
      | ⟨0, _⟩ => show 0 ≤ b.val * 1 + 0 ∧ b.val * 1 + 0 - 0 < 2; omega
      | ⟨1, _⟩ => show 127 ≤ l.val * 1 + k.val ∧ l.val * 1 + k.val - 127 < 128; omega
      | ⟨2, _⟩ => show 0 ≤ g.val * 1 + 0 ∧ g.val * 1 + 0 - 0 < 2; omega
      | ⟨3, _⟩ => show 0 ≤ hh.val * 1 + 0 ∧ hh.val * 1 + 0 - 0 < 8; omega
  · rw [dif_neg, if_neg]
    · intro hle
      have := Fin.le_def.mp hle
      rw [hs] at this
      omega
    · intro hin
      have : 127 ≤ l.val * 1 + k.val ∧ l.val * 1 + k.val - 127 < 128 := hin 1
      omega

/-! ### One trip -/

/-- What no trip changes. -/
structure Fixed (s : State Ideal) : Prop where
  f0 : s.main_v45_0 = A_main_v39 (F := Ideal) X0 X1 X2
  f1 : s.main_v45_1 = A_main_v41 (F := Ideal) X0 X1 X2
  f2 : s.main_v45_2 = A_main_v43 (F := Ideal) X0 X1 X2
  f3 : s.main_v45_3 = X3
  f4 : s.main_v45_4 = X4
  f5 : s.main_v45_5 = X5
  f6 : s.main_v45_6 = X6

/-- The head of a group's place. -/
def hdOf (g : Fin 2) (hh : Fin 8) : Fin 16 := ⟨g.val * 8 + hh.val, by omega⟩
/-- The channel of a head's place. -/
def chOf (g : Fin 2) (hh : Fin 8) (p : Fin 64) : Fin 1024 := ⟨g.val * 512 + hh.val * 64 + p.val, by omega⟩

theorem hd_chOf (g : Fin 2) (hh : Fin 8) (p : Fin 64) : hd (chOf g hh p) = hdOf g hh := by
  refine Fin.ext ?_
  show (g.val * 512 + hh.val * 64 + p.val) / 64 = g.val * 8 + hh.val
  omega
theorem gr_chOf (g : Fin 2) (hh : Fin 8) (p : Fin 64) : gr (chOf g hh p) = g := by
  refine Fin.ext ?_
  show (g.val * 512 + hh.val * 64 + p.val) / 512 = g.val
  omega

theorem sl {j : ℕ} {u v : Fin 4 → ℕ} (hj : j < 32) (hv : u 0 = 32 ∧ v 0 = 1 ∧ v 1 ≤ u 1 ∧ v 2 ≤ u 2 ∧ v 3 ≤ u 3) : (⟨4, u⟩ : Shape).Slices ![j, 0, 0, 0] ⟨4, v⟩ := by
  obtain ⟨h0, h1, h2, h3, h4⟩ := hv
  refine ⟨rfl, fun a => ?_⟩
  match a with
  | ⟨0, _⟩ => show j + v 0 ≤ u 0; omega
  | ⟨1, _⟩ => show 0 + v 1 ≤ u 1; omega
  | ⟨2, _⟩ => show 0 + v 2 ≤ u 2; omega
  | ⟨3, _⟩ => show 0 + v 3 ≤ u 3; omega

theorem st {j : ℕ} (hj : j < 32) {c1 c2 c3 : S_.Idx → BitVec 32} {i : S_.Idx} (a : Fin 4) (h1 : c1 i = 0#32 := by rfl) (h2 : c2 i = 0#32 := by rfl) (h3 : c3 i = 0#32 := by rfl) :
    ((![fun _ => BitVec.ofNat 32 j, c1, c2, c3] : Fin 4 → S_.Idx → BitVec 32) a i).toInt = ((![j, 0, 0, 0] : Fin 4 → ℕ) a : ℤ) := by
  match a with
  | ⟨0, _⟩ => show (BitVec.ofNat 32 j).toInt = _; rw [WordCmp.toInt_ofNat_of_lt (by omega)]; rfl
  | ⟨1, _⟩ => show (c1 i).toInt = _; rw [h1]; rfl
  | ⟨2, _⟩ => show (c2 i).toInt = _; rw [h2]; rfl
  | ⟨3, _⟩ => show (c3 i).toInt = _; rw [h3]; rfl

section
variable (s : State Ideal) (j : ℕ)

theorem b4_at (hj : j < 32) (b : Fin 2) (l : Fin 128) (ch : Fin 1536) : b4 j s (ix3 b l ch) = s.main_v45_0 (ix4 ⟨j, hj⟩ b l ch) := by
  unfold b4 b3
  rw [WordCmp.dynamicSlice_eq_extract _ _ _ _ ![j, 0, 0, 0] (sl hj (by decide)) (fun a => st hj a)]
  pointwise

theorem b9_at (hj : j < 32) (b : Fin 2) (l : Fin 128) (ch : Fin 1024) : b9 j s (ix3 b l ch) = s.main_v45_1 (ix4 ⟨j, hj⟩ b l ch) := by
  unfold b9 b8
  rw [WordCmp.dynamicSlice_eq_extract _ _ _ _ ![j, 0, 0, 0] (sl hj (by decide)) (fun a => st hj a)]
  pointwise

theorem b14_at (hj : j < 32) (b : Fin 2) (l : Fin 128) (h : Fin 16) : b14 j s (ix3 b l h) = s.main_v45_2 (ix4 ⟨j, hj⟩ b l h) := by
  unfold b14 b13
  rw [WordCmp.dynamicSlice_eq_extract _ _ _ _ ![j, 0, 0, 0] (sl hj (by decide)) (fun a => st hj a)]
  pointwise

variable (hj : j < 32) (hF : Fixed X0 X1 X2 X3 X4 X5 X6 s)
include hj hF

theorem b23_at (b : Fin 2) (l : Fin 128) (ch : Fin 1536) : b23 j s (ix3 b l ch) = (chunk (argsOf X0 X1 X2 X3 X4 X5 X6) b.val j).A l ch := by
  have e : b4 j s (ix3 b l ch) = conv (argsOf X0 X1 X2 X3 X4 X5 X6) b.val (j * 128 + l.val) ch := by
    rw [b4_at s j hj, hF.f0]
    exact conv_at X0 X1 X2 X3 X4 X5 X6 ⟨j, hj⟩ b l ch
  show _ = conv (argsOf X0 X1 X2 X3 X4 X5 X6) b.val (j * 128 + l.val) ch * Ideal.logistic (conv (argsOf X0 X1 X2 X3 X4 X5 X6) b.val (j * 128 + l.val) ch)
  rw [← e]
  pointwise [b23, b22, b21, b20, b19, b18, b17, b16, b15]
  rfl

theorem b48_at (b : Fin 2) (l : Fin 128) (g : Fin 2) (hh : Fin 8) : b48 j s (ix4 b l g hh) = (chunk (argsOf X0 X1 X2 X3 X4 X5 X6) b.val j).D l (hdOf g hh) := by
  have e : b14 j s (ix3 b l (hdOf g hh)) + s.main_v45_3 (ix2 0 (hdOf g hh)) = (argsOf X0 X1 X2 X3 X4 X5 X6).P (b.val * 4096 + (j * 128 + l.val)) (5120 + (hdOf g hh).val) + X3 (ix2 0 (hdOf g hh)) := by
    rw [b14_at s j hj, hF.f2, hF.f3]
    exact congrArg (· + _) (dt_at X0 X1 X2 X3 X4 X5 X6 ⟨j, hj⟩ b l _)
  show _ = softplus ((argsOf X0 X1 X2 X3 X4 X5 X6).P (b.val * 4096 + (j * 128 + l.val)) (5120 + (hdOf g hh).val) + X3 (ix2 0 (hdOf g hh)))
  rw [← e]
  pointwise [b48, b47, b46, b45, b44, b43, b42, b41, b40, b39, b38, b37, b36, b35, b34, b33, b32, b31, b30]
  rw [if_neg (fun h => h rfl)]
  rfl

theorem b58_at (b : Fin 2) (l : Fin 128) (g : Fin 2) (hh : Fin 8) : b58 j s (ix4 b l g hh) = (chunk (argsOf X0 X1 X2 X3 X4 X5 X6) b.val j).al (hdOf g hh) * (chunk (argsOf X0 X1 X2 X3 X4 X5 X6) b.val j).D l (hdOf g hh) := by
  rw [← b48_at X0 X1 X2 X3 X4 X5 X6 s j hj hF b l g hh]
  show _ = -Ideal.exp (X4 (ix2 0 (hdOf g hh))) * b48 j s (ix4 b l g hh)
  rw [← hF.f4]
  pointwise [b58, b57, b56, b52, b51, b50, b49]
  rfl

theorem b61_at (b : Fin 2) (l : Fin 128) (g : Fin 2) (hh : Fin 8) : b61 j s (ix4 b l g hh) = acum (chunk (argsOf X0 X1 X2 X3 X4 X5 X6) b.val j) l (hdOf g hh) := by
  unfold b61
  rw [cumsum_at _ _ (fun i => by
    show Ideal.ofBits FTy.f32 0x00000000#32 = 0
    exact Ideal.ofBits_zero _)]
  unfold acum
  refine Finset.sum_congr rfl fun s' _ => ?_
  rw [b58_at X0 X1 X2 X3 X4 X5 X6 s j hj hF]

theorem b84_at (b : Fin 2) (l s' : Fin 128) (g : Fin 2) (hh : Fin 8) : b84 j s (ix5 b l s' g hh) = decay (chunk (argsOf X0 X1 X2 X3 X4 X5 X6) b.val j) l s' (hdOf g hh) := by
  unfold decay
  rw [← b61_at X0 X1 X2 X3 X4 X5 X6 s j hj hF, ← b61_at X0 X1 X2 X3 X4 X5 X6 s j hj hF]
  pointwise [b84, b83, b82, b81, b80, b79, b78, b77, b76, b75, b74, b73, b72, b71, b70, b69, b68, b67, b66, b65, b64, b63, b62]
  refine congrArg Ideal.exp ?_
  have hl := l.isLt
  have hs := s'.isLt
  have ez : IntOp.addi (BitVec.ofNat 32 l.val) 0#32 = BitVec.ofNat 32 l.val := by
    show BitVec.ofNat 32 l.val + 0#32 = _
    simp
  rw [ez, negInf]
  unfold Scalar.select
  have e : IntOp.cmpi .sge (BitVec.ofNat 32 l.val) (BitVec.ofNat 32 s'.val) = 1 ↔ s' ≤ l :=
    (WordCmp.cmpi_sge_ofNat_eq_one_iff (w := 32) (by omega) (by omega)).trans Fin.le_def.symm
  by_cases h : s' ≤ l
  · rw [if_pos h, if_pos (e.mpr h), if_pos (by decide)]
  · rw [if_neg h, if_neg (fun hh => h (e.mp hh)), if_neg (by decide)]

theorem b85_at (b : Fin 2) (g : Fin 2) (l s' : Fin 128) : b85 j s (ix4 b g s' l) = cbv (chunk (argsOf X0 X1 X2 X3 X4 X5 X6) b.val j) g l s' := by
  unfold cbv
  simp only [← b23_at X0 X1 X2 X3 X4 X5 X6 s j hj hF b]
  pointwise [b85, b29, b28, b27, b26]
  simp only [colB_eq, colC_eq]
  exact Finset.sum_congr rfl fun x _ => mul_comm _ _

theorem b55_at (b : Fin 2) (l : Fin 128) (g : Fin 2) (hh : Fin 8) (p : Fin 64) : b55 j s (ix5 b l g hh p) = xdt id (chunk (argsOf X0 X1 X2 X3 X4 X5 X6) b.val j) l (chOf g hh p) := by
  unfold xdt
  rw [hd_chOf, ← b48_at X0 X1 X2 X3 X4 X5 X6 s j hj hF, ← b23_at X0 X1 X2 X3 X4 X5 X6 s j hj hF b]
  pointwise [b55, b54, b53, b25, b24]
  rfl

theorem b91_at (b : Fin 2) (l : Fin 128) (g : Fin 2) (hh : Fin 8) (p : Fin 64) : b91 j s (ix5 b l g hh p) = ydiag id (chunk (argsOf X0 X1 X2 X3 X4 X5 X6) b.val j) l (chOf g hh p) := by
  unfold ydiag
  rw [hd_chOf, gr_chOf]
  simp only [← b55_at X0 X1 X2 X3 X4 X5 X6 s j hj hF, ← b85_at X0 X1 X2 X3 X4 X5 X6 s j hj hF, ← b84_at X0 X1 X2 X3 X4 X5 X6 s j hj hF]
  pointwise [b91, b90, b89, b88, b87, b86]
  exact Finset.sum_congr rfl fun x _ => mul_comm _ _

theorem b99_at (b : Fin 2) (g : Fin 2) (hh : Fin 8) (p : Fin 64) (n : Fin 128) : b99 j s (ix5 b g hh p n) = ∑ l : Fin 128, (chunk (argsOf X0 X1 X2 X3 X4 X5 X6) b.val j).A l (colB g n) * (xdt id (chunk (argsOf X0 X1 X2 X3 X4 X5 X6) b.val j) l (chOf g hh p) * id (Ideal.exp (acum (chunk (argsOf X0 X1 X2 X3 X4 X5 X6) b.val j) 127 (hdOf g hh) - acum (chunk (argsOf X0 X1 X2 X3 X4 X5 X6) b.val j) l (hdOf g hh)))) := by
  simp only [← b55_at X0 X1 X2 X3 X4 X5 X6 s j hj hF, ← b61_at X0 X1 X2 X3 X4 X5 X6 s j hj hF, ← b23_at X0 X1 X2 X3 X4 X5 X6 s j hj hF b]
  pointwise [b99, b98, b97, b96, b95, b94, b93, b92, b27, b26]
  refine Finset.sum_congr rfl fun x _ => ?_
  rw [mul_comm, colB_eq]
  rfl

section
variable (S : Fin 2 → Fin 128 → Fin 1024 → EReal)
  (hS : ∀ (b g : Fin 2) (hh : Fin 8) (p : Fin 64) (n : Fin 128), s.main_v45_8 (ix5 b g hh p n) = S b n (chOf g hh p))
include hS

theorem b105_at (b : Fin 2) (l : Fin 128) (g : Fin 2) (hh : Fin 8) (p : Fin 64) : b105 j s (ix5 b l g hh p) = yoff id (chunk (argsOf X0 X1 X2 X3 X4 X5 X6) b.val j) (S b) l (chOf g hh p) := by
  unfold yoff
  rw [hd_chOf, gr_chOf, ← b61_at X0 X1 X2 X3 X4 X5 X6 s j hj hF]
  simp only [← hS, ← b23_at X0 X1 X2 X3 X4 X5 X6 s j hj hF b]
  pointwise [b105, b104, b103, b102, b101, b100, b29, b28]
  simp only [colC_eq]
  refine congrArg₂ (· * ·) (Finset.sum_congr rfl fun x _ => mul_comm (s.main_v45_8 (ix5 b g hh p x)) (b23 j s (ix3 b l (colC g x)))) rfl

theorem b112_at (b : Fin 2) (l : Fin 128) (g : Fin 2) (hh : Fin 8) (p : Fin 64) : b112 j s (ix5 b l g hh p) = yv id (chunk (argsOf X0 X1 X2 X3 X4 X5 X6) b.val j) (S b) l (chOf g hh p) := by
  unfold yv
  rw [hd_chOf, ← b105_at X0 X1 X2 X3 X4 X5 X6 s j hj hF S hS, ← b91_at X0 X1 X2 X3 X4 X5 X6 s j hj hF, ← b23_at X0 X1 X2 X3 X4 X5 X6 s j hj hF b]
  show _ = _ + X5 (ix2 0 (hdOf g hh)) * _
  rw [← hF.f5]
  pointwise [b112, b111, b110, b109, b108, b107, b106, b25, b24]
  rfl

theorem b123_at (b : Fin 2) (l : Fin 128) (ch : Fin 1024) : b123 j s (ix3 b l ch) = gated id (chunk (argsOf X0 X1 X2 X3 X4 X5 X6) b.val j) (S b) l ch := by
  have ez : b9 j s (ix3 b l ch) = (chunk (argsOf X0 X1 X2 X3 X4 X5 X6) b.val j).Z l ch := by
    rw [b9_at s j hj, hF.f1]
    exact z_at X0 X1 X2 X3 X4 X5 X6 ⟨j, hj⟩ b l ch
  have hc := ch.isLt
  have ey : b113 j s (ix3 b l ch) = yv id (chunk (argsOf X0 X1 X2 X3 X4 X5 X6) b.val j) (S b) l ch := by
    have h1 := b112_at X0 X1 X2 X3 X4 X5 X6 s j hj hF S hS b l ⟨ch.val / 512, by omega⟩ ⟨ch.val % 512 / 64, by omega⟩ ⟨ch.val % 64, by omega⟩
    have h2 : chOf ⟨ch.val / 512, by omega⟩ ⟨ch.val % 512 / 64, by omega⟩ ⟨ch.val % 64, by omega⟩ = ch := by
      refine Fin.ext ?_
      show ch.val / 512 * 512 + ch.val % 512 / 64 * 64 + ch.val % 64 = ch.val
      omega
    rw [h2] at h1
    rw [← h1]
    pointwise [b113]
    refine congrArg (fun q => b112 j s (ix5 b l _ q _)) (Fin.ext ?_)
    show ch.val / 64 % 8 = ch.val % 512 / 64
    omega
  unfold gated
  rw [← ey, ← ez]
  pointwise [b123, b122, b121, b120, b119, b118, b117, b116, b115, b114]
  rfl

theorem b140_at (b : Fin 2) (l : Fin 128) (ch : Fin 1024) : b140 j s (ix3 b l ch) = rows id (chunk (argsOf X0 X1 X2 X3 X4 X5 X6) b.val j) (S b) l ch := by
  unfold rows nrm
  simp only [← b123_at X0 X1 X2 X3 X4 X5 X6 s j hj hF S hS]
  show _ = _ * X6 (ix2 0 ch)
  rw [← hF.f6]
  pointwise [b140, b139, b138, b137, b136, b135, b134, b133, b132, b131, b130, b129, b128, b127, b126, b125, b124]

theorem b147_at (b : Fin 2) (g : Fin 2) (hh : Fin 8) (p : Fin 64) (n : Fin 128) : b147 j s (ix5 b g hh p n) = next id (chunk (argsOf X0 X1 X2 X3 X4 X5 X6) b.val j) (S b) n (chOf g hh p) := by
  unfold next
  rw [hd_chOf, gr_chOf, ← b99_at X0 X1 X2 X3 X4 X5 X6 s j hj hF, ← hS, ← b61_at X0 X1 X2 X3 X4 X5 X6 s j hj hF]
  pointwise [b147, b146, b145, b144, b143, b142, b141]
  rfl

theorem b152_at (k : Fin 32) (b : Fin 2) (l : Fin 128) (ch : Fin 1024) : b152 j s (ix4 k b l ch) = if k.val = j then rows id (chunk (argsOf X0 X1 X2 X3 X4 X5 X6) b.val j) (S b) l ch else s.main_v45_9 (ix4 k b l ch) := by
  unfold b152
  rw [WordCmp.dynamicUpdateSlice_eq_update _ _ _ _ ![j, 0, 0, 0] (sl hj (by decide)) (fun a => st hj a)]
  rw [← b140_at X0 X1 X2 X3 X4 X5 X6 s j hj hF S hS]
  pointwise [b148]
  by_cases h : k.val = j
  · rw [dif_pos (by omega), if_pos h]
  · rw [dif_neg (by omega), if_neg h]

end
end

/-! ### The trips together -/

/-- The states of the scan. -/
def it : ℕ → State Ideal
  | 0 => init X3 X4 X5 X6 X0 X1 X2
  | n + 1 => step n (it n)

theorem it_fixed : ∀ n, Fixed X0 X1 X2 X3 X4 X5 X6 (it X0 X1 X2 X3 X4 X5 X6 n)
  | 0 => ⟨rfl, rfl, rfl, rfl, rfl, rfl, rfl⟩
  | n + 1 => by
    have h := it_fixed n
    exact ⟨h.f0, h.f1, h.f2, h.f3, h.f4, h.f5, h.f6⟩

theorem it_at (n : ℕ) (hn : n ≤ 32) :
    (∀ (b g : Fin 2) (hh : Fin 8) (p : Fin 64) (n' : Fin 128), (it X0 X1 X2 X3 X4 X5 X6 n).main_v45_8 (ix5 b g hh p n')
      = stateAt id (chunk (argsOf X0 X1 X2 X3 X4 X5 X6) b.val) n n' (chOf g hh p)) ∧
    (∀ (k : Fin 32) (b : Fin 2) (l : Fin 128) (ch : Fin 1024), k.val < n → (it X0 X1 X2 X3 X4 X5 X6 n).main_v45_9 (ix4 k b l ch)
      = rows id (chunk (argsOf X0 X1 X2 X3 X4 X5 X6) b.val k.val) (stateAt id (chunk (argsOf X0 X1 X2 X3 X4 X5 X6) b.val) k.val) l ch) := by
  induction n with
  | zero =>
    refine ⟨fun b g hh p n' => ?_, fun k b l ch hk => absurd hk (Nat.not_lt_zero _)⟩
    show Ideal.ofBits FTy.f32 0x00000000#32 = 0
    exact Ideal.ofBits_zero _
  | succ n ih =>
    obtain ⟨h8, h9⟩ := ih (by omega)
    have hF := it_fixed X0 X1 X2 X3 X4 X5 X6 n
    refine ⟨fun b g hh p n' => ?_, fun k b l ch hk => ?_⟩
    · exact b147_at X0 X1 X2 X3 X4 X5 X6 _ n (by omega) hF (fun b => stateAt id (chunk (argsOf X0 X1 X2 X3 X4 X5 X6) b.val) n) h8 b g hh p n'
    · refine (b152_at X0 X1 X2 X3 X4 X5 X6 _ n (by omega) hF (fun b => stateAt id (chunk (argsOf X0 X1 X2 X3 X4 X5 X6) b.val) n) h8 k b l ch).trans ?_
      by_cases h : k.val = n
      · rw [if_pos h, h]
      · rw [if_neg h]
        exact h9 k b l ch (by omega)

/-- What the reference leaves at a row and a channel. -/
def out (a : Args) (r : Fin 8192) (ch : Fin 1024) : EReal :=
  rows id (chunk a (r.val / 4096) (r.val % 4096 / 128)) (stateAt id (chunk a (r.val / 4096)) (r.val % 4096 / 128)) ⟨r.val % 128, by omega⟩ ch

theorem ref_at (r : Fin 8192) (ch : Fin 1024) :
    R_main_v48 (it X0 X1 X2 X3 X4 X5 X6 32) (ix2 r ch) = out (argsOf X0 X1 X2 X3 X4 X5 X6) r ch := by
  have hr := r.isLt
  have h := (it_at X0 X1 X2 X3 X4 X5 X6 32 le_rfl).2 ⟨r.val % 4096 / 128, by omega⟩ ⟨r.val / 4096, by omega⟩ ⟨r.val % 128, by omega⟩ ch (by show r.val % 4096 / 128 < 32; omega)
  refine Eq.trans ?_ h
  pointwise [R_main_v48]
  refine congrArg (fun q => (it X0 X1 X2 X3 X4 X5 X6 32).main_v45_9 (ix4 q _ _ _)) (Fin.ext ?_)
  show r.val / 128 % 32 = r.val % 4096 / 128
  omega

end
end Cert.Proof.Ssd
end
-- ==== Proof.SsdKernel.lean ====
/- What the kernel computes of one chunk, as the equations of a chunk. -/
module

public import proofs.«01_k».proof.Proof.Gen.SsdIdeal.Value
public import proofs.«01_k».proof.Proof.SsdModel
public import Idealize.ShloMosaic.Lib.Pointwise
public import Idealize.ShloMosaic.Lib.WordCmp

@[expose] public section

set_option maxRecDepth 16384

noncomputable section

namespace Cert.Proof.Ssd

open Cert.SsdIdeal Cert.SsdIdeal.Gen Idealize.ShloMosaic

/-- Head `h`'s lane. -/
def lane (h : Fin 16) : Fin 128 := ⟨h.val, by omega⟩

/-! ### Single values -/

theorem pay5_at (w : FVec Ideal S4x1536 .f32) (a b c d : FVec Ideal S128x1536 .f32) (e : FVec Ideal S1x1536 .f32) (l : Fin 128) (ch : Fin 1536) :
    (k0_pay5 (F := Ideal) w a b c d e) (ix2 l ch) =
      a (ix2 l ch) * w (ix2 0 ch) + b (ix2 l ch) * w (ix2 1 ch) + c (ix2 l ch) * w (ix2 2 ch) + d (ix2 l ch) * w (ix2 3 ch) + e (ix2 0 ch) := by
  pointwise [k0_pay5]

theorem pay7_at (v : FVec Ideal S128x1536 .f32) (l : Fin 128) (ch : Fin 1536) :
    (k0_pay7 (F := Ideal) v) (ix2 l ch) = v (ix2 l ch) * Ideal.logistic (v (ix2 l ch)) := by
  pointwise [k0_pay7]
  try rfl

theorem pay8_at (v : FVec Ideal S128x1536 .f32) (l : Fin 128) (ch : Fin 1024) :
    (k0_pay8 (F := Ideal) v) (ix2 l ch) = (k0_pay7 (F := Ideal) v) (ix2 l (colX ch)) := by
  pointwise [k0_pay8]
  try rfl

theorem zsub (x : EReal) : 0 - x = -x := by rw [sub_eq_add_neg, zero_add]

theorem pay11_at (x : FVec Ideal S128x128 .f32) (y : FVec Ideal S1x128 .f32) (l h : Fin 128) :
    (k0_pay11 (F := Ideal) x y) (ix2 l h) = softplus (x (ix2 l h) + y (ix2 0 h)) := by
  pointwise [k0_pay11]
  rw [zsub]
  rfl

theorem pay12_at (x : FVec Ideal S128x128 .f32) (y z : FVec Ideal S1x128 .f32) (t : FVec Ideal S128x128 .bf16)
    (ht : ∀ l s : Fin 128, t (ix2 l s) = if s ≤ l then (1 : EReal) else 0) (l h : Fin 128) :
    (k0_pay12 (F := Ideal) x y z t) (ix2 l h) = ∑ s : Fin 128, if s ≤ l then -Ideal.exp (z (ix2 0 h)) * (k0_pay11 (F := Ideal) x y) (ix2 s h) else (0 : EReal) := by
  pointwise [k0_pay12]
  simp only [zsub, ht]
  exact sum_split (fun s => -Ideal.exp (z (ix2 0 h)) * (k0_pay11 (F := Ideal) x y) (ix2 s h))
    (fun s => by rw [pay11_at]; exact rate_ne_top _ _) l

theorem onehot (f : Fin 128 → EReal) (ch : Fin 1024) :
    (∑ x : Fin 128, f x * (if ch.val / 64 = x.val then (1 : EReal) else 0)) = f (lane (hd ch)) := by
  rw [Finset.sum_eq_single (lane (hd ch))]
  · exact (congrArg (f (lane (hd ch)) * ·) (if_pos rfl)).trans (mul_one _)
  · intro b _ hb
    rw [if_neg (fun h => hb (Fin.ext h.symm)), mul_zero]
  · intro h
    exact absurd (Finset.mem_univ _) h

section
variable (d a : FVec Ideal S128x128 .f32) (e : FVec Ideal S128x1024 .bf16)
    (he : ∀ (h : Fin 128) (c : Fin 1024), e (ix2 h c) = if c.val / 64 = h.val then (1 : EReal) else 0)
include he

theorem pay15_at (l : Fin 128) (ch : Fin 1024) :
    (k0_pay15 (F := Ideal) d a e) (ix2 l ch) = fold2 (Ideal.exp (a (ix2 l (lane (hd ch))))) := by
  have hl := l.isLt
  pointwise [k0_pay15, k0_pay14]
  simp only [he]
  rw [onehot, onehot]
  unfold fold2
  simp only [show ¬ (128 + l.val < 128) by omega, show 128 + l.val - 128 < 128 by omega, dite_true, dite_false, Nat.add_sub_cancel_left]

theorem pay16_at (x : FVec Ideal S128x1024 .f32) (l : Fin 128) (ch : Fin 1024) :
    (k0_pay16 (F := Ideal) x d a e) (ix2 l ch) = x (ix2 l ch) * fold2 (d (ix2 l (lane (hd ch)))) := by
  have hl := l.isLt
  pointwise [k0_pay16, k0_pay14]
  simp only [he]
  rw [onehot, onehot]
  unfold fold2
  simp only [hl, dite_true]

theorem pay17_at (x : FVec Ideal S128x1024 .f32) (l : Fin 128) (ch : Fin 1024) :
    (k0_pay17 (F := Ideal) x d a e) (ix2 l ch) = (k0_pay16 (F := Ideal) x d a e) (ix2 l ch) * fold2 (Ideal.exp (a (ix2 127 (lane (hd ch))) - a (ix2 l (lane (hd ch))))) := by
  have hl := l.isLt
  pointwise [k0_pay17, k0_pay14]
  simp only [he]
  rw [onehot, onehot]
  unfold fold2
  simp only [show ¬ (256 + l.val < 128) by omega, show ¬ (256 + l.val - 128 < 128) by omega, show 256 + l.val - 128 - 128 = l.val by omega, dite_true, dite_false]

end

theorem pay21_at (b c : FVec Ideal S128x256 .f32) (l s : Fin 128) :
    (k0_pay21 (F := Ideal) b c) (ix2 l s) = ∑ n : Fin 128, c (ix2 l ⟨n.val, by omega⟩) * b (ix2 s ⟨n.val, by omega⟩) := by
  pointwise [k0_pay21, k0_pay19, k0_pay20]

theorem pay37_at (b c : FVec Ideal S128x256 .f32) (l s : Fin 128) :
    (k0_pay37 (F := Ideal) b c) (ix2 l s) = ∑ n : Fin 128, c (ix2 l ⟨128 + n.val, by omega⟩) * b (ix2 s ⟨128 + n.val, by omega⟩) := by
  pointwise [k0_pay37, k0_pay35, k0_pay36]

theorem pay23_at (c : FVec Ideal S128x256 .f32) (d a : FVec Ideal S128x128 .f32) (e : FVec Ideal S128x1024 .bf16) (st : FVec Ideal S1x128x512 .f32) (l : Fin 128) (w : Fin 512) :
    (k0_pay23 (F := Ideal) c d a e st) (ix2 l w) = (∑ n : Fin 128, c (ix2 l ⟨n.val, by omega⟩) * st (ix3 0 n w)) * (k0_pay15 (F := Ideal) d a e) (ix2 l ⟨w.val, by omega⟩) := by
  pointwise [k0_pay23, k0_pay20, k0_pay22]

theorem pay39_at (c : FVec Ideal S128x256 .f32) (e : FVec Ideal S128x1024 .f32) (st : FVec Ideal S1x128x512 .f32) (l : Fin 128) (w : Fin 512) :
    (k0_pay39 (F := Ideal) c e st) (ix2 l w) = (∑ n : Fin 128, c (ix2 l ⟨128 + n.val, by omega⟩) * st (ix3 0 n w)) * e (ix2 l ⟨512 + w.val, by omega⟩) := by
  pointwise [k0_pay39, k0_pay36, k0_pay38]

theorem pay25_at (x : FVec Ideal S128x1024 .f32) (b : FVec Ideal S128x256 .f32) (d a : FVec Ideal S128x128 .f32) (e : FVec Ideal S128x1024 .bf16) (st : FVec Ideal S1x128x512 .f32) (n : Fin 128) (w : Fin 512) :
    (k0_pay25 (k0_pay24 (F := Ideal) x b d a e st)) (ix3 0 n w) =
      st (ix3 0 n w) * (k0_pay15 (F := Ideal) d a e) (ix2 127 ⟨w.val, by omega⟩) + ∑ l : Fin 128, b (ix2 l ⟨n.val, by omega⟩) * (k0_pay17 (F := Ideal) x d a e) (ix2 l ⟨w.val, by omega⟩) := by
  pointwise [k0_pay25, k0_pay24, k0_pay22, k0_pay19]

theorem pay42_at (b : FVec Ideal S128x256 .f32) (x : FVec Ideal S128x1024 .bf16) (e : FVec Ideal S128x1024 .f32) (st : FVec Ideal S1x128x512 .f32) (n : Fin 128) (w : Fin 512) :
    (k0_pay42 (F := Ideal) (k0_pay40 b x) (k0_pay41 e st)) (ix3 0 n w) =
      st (ix3 0 n w) * e (ix2 127 ⟨512 + w.val, by omega⟩) + ∑ l : Fin 128, b (ix2 l ⟨128 + n.val, by omega⟩) * x (ix2 l ⟨512 + w.val, by omega⟩) := by
  pointwise [k0_pay42, k0_pay40, k0_pay41, k0_pay35, k0_pay38]

theorem pay53_at (x : FVec Ideal S128x1024 .f32) (y : FVec Ideal S1x128x1024 .f32) (k : FVec Ideal S1x1024 .f32) (z : FVec Ideal S128x1024 .f32) (n : FVec Ideal S1x1024 .f32) (l : Fin 128) (ch : Fin 1024) :
    (k0_pay53 (F := Ideal) (k0_pay51 x y k z) (k0_pay52 x y k z) n) (ix2 l ch) =
      nrm (fun ch => (y (ix3 0 l ch) + k (ix2 0 ch) * x (ix2 l ch)) * (z (ix2 l ch) * Ideal.logistic (z (ix2 l ch)))) ch * n (ix2 0 ch) := by
  pointwise [k0_pay53, k0_pay52, k0_pay51]
  rfl

/-- A pair of heads: the two masked decays side by side against the two halves of a lane block. -/
def pairOf (h0 h1 xo yo : ℕ) (sA : S128x128.Slices ![0, h0] S128x1) (sB : S128x128.Slices ![0, h1] S128x1)
    (tA : S128x128.Slices ![h0, 0] S1x128) (tB : S128x128.Slices ![h1, 0] S1x128)
    (sx : S128x1024.Slices ![0, xo] S128x128) (sy : S128x512.Slices ![0, yo] S128x128)
    (ac act : FVec Ideal S128x128 .f32) (xd : FVec Ideal S128x1024 .f32) (cb : FVec Ideal S128x128 .f32) (yf : FVec Ideal S128x512 .f32) : FVec Ideal S128x128 .f32 :=
  shapeCast S128x128
    (addf
      (matmul dot_S128x256_S256x128_S128x128_1_0_0_1_n_n none
        (concatenate S128x256 1 [⟨S128x128, truncf .bf16 (mulf cb (exp (select k0_pay18 (subf (broadcastTo S128x128 (extractStridedSlice S128x1 ![0, h0] ac sA) broadcasts_S128x1_S128x128) (broadcastTo S128x128 (extractStridedSlice S1x128 ![h0, 0] act tA) broadcasts_S1x128_S128x128)) (broadcast S128x128 (Scalar.ofBits .f32 0xFF800000#32))))) bitsLt_bf16_f32⟩,
          ⟨S128x128, truncf .bf16 (mulf cb (exp (select k0_pay18 (subf (broadcastTo S128x128 (extractStridedSlice S128x1 ![0, h1] ac sB) broadcasts_S128x1_S128x128) (broadcastTo S128x128 (extractStridedSlice S1x128 ![h1, 0] act tB) broadcasts_S1x128_S128x128)) (broadcast S128x128 (Scalar.ofBits .f32 0xFF800000#32))))) bitsLt_bf16_f32⟩] concatenates_S128x128_S128x128_S128x256_d1)
        (truncf .bf16 (concatenate S256x128 0 [⟨S128x128, select (cmpi .slt (iota .tc S128x128 32 [1] iota_S128x128_d1_w32) (broadcast S128x128 64#32)) (extractStridedSlice S128x128 ![0, xo] xd sx) (broadcast S128x128 (Scalar.ofBits .f32 0x00000000#32))⟩,
          ⟨S128x128, select (cmpi .sge (iota .tc S128x128 32 [1] iota_S128x128_d1_w32) (broadcast S128x128 64#32)) (extractStridedSlice S128x128 ![0, xo] xd sx) (broadcast S128x128 (Scalar.ofBits .f32 0x00000000#32))⟩] concatenates_S128x128_S128x128_S256x128_d0) bitsLt_bf16_f32)
        (constant S128x128 .f32 0x00000000#32))
      (extractStridedSlice S128x128 ![0, yo] yf sy)) shapeCasts_S128x128_S128x128

section
variable (ac act : FVec Ideal S128x128 .f32) (xd : FVec Ideal S128x1024 .f32) (cb : FVec Ideal S128x128 .f32) (yf : FVec Ideal S128x512 .f32)

theorem pairA0 : k0_pay26 (F := Ideal) ac act xd k0_pay18 (iota Kind.tc S128x128 32 [1] iota_S128x128_d1_w32) cb yf =
    pairOf 0 1 0 0 slices_S128x128_o0_0_S128x1 slices_S128x128_o0_1_S128x1 slices_S128x128_o0_0_S1x128 slices_S128x128_o1_0_S1x128 slices_S128x1024_o0_0_S128x128 slices_S128x512_o0_0_S128x128 ac act xd cb yf := rfl
theorem pairA1 : k0_pay29 (F := Ideal) ac act xd k0_pay18 (iota Kind.tc S128x128 32 [1] iota_S128x128_d1_w32) cb yf (k0_pay27 act) (k0_pay28 ac) =
    pairOf 2 3 128 128 slices_S128x128_o0_2_S128x1 slices_S128x128_o0_3_S128x1 slices_S128x128_o2_0_S1x128 slices_S128x128_o3_0_S1x128 slices_S128x1024_o0_128_S128x128 slices_S128x512_o0_128_S128x128 ac act xd cb yf := rfl
theorem pairA2 : k0_pay31 (F := Ideal) ac act xd k0_pay18 (iota Kind.tc S128x128 32 [1] iota_S128x128_d1_w32) cb yf (k0_pay30 ac act k0_pay18 cb) =
    pairOf 4 5 256 256 slices_S128x128_o0_4_S128x1 slices_S128x128_o0_5_S128x1 slices_S128x128_o4_0_S1x128 slices_S128x128_o5_0_S1x128 slices_S128x1024_o0_256_S128x128 slices_S128x512_o0_256_S128x128 ac act xd cb yf := rfl
theorem pairA3 : k0_pay34 (F := Ideal) xd k0_pay18 (iota Kind.tc S128x128 32 [1] iota_S128x128_d1_w32) cb yf (k0_pay32 ac act k0_pay18 cb) (k0_pay33 ac act) (FloatOps.ofBits FTy.f32 4286578688#32) =
    pairOf 6 7 384 384 slices_S128x128_o0_6_S128x1 slices_S128x128_o0_7_S128x1 slices_S128x128_o6_0_S1x128 slices_S128x128_o7_0_S1x128 slices_S128x1024_o0_384_S128x128 slices_S128x512_o0_384_S128x128 ac act xd cb yf := rfl
theorem pairA4 : k0_pay43 (F := Ideal) ac act xd k0_pay18 (iota Kind.tc S128x128 32 [1] iota_S128x128_d1_w32) cb yf =
    pairOf 8 9 512 0 slices_S128x128_o0_8_S128x1 slices_S128x128_o0_9_S128x1 slices_S128x128_o8_0_S1x128 slices_S128x128_o9_0_S1x128 slices_S128x1024_o0_512_S128x128 slices_S128x512_o0_0_S128x128 ac act xd cb yf := rfl
theorem pairA5 : k0_pay44 (F := Ideal) ac act xd k0_pay18 (iota Kind.tc S128x128 32 [1] iota_S128x128_d1_w32) cb yf =
    pairOf 10 11 640 128 slices_S128x128_o0_10_S128x1 slices_S128x128_o0_11_S128x1 slices_S128x128_o10_0_S1x128 slices_S128x128_o11_0_S1x128 slices_S128x1024_o0_640_S128x128 slices_S128x512_o0_128_S128x128 ac act xd cb yf := rfl
theorem pairA6 : k0_pay46 (F := Ideal) ac act xd k0_pay18 (iota Kind.tc S128x128 32 [1] iota_S128x128_d1_w32) cb yf (k0_pay45 ac act) (FloatOps.ofBits FTy.f32 4286578688#32) =
    pairOf 12 13 768 256 slices_S128x128_o0_12_S128x1 slices_S128x128_o0_13_S128x1 slices_S128x128_o12_0_S1x128 slices_S128x128_o13_0_S1x128 slices_S128x1024_o0_768_S128x128 slices_S128x512_o0_256_S128x128 ac act xd cb yf := rfl
theorem pairA7 : k0_pay50 (F := Ideal) xd k0_pay18 (iota Kind.tc S128x128 32 [1] iota_S128x128_d1_w32) cb yf (k0_pay47 ac act k0_pay18 cb) (k0_pay48 ac) (k0_pay49 act) =
    pairOf 14 15 896 384 slices_S128x128_o0_14_S128x1 slices_S128x128_o0_15_S128x1 slices_S128x128_o14_0_S1x128 slices_S128x128_o15_0_S1x128 slices_S128x1024_o0_896_S128x128 slices_S128x512_o0_384_S128x128 ac act xd cb yf := rfl

theorem pairB0 (e15 : FVec Ideal S128x1024 .f32) (yr : FVec Ideal S128x512 .f32) : k0_pay85 (F := Ideal) (k0_pay84 ac act e15 xd k0_pay76 (iota Kind.tc S128x128 32 [1] iota_S128x128_d1_w32) cb yr) =
    pairOf 0 1 0 0 slices_S128x128_o0_0_S128x1 slices_S128x128_o0_1_S128x1 slices_S128x128_o0_0_S1x128 slices_S128x128_o1_0_S1x128 slices_S128x1024_o0_0_S128x128 slices_S128x512_o0_0_S128x128 ac act xd cb (k0_pay82 e15 yr) := rfl
theorem pairB1 : k0_pay87 (F := Ideal) (k0_pay86 ac act xd k0_pay76 (iota Kind.tc S128x128 32 [1] iota_S128x128_d1_w32) cb yf) =
    pairOf 2 3 128 128 slices_S128x128_o0_2_S128x1 slices_S128x128_o0_3_S128x1 slices_S128x128_o2_0_S1x128 slices_S128x128_o3_0_S1x128 slices_S128x1024_o0_128_S128x128 slices_S128x512_o0_128_S128x128 ac act xd cb yf := rfl
theorem pairB2 : k0_pay88 (F := Ideal) ac act xd k0_pay76 (iota Kind.tc S128x128 32 [1] iota_S128x128_d1_w32) cb yf =
    pairOf 4 5 256 256 slices_S128x128_o0_4_S128x1 slices_S128x128_o0_5_S128x1 slices_S128x128_o4_0_S1x128 slices_S128x128_o5_0_S1x128 slices_S128x1024_o0_256_S128x128 slices_S128x512_o0_256_S128x128 ac act xd cb yf := rfl
theorem pairB3 : k0_pay91 (F := Ideal) ac act xd k0_pay76 (iota Kind.tc S128x128 32 [1] iota_S128x128_d1_w32) cb yf (k0_pay89 act) (k0_pay90 ac) =
    pairOf 6 7 384 384 slices_S128x128_o0_6_S128x1 slices_S128x128_o0_7_S128x1 slices_S128x128_o6_0_S1x128 slices_S128x128_o7_0_S1x128 slices_S128x1024_o0_384_S128x128 slices_S128x512_o0_384_S128x128 ac act xd cb yf := rfl
theorem pairB4 : k0_pay100 (F := Ideal) yf (k0_pay98 ac act k0_pay76 cb) (k0_pay99 xd (iota Kind.tc S128x128 32 [1] iota_S128x128_d1_w32)) =
    pairOf 8 9 512 0 slices_S128x128_o0_8_S128x1 slices_S128x128_o0_9_S128x1 slices_S128x128_o8_0_S1x128 slices_S128x128_o9_0_S1x128 slices_S128x1024_o0_512_S128x128 slices_S128x512_o0_0_S128x128 ac act xd cb yf := rfl
theorem pairB5 : k0_pay102 (F := Ideal) (k0_pay101 ac act xd k0_pay76 (iota Kind.tc S128x128 32 [1] iota_S128x128_d1_w32) cb yf) =
    pairOf 10 11 640 128 slices_S128x128_o0_10_S128x1 slices_S128x128_o0_11_S128x1 slices_S128x128_o10_0_S1x128 slices_S128x128_o11_0_S1x128 slices_S128x1024_o0_640_S128x128 slices_S128x512_o0_128_S128x128 ac act xd cb yf := rfl
theorem pairB6 : k0_pay103 (F := Ideal) ac act xd k0_pay76 (iota Kind.tc S128x128 32 [1] iota_S128x128_d1_w32) cb yf =
    pairOf 12 13 768 256 slices_S128x128_o0_12_S128x1 slices_S128x128_o0_13_S128x1 slices_S128x128_o12_0_S1x128 slices_S128x128_o13_0_S1x128 slices_S128x1024_o0_768_S128x128 slices_S128x512_o0_256_S128x128 ac act xd cb yf := rfl
theorem pairB7 : k0_pay104 (F := Ideal) ac act xd k0_pay76 (iota Kind.tc S128x128 32 [1] iota_S128x128_d1_w32) cb yf =
    pairOf 14 15 896 384 slices_S128x128_o0_14_S128x1 slices_S128x128_o0_15_S128x1 slices_S128x128_o14_0_S1x128 slices_S128x128_o15_0_S1x128 slices_S128x1024_o0_896_S128x128 slices_S128x512_o0_384_S128x128 ac act xd cb yf := rfl

end

theorem sel_geF (a b : Fin 128) (x y : EReal) :
    Scalar.select (IntOp.cmpi .sge (BitVec.ofNat 32 a.val) (BitVec.ofNat 32 b.val)) x y = if b.val ≤ a.val then x else y :=
  sel_ge a.val b.val (by omega) (by omega) x y

theorem pair_at (I : Chunk) (S : Fin 128 → Fin 1024 → EReal) (k : ℕ) (hk : k < 8) (h0 h1 xo yo : ℕ) (e0 : h0 = 2 * k) (e1 : h1 = 2 * k + 1) (ex : xo = 128 * k) (ey : yo = 128 * (k % 4))
    (sA : S128x128.Slices ![0, h0] S128x1) (sB : S128x128.Slices ![0, h1] S128x1)
    (tA : S128x128.Slices ![h0, 0] S1x128) (tB : S128x128.Slices ![h1, 0] S1x128)
    (sx : S128x1024.Slices ![0, xo] S128x128) (sy : S128x512.Slices ![0, yo] S128x128)
    (ac act : FVec Ideal S128x128 .f32) (xd : FVec Ideal S128x1024 .f32) (cb : FVec Ideal S128x128 .f32) (yf : FVec Ideal S128x512 .f32)
    (hac : ∀ (l : Fin 128) (h : Fin 16), ac (ix2 l (lane h)) = acum I l h) (hact : ∀ (l : Fin 128) (h : Fin 16), act (ix2 (lane h) l) = acum I l h)
    (hxd : ∀ (l : Fin 128) (ch : Fin 1024), xd (ix2 l ch) = xdt fold2 I l ch) (hcb : ∀ l s : Fin 128, cb (ix2 l s) = cbv I ⟨k / 4, by omega⟩ l s)
    (hyf : ∀ (l : Fin 128) (w : Fin 512), yf (ix2 l w) = yoff fold2 I S l ⟨k / 4 * 512 + w.val, by omega⟩) (l c : Fin 128) (ch : Fin 1024) (hch : ch.val = 128 * k + c.val) :
    pairOf h0 h1 xo yo sA sB tA tB sx sy ac act xd cb yf (ix2 l c) = ydiag fold2 I l ch + yoff fold2 I S l ch := by
  have hc := c.isLt
  pointwise [pairOf, k0_pay18]
  simp only [negInf, sel_geF, sel_lt c.val 64 (by omega) (by omega), sel_ge c.val 64 (by omega) (by omega)]
  have ey : yf (ix2 l ⟨yo + c.val, by subst ey; omega⟩) = yoff fold2 I S l ch := by
    rw [hyf]
    refine congrArg _ (Fin.ext ?_)
    show k / 4 * 512 + (yo + c.val) = ch.val
    omega
  have hg : gr ch = ⟨k / 4, by omega⟩ := by
    refine Fin.ext ?_
    show ch.val / 512 = k / 4
    omega
  have ex' : ∀ x : Fin 128, xd (ix2 x ⟨xo + c.val, by subst ex; omega⟩) = xdt fold2 I x ch := fun x => by
    rw [hxd]
    refine congrArg _ (Fin.ext ?_)
    show xo + c.val = ch.val
    omega
  refine congrArg₂ (· + ·) ?_ ey
  unfold ydiag decay
  rw [hg]
  by_cases hh : c.val < 64
  · have hd0 : (⟨h0, by omega⟩ : Fin 128) = lane (hd ch) := by
      refine Fin.ext ?_
      show h0 = ch.val / 64
      omega
    have z : (∑ x : Fin 128, if 64 ≤ c.val then (cb (ix2 l x) * Ideal.exp (if x.val ≤ l.val then ac (ix2 l ⟨h1, by omega⟩) - act (ix2 ⟨h1, by omega⟩ x) else ⊥) * xd (ix2 x ⟨xo + c.val, by omega⟩)) else (0 : EReal)) = 0 :=
      Finset.sum_eq_zero fun x _ => if_neg (by omega)
    refine (congrArg₂ (· + ·) (Finset.sum_congr rfl fun x _ => ?_) z).trans (add_zero _)
    rw [if_pos hh, hd0, hcb, hac, hact, ex']
    rfl
  · have hd1 : (⟨h1, by omega⟩ : Fin 128) = lane (hd ch) := by
      refine Fin.ext ?_
      show h1 = ch.val / 64
      omega
    have z : (∑ x : Fin 128, if c.val < 64 then (cb (ix2 l x) * Ideal.exp (if x.val ≤ l.val then ac (ix2 l ⟨h0, by omega⟩) - act (ix2 ⟨h0, by omega⟩ x) else ⊥) * xd (ix2 x ⟨xo + c.val, by omega⟩)) else (0 : EReal)) = 0 :=
      Finset.sum_eq_zero fun x _ => if_neg hh
    refine (congrArg₂ (· + ·) z (Finset.sum_congr rfl fun x _ => ?_)).trans (zero_add _)
    rw [if_pos (by omega), hd1, hcb, hac, hact, ex']
    rfl

/-! ### The second chunk's values are the first's -/

section
variable (w : FVec Ideal S4x1536 .f32) (a b c d : FVec Ideal S128x1536 .f32) (e : FVec Ideal S1x1536 .f32)
  (x : FVec Ideal S128x128 .f32) (y z : FVec Ideal S1x128 .f32) (t : FVec Ideal S128x128 .bf16) (ex : FVec Ideal S128x1024 .bf16)

theorem pay60_eq : k0_pay60 (F := Ideal) (k0_pay56 w a b c) d (k0_pay57 w) e = k0_pay8 (k0_pay5 w a b c d e) := rfl
theorem pay61_eq : k0_pay61 (F := Ideal) (k0_pay56 w a b c) d (k0_pay57 w) e = k0_pay9 (k0_pay5 w a b c d e) := rfl
theorem pay62_eq : k0_pay62 (F := Ideal) (k0_pay56 w a b c) d (k0_pay57 w) e = k0_pay10 (k0_pay5 w a b c d e) := rfl
theorem pay63_eq : k0_pay63 (F := Ideal) x y = k0_pay11 x y := rfl
theorem pay70_eq : k0_pay70 (F := Ideal) (k0_pay65 t) (k0_pay66 x y z) (k0_pay67 x y z) (k0_pay68 x y z) (k0_pay69 x y z) = k0_pay12 x y z t := rfl
theorem pay71_eq : k0_pay71 (F := Ideal) (k0_pay65 t) (k0_pay66 x y z) (k0_pay67 x y z) (k0_pay68 x y z) (k0_pay69 x y z) = k0_pay13 x y z t := rfl
theorem pay73_eq (dt : FVec Ideal S128x128 .f32) : k0_pay73 (F := Ideal) dt (k0_pay65 t) (k0_pay66 x y z) (k0_pay67 x y z) (k0_pay68 x y z) (k0_pay69 x y z) ex = k0_pay15 dt (k0_pay12 x y z t) ex := rfl
theorem pay74_eq (xs : FVec Ideal S128x1024 .f32) (dt : FVec Ideal S128x128 .f32) : k0_pay74 (F := Ideal) xs dt (k0_pay65 t) (k0_pay66 x y z) (k0_pay67 x y z) (k0_pay68 x y z) (k0_pay69 x y z) ex = k0_pay16 xs dt (k0_pay12 x y z t) ex := rfl
theorem pay75_eq (xs : FVec Ideal S128x1024 .f32) (dt : FVec Ideal S128x128 .f32) : k0_pay75 (F := Ideal) xs dt (k0_pay65 t) (k0_pay66 x y z) (k0_pay67 x y z) (k0_pay68 x y z) (k0_pay69 x y z) ex = k0_pay17 xs dt (k0_pay12 x y z t) ex := rfl
theorem pay79_eq (bm cm : FVec Ideal S128x256 .f32) : k0_pay79 (F := Ideal) bm cm = k0_pay21 bm cm := rfl
theorem pay94_eq (bm cm : FVec Ideal S128x256 .f32) : k0_pay94 (F := Ideal) bm cm = k0_pay37 bm cm := rfl
theorem pay82_eq (cm : FVec Ideal S128x256 .f32) (dt ac : FVec Ideal S128x128 .f32) (s : FVec Ideal S1x128x512 .f32) : k0_pay82 (F := Ideal) (k0_pay15 dt ac ex) (k0_pay81 cm s) = k0_pay23 cm dt ac ex s := rfl
theorem pay96_eq (cm : FVec Ideal S128x256 .f32) (ea : FVec Ideal S128x1024 .f32) (s : FVec Ideal S1x128x512 .f32) : k0_pay96 (F := Ideal) ea (k0_pay93 cm) s = k0_pay39 cm ea s := rfl
theorem pay83_eq (xs : FVec Ideal S128x1024 .f32) (bm : FVec Ideal S128x256 .f32) (dt ac : FVec Ideal S128x128 .f32) (s : FVec Ideal S1x128x512 .f32) :
    k0_pay83 (F := Ideal) (k0_pay15 dt ac ex) (k0_pay17 xs dt ac ex) (k0_pay77 bm) (k0_pay80 s) = k0_pay25 (k0_pay24 xs bm dt ac ex s) := rfl
theorem pay97_eq (ea : FVec Ideal S128x1024 .f32) (xb : FVec Ideal S128x1024 .bf16) (bm : FVec Ideal S128x256 .f32) (s : FVec Ideal S1x128x512 .f32) :
    k0_pay97 (F := Ideal) ea xb (k0_pay92 bm) s = k0_pay42 (k0_pay40 bm xb) (k0_pay41 ea s) := rfl
theorem pay1_eq (xs : FVec Ideal S128x1024 .f32) (yv : FVec Ideal S1x128x1024 .f32) (k : FVec Ideal S1x1024 .f32) (zz : FVec Ideal S128x1024 .f32) (n : FVec Ideal S1x1024 .f32) :
    k0_pay1 (F := Ideal) xs (k0_pay105 yv) k zz n = k0_pay53 (k0_pay51 xs yv k zz) (k0_pay52 xs yv k zz) n := rfl
end

/-! ### A chunk -/

/-- The vectors a chunk starts from hold `I` and the state `S`. -/
structure Ok (I : Chunk) (S : Fin 128 → Fin 1024 → EReal) (cv : FVec Ideal S128x1536 .f32) (dtr : FVec Ideal S128x128 .f32) (dtb alg : FVec Ideal S1x128 .f32)
    (lt : FVec Ideal S128x128 .bf16) (ex : FVec Ideal S128x1024 .bf16) (s0 s1 : FVec Ideal S1x128x512 .f32) : Prop where
  cv : ∀ l ch, cv (ix2 l ch) * Ideal.logistic (cv (ix2 l ch)) = I.A l ch
  dt : ∀ (l : Fin 128) (h : Fin 16), softplus (dtr (ix2 l (lane h)) + dtb (ix2 0 (lane h))) = I.D l h
  al : ∀ h : Fin 16, -Ideal.exp (alg (ix2 0 (lane h))) = I.al h
  lt : ∀ l s : Fin 128, lt (ix2 l s) = if s ≤ l then (1 : EReal) else 0
  ex : ∀ (h : Fin 128) (c : Fin 1024), ex (ix2 h c) = if c.val / 64 = h.val then (1 : EReal) else 0
  s0 : ∀ (n : Fin 128) (w : Fin 512), s0 (ix3 0 n w) = S n ⟨w.val, by omega⟩
  s1 : ∀ (n : Fin 128) (w : Fin 512), s1 (ix3 0 n w) = S n ⟨512 + w.val, by omega⟩

section
variable {I : Chunk} {S : Fin 128 → Fin 1024 → EReal} {cv : FVec Ideal S128x1536 .f32} {dtr : FVec Ideal S128x128 .f32} {dtb alg : FVec Ideal S1x128 .f32}
    {lt : FVec Ideal S128x128 .bf16} {ex : FVec Ideal S128x1024 .bf16} {s0 s1 : FVec Ideal S1x128x512 .f32}
    (ok : Ok I S cv dtr dtb alg lt ex s0 s1)
include ok

theorem Ok.xs (l : Fin 128) (ch : Fin 1024) : (k0_pay8 (F := Ideal) cv) (ix2 l ch) = I.A l (colX ch) := by
  rw [pay8_at, pay7_at, ok.cv]
theorem Ok.bm (l : Fin 128) (g : Fin 2) (n : Fin 128) (q : Fin 256) (hq : q.val = g.val * 128 + n.val) : (k0_pay9 (F := Ideal) cv) (ix2 l q) = I.A l (colB g n) := by
  rw [← ok.cv, ← pay7_at]
  pointwise [k0_pay9]
  refine congrArg (fun r => (k0_pay7 (F := Ideal) cv) (ix2 l r)) (Fin.ext ?_)
  show 1024 + q.val = 1024 + g.val * 128 + n.val
  omega
theorem Ok.cm (l : Fin 128) (g : Fin 2) (n : Fin 128) (q : Fin 256) (hq : q.val = g.val * 128 + n.val) : (k0_pay10 (F := Ideal) cv) (ix2 l q) = I.A l (colC g n) := by
  rw [← ok.cv, ← pay7_at]
  pointwise [k0_pay10]
  refine congrArg (fun r => (k0_pay7 (F := Ideal) cv) (ix2 l r)) (Fin.ext ?_)
  show 1280 + q.val = 1280 + g.val * 128 + n.val
  omega
theorem Ok.ac (l : Fin 128) (h : Fin 16) : (k0_pay12 (F := Ideal) dtr dtb alg lt) (ix2 l (lane h)) = acum I l h := by
  rw [pay12_at dtr dtb alg lt ok.lt]
  unfold acum
  refine Finset.sum_congr rfl fun s _ => ?_
  rw [pay11_at, ok.dt, ok.al]
theorem Ok.act (l : Fin 128) (h : Fin 16) : (k0_pay13 (F := Ideal) dtr dtb alg lt) (ix2 (lane h) l) = acum I l h := by
  rw [← ok.ac]
  pointwise [k0_pay13]
theorem Ok.ea (l : Fin 128) (ch : Fin 1024) : (k0_pay15 (F := Ideal) (k0_pay11 dtr dtb) (k0_pay12 dtr dtb alg lt) ex) (ix2 l ch) = fold2 (Ideal.exp (acum I l (hd ch))) := by
  rw [pay15_at _ _ _ ok.ex, ok.ac]
theorem Ok.xd (l : Fin 128) (ch : Fin 1024) : (k0_pay16 (F := Ideal) (k0_pay8 cv) (k0_pay11 dtr dtb) (k0_pay12 dtr dtb alg lt) ex) (ix2 l ch) = xdt fold2 I l ch := by
  rw [pay16_at _ _ _ ok.ex, ok.xs, pay11_at, ok.dt]
  rfl
theorem Ok.xb (l : Fin 128) (ch : Fin 1024) : (k0_pay17 (F := Ideal) (k0_pay8 cv) (k0_pay11 dtr dtb) (k0_pay12 dtr dtb alg lt) ex) (ix2 l ch)
    = xdt fold2 I l ch * fold2 (Ideal.exp (acum I 127 (hd ch) - acum I l (hd ch))) := by
  rw [pay17_at _ _ _ ok.ex, ok.xd, ok.ac, ok.ac]
theorem Ok.cb0 (l s : Fin 128) : (k0_pay21 (F := Ideal) (k0_pay9 cv) (k0_pay10 cv)) (ix2 l s) = cbv I 0 l s := by
  rw [pay21_at]
  unfold cbv
  refine Finset.sum_congr rfl fun n _ => ?_
  rw [ok.bm s 0 n _ (by simp), ok.cm l 0 n _ (by simp)]
theorem Ok.cb1 (l s : Fin 128) : (k0_pay37 (F := Ideal) (k0_pay9 cv) (k0_pay10 cv)) (ix2 l s) = cbv I 1 l s := by
  rw [pay37_at]
  unfold cbv
  refine Finset.sum_congr rfl fun n _ => ?_
  rw [ok.bm s 1 n _ (by simp), ok.cm l 1 n _ (by simp)]
theorem Ok.yf0 (l : Fin 128) (w : Fin 512) : (k0_pay23 (F := Ideal) (k0_pay10 cv) (k0_pay11 dtr dtb) (k0_pay12 dtr dtb alg lt) ex s0) (ix2 l w) = yoff fold2 I S l ⟨0 * 512 + w.val, by omega⟩ := by
  have hw := w.isLt
  have e : (⟨0 * 512 + w.val, by omega⟩ : Fin 1024) = ⟨w.val, by omega⟩ := Fin.ext (by simp)
  have hg : gr ⟨w.val, by omega⟩ = 0 := Fin.ext (show w.val / 512 = 0 by omega)
  rw [pay23_at, ok.ea, e]
  unfold yoff
  rw [hg]
  refine congrArg (· * _) (Finset.sum_congr rfl fun n _ => ?_)
  rw [ok.cm l 0 n _ (by simp), ok.s0]
theorem Ok.yf1 (l : Fin 128) (w : Fin 512) : (k0_pay39 (F := Ideal) (k0_pay10 cv) (k0_pay15 (k0_pay11 dtr dtb) (k0_pay12 dtr dtb alg lt) ex) s1) (ix2 l w) = yoff fold2 I S l ⟨1 * 512 + w.val, by omega⟩ := by
  have hw := w.isLt
  have e : (⟨1 * 512 + w.val, by omega⟩ : Fin 1024) = ⟨512 + w.val, by omega⟩ := Fin.ext (by simp)
  have hg : gr ⟨512 + w.val, by omega⟩ = 1 := Fin.ext (show (512 + w.val) / 512 = 1 by omega)
  rw [pay39_at, ok.ea, e]
  unfold yoff
  rw [hg]
  refine congrArg (· * _) (Finset.sum_congr rfl fun n _ => ?_)
  rw [ok.cm l 1 n _ (by simp), ok.s1]
theorem Ok.n0 (n : Fin 128) (w : Fin 512) : (k0_pay25 (k0_pay24 (F := Ideal) (k0_pay8 cv) (k0_pay9 cv) (k0_pay11 dtr dtb) (k0_pay12 dtr dtb alg lt) ex s0)) (ix3 0 n w) = next fold2 I S n ⟨w.val, by omega⟩ := by
  have hw := w.isLt
  have hg : gr ⟨w.val, by omega⟩ = 0 := Fin.ext (show w.val / 512 = 0 by omega)
  rw [pay25_at, ok.ea, ok.s0]
  unfold next
  rw [hg]
  refine congrArg (_ + ·) (Finset.sum_congr rfl fun l _ => ?_)
  rw [ok.bm l 0 n _ (by simp), ok.xb]
theorem Ok.n1 (n : Fin 128) (w : Fin 512) : (k0_pay42 (F := Ideal) (k0_pay40 (k0_pay9 cv) (k0_pay17 (k0_pay8 cv) (k0_pay11 dtr dtb) (k0_pay12 dtr dtb alg lt) ex)) (k0_pay41 (k0_pay15 (k0_pay11 dtr dtb) (k0_pay12 dtr dtb alg lt) ex) s1)) (ix3 0 n w) = next fold2 I S n ⟨512 + w.val, by omega⟩ := by
  have hw := w.isLt
  have hg : gr ⟨512 + w.val, by omega⟩ = 1 := Fin.ext (show (512 + w.val) / 512 = 1 by omega)
  rw [pay42_at, ok.ea, ok.s1]
  unfold next
  rw [hg]
  refine congrArg (_ + ·) (Finset.sum_congr rfl fun l _ => ?_)
  rw [ok.bm l 1 n _ (by simp), ok.xb]

theorem Ok.rows (y : FVec Ideal S1x128x1024 .f32) (k : FVec Ideal S1x1024 .f32) (z : FVec Ideal S128x1024 .f32) (nw : FVec Ideal S1x1024 .f32) (l : Fin 128)
    (hy : ∀ ch, y (ix3 0 l ch) = ydiag fold2 I l ch + yoff fold2 I S l ch) (hk : ∀ ch, k (ix2 0 ch) = I.dk (hd ch)) (hz : ∀ ch, z (ix2 l ch) = I.Z l ch) (hn : ∀ ch, nw (ix2 0 ch) = I.nw ch) (ch : Fin 1024) :
    (k0_pay53 (F := Ideal) (k0_pay51 (k0_pay8 cv) y k z) (k0_pay52 (k0_pay8 cv) y k z) nw) (ix2 l ch) = Ssd.rows fold2 I S l ch := by
  rw [pay53_at, hn]
  unfold Ssd.rows
  refine congrArg (fun u => nrm u ch * I.nw ch) (funext fun q => ?_)
  rw [hy, hk, hz, ok.xs]
  rfl

end

end Cert.Proof.Ssd
end
-- ==== Proof.SsdChunk.lean ====
/- The two chunks of a point, block by block, in the forms the kernel writes them. -/
module

public import proofs.«01_k».proof.Proof.SsdKernel

@[expose] public section

set_option maxRecDepth 16384

noncomputable section

namespace Cert.Proof.Ssd

open Cert.SsdIdeal Cert.SsdIdeal.Gen Idealize.ShloMosaic Idealize.ShloMosaic.TcCoe Idealize.SL.Sem

section
variable {I : Chunk} {S : Fin 128 → Fin 1024 → EReal} {cv : FVec Ideal S128x1536 .f32} {dtr : FVec Ideal S128x128 .f32} {dtb alg : FVec Ideal S1x128 .f32}
    {lt : FVec Ideal S128x128 .bf16} {ex : FVec Ideal S128x1024 .bf16} {s0 s1 : FVec Ideal S1x128x512 .f32}
    (ok : Ok I S cv dtr dtb alg lt ex s0 s1)
include ok

theorem Ok.pA0 (l c : Fin 128) (ch : Fin 1024) (hch : ch.val = 128 * 0 + c.val) :
    (k0_pay26 (F := Ideal) (k0_pay12 dtr dtb alg lt) (k0_pay13 dtr dtb alg lt) (k0_pay16 (k0_pay8 cv) (k0_pay11 dtr dtb) (k0_pay12 dtr dtb alg lt) ex) k0_pay18 (iota Kind.tc S128x128 32 [1] iota_S128x128_d1_w32) (k0_pay21 (k0_pay9 cv) (k0_pay10 cv)) (k0_pay23 (k0_pay10 cv) (k0_pay11 dtr dtb) (k0_pay12 dtr dtb alg lt) ex s0)) (ix2 l c) = ydiag fold2 I l ch + yoff fold2 I S l ch :=
  (congrFun (pairA0 _ _ _ _ _) _).trans (pair_at I S 0 (by decide) _ _ _ _ rfl rfl rfl rfl _ _ _ _ _ _ _ _ _ _ _ ok.ac ok.act ok.xd ok.cb0 ok.yf0 l c ch hch)
theorem Ok.pA1 (l c : Fin 128) (ch : Fin 1024) (hch : ch.val = 128 * 1 + c.val) :
    (k0_pay29 (F := Ideal) (k0_pay12 dtr dtb alg lt) (k0_pay13 dtr dtb alg lt) (k0_pay16 (k0_pay8 cv) (k0_pay11 dtr dtb) (k0_pay12 dtr dtb alg lt) ex) k0_pay18 (iota Kind.tc S128x128 32 [1] iota_S128x128_d1_w32) (k0_pay21 (k0_pay9 cv) (k0_pay10 cv)) (k0_pay23 (k0_pay10 cv) (k0_pay11 dtr dtb) (k0_pay12 dtr dtb alg lt) ex s0) (k0_pay27 (k0_pay13 dtr dtb alg lt)) (k0_pay28 (k0_pay12 dtr dtb alg lt))) (ix2 l c) = ydiag fold2 I l ch + yoff fold2 I S l ch :=
  (congrFun (pairA1 _ _ _ _ _) _).trans (pair_at I S 1 (by decide) _ _ _ _ rfl rfl rfl rfl _ _ _ _ _ _ _ _ _ _ _ ok.ac ok.act ok.xd ok.cb0 ok.yf0 l c ch hch)
theorem Ok.pA2 (l c : Fin 128) (ch : Fin 1024) (hch : ch.val = 128 * 2 + c.val) :
    (k0_pay31 (F := Ideal) (k0_pay12 dtr dtb alg lt) (k0_pay13 dtr dtb alg lt) (k0_pay16 (k0_pay8 cv) (k0_pay11 dtr dtb) (k0_pay12 dtr dtb alg lt) ex) k0_pay18 (iota Kind.tc S128x128 32 [1] iota_S128x128_d1_w32) (k0_pay21 (k0_pay9 cv) (k0_pay10 cv)) (k0_pay23 (k0_pay10 cv) (k0_pay11 dtr dtb) (k0_pay12 dtr dtb alg lt) ex s0) (k0_pay30 (k0_pay12 dtr dtb alg lt) (k0_pay13 dtr dtb alg lt) k0_pay18 (k0_pay21 (k0_pay9 cv) (k0_pay10 cv)))) (ix2 l c) = ydiag fold2 I l ch + yoff fold2 I S l ch :=
  (congrFun (pairA2 _ _ _ _ _) _).trans (pair_at I S 2 (by decide) _ _ _ _ rfl rfl rfl rfl _ _ _ _ _ _ _ _ _ _ _ ok.ac ok.act ok.xd ok.cb0 ok.yf0 l c ch hch)
theorem Ok.pA3 (l c : Fin 128) (ch : Fin 1024) (hch : ch.val = 128 * 3 + c.val) :
    (k0_pay34 (F := Ideal) (k0_pay16 (k0_pay8 cv) (k0_pay11 dtr dtb) (k0_pay12 dtr dtb alg lt) ex) k0_pay18 (iota Kind.tc S128x128 32 [1] iota_S128x128_d1_w32) (k0_pay21 (k0_pay9 cv) (k0_pay10 cv)) (k0_pay23 (k0_pay10 cv) (k0_pay11 dtr dtb) (k0_pay12 dtr dtb alg lt) ex s0) (k0_pay32 (k0_pay12 dtr dtb alg lt) (k0_pay13 dtr dtb alg lt) k0_pay18 (k0_pay21 (k0_pay9 cv) (k0_pay10 cv))) (k0_pay33 (k0_pay12 dtr dtb alg lt) (k0_pay13 dtr dtb alg lt)) (FloatOps.ofBits FTy.f32 4286578688#32)) (ix2 l c) = ydiag fold2 I l ch + yoff fold2 I S l ch :=
  (congrFun (pairA3 _ _ _ _ _) _).trans (pair_at I S 3 (by decide) _ _ _ _ rfl rfl rfl rfl _ _ _ _ _ _ _ _ _ _ _ ok.ac ok.act ok.xd ok.cb0 ok.yf0 l c ch hch)
theorem Ok.pA4 (l c : Fin 128) (ch : Fin 1024) (hch : ch.val = 128 * 4 + c.val) :
    (k0_pay43 (F := Ideal) (k0_pay12 dtr dtb alg lt) (k0_pay13 dtr dtb alg lt) (k0_pay16 (k0_pay8 cv) (k0_pay11 dtr dtb) (k0_pay12 dtr dtb alg lt) ex) k0_pay18 (iota Kind.tc S128x128 32 [1] iota_S128x128_d1_w32) (k0_pay37 (k0_pay9 cv) (k0_pay10 cv)) (k0_pay39 (k0_pay10 cv) (k0_pay15 (k0_pay11 dtr dtb) (k0_pay12 dtr dtb alg lt) ex) s1)) (ix2 l c) = ydiag fold2 I l ch + yoff fold2 I S l ch :=
  (congrFun (pairA4 _ _ _ _ _) _).trans (pair_at I S 4 (by decide) _ _ _ _ rfl rfl rfl rfl _ _ _ _ _ _ _ _ _ _ _ ok.ac ok.act ok.xd ok.cb1 ok.yf1 l c ch hch)
theorem Ok.pA5 (l c : Fin 128) (ch : Fin 1024) (hch : ch.val = 128 * 5 + c.val) :
    (k0_pay44 (F := Ideal) (k0_pay12 dtr dtb alg lt) (k0_pay13 dtr dtb alg lt) (k0_pay16 (k0_pay8 cv) (k0_pay11 dtr dtb) (k0_pay12 dtr dtb alg lt) ex) k0_pay18 (iota Kind.tc S128x128 32 [1] iota_S128x128_d1_w32) (k0_pay37 (k0_pay9 cv) (k0_pay10 cv)) (k0_pay39 (k0_pay10 cv) (k0_pay15 (k0_pay11 dtr dtb) (k0_pay12 dtr dtb alg lt) ex) s1)) (ix2 l c) = ydiag fold2 I l ch + yoff fold2 I S l ch :=
  (congrFun (pairA5 _ _ _ _ _) _).trans (pair_at I S 5 (by decide) _ _ _ _ rfl rfl rfl rfl _ _ _ _ _ _ _ _ _ _ _ ok.ac ok.act ok.xd ok.cb1 ok.yf1 l c ch hch)
theorem Ok.pA6 (l c : Fin 128) (ch : Fin 1024) (hch : ch.val = 128 * 6 + c.val) :
    (k0_pay46 (F := Ideal) (k0_pay12 dtr dtb alg lt) (k0_pay13 dtr dtb alg lt) (k0_pay16 (k0_pay8 cv) (k0_pay11 dtr dtb) (k0_pay12 dtr dtb alg lt) ex) k0_pay18 (iota Kind.tc S128x128 32 [1] iota_S128x128_d1_w32) (k0_pay37 (k0_pay9 cv) (k0_pay10 cv)) (k0_pay39 (k0_pay10 cv) (k0_pay15 (k0_pay11 dtr dtb) (k0_pay12 dtr dtb alg lt) ex) s1) (k0_pay45 (k0_pay12 dtr dtb alg lt) (k0_pay13 dtr dtb alg lt)) (FloatOps.ofBits FTy.f32 4286578688#32)) (ix2 l c) = ydiag fold2 I l ch + yoff fold2 I S l ch :=
  (congrFun (pairA6 _ _ _ _ _) _).trans (pair_at I S 6 (by decide) _ _ _ _ rfl rfl rfl rfl _ _ _ _ _ _ _ _ _ _ _ ok.ac ok.act ok.xd ok.cb1 ok.yf1 l c ch hch)
theorem Ok.pA7 (l c : Fin 128) (ch : Fin 1024) (hch : ch.val = 128 * 7 + c.val) :
    (k0_pay50 (F := Ideal) (k0_pay16 (k0_pay8 cv) (k0_pay11 dtr dtb) (k0_pay12 dtr dtb alg lt) ex) k0_pay18 (iota Kind.tc S128x128 32 [1] iota_S128x128_d1_w32) (k0_pay37 (k0_pay9 cv) (k0_pay10 cv)) (k0_pay39 (k0_pay10 cv) (k0_pay15 (k0_pay11 dtr dtb) (k0_pay12 dtr dtb alg lt) ex) s1) (k0_pay47 (k0_pay12 dtr dtb alg lt) (k0_pay13 dtr dtb alg lt) k0_pay18 (k0_pay37 (k0_pay9 cv) (k0_pay10 cv))) (k0_pay48 (k0_pay12 dtr dtb alg lt)) (k0_pay49 (k0_pay13 dtr dtb alg lt))) (ix2 l c) = ydiag fold2 I l ch + yoff fold2 I S l ch :=
  (congrFun (pairA7 _ _ _ _ _) _).trans (pair_at I S 7 (by decide) _ _ _ _ rfl rfl rfl rfl _ _ _ _ _ _ _ _ _ _ _ ok.ac ok.act ok.xd ok.cb1 ok.yf1 l c ch hch)

end

section
variable {I : Chunk} {S : Fin 128 → Fin 1024 → EReal} {w : FVec Ideal S4x1536 .f32} {x5 x6 x7 x8 : FVec Ideal S128x1536 .f32} {bi : FVec Ideal S1x1536 .f32}
    {dtr : FVec Ideal S128x128 .f32} {dtb alg : FVec Ideal S1x128 .f32}
    {lt : FVec Ideal S128x128 .bf16} {ex : FVec Ideal S128x1024 .bf16} {s0 s1 : FVec Ideal S1x128x512 .f32}
    (ok : Ok I S (k0_pay5 w x5 x6 x7 x8 bi) dtr dtb alg lt ex s0 s1)
include ok

theorem Ok.pB0 (l c : Fin 128) (ch : Fin 1024) (hch : ch.val = 128 * 0 + c.val) :
    (k0_pay85 (F := Ideal) (k0_pay84 (k0_pay70 (k0_pay65 lt) (k0_pay66 dtr dtb alg) (k0_pay67 dtr dtb alg) (k0_pay68 dtr dtb alg) (k0_pay69 dtr dtb alg)) (k0_pay71 (k0_pay65 lt) (k0_pay66 dtr dtb alg) (k0_pay67 dtr dtb alg) (k0_pay68 dtr dtb alg) (k0_pay69 dtr dtb alg)) (k0_pay73 (k0_pay63 dtr dtb) (k0_pay65 lt) (k0_pay66 dtr dtb alg) (k0_pay67 dtr dtb alg) (k0_pay68 dtr dtb alg) (k0_pay69 dtr dtb alg) ex) (k0_pay74 (k0_pay60 (k0_pay56 w x5 x6 x7) x8 (k0_pay57 w) bi) (k0_pay63 dtr dtb) (k0_pay65 lt) (k0_pay66 dtr dtb alg) (k0_pay67 dtr dtb alg) (k0_pay68 dtr dtb alg) (k0_pay69 dtr dtb alg) ex) k0_pay76 (iota Kind.tc S128x128 32 [1] iota_S128x128_d1_w32) (k0_pay79 (k0_pay61 (k0_pay56 w x5 x6 x7) x8 (k0_pay57 w) bi) (k0_pay62 (k0_pay56 w x5 x6 x7) x8 (k0_pay57 w) bi)) (k0_pay81 (k0_pay62 (k0_pay56 w x5 x6 x7) x8 (k0_pay57 w) bi) s0))) (ix2 l c) = ydiag fold2 I l ch + yoff fold2 I S l ch :=
  (congrFun (pairB0 _ _ _ _ _ _) _).trans (pair_at I S 0 (by decide) _ _ _ _ rfl rfl rfl rfl _ _ _ _ _ _ _ _ _ _ _ ok.ac ok.act ok.xd ok.cb0 ok.yf0 l c ch hch)
theorem Ok.pB1 (l c : Fin 128) (ch : Fin 1024) (hch : ch.val = 128 * 1 + c.val) :
    (k0_pay87 (F := Ideal) (k0_pay86 (k0_pay70 (k0_pay65 lt) (k0_pay66 dtr dtb alg) (k0_pay67 dtr dtb alg) (k0_pay68 dtr dtb alg) (k0_pay69 dtr dtb alg)) (k0_pay71 (k0_pay65 lt) (k0_pay66 dtr dtb alg) (k0_pay67 dtr dtb alg) (k0_pay68 dtr dtb alg) (k0_pay69 dtr dtb alg)) (k0_pay74 (k0_pay60 (k0_pay56 w x5 x6 x7) x8 (k0_pay57 w) bi) (k0_pay63 dtr dtb) (k0_pay65 lt) (k0_pay66 dtr dtb alg) (k0_pay67 dtr dtb alg) (k0_pay68 dtr dtb alg) (k0_pay69 dtr dtb alg) ex) k0_pay76 (iota Kind.tc S128x128 32 [1] iota_S128x128_d1_w32) (k0_pay79 (k0_pay61 (k0_pay56 w x5 x6 x7) x8 (k0_pay57 w) bi) (k0_pay62 (k0_pay56 w x5 x6 x7) x8 (k0_pay57 w) bi)) (k0_pay82 (k0_pay73 (k0_pay63 dtr dtb) (k0_pay65 lt) (k0_pay66 dtr dtb alg) (k0_pay67 dtr dtb alg) (k0_pay68 dtr dtb alg) (k0_pay69 dtr dtb alg) ex) (k0_pay81 (k0_pay62 (k0_pay56 w x5 x6 x7) x8 (k0_pay57 w) bi) s0)))) (ix2 l c) = ydiag fold2 I l ch + yoff fold2 I S l ch :=
  (congrFun (pairB1 _ _ _ _ _) _).trans (pair_at I S 1 (by decide) _ _ _ _ rfl rfl rfl rfl _ _ _ _ _ _ _ _ _ _ _ ok.ac ok.act ok.xd ok.cb0 ok.yf0 l c ch hch)
theorem Ok.pB2 (l c : Fin 128) (ch : Fin 1024) (hch : ch.val = 128 * 2 + c.val) :
    (k0_pay88 (F := Ideal) (k0_pay70 (k0_pay65 lt) (k0_pay66 dtr dtb alg) (k0_pay67 dtr dtb alg) (k0_pay68 dtr dtb alg) (k0_pay69 dtr dtb alg)) (k0_pay71 (k0_pay65 lt) (k0_pay66 dtr dtb alg) (k0_pay67 dtr dtb alg) (k0_pay68 dtr dtb alg) (k0_pay69 dtr dtb alg)) (k0_pay74 (k0_pay60 (k0_pay56 w x5 x6 x7) x8 (k0_pay57 w) bi) (k0_pay63 dtr dtb) (k0_pay65 lt) (k0_pay66 dtr dtb alg) (k0_pay67 dtr dtb alg) (k0_pay68 dtr dtb alg) (k0_pay69 dtr dtb alg) ex) k0_pay76 (iota Kind.tc S128x128 32 [1] iota_S128x128_d1_w32) (k0_pay79 (k0_pay61 (k0_pay56 w x5 x6 x7) x8 (k0_pay57 w) bi) (k0_pay62 (k0_pay56 w x5 x6 x7) x8 (k0_pay57 w) bi)) (k0_pay82 (k0_pay73 (k0_pay63 dtr dtb) (k0_pay65 lt) (k0_pay66 dtr dtb alg) (k0_pay67 dtr dtb alg) (k0_pay68 dtr dtb alg) (k0_pay69 dtr dtb alg) ex) (k0_pay81 (k0_pay62 (k0_pay56 w x5 x6 x7) x8 (k0_pay57 w) bi) s0))) (ix2 l c) = ydiag fold2 I l ch + yoff fold2 I S l ch :=
  (congrFun (pairB2 _ _ _ _ _) _).trans (pair_at I S 2 (by decide) _ _ _ _ rfl rfl rfl rfl _ _ _ _ _ _ _ _ _ _ _ ok.ac ok.act ok.xd ok.cb0 ok.yf0 l c ch hch)
theorem Ok.pB3 (l c : Fin 128) (ch : Fin 1024) (hch : ch.val = 128 * 3 + c.val) :
    (k0_pay91 (F := Ideal) (k0_pay70 (k0_pay65 lt) (k0_pay66 dtr dtb alg) (k0_pay67 dtr dtb alg) (k0_pay68 dtr dtb alg) (k0_pay69 dtr dtb alg)) (k0_pay71 (k0_pay65 lt) (k0_pay66 dtr dtb alg) (k0_pay67 dtr dtb alg) (k0_pay68 dtr dtb alg) (k0_pay69 dtr dtb alg)) (k0_pay74 (k0_pay60 (k0_pay56 w x5 x6 x7) x8 (k0_pay57 w) bi) (k0_pay63 dtr dtb) (k0_pay65 lt) (k0_pay66 dtr dtb alg) (k0_pay67 dtr dtb alg) (k0_pay68 dtr dtb alg) (k0_pay69 dtr dtb alg) ex) k0_pay76 (iota Kind.tc S128x128 32 [1] iota_S128x128_d1_w32) (k0_pay79 (k0_pay61 (k0_pay56 w x5 x6 x7) x8 (k0_pay57 w) bi) (k0_pay62 (k0_pay56 w x5 x6 x7) x8 (k0_pay57 w) bi)) (k0_pay82 (k0_pay73 (k0_pay63 dtr dtb) (k0_pay65 lt) (k0_pay66 dtr dtb alg) (k0_pay67 dtr dtb alg) (k0_pay68 dtr dtb alg) (k0_pay69 dtr dtb alg) ex) (k0_pay81 (k0_pay62 (k0_pay56 w x5 x6 x7) x8 (k0_pay57 w) bi) s0)) (k0_pay89 (k0_pay71 (k0_pay65 lt) (k0_pay66 dtr dtb alg) (k0_pay67 dtr dtb alg) (k0_pay68 dtr dtb alg) (k0_pay69 dtr dtb alg))) (k0_pay90 (k0_pay70 (k0_pay65 lt) (k0_pay66 dtr dtb alg) (k0_pay67 dtr dtb alg) (k0_pay68 dtr dtb alg) (k0_pay69 dtr dtb alg)))) (ix2 l c) = ydiag fold2 I l ch + yoff fold2 I S l ch :=
  (congrFun (pairB3 _ _ _ _ _) _).trans (pair_at I S 3 (by decide) _ _ _ _ rfl rfl rfl rfl _ _ _ _ _ _ _ _ _ _ _ ok.ac ok.act ok.xd ok.cb0 ok.yf0 l c ch hch)
theorem Ok.pB4 (l c : Fin 128) (ch : Fin 1024) (hch : ch.val = 128 * 4 + c.val) :
    (k0_pay100 (F := Ideal) (k0_pay96 (k0_pay73 (k0_pay63 dtr dtb) (k0_pay65 lt) (k0_pay66 dtr dtb alg) (k0_pay67 dtr dtb alg) (k0_pay68 dtr dtb alg) (k0_pay69 dtr dtb alg) ex) (k0_pay93 (k0_pay62 (k0_pay56 w x5 x6 x7) x8 (k0_pay57 w) bi)) s1) (k0_pay98 (k0_pay70 (k0_pay65 lt) (k0_pay66 dtr dtb alg) (k0_pay67 dtr dtb alg) (k0_pay68 dtr dtb alg) (k0_pay69 dtr dtb alg)) (k0_pay71 (k0_pay65 lt) (k0_pay66 dtr dtb alg) (k0_pay67 dtr dtb alg) (k0_pay68 dtr dtb alg) (k0_pay69 dtr dtb alg)) k0_pay76 (k0_pay94 (k0_pay61 (k0_pay56 w x5 x6 x7) x8 (k0_pay57 w) bi) (k0_pay62 (k0_pay56 w x5 x6 x7) x8 (k0_pay57 w) bi))) (k0_pay99 (k0_pay74 (k0_pay60 (k0_pay56 w x5 x6 x7) x8 (k0_pay57 w) bi) (k0_pay63 dtr dtb) (k0_pay65 lt) (k0_pay66 dtr dtb alg) (k0_pay67 dtr dtb alg) (k0_pay68 dtr dtb alg) (k0_pay69 dtr dtb alg) ex) (iota Kind.tc S128x128 32 [1] iota_S128x128_d1_w32))) (ix2 l c) = ydiag fold2 I l ch + yoff fold2 I S l ch :=
  (congrFun (pairB4 _ _ _ _ _) _).trans (pair_at I S 4 (by decide) _ _ _ _ rfl rfl rfl rfl _ _ _ _ _ _ _ _ _ _ _ ok.ac ok.act ok.xd ok.cb1 ok.yf1 l c ch hch)
theorem Ok.pB5 (l c : Fin 128) (ch : Fin 1024) (hch : ch.val = 128 * 5 + c.val) :
    (k0_pay102 (F := Ideal) (k0_pay101 (k0_pay70 (k0_pay65 lt) (k0_pay66 dtr dtb alg) (k0_pay67 dtr dtb alg) (k0_pay68 dtr dtb alg) (k0_pay69 dtr dtb alg)) (k0_pay71 (k0_pay65 lt) (k0_pay66 dtr dtb alg) (k0_pay67 dtr dtb alg) (k0_pay68 dtr dtb alg) (k0_pay69 dtr dtb alg)) (k0_pay74 (k0_pay60 (k0_pay56 w x5 x6 x7) x8 (k0_pay57 w) bi) (k0_pay63 dtr dtb) (k0_pay65 lt) (k0_pay66 dtr dtb alg) (k0_pay67 dtr dtb alg) (k0_pay68 dtr dtb alg) (k0_pay69 dtr dtb alg) ex) k0_pay76 (iota Kind.tc S128x128 32 [1] iota_S128x128_d1_w32) (k0_pay94 (k0_pay61 (k0_pay56 w x5 x6 x7) x8 (k0_pay57 w) bi) (k0_pay62 (k0_pay56 w x5 x6 x7) x8 (k0_pay57 w) bi)) (k0_pay96 (k0_pay73 (k0_pay63 dtr dtb) (k0_pay65 lt) (k0_pay66 dtr dtb alg) (k0_pay67 dtr dtb alg) (k0_pay68 dtr dtb alg) (k0_pay69 dtr dtb alg) ex) (k0_pay93 (k0_pay62 (k0_pay56 w x5 x6 x7) x8 (k0_pay57 w) bi)) s1))) (ix2 l c) = ydiag fold2 I l ch + yoff fold2 I S l ch :=
  (congrFun (pairB5 _ _ _ _ _) _).trans (pair_at I S 5 (by decide) _ _ _ _ rfl rfl rfl rfl _ _ _ _ _ _ _ _ _ _ _ ok.ac ok.act ok.xd ok.cb1 ok.yf1 l c ch hch)
theorem Ok.pB6 (l c : Fin 128) (ch : Fin 1024) (hch : ch.val = 128 * 6 + c.val) :
    (k0_pay103 (F := Ideal) (k0_pay70 (k0_pay65 lt) (k0_pay66 dtr dtb alg) (k0_pay67 dtr dtb alg) (k0_pay68 dtr dtb alg) (k0_pay69 dtr dtb alg)) (k0_pay71 (k0_pay65 lt) (k0_pay66 dtr dtb alg) (k0_pay67 dtr dtb alg) (k0_pay68 dtr dtb alg) (k0_pay69 dtr dtb alg)) (k0_pay74 (k0_pay60 (k0_pay56 w x5 x6 x7) x8 (k0_pay57 w) bi) (k0_pay63 dtr dtb) (k0_pay65 lt) (k0_pay66 dtr dtb alg) (k0_pay67 dtr dtb alg) (k0_pay68 dtr dtb alg) (k0_pay69 dtr dtb alg) ex) k0_pay76 (iota Kind.tc S128x128 32 [1] iota_S128x128_d1_w32) (k0_pay94 (k0_pay61 (k0_pay56 w x5 x6 x7) x8 (k0_pay57 w) bi) (k0_pay62 (k0_pay56 w x5 x6 x7) x8 (k0_pay57 w) bi)) (k0_pay96 (k0_pay73 (k0_pay63 dtr dtb) (k0_pay65 lt) (k0_pay66 dtr dtb alg) (k0_pay67 dtr dtb alg) (k0_pay68 dtr dtb alg) (k0_pay69 dtr dtb alg) ex) (k0_pay93 (k0_pay62 (k0_pay56 w x5 x6 x7) x8 (k0_pay57 w) bi)) s1)) (ix2 l c) = ydiag fold2 I l ch + yoff fold2 I S l ch :=
  (congrFun (pairB6 _ _ _ _ _) _).trans (pair_at I S 6 (by decide) _ _ _ _ rfl rfl rfl rfl _ _ _ _ _ _ _ _ _ _ _ ok.ac ok.act ok.xd ok.cb1 ok.yf1 l c ch hch)
theorem Ok.pB7 (l c : Fin 128) (ch : Fin 1024) (hch : ch.val = 128 * 7 + c.val) :
    (k0_pay104 (F := Ideal) (k0_pay70 (k0_pay65 lt) (k0_pay66 dtr dtb alg) (k0_pay67 dtr dtb alg) (k0_pay68 dtr dtb alg) (k0_pay69 dtr dtb alg)) (k0_pay71 (k0_pay65 lt) (k0_pay66 dtr dtb alg) (k0_pay67 dtr dtb alg) (k0_pay68 dtr dtb alg) (k0_pay69 dtr dtb alg)) (k0_pay74 (k0_pay60 (k0_pay56 w x5 x6 x7) x8 (k0_pay57 w) bi) (k0_pay63 dtr dtb) (k0_pay65 lt) (k0_pay66 dtr dtb alg) (k0_pay67 dtr dtb alg) (k0_pay68 dtr dtb alg) (k0_pay69 dtr dtb alg) ex) k0_pay76 (iota Kind.tc S128x128 32 [1] iota_S128x128_d1_w32) (k0_pay94 (k0_pay61 (k0_pay56 w x5 x6 x7) x8 (k0_pay57 w) bi) (k0_pay62 (k0_pay56 w x5 x6 x7) x8 (k0_pay57 w) bi)) (k0_pay96 (k0_pay73 (k0_pay63 dtr dtb) (k0_pay65 lt) (k0_pay66 dtr dtb alg) (k0_pay67 dtr dtb alg) (k0_pay68 dtr dtb alg) (k0_pay69 dtr dtb alg) ex) (k0_pay93 (k0_pay62 (k0_pay56 w x5 x6 x7) x8 (k0_pay57 w) bi)) s1)) (ix2 l c) = ydiag fold2 I l ch + yoff fold2 I S l ch :=
  (congrFun (pairB7 _ _ _ _ _) _).trans (pair_at I S 7 (by decide) _ _ _ _ rfl rfl rfl rfl _ _ _ _ _ _ _ _ _ _ _ ok.ac ok.act ok.xd ok.cb1 ok.yf1 l c ch hch)

theorem Ok.n0B (n : Fin 128) (v : Fin 512) : (k0_pay83 (F := Ideal) (k0_pay73 (k0_pay63 dtr dtb) (k0_pay65 lt) (k0_pay66 dtr dtb alg) (k0_pay67 dtr dtb alg) (k0_pay68 dtr dtb alg) (k0_pay69 dtr dtb alg) ex) (k0_pay75 (k0_pay60 (k0_pay56 w x5 x6 x7) x8 (k0_pay57 w) bi) (k0_pay63 dtr dtb) (k0_pay65 lt) (k0_pay66 dtr dtb alg) (k0_pay67 dtr dtb alg) (k0_pay68 dtr dtb alg) (k0_pay69 dtr dtb alg) ex) (k0_pay77 (k0_pay61 (k0_pay56 w x5 x6 x7) x8 (k0_pay57 w) bi)) (k0_pay80 s0)) (ix3 0 n v) = next fold2 I S n ⟨v.val, by omega⟩ :=
  ok.n0 n v
theorem Ok.n1B (n : Fin 128) (v : Fin 512) : (k0_pay97 (F := Ideal) (k0_pay73 (k0_pay63 dtr dtb) (k0_pay65 lt) (k0_pay66 dtr dtb alg) (k0_pay67 dtr dtb alg) (k0_pay68 dtr dtb alg) (k0_pay69 dtr dtb alg) ex) (k0_pay75 (k0_pay60 (k0_pay56 w x5 x6 x7) x8 (k0_pay57 w) bi) (k0_pay63 dtr dtb) (k0_pay65 lt) (k0_pay66 dtr dtb alg) (k0_pay67 dtr dtb alg) (k0_pay68 dtr dtb alg) (k0_pay69 dtr dtb alg) ex) (k0_pay92 (k0_pay61 (k0_pay56 w x5 x6 x7) x8 (k0_pay57 w) bi)) s1) (ix3 0 n v) = next fold2 I S n ⟨512 + v.val, by omega⟩ :=
  ok.n1 n v
theorem Ok.rowsB (y : FVec Ideal S1x128x1024 .f32) (k : FVec Ideal S1x1024 .f32) (z : FVec Ideal S128x1024 .f32) (nw : FVec Ideal S1x1024 .f32) (l : Fin 128)
    (hy : ∀ ch, y (ix3 0 l ch) = ydiag fold2 I l ch + yoff fold2 I S l ch) (hk : ∀ ch, k (ix2 0 ch) = I.dk (hd ch)) (hz : ∀ ch, z (ix2 l ch) = I.Z l ch) (hn : ∀ ch, nw (ix2 0 ch) = I.nw ch) (ch : Fin 1024) :
    (k0_pay1 (F := Ideal) (k0_pay60 (k0_pay56 w x5 x6 x7) x8 (k0_pay57 w) bi) (k0_pay105 y) k z nw) (ix2 l ch) = Ssd.rows fold2 I S l ch :=
  ok.rows y k z nw l hy hk hz hn ch
end

end Cert.Proof.Ssd
end
-- ==== Proof.SsdReads.lean ====
/- What the windows of the scan hold at a point, in terms of the program's arguments. -/
module

public import proofs.«01_k».proof.Proof.Gen.SsdIdeal.Value
public import proofs.«01_k».proof.Proof.SsdRef
public import proofs.«01_k».proof.Proof.SsdKernel
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Claim
public import Idealize.ShloMosaic.Lib.StableHlo.ReadAt

@[expose] public section

set_option maxRecDepth 16384

noncomputable section

namespace Cert.Proof.Ssd

open Cert.SsdIdeal Cert.SsdIdeal.Gen Idealize.ShloMosaic Idealize.ShloMosaic.TcCoe Idealize.SL.Sem
open Idealize.ShloMosaic.Pipeline (Dat)

variable (m : (ℓ : Loc nD τ sig) → Buf (Elt Ideal) ℓ)

/-- The block indices of the windows at every point of the grid. -/
theorem idx : ∀ t : Fin cfg0.N, win0_0.index t = ![t.val, 0] ∧ win0_1.index t = ![t.val, 3] ∧ win0_2.index t = ![t.val, 40] ∧
    win0_3.index t = ![0, 0] ∧ win0_4.index t = ![0, 0] ∧ win0_5.index t = ![0, 0] ∧ win0_6.index t = ![0, 0] ∧ win0_7.index t = ![0, 0] ∧
    win0_8.index t = ![0, 0] ∧ win0_9.index t = ![0, 0] ∧ win0_10.index t = ![0, 0] ∧ win0_11.index t = ![t.val, 0] :=
  (by decide +kernel : ∀ t : Fin grid0.N, _)

theorem rd0 (c : Dev nD) (t : Fin cfg0.N) (y : S256x1536.Idx) (k : Fin 8192) (l : Fin 5376) (hk : k.val = t.val * 256 + (y 0).val) (hl : l.val = (y 1).val) :
    X0_0 m c t y = m ((c : Thread nD τ).loc main_arg0) (ix2 k l) := by
  unfold X0_0
  unfold Pipeline.Window.fill
  rw [dif_pos (moved0_0 t y)]
  blk_ext [iblk, V, idx t]

theorem rd1 (c : Dev nD) (t : Fin cfg0.N) (y : S256x1024.Idx) (k : Fin 8192) (l : Fin 5376) (hk : k.val = t.val * 256 + (y 0).val) (hl : l.val = 3072 + (y 1).val) :
    X0_1 m c t y = m ((c : Thread nD τ).loc main_arg0) (ix2 k l) := by
  unfold X0_1
  unfold Pipeline.Window.fill
  rw [dif_pos (moved0_1 t y)]
  blk_ext [iblk, V, idx t]

theorem rd2 (c : Dev nD) (t : Fin cfg0.N) (y : S256x128.Idx) (k : Fin 8192) (l : Fin 5376) (hk : k.val = t.val * 256 + (y 0).val) (hl : l.val = 5120 + (y 1).val) :
    iblk m c 2 t y = m ((c : Thread nD τ).loc main_arg0) (ix2 k l) := by
  blk_ext [iblk, V, idx t]

theorem bit_at (p : Prop) [Decidable p] (b : BitVec 1) (h : b = 1 ↔ p) : (FloatOps.uitofp (F := Ideal) FTy.f32 b : EReal) = if p then 1 else 0 := by
  show ((b.toNat : ℝ) : EReal) = _
  by_cases hp : p
  · rw [if_pos hp, h.mpr hp]
    show (((1 : ℕ) : ℝ) : EReal) = 1
    norm_num
  · have hb : b = 0#1 := by
      rcases (by decide : ∀ b : BitVec 1, b = 0#1 ∨ b = 1#1) b with hb | hb
      · exact hb
      · exact absurd (h.mp hb) hp
    rw [if_neg hp, hb]
    norm_num

/-- The word of a channel's head, as the quotient towards minus infinity is spelled. -/
theorem head_word : ∀ ch : Fin 1024, Scalar.select
          (IntOp.andi
            (IntOp.cmpi CmpIPredicate.ne
              (if BitVec.ofNat 32 ch.val = 0 then 0 else if (BitVec.ofNat 32 ch.val).msb = true then -1 else 1)
              (if (64#32) = 0 then 0 else if BitVec.msb (64#32) = true then -1 else 1 : BitVec 32))
            (IntOp.cmpi CmpIPredicate.ne (IntOp.remsi ArithUnit.host (BitVec.ofNat 32 ch.val) (64#32)) 0#32))
          (IntOp.subi (IntOp.divsi ArithUnit.host (BitVec.ofNat 32 ch.val) (64#32)) 1#32)
          (IntOp.divsi ArithUnit.host (BitVec.ofNat 32 ch.val) (64#32)) = BitVec.ofNat 32 (ch.val / 64) := by
  decide +kernel

theorem V_v0 (c : Dev nD) (i : Fin 4) (ch : Fin 1536) : V m c main_v0 (ix2 i ch) = m ((c : Thread nD τ).loc main_arg1) (ix3 0 i ch) := by
  unfold V
  simp only [List.flatten_cons, List.flatten_nil, List.cons_append, List.nil_append, List.append_nil]
  after_reads_at

theorem V_v2 (c : Dev nD) (ch : Fin 1536) : V m c main_v2 (ix2 0 ch) = m ((c : Thread nD τ).loc main_arg2) (ix2 0 ch) := by
  unfold V
  simp only [List.flatten_cons, List.flatten_nil, List.cons_append, List.nil_append, List.append_nil]
  after_reads_at

theorem V_v5 (c : Dev nD) (h : Fin 16) : V m c main_v5 (ix2 0 (lane h)) = m ((c : Thread nD τ).loc main_arg3) (ix2 0 h) := by
  unfold V
  simp only [List.flatten_cons, List.flatten_nil, List.cons_append, List.nil_append, List.append_nil]
  after_reads_at
  rw [dif_pos (show (lane h).val < 16 from h.isLt)]
  rfl

theorem V_v8 (c : Dev nD) (h : Fin 16) : V m c main_v8 (ix2 0 (lane h)) = m ((c : Thread nD τ).loc main_arg4) (ix2 0 h) := by
  unfold V
  simp only [List.flatten_cons, List.flatten_nil, List.cons_append, List.nil_append, List.append_nil]
  after_reads_at
  rw [dif_pos (show (lane h).val < 16 from h.isLt)]
  rfl

theorem V_v12 (c : Dev nD) (ch : Fin 1024) : V m c main_v12 (ix2 0 ch) = m ((c : Thread nD τ).loc main_arg5) (ix2 0 (hd ch)) := by
  unfold V
  simp only [List.flatten_cons, List.flatten_nil, List.cons_append, List.nil_append, List.append_nil]
  after_reads_at
  rfl

theorem V_v14 (c : Dev nD) (ch : Fin 1024) : V m c main_v14 (ix2 0 ch) = m ((c : Thread nD τ).loc main_arg6) (ix2 0 ch) := by
  unfold V
  simp only [List.flatten_cons, List.flatten_nil, List.cons_append, List.nil_append, List.append_nil]
  after_reads_at

theorem V_v19 (c : Dev nD) (l s : Fin 128) : V m c main_v19 (ix2 l s) = (if s ≤ l then (1 : EReal) else 0) := by
  unfold V
  simp only [List.flatten_cons, List.flatten_nil, List.cons_append, List.nil_append, List.append_nil]
  after_reads_at
  exact bit_at (s ≤ l) _ ((WordCmp.cmpi_sge_ofNat_eq_one_iff (w := 32) (by omega) (by omega)).trans Fin.le_def.symm)

theorem V_v25 (c : Dev nD) (h : Fin 128) (ch : Fin 1024) : V m c main_v25 (ix2 h ch) = (if ch.val / 64 = h.val then (1 : EReal) else 0) := by
  unfold V
  simp only [List.flatten_cons, List.flatten_nil, List.cons_append, List.nil_append, List.append_nil]
  after_reads_at
  refine (congrArg (fun z => (FloatOps.uitofp (F := Ideal) FTy.f32 (IntOp.cmpi CmpIPredicate.eq z (BitVec.ofNat 32 h.val)) : EReal)) (head_word ch)).trans ?_
  refine bit_at (ch.val / 64 = h.val) _ ?_
  have hh := h.isLt
  have hc := ch.isLt
  have e : IntOp.cmpi CmpIPredicate.eq (BitVec.ofNat 32 (ch.val / 64)) (BitVec.ofNat 32 h.val) = 1 ↔ BitVec.ofNat 32 (ch.val / 64) = BitVec.ofNat 32 h.val := by
    generalize BitVec.ofNat 32 (ch.val / 64) = x
    generalize BitVec.ofNat 32 h.val = y
    by_cases q : x = y
    · simp [IntOp.cmpi, q]
    · have q' : (x == y) = false := by simpa using q
      refine ⟨fun w => absurd w ?_, fun w => absurd w q⟩
      show ¬BitVec.ofBool (x == y) = 1#1
      rw [q']
      decide
  refine e.trans ⟨fun w => ?_, fun w => by rw [w]⟩
  have w' := congrArg BitVec.toNat w
  simp only [BitVec.toNat_ofNat] at w'
  omega

theorem rd3 (c : Dev nD) (t : Fin cfg0.N) (i : Fin 4) (ch : Fin 1536) : iblk m c 3 t (ix2 i ch) = m ((c : Thread nD τ).loc main_arg1) (ix3 0 i ch) :=
  Eq.trans (b := V m c main_v0 (ix2 i ch)) (by blk_ext [iblk, idx t]) (V_v0 m c i ch)

theorem rd4 (c : Dev nD) (t : Fin cfg0.N) (ch : Fin 1536) : iblk m c 4 t (ix2 0 ch) = m ((c : Thread nD τ).loc main_arg2) (ix2 0 ch) :=
  Eq.trans (b := V m c main_v2 (ix2 0 ch)) (by blk_ext [iblk, idx t]) (V_v2 m c ch)

theorem rd5 (c : Dev nD) (t : Fin cfg0.N) (h : Fin 16) : iblk m c 5 t (ix2 0 (lane h)) = m ((c : Thread nD τ).loc main_arg3) (ix2 0 h) :=
  Eq.trans (b := V m c main_v5 (ix2 0 (lane h))) (by blk_ext [iblk, idx t]) (V_v5 m c h)

theorem rd6 (c : Dev nD) (t : Fin cfg0.N) (h : Fin 16) : iblk m c 6 t (ix2 0 (lane h)) = m ((c : Thread nD τ).loc main_arg4) (ix2 0 h) :=
  Eq.trans (b := V m c main_v8 (ix2 0 (lane h))) (by blk_ext [iblk, idx t]) (V_v8 m c h)

theorem rd7 (c : Dev nD) (t : Fin cfg0.N) (ch : Fin 1024) : iblk m c 7 t (ix2 0 ch) = m ((c : Thread nD τ).loc main_arg5) (ix2 0 (hd ch)) :=
  Eq.trans (b := V m c main_v12 (ix2 0 ch)) (by blk_ext [iblk, idx t]) (V_v12 m c ch)

theorem rd8 (c : Dev nD) (t : Fin cfg0.N) (ch : Fin 1024) : iblk m c 8 t (ix2 0 ch) = m ((c : Thread nD τ).loc main_arg6) (ix2 0 ch) :=
  Eq.trans (b := V m c main_v14 (ix2 0 ch)) (by blk_ext [iblk, idx t]) (V_v14 m c ch)

theorem rd9 (c : Dev nD) (t : Fin cfg0.N) (l s : Fin 128) : iblk m c 9 t (ix2 l s) = (if s ≤ l then (1 : EReal) else 0) :=
  Eq.trans (b := V m c main_v19 (ix2 l s)) (by blk_ext [iblk, idx t]) (V_v19 m c l s)

theorem rd10 (c : Dev nD) (t : Fin cfg0.N) (h : Fin 128) (ch : Fin 1024) : iblk m c 10 t (ix2 h ch) = (if ch.val / 64 = h.val then (1 : EReal) else 0) :=
  Eq.trans (b := V m c main_v25 (ix2 h ch)) (by blk_ext [iblk, idx t]) (V_v25 m c h ch)

/-! ### In terms of the arguments -/

/-- The program's arguments. -/
def A (c : Dev nD) : Args := argsOf (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))

theorem at0 (c : Dev nD) (t : Fin cfg0.N) (r : Fin 256) (ch : Fin 1536) : X0_0 m c t (ix2 r ch) = (A m c).P (t.val * 256 + r.val) ch.val := by
  have ht : t.val < 32 := t.isLt
  rw [rd0 m c t _ ⟨t.val * 256 + r.val, by omega⟩ ⟨ch.val, by omega⟩ rfl rfl]
  exact args_P _ _ _ _ _ _ _ _ _ _ _ rfl rfl
theorem at1 (c : Dev nD) (t : Fin cfg0.N) (r : Fin 256) (ch : Fin 1024) : X0_1 m c t (ix2 r ch) = (A m c).P (t.val * 256 + r.val) (3072 + ch.val) := by
  have ht : t.val < 32 := t.isLt
  rw [rd1 m c t _ ⟨t.val * 256 + r.val, by omega⟩ ⟨3072 + ch.val, by omega⟩ rfl rfl]
  exact args_P _ _ _ _ _ _ _ _ _ _ _ rfl rfl
theorem at2 (c : Dev nD) (t : Fin cfg0.N) (r : Fin 256) (h : Fin 16) : iblk m c 2 t (ix2 r (lane h)) = (A m c).P (t.val * 256 + r.val) (5120 + h.val) := by
  have ht : t.val < 32 := t.isLt
  rw [rd2 m c t _ ⟨t.val * 256 + r.val, by omega⟩ ⟨5120 + h.val, by omega⟩ rfl rfl]
  exact args_P _ _ _ _ _ _ _ _ _ _ _ rfl rfl

/-- The vectors of a point's chunk hold that chunk. -/
theorem ok_of (c : Dev nD) (t : Fin cfg0.N) (u : ℕ) (hu : u < 2) (S : Fin 128 → Fin 1024 → EReal) (x5 x6 x7 x8 : FVec Ideal S128x1536 .f32)
    (h5 : ∀ (l : Fin 128) (ch : Fin 1536), x5 (ix2 l ch) = row (A m c) (t.val / 16) ((2 * (t.val % 16) + u) * 128 + l.val) ch)
    (h6 : ∀ (l : Fin 128) (ch : Fin 1536), x6 (ix2 l ch) = row (A m c) (t.val / 16) ((2 * (t.val % 16) + u) * 128 + l.val + 1) ch)
    (h7 : ∀ (l : Fin 128) (ch : Fin 1536), x7 (ix2 l ch) = row (A m c) (t.val / 16) ((2 * (t.val % 16) + u) * 128 + l.val + 2) ch)
    (h8 : ∀ (l : Fin 128) (ch : Fin 1536), x8 (ix2 l ch) = row (A m c) (t.val / 16) ((2 * (t.val % 16) + u) * 128 + l.val + 3) ch)
    (dtr : FVec Ideal S128x128 .f32) (hd' : ∀ (l : Fin 128) (h : Fin 16), dtr (ix2 l (lane h)) = (A m c).P (t.val * 256 + (u * 128 + l.val)) (5120 + h.val))
    (s0 s1 : FVec Ideal S1x128x512 .f32) (hs0 : ∀ (n : Fin 128) (w : Fin 512), s0 (ix3 0 n w) = S n ⟨w.val, by omega⟩)
    (hs1 : ∀ (n : Fin 128) (w : Fin 512), s1 (ix3 0 n w) = S n ⟨512 + w.val, by omega⟩) :
    Ok (chunk (A m c) (t.val / 16) (2 * (t.val % 16) + u)) S (k0_pay5 (F := Ideal) (iblk m c 3 t) x5 x6 x7 x8 (iblk m c 4 t)) dtr (iblk m c 5 t) (iblk m c 6 t)
      (iblk m c 9 t) (iblk m c 10 t) s0 s1 where
  cv l ch := by
    have e : (k0_pay5 (F := Ideal) (iblk m c 3 t) x5 x6 x7 x8 (iblk m c 4 t)) (ix2 l ch) = conv (A m c) (t.val / 16) ((2 * (t.val % 16) + u) * 128 + l.val) ch := by
      rw [pay5_at, h5, h6, h7, h8, rd3, rd3, rd3, rd3, rd4]
      rfl
    rw [e]
    rfl
  dt l h := by
    rw [hd', rd5]
    have e : t.val * 256 + (u * 128 + l.val) = t.val / 16 * 4096 + ((2 * (t.val % 16) + u) * 128 + l.val) := by omega
    rw [e]
    rfl
  al h := by
    rw [rd6]
    rfl
  lt := rd9 m c t
  ex := rd10 m c t
  s0 := hs0
  s1 := hs1

end Cert.Proof.Ssd
end
-- ==== Proof.SsdView.lean ====
/- What the scratch buffers of the scan read back after the writes of a point. -/
module

public import proofs.«01_k».proof.Proof.SsdReads
public import Idealize.ShloMosaic.Lib.WritesUnit

@[expose] public section

set_option maxRecDepth 16384

noncomputable section

namespace Cert.Proof.Ssd

open Cert.SsdIdeal Cert.SsdIdeal.Gen Idealize.ShloMosaic Idealize.ShloMosaic.TcCoe Idealize.SL.Sem

section
variable {s : Shape} {e : EltTy} {off size : Fin s.rank → ℕ} (inb : ∀ a, off a + size a ≤ s.size a)

theorem canon_mem (w : (Rect.unit off size inb).shape.Idx → Elt Ideal e) (L : List (View.Piece (Elt Ideal) s e)) (y : s.Idx) (x : (Rect.unit off size inb).shape.Idx)
    (hx : ∀ a, (y a).val = off a + (x a).val) : View.canon ((⟨Rect.unit off size inb, w⟩ : View.Piece (Elt Ideal) s e) :: L) y = w x := by
  have hy : (Rect.unit off size inb).emb x = y := funext fun a => Fin.ext (by
    show off a + 1 * (x a).val = (y a).val
    rw [hx a, Nat.one_mul])
  rw [← hy]
  exact View.canon_cons_emb _ _ _ _

theorem canon_off (w : (Rect.unit off size inb).shape.Idx → Elt Ideal e) (L : List (View.Piece (Elt Ideal) s e)) (y : s.Idx) (a : Fin s.rank)
    (ha : (y a).val < off a ∨ off a + size a ≤ (y a).val) : View.canon ((⟨Rect.unit off size inb, w⟩ : View.Piece (Elt Ideal) s e) :: L) y = View.canon L y := by
  refine View.canon_cons_of_not_mem _ _ ?_
  rw [Rect.mem_set_unit]
  intro hall
  have := hall a
  omega
end

/-! ### The convolution's rows -/

abbrev pcHi (p : FVec Ideal S128x1536 .f32) : View.Piece (Elt Ideal) S136x1536 .f32 := ⟨Rect.unit ![8, 0] ![128, 1536] inb_S136x1536_S128x1536_8_0, p⟩
abbrev pcLo (q : FVec Ideal S8x1536 .f32) : View.Piece (Elt Ideal) S136x1536 .f32 := ⟨Rect.unit ![0, 0] ![8, 1536] inb_S136x1536_S8x1536_0_0, q⟩

theorem ext_hi (p : FVec Ideal S128x1536 .f32) (L : List (View.Piece (Elt Ideal) S136x1536 .f32)) (y : S136x1536.Idx) (l : Fin 128) (ch : Fin 1536)
    (h0 : (y 0).val = 8 + l.val) (h1 : (y 1).val = ch.val) : View.canon (pcHi p :: L) y = p (ix2 l ch) :=
  canon_mem (s := S136x1536) (off := ![8, 0]) (size := ![128, 1536]) (e := .f32) inb_S136x1536_S128x1536_8_0 p L y (ix2 l ch) (fun a => by fin_cases a; exact h0; exact h1.trans (Nat.zero_add _).symm)
theorem ext_lo (q : FVec Ideal S8x1536 .f32) (L : List (View.Piece (Elt Ideal) S136x1536 .f32)) (y : S136x1536.Idx) (r : Fin 8) (ch : Fin 1536)
    (h0 : (y 0).val = r.val) (h1 : (y 1).val = ch.val) : View.canon (pcLo q :: L) y = q (ix2 r ch) :=
  canon_mem (s := S136x1536) (off := ![0, 0]) (size := ![8, 1536]) (e := .f32) inb_S136x1536_S8x1536_0_0 q L y (ix2 r ch) (fun a => by fin_cases a; exact h0.trans (Nat.zero_add _).symm; exact h1.trans (Nat.zero_add _).symm)
theorem ext_skip (p : FVec Ideal S128x1536 .f32) (L : List (View.Piece (Elt Ideal) S136x1536 .f32)) (y : S136x1536.Idx)
    (h0 : (y 0).val < 8) : View.canon (pcHi p :: L) y = View.canon L y :=
  canon_off (s := S136x1536) (off := ![8, 0]) (size := ![128, 1536]) (e := .f32) inb_S136x1536_S128x1536_8_0 p L y 0 (Or.inl h0)

section
variable (G : ℕ → Fin 1536 → EReal) (o : ℕ) (ho : o ≤ 8) (ho5 : 5 ≤ o) (inb : ∀ a, (![o, 0] : Fin 2 → ℕ) a + (![128, 1536] : Fin 2 → ℕ) a ≤ S136x1536.size a)
    (p : FVec Ideal S128x1536 .f32) (hp : ∀ l ch, p (ix2 l ch) = G (8 + l.val) ch) (l : Fin 128) (ch : Fin 1536)
include ho ho5 hp

theorem rd_ext (q : FVec Ideal S8x1536 .f32) (L : List (View.Piece (Elt Ideal) S136x1536 .f32)) (hq : ∀ (r : Fin 8) ch, 5 ≤ r.val → q (ix2 r ch) = G r.val ch) :
    View.readCov (View.whole cc0_scratch0) (pcHi p :: pcLo q :: L) (Rect.unit (s := S136x1536) ![o, 0] ![128, 1536] inb).toLoadRect (ix2 l ch) = G (o + l.val) ch := by
  have hl := l.isLt
  rw [View.readCov_eq_canon']
  have e0 : (((Rect.unit (s := S136x1536) ![o, 0] ![128, 1536] inb).toLoadRect.idx (ix2 l ch)) 0).val = o + l.val := by
    show o + 1 * l.val = _
    omega
  have e1 : (((Rect.unit (s := S136x1536) ![o, 0] ![128, 1536] inb).toLoadRect.idx (ix2 l ch)) 1).val = ch.val := by
    show 0 + 1 * ch.val = _
    omega
  by_cases h : o + l.val < 8
  · refine (ext_skip p _ _ (by omega)).trans ((ext_lo q L _ ⟨o + l.val, h⟩ ch e0 e1).trans (hq ⟨o + l.val, h⟩ ch ?_))
    show 5 ≤ o + l.val
    omega
  · refine (ext_hi p _ _ ⟨o + l.val - 8, by omega⟩ ch (by rw [e0]; show _ = 8 + (o + l.val - 8); omega) e1).trans ((hp _ ch).trans ?_)
    refine congrArg (fun z => G z ch) ?_
    show 8 + (o + l.val - 8) = _
    omega

theorem ld_ext (f : (View.whole cc0_scratch0).ty.Contents (Elt Ideal)) (hf : ∀ (r : Fin 136) ch, 5 ≤ r.val → r.val < 8 → View.read (Elt Ideal) (View.whole cc0_scratch0) f (ix2 r ch) = G r.val ch) :
    View.ld (View.read (Elt Ideal) (View.whole cc0_scratch0) (View.writes (View.whole cc0_scratch0) (Elt Ideal) f [pcHi p])) (Rect.unit (s := S136x1536) ![o, 0] ![128, 1536] inb) (ix2 l ch) = G (o + l.val) ch := by
  have hl := l.isLt
  refine (View.ld_unit_apply_of _ _ _ _ _ (ix2 ⟨o + l.val, by omega⟩ ch) (fun a => by fin_cases a; rfl; exact (Nat.zero_add _).symm)).trans ?_
  by_cases h : o + l.val < 8
  · refine (View.read_writes_cons_unit_of_not_mem (View.whole cc0_scratch0) f inb_S136x1536_S128x1536_8_0 p [] (ix2 ⟨o + l.val, by omega⟩ ch) rfl 0 (Or.inl h)).trans ?_
    exact hf ⟨o + l.val, by omega⟩ ch (by show 5 ≤ o + l.val; omega) h
  · refine (View.read_writes_cons_unit_of_mem (View.whole cc0_scratch0) f inb_S136x1536_S128x1536_8_0 p [] (ix2 ⟨o + l.val, by omega⟩ ch) (ix2 ⟨o + l.val - 8, by omega⟩ ch) rfl
      (fun a => by fin_cases a; show o + l.val = 8 + (o + l.val - 8); omega; exact (Nat.zero_add _).symm)).trans ((hp _ ch).trans ?_)
    refine congrArg (fun z => G z ch) ?_
    show 8 + (o + l.val - 8) = _
    omega
end

/-- The last eight rows written, read back. -/
theorem rd_tail (p : FVec Ideal S128x1536 .f32) (L : List (View.Piece (Elt Ideal) S136x1536 .f32)) (r : Fin 8) (ch : Fin 1536) :
    View.readCov (View.whole cc0_scratch0) (pcHi p :: L) (Rect.unit (s := S136x1536) ![128, 0] ![8, 1536] inb_S136x1536_S8x1536_128_0).toLoadRect (ix2 r ch) = p (ix2 ⟨120 + r.val, by omega⟩ ch) := by
  rw [View.readCov_eq_canon']
  refine ext_hi p _ _ ⟨120 + r.val, by omega⟩ ch ?_ ?_
  · show 128 + 1 * r.val = 8 + (120 + r.val)
    omega
  · show 0 + 1 * ch.val = ch.val
    omega

/-! ### The state -/

abbrev pcS0 (f : FVec Ideal S1x128x512 .f32) : View.Piece (Elt Ideal) S2x128x512 .f32 := ⟨Rect.unit ![0, 0, 0] ![1, 128, 512] inb_S2x128x512_S1x128x512_0_0_0, f⟩
abbrev pcS1 (f : FVec Ideal S1x128x512 .f32) : View.Piece (Elt Ideal) S2x128x512 .f32 := ⟨Rect.unit ![1, 0, 0] ![1, 128, 512] inb_S2x128x512_S1x128x512_1_0_0, f⟩

theorem st_one (f : FVec Ideal S1x128x512 .f32) (L : List (View.Piece (Elt Ideal) S2x128x512 .f32)) (n : Fin 128) (w : Fin 512) :
    View.canon (pcS1 f :: L) (ix3 1 n w) = f (ix3 0 n w) :=
  canon_mem (s := S2x128x512) (off := ![1, 0, 0]) (size := ![1, 128, 512]) (e := .f32) inb_S2x128x512_S1x128x512_1_0_0 f L _ (ix3 0 n w) (fun a => by fin_cases a; rfl; exact (Nat.zero_add _).symm; exact (Nat.zero_add _).symm)
theorem st_zero (f g : FVec Ideal S1x128x512 .f32) (L : List (View.Piece (Elt Ideal) S2x128x512 .f32)) (n : Fin 128) (w : Fin 512) :
    View.canon (pcS1 g :: pcS0 f :: L) (ix3 0 n w) = f (ix3 0 n w) :=
  (canon_off (s := S2x128x512) (off := ![1, 0, 0]) (size := ![1, 128, 512]) (e := .f32) inb_S2x128x512_S1x128x512_1_0_0 g _ _ 0 (Or.inl (by show 0 < 1; omega))).trans
    (canon_mem (s := S2x128x512) (off := ![0, 0, 0]) (size := ![1, 128, 512]) (e := .f32) inb_S2x128x512_S1x128x512_0_0_0 f L _ (ix3 0 n w) (fun a => by fin_cases a; rfl; exact (Nat.zero_add _).symm; exact (Nat.zero_add _).symm))

theorem rd_s0 (f g : FVec Ideal S1x128x512 .f32) (L : List (View.Piece (Elt Ideal) S2x128x512 .f32)) :
    View.readCov (View.whole cc0_scratch1) (pcS1 g :: pcS0 f :: L) (Rect.unit (s := S2x128x512) ![0, 0, 0] ![1, 128, 512] inb_S2x128x512_S1x128x512_0_0_0).toLoadRect = f :=
  (View.readCov_skip _ _ _ _ _ (by decide)).trans (View.readCov_cons_toLoadRect _ _ _ _)
theorem rd_s1 (f g : FVec Ideal S1x128x512 .f32) (L : List (View.Piece (Elt Ideal) S2x128x512 .f32)) :
    View.readCov (View.whole cc0_scratch1) (pcS0 f :: pcS1 g :: L) (Rect.unit (s := S2x128x512) ![1, 0, 0] ![1, 128, 512] inb_S2x128x512_S1x128x512_1_0_0).toLoadRect = g :=
  (View.readCov_skip _ _ _ _ _ (by decide)).trans (View.readCov_cons_toLoadRect _ _ _ _)

theorem pay3_at (y : S2x128x512.Idx) : (k0_pay3 (F := Ideal)) y = 0 := by
  pointwise [k0_pay3]
  try exact Ideal.ofBits_zero _
theorem pay2_at (y : S8x1536.Idx) : (k0_pay2 (F := Ideal)) y = 0 := by
  pointwise [k0_pay2]
  try exact Ideal.ofBits_zero _
theorem pay4_at (v : FVec Ideal S128x1536 .f32) (l : Fin 128) (ch : Fin 1536) : (k0_pay4 (F := Ideal) v) (ix2 l ch) = v (ix2 l ch) := by
  pointwise [k0_pay4]
theorem pay54_at (v : FVec Ideal S128x1536 .f32) (l : Fin 128) (ch : Fin 1536) : (k0_pay54 (F := Ideal) v) (ix2 l ch) = v (ix2 l ch) := by
  pointwise [k0_pay54]
theorem pay6_at (v : FVec Ideal S8x1536 .f32) (l : Fin 8) (ch : Fin 1536) : (k0_pay6 (F := Ideal) v) (ix2 l ch) = v (ix2 l ch) := by
  pointwise [k0_pay6]
theorem pay58_at (v : FVec Ideal S8x1536 .f32) (l : Fin 8) (ch : Fin 1536) : (k0_pay58 (F := Ideal) v) (ix2 l ch) = v (ix2 l ch) := by
  pointwise [k0_pay58]

abbrev pcS (f : FVec Ideal S2x128x512 .f32) : View.Piece (Elt Ideal) S2x128x512 .f32 := ⟨Rect.unit ![0, 0, 0] ![2, 128, 512] inb_S2x128x512_S2x128x512_0_0_0, f⟩

theorem canon_zero (y : S2x128x512.Idx) : View.canon [pcS (k0_pay3 (F := Ideal))] y = (0 : EReal) :=
  (canon_mem (s := S2x128x512) (off := ![0, 0, 0]) (size := ![2, 128, 512]) (e := .f32) inb_S2x128x512_S2x128x512_0_0_0 (k0_pay3 (F := Ideal)) [] y y (fun a => by fin_cases a <;> exact (Nat.zero_add _).symm)).trans (pay3_at y)

theorem rd_z0 (x : S1x128x512.Idx) :
    View.readCov (View.whole cc0_scratch1) [pcS (k0_pay3 (F := Ideal))] (Rect.unit (s := S2x128x512) ![0, 0, 0] ![1, 128, 512] inb_S2x128x512_S1x128x512_0_0_0).toLoadRect x = (0 : EReal) := by
  rw [View.readCov_eq_canon']
  exact canon_zero _
theorem rd_z1 (f : FVec Ideal S1x128x512 .f32) (x : S1x128x512.Idx) :
    View.readCov (View.whole cc0_scratch1) [pcS0 f, pcS (k0_pay3 (F := Ideal))] (Rect.unit (s := S2x128x512) ![1, 0, 0] ![1, 128, 512] inb_S2x128x512_S1x128x512_1_0_0).toLoadRect x = (0 : EReal) := by
  rw [View.readCov_skip _ _ _ _ _ (by decide), View.readCov_eq_canon']
  exact canon_zero _

theorem ld_s (X : FVec Ideal S2x128x512 .f32) (g : ℕ) (hg : g < 2) (inb : ∀ a, (![g, 0, 0] : Fin 3 → ℕ) a + (![1, 128, 512] : Fin 3 → ℕ) a ≤ S2x128x512.size a) (n : Fin 128) (w : Fin 512) :
    View.ld (Val := Elt Ideal) (e' := .f32) X (Rect.unit (s := S2x128x512) ![g, 0, 0] ![1, 128, 512] inb) (ix3 0 n w) = X (ix3 ⟨g, hg⟩ n w) :=
  View.ld_unit_apply_of _ _ _ _ _ _ (fun a => by fin_cases a; rfl; exact (Nat.zero_add _).symm; exact (Nat.zero_add _).symm)

/-! ### The chunk's rows before the gate -/

section
variable (u : ℕ) (hu : u < 2) (iu : ∀ a, (![u, 0, 0] : Fin 3 → ℕ) a + (![1, 128, 1024] : Fin 3 → ℕ) a ≤ S2x128x1024.size a)

/-- One lane block of the chunk's rows. -/
abbrev pcY (o : ℕ) (io : ∀ a, (![0, o] : Fin 2 → ℕ) a + (![128, 128] : Fin 2 → ℕ) a ≤ S128x1024.size a) (p : FVec Ideal S128x128 .f32) :
    View.Piece (Elt Ideal) S2x128x1024 .f32 :=
  ⟨(Rect.unit (s := S2x128x1024) ![u, 0, 0] ![1, 128, 1024] iu).within ((Rect.unit (s := S128x1024) ![0, o] ![128, 128] io).consLift ![1, 128, 1024] rfl (fun i => by fin_cases i <;> rfl)) (fun _ => rfl),
    Rect.payAlong (r := Rect.unit (s := S128x1024) ![0, o] S128x128.size io) (Rect.numel_consLift (Rect.unit (s := S128x1024) ![0, o] S128x128.size io) ![1, 128, 1024] rfl (fun i => by fin_cases i <;> rfl)) p⟩

theorem y_mem (o : ℕ) (io) (p : FVec Ideal S128x128 .f32) (L : List (View.Piece (Elt Ideal) S2x128x1024 .f32)) (y : S2x128x1024.Idx) (l c : Fin 128)
    (h0 : (y 0).val = u) (h1 : (y 1).val = l.val) (h2 : (y 2).val = o + c.val) : View.canon (pcY u iu o io p :: L) y = p (ix2 l c) := by
  have hy : y = (Rect.unit (s := S2x128x1024) ![u, 0, 0] ![1, 128, 1024] iu).emb
      (((Rect.unit (s := S128x1024) ![0, o] ![128, 128] io).consLift ![1, 128, 1024] rfl (fun i => by fin_cases i <;> rfl)).emb (ix3 0 l c)) := by
    funext a
    refine Fin.ext ?_
    fin_cases a
    · show (y 0).val = u + 1 * (0 + 1 * 0)
      omega
    · show (y 1).val = 0 + 1 * (0 + 1 * l.val)
      omega
    · show (y 2).val = 0 + 1 * (o + 1 * c.val)
      omega
  rw [hy]
  refine (View.canon_cons_within_emb _ _ _ _ _ _).trans ?_
  exact Rect.payAlong_consLift (Rect.unit (s := S128x1024) ![0, o] S128x128.size io) ![1, 128, 1024] rfl (fun i => by fin_cases i <;> rfl) p
    (Rect.numel_consLift (Rect.unit (s := S128x1024) ![0, o] S128x128.size io) ![1, 128, 1024] rfl (fun i => by fin_cases i <;> rfl)) (ix3 0 l c) (ix2 l c) (fun i => by fin_cases i <;> rfl)

theorem y_off (o : ℕ) (io) (p : FVec Ideal S128x128 .f32) (L : List (View.Piece (Elt Ideal) S2x128x1024 .f32)) (y : S2x128x1024.Idx)
    (h2 : (y 2).val < o ∨ o + 128 ≤ (y 2).val) : View.canon (pcY u iu o io p :: L) y = View.canon L y := by
  refine View.canon_cons_of_not_mem _ _ ?_
  intro hm
  obtain ⟨j, hj, e⟩ := (LoadRect.mem_set _).mp hm 2
  have e' : (y 2).val = 0 + o + 1 * j := e
  have hj' : j < 128 := hj
  omega

/-- The eight lane blocks of a chunk, read as its rows. -/
theorem y_at (V : Fin 1024 → EReal) (l : Fin 128) (p0 p1 p2 p3 p4 p5 p6 p7 : FVec Ideal S128x128 .f32) (L : List (View.Piece (Elt Ideal) S2x128x1024 .f32))
    (h0 : ∀ (c : Fin 128) (ch : Fin 1024), ch.val = 128 * 0 + c.val → p0 (ix2 l c) = V ch) (h1 : ∀ (c : Fin 128) (ch : Fin 1024), ch.val = 128 * 1 + c.val → p1 (ix2 l c) = V ch)
    (h2 : ∀ (c : Fin 128) (ch : Fin 1024), ch.val = 128 * 2 + c.val → p2 (ix2 l c) = V ch) (h3 : ∀ (c : Fin 128) (ch : Fin 1024), ch.val = 128 * 3 + c.val → p3 (ix2 l c) = V ch)
    (h4 : ∀ (c : Fin 128) (ch : Fin 1024), ch.val = 128 * 4 + c.val → p4 (ix2 l c) = V ch) (h5 : ∀ (c : Fin 128) (ch : Fin 1024), ch.val = 128 * 5 + c.val → p5 (ix2 l c) = V ch)
    (h6 : ∀ (c : Fin 128) (ch : Fin 1024), ch.val = 128 * 6 + c.val → p6 (ix2 l c) = V ch) (h7 : ∀ (c : Fin 128) (ch : Fin 1024), ch.val = 128 * 7 + c.val → p7 (ix2 l c) = V ch)
    (ch : Fin 1024) :
    View.readCov (View.whole cc0_scratch2) (pcY u iu 896 inb_S128x1024_S128x128_0_896 p7 :: pcY u iu 768 inb_S128x1024_S128x128_0_768 p6 :: pcY u iu 640 inb_S128x1024_S128x128_0_640 p5
        :: pcY u iu 512 inb_S128x1024_S128x128_0_512 p4 :: pcY u iu 384 inb_S128x1024_S128x128_0_384 p3 :: pcY u iu 256 inb_S128x1024_S128x128_0_256 p2
        :: pcY u iu 128 inb_S128x1024_S128x128_0_128 p1 :: pcY u iu 0 inb_S128x1024_S128x128_0_0 p0 :: L)
      (Rect.unit (s := S2x128x1024) ![u, 0, 0] ![1, 128, 1024] iu).toLoadRect (ix3 0 l ch) = V ch := by
  have hc := ch.isLt
  rw [View.readCov_eq_canon']
  have hp : ∀ (k : ℕ) (p : FVec Ideal S128x128 .f32) (io) (L : List (View.Piece (Elt Ideal) S2x128x1024 .f32)),
      (∀ (c : Fin 128) (ch : Fin 1024), ch.val = 128 * k + c.val → p (ix2 l c) = V ch) →
      (¬(128 * k ≤ ch.val ∧ ch.val < 128 * k + 128) → View.canon L ((Rect.unit (s := S2x128x1024) ![u, 0, 0] ![1, 128, 1024] iu).toLoadRect.idx (ix3 0 l ch)) = V ch) →
      View.canon (pcY u iu (128 * k) io p :: L) ((Rect.unit (s := S2x128x1024) ![u, 0, 0] ![1, 128, 1024] iu).toLoadRect.idx (ix3 0 l ch)) = V ch := by
    intro k p io L h hL
    have e2 : (((Rect.unit (s := S2x128x1024) ![u, 0, 0] ![1, 128, 1024] iu).toLoadRect.idx (ix3 0 l ch)) 2).val = ch.val := by
      show 0 + 1 * ch.val = _
      omega
    by_cases hk : 128 * k ≤ ch.val ∧ ch.val < 128 * k + 128
    · refine (y_mem u iu (128 * k) io p L _ l ⟨ch.val - 128 * k, by omega⟩ ?_ ?_ ?_).trans (h _ ch ?_)
      · show u + 1 * 0 = u
        omega
      · show 0 + 1 * l.val = l.val
        omega
      · rw [e2]
        show ch.val = 128 * k + (ch.val - 128 * k)
        omega
      · show ch.val = 128 * k + (ch.val - 128 * k)
        omega
    · exact (y_off u iu (128 * k) io p L _ (by rw [e2]; omega)).trans (hL hk)
  refine hp 7 p7 _ _ h7 fun n7 => hp 6 p6 _ _ h6 fun n6 => hp 5 p5 _ _ h5 fun n5 => hp 4 p4 _ _ h4 fun n4 => hp 3 p3 _ _ h3 fun n3 => hp 2 p2 _ _ h2 fun n2 =>
    hp 1 p1 _ _ h1 fun n1 => hp 0 p0 _ _ h0 fun n0 => ?_
  omega
end

/-! ### The result's rows -/

theorem out_lo (p q : FVec Ideal S128x1024 .bf16) (y : S256x1024.Idx) (l : Fin 128) (h0 : (y 0).val = l.val) :
    View.canon (Val := Elt Ideal) (e := .bf16) [⟨Rect.unit (s := S256x1024) ![128, 0] ![128, 1024] inb_S256x1024_S128x1024_128_0, p⟩, ⟨Rect.unit (s := S256x1024) ![0, 0] ![128, 1024] inb_S256x1024_S128x1024_0_0, q⟩] y = q (ix2 l (y 1)) := by
  have hl := l.isLt
  refine (canon_off (s := S256x1024) (off := ![128, 0]) (size := ![128, 1024]) (e := .bf16) inb_S256x1024_S128x1024_128_0 p _ y 0 (Or.inl (by show (y 0).val < 128; omega))).trans ?_
  exact canon_mem (s := S256x1024) (off := ![0, 0]) (size := ![128, 1024]) (e := .bf16) inb_S256x1024_S128x1024_0_0 q _ y (ix2 l (y 1)) (fun a => by fin_cases a; exact h0.trans (Nat.zero_add _).symm; exact (Nat.zero_add _).symm)
theorem out_hi (p q : FVec Ideal S128x1024 .bf16) (y : S256x1024.Idx) (l : Fin 128) (h0 : (y 0).val = 128 + l.val) :
    View.canon (Val := Elt Ideal) (e := .bf16) [⟨Rect.unit (s := S256x1024) ![128, 0] ![128, 1024] inb_S256x1024_S128x1024_128_0, p⟩, ⟨Rect.unit (s := S256x1024) ![0, 0] ![128, 1024] inb_S256x1024_S128x1024_0_0, q⟩] y = p (ix2 l (y 1)) :=
  canon_mem (s := S256x1024) (off := ![128, 0]) (size := ![128, 1024]) (e := .bf16) inb_S256x1024_S128x1024_128_0 p _ y (ix2 l (y 1)) (fun a => by fin_cases a; exact h0; exact (Nat.zero_add _).symm)

end Cert.Proof.Ssd
end
-- ==== Proof.SsdPoint.lean ====
/- The scan: what the kernel leaves in its result array is the reference's result of the same arguments. -/
module

public import proofs.«01_k».proof.Proof.SsdChunk
public import proofs.«01_k».proof.Proof.SsdView

@[expose] public section

set_option maxRecDepth 16384

noncomputable section

namespace Cert.Proof.Ssd

open Cert.SsdIdeal Cert.SsdIdeal.Gen Idealize.ShloMosaic Idealize.ShloMosaic.TcCoe Idealize.SL.Sem
open Idealize.ShloMosaic.Pipeline (Dat)

variable (m : (ℓ : Loc nD τ sig) → Buf (Elt Ideal) ℓ)

/-- Chunk `u` of point `t`. -/
abbrev Ck (c : Dev nD) (t : Fin cfg0.N) (u : ℕ) : Chunk := chunk (A m c) (t.val / 16) (2 * (t.val % 16) + u)
/-- The state before chunk `u` of point `t`. -/
abbrev St (c : Dev nD) (t : Fin cfg0.N) (u : ℕ) : Fin 128 → Fin 1024 → EReal := stateAt fold2 (chunk (A m c) (t.val / 16)) (2 * (t.val % 16) + u)
/-- Row `j` of the buffer the convolution of chunk `u` of point `t` reads. -/
abbrev Gx (c : Dev nD) (t : Fin cfg0.N) (u j : ℕ) (ch : Fin 1536) : EReal := row (A m c) (t.val / 16) ((2 * (t.val % 16) + u) * 128 + j - 5) ch

theorem gx_P (c : Dev nD) (t : Fin cfg0.N) (u j : ℕ) (ch : Fin 1536) (r : ℕ) (h : u * 128 + j = r + 8) :
    (A m c).P (t.val * 256 + r) ch.val = Gx m c t u j ch := by
  show _ = row _ _ _ ch
  unfold row
  rw [if_pos (by omega)]
  refine congrArg (fun z => (A m c).P z ch.val) ?_
  omega

theorem in0 (c : Dev nD) (t : Fin cfg0.N) (l : Fin 128) (ch : Fin 1536) : (k0_pay4 (F := Ideal) (View.ld (X0_0 m c t) (Rect.unit (s := S256x1536) ![0, 0] ![128, 1536] inb_S256x1536_S128x1536_0_0))) (ix2 l ch) = (A m c).P (t.val * 256 + l.val) ch.val := by
  rw [pay4_at]
  refine (View.ld_unit_apply_of _ _ _ _ _ (ix2 ⟨l.val, by omega⟩ ch) (fun a => by fin_cases a <;> exact (Nat.zero_add _).symm)).trans ?_
  exact at0 m c t _ ch
theorem in1 (c : Dev nD) (t : Fin cfg0.N) (l : Fin 128) (ch : Fin 1536) : (k0_pay54 (F := Ideal) (View.ld (X0_0 m c t) (Rect.unit (s := S256x1536) ![128, 0] ![128, 1536] inb_S256x1536_S128x1536_128_0))) (ix2 l ch) = (A m c).P (t.val * 256 + (128 + l.val)) ch.val := by
  rw [pay54_at]
  refine (View.ld_unit_apply_of _ _ _ _ _ (ix2 ⟨128 + l.val, by omega⟩ ch) (fun a => by fin_cases a; rfl; exact (Nat.zero_add _).symm)).trans ?_
  exact at0 m c t _ ch
theorem dt0 (c : Dev nD) (t : Fin cfg0.N) (l : Fin 128) (h : Fin 16) : (View.ld (iblk m c 2 t) (Rect.unit (s := S256x128) ![0, 0] ![128, 128] inb_S256x128_S128x128_0_0)) (ix2 l (lane h)) = (A m c).P (t.val * 256 + (0 * 128 + l.val)) (5120 + h.val) := by
  refine (View.ld_unit_apply_of _ _ _ _ _ (ix2 ⟨0 * 128 + l.val, by omega⟩ (lane h)) (fun a => by fin_cases a; show 0 * 128 + l.val = 0 + l.val; omega; exact (Nat.zero_add _).symm)).trans ?_
  exact at2 m c t _ h
theorem dt1 (c : Dev nD) (t : Fin cfg0.N) (l : Fin 128) (h : Fin 16) : (View.ld (iblk m c 2 t) (Rect.unit (s := S256x128) ![128, 0] ![128, 128] inb_S256x128_S128x128_128_0)) (ix2 l (lane h)) = (A m c).P (t.val * 256 + (1 * 128 + l.val)) (5120 + h.val) := by
  refine (View.ld_unit_apply_of _ _ _ _ _ (ix2 ⟨1 * 128 + l.val, by omega⟩ (lane h)) (fun a => by fin_cases a; show 1 * 128 + l.val = 128 + l.val; omega; exact (Nat.zero_add _).symm)).trans ?_
  exact at2 m c t _ h

theorem gx0 (c : Dev nD) (t : Fin cfg0.N) (l : Fin 128) (ch : Fin 1536) : (k0_pay4 (F := Ideal) (View.ld (X0_0 m c t) (Rect.unit (s := S256x1536) ![0, 0] ![128, 1536] inb_S256x1536_S128x1536_0_0))) (ix2 l ch) = Gx m c t 0 (8 + l.val) ch :=
  (in0 m c t l ch).trans (gx_P m c t 0 _ ch _ (by omega))
theorem gx1 (c : Dev nD) (t : Fin cfg0.N) (l : Fin 128) (ch : Fin 1536) : (k0_pay54 (F := Ideal) (View.ld (X0_0 m c t) (Rect.unit (s := S256x1536) ![128, 0] ![128, 1536] inb_S256x1536_S128x1536_128_0))) (ix2 l ch) = Gx m c t 1 (8 + l.val) ch :=
  (in1 m c t l ch).trans (gx_P m c t 1 _ ch _ (by omega))

/-- The rows the second chunk carries over from the first. -/
theorem mid (c : Dev nD) (t : Fin cfg0.N) (L : List (View.Piece (Elt Ideal) S136x1536 .f32)) (r : Fin 8) (ch : Fin 1536) (h5 : 5 ≤ r.val) :
    k0_pay6 (F := Ideal) (View.readCov (View.whole cc0_scratch0) (pcHi (k0_pay4 (F := Ideal) (View.ld (X0_0 m c t) (Rect.unit (s := S256x1536) ![0, 0] ![128, 1536] inb_S256x1536_S128x1536_0_0))) :: L) (Rect.unit (s := S136x1536) ![128, 0] ![8, 1536] inb_S136x1536_S8x1536_128_0).toLoadRect) (ix2 r ch) = Gx m c t 1 r.val ch := by
  rw [pay6_at, rd_tail, in0]
  exact gx_P m c t 1 _ ch _ (by show _ = 120 + r.val + 8; omega)

/-- The rows a point leaves for the next. -/
theorem last (c : Dev nD) (t : Fin cfg0.N) (L L' : List (View.Piece (Elt Ideal) S136x1536 .f32)) (r : Fin 136) (ch : Fin 1536) (h5 : 5 ≤ r.val) (h8 : r.val < 8) :
    View.canon (pcLo (k0_pay58 (F := Ideal) (View.readCov (View.whole cc0_scratch0) (pcHi (k0_pay54 (F := Ideal) (View.ld (X0_0 m c t) (Rect.unit (s := S256x1536) ![128, 0] ![128, 1536] inb_S256x1536_S128x1536_128_0))) :: L) (Rect.unit (s := S136x1536) ![128, 0] ![8, 1536] inb_S136x1536_S8x1536_128_0).toLoadRect)) :: L') (ix2 r ch) = Gx m c t 2 r.val ch := by
  rw [ext_lo _ L' (ix2 r ch) ⟨r.val, h8⟩ ch rfl rfl, pay58_at, rd_tail, in1]
  exact gx_P m c t 2 _ ch _ (by show _ = 128 + (120 + r.val) + 8; omega)

theorem gx_row (c : Dev nD) (t : Fin cfg0.N) (u o l : ℕ) (ch : Fin 1536) (k : ℕ) (h : o + l = l + k + 5) :
    Gx m c t u (o + l) ch = row (A m c) (t.val / 16) ((2 * (t.val % 16) + u) * 128 + l + k) ch :=
  congrArg (fun n => row (A m c) (t.val / 16) n ch) (by omega)

/-- The first chunk of a point that continues a sequence. -/
theorem ok0B (c : Dev nD) (t : Fin cfg0.N) (f : (View.whole cc0_scratch0).ty.Contents (Elt Ideal)) (f' : (View.whole cc0_scratch1).ty.Contents (Elt Ideal))
    (hf : ∀ (r : Fin 136) ch, 5 ≤ r.val → r.val < 8 → View.read (Elt Ideal) (View.whole cc0_scratch0) f (ix2 r ch) = Gx m c t 0 r.val ch)
    (hs : ∀ (g : Fin 2) n (w : Fin 512), View.read (Elt Ideal) (View.whole cc0_scratch1) f' (ix3 g n w) = St m c t 0 n ⟨g.val * 512 + w.val, by omega⟩) :
    Ok (Ck m c t 0) (St m c t 0) (k0_pay5 (F := Ideal) (iblk m c 3 t) (View.ld (View.read (Elt Ideal) (View.whole cc0_scratch0) (View.writes (View.whole cc0_scratch0) (Elt Ideal) f [pcHi (k0_pay4 (F := Ideal) (View.ld (X0_0 m c t) (Rect.unit (s := S256x1536) ![0, 0] ![128, 1536] inb_S256x1536_S128x1536_0_0)))])) (Rect.unit (s := S136x1536) ![5, 0] ![128, 1536] inb_S136x1536_S128x1536_5_0)) (View.ld (View.read (Elt Ideal) (View.whole cc0_scratch0) (View.writes (View.whole cc0_scratch0) (Elt Ideal) f [pcHi (k0_pay4 (F := Ideal) (View.ld (X0_0 m c t) (Rect.unit (s := S256x1536) ![0, 0] ![128, 1536] inb_S256x1536_S128x1536_0_0)))])) (Rect.unit (s := S136x1536) ![6, 0] ![128, 1536] inb_S136x1536_S128x1536_6_0)) (View.ld (View.read (Elt Ideal) (View.whole cc0_scratch0) (View.writes (View.whole cc0_scratch0) (Elt Ideal) f [pcHi (k0_pay4 (F := Ideal) (View.ld (X0_0 m c t) (Rect.unit (s := S256x1536) ![0, 0] ![128, 1536] inb_S256x1536_S128x1536_0_0)))])) (Rect.unit (s := S136x1536) ![7, 0] ![128, 1536] inb_S136x1536_S128x1536_7_0)) (View.readCov (View.whole cc0_scratch0) (pcHi (k0_pay4 (F := Ideal) (View.ld (X0_0 m c t) (Rect.unit (s := S256x1536) ![0, 0] ![128, 1536] inb_S256x1536_S128x1536_0_0))) :: []) (Rect.unit (s := S136x1536) ![8, 0] ![128, 1536] inb_S136x1536_S128x1536_8_0).toLoadRect) (iblk m c 4 t)) (View.ld (iblk m c 2 t) (Rect.unit (s := S256x128) ![0, 0] ![128, 128] inb_S256x128_S128x128_0_0)) (iblk m c 5 t) (iblk m c 6 t) (iblk m c 9 t) (iblk m c 10 t)
      (View.ld (View.read (Elt Ideal) (View.whole cc0_scratch1) f') (Rect.unit (s := S2x128x512) ![0, 0, 0] ![1, 128, 512] inb_S2x128x512_S1x128x512_0_0_0)) (View.ld (View.read (Elt Ideal) (View.whole cc0_scratch1) f') (Rect.unit (s := S2x128x512) ![1, 0, 0] ![1, 128, 512] inb_S2x128x512_S1x128x512_1_0_0)) :=
  ok_of m c t 0 (by decide) _ _ _ _ _ (fun l ch => (ld_ext (Gx m c t 0) 5 (by decide) (by decide) _ _ (gx0 m c t) l ch f hf).trans (gx_row m c t 0 5 l.val ch 0 (by omega))) (fun l ch => (ld_ext (Gx m c t 0) 6 (by decide) (by decide) _ _ (gx0 m c t) l ch f hf).trans (gx_row m c t 0 6 l.val ch 1 (by omega))) (fun l ch => (ld_ext (Gx m c t 0) 7 (by decide) (by decide) _ _ (gx0 m c t) l ch f hf).trans (gx_row m c t 0 7 l.val ch 2 (by omega))) (fun l ch => (congrFun (View.readCov_cons_toLoadRect _ _ _ _) _).trans ((gx0 m c t l ch).trans (gx_row m c t 0 8 l.val ch 3 (by omega)))) _ (dt0 m c t) _ _
    (fun n w => (ld_s _ 0 (by decide) _ n w).trans ((hs 0 n w).trans (congrArg (St m c t 0 n) (Fin.ext (by show 0 * 512 + w.val = w.val; omega)))))
    (fun n w => (ld_s _ 1 (by decide) _ n w).trans ((hs 1 n w).trans (congrArg (St m c t 0 n) (Fin.ext (by show 1 * 512 + w.val = 512 + w.val; omega)))))

/-- The first chunk of a sequence. -/
theorem ok0A (c : Dev nD) (t : Fin cfg0.N) (h : t.val % 16 = 0) (g : FVec Ideal S1x128x512 .f32) :
    Ok (Ck m c t 0) (St m c t 0) (k0_pay5 (F := Ideal) (iblk m c 3 t) (View.readCov (View.whole cc0_scratch0) (pcHi (k0_pay4 (F := Ideal) (View.ld (X0_0 m c t) (Rect.unit (s := S256x1536) ![0, 0] ![128, 1536] inb_S256x1536_S128x1536_0_0))) :: pcLo (k0_pay2 (F := Ideal)) :: []) (Rect.unit (s := S136x1536) ![5, 0] ![128, 1536] inb_S136x1536_S128x1536_5_0).toLoadRect) (View.readCov (View.whole cc0_scratch0) (pcHi (k0_pay4 (F := Ideal) (View.ld (X0_0 m c t) (Rect.unit (s := S256x1536) ![0, 0] ![128, 1536] inb_S256x1536_S128x1536_0_0))) :: pcLo (k0_pay2 (F := Ideal)) :: []) (Rect.unit (s := S136x1536) ![6, 0] ![128, 1536] inb_S136x1536_S128x1536_6_0).toLoadRect) (View.readCov (View.whole cc0_scratch0) (pcHi (k0_pay4 (F := Ideal) (View.ld (X0_0 m c t) (Rect.unit (s := S256x1536) ![0, 0] ![128, 1536] inb_S256x1536_S128x1536_0_0))) :: pcLo (k0_pay2 (F := Ideal)) :: []) (Rect.unit (s := S136x1536) ![7, 0] ![128, 1536] inb_S136x1536_S128x1536_7_0).toLoadRect) (View.readCov (View.whole cc0_scratch0) (pcHi (k0_pay4 (F := Ideal) (View.ld (X0_0 m c t) (Rect.unit (s := S256x1536) ![0, 0] ![128, 1536] inb_S256x1536_S128x1536_0_0))) :: pcLo (k0_pay2 (F := Ideal)) :: []) (Rect.unit (s := S136x1536) ![8, 0] ![128, 1536] inb_S136x1536_S128x1536_8_0).toLoadRect) (iblk m c 4 t)) (View.ld (iblk m c 2 t) (Rect.unit (s := S256x128) ![0, 0] ![128, 128] inb_S256x128_S128x128_0_0)) (iblk m c 5 t) (iblk m c 6 t) (iblk m c 9 t) (iblk m c 10 t)
      (View.readCov (View.whole cc0_scratch1) [pcS (k0_pay3 (F := Ideal))] (Rect.unit (s := S2x128x512) ![0, 0, 0] ![1, 128, 512] inb_S2x128x512_S1x128x512_0_0_0).toLoadRect) (View.readCov (View.whole cc0_scratch1) [pcS0 g, pcS (k0_pay3 (F := Ideal))] (Rect.unit (s := S2x128x512) ![1, 0, 0] ![1, 128, 512] inb_S2x128x512_S1x128x512_1_0_0).toLoadRect) := by
  have hz : ∀ (r : Fin 8) (ch : Fin 1536), 5 ≤ r.val → (k0_pay2 (F := Ideal)) (ix2 r ch) = Gx m c t 0 r.val ch := by
    intro r ch h5
    rw [pay2_at]
    show _ = row _ _ _ ch
    unfold row
    rw [if_neg (by omega)]
  have hs : ∀ n ch, St m c t 0 n ch = 0 := by
    intro n ch
    show stateAt fold2 _ (2 * (t.val % 16) + 0) n ch = 0
    rw [h]
    rfl
  exact ok_of m c t 0 (by decide) _ _ _ _ _ (fun l ch => (rd_ext (Gx m c t 0) 5 (by decide) (by decide) _ _ (gx0 m c t) l ch _ [] hz).trans (gx_row m c t 0 5 l.val ch 0 (by omega))) (fun l ch => (rd_ext (Gx m c t 0) 6 (by decide) (by decide) _ _ (gx0 m c t) l ch _ [] hz).trans (gx_row m c t 0 6 l.val ch 1 (by omega))) (fun l ch => (rd_ext (Gx m c t 0) 7 (by decide) (by decide) _ _ (gx0 m c t) l ch _ [] hz).trans (gx_row m c t 0 7 l.val ch 2 (by omega))) (fun l ch => (congrFun (View.readCov_cons_toLoadRect _ _ _ _) _).trans ((gx0 m c t l ch).trans (gx_row m c t 0 8 l.val ch 3 (by omega)))) _ (dt0 m c t) _ _
    (fun n w => (rd_z0 _).trans (hs _ _).symm) (fun n w => (rd_z1 g _).trans (hs _ _).symm)

/-- The second chunk of a point, after the first. -/
theorem ok1 (c : Dev nD) (t : Fin cfg0.N) {cv : FVec Ideal S128x1536 .f32} {dtr : FVec Ideal S128x128 .f32} {dtb alg : FVec Ideal S1x128 .f32}
    {lt : FVec Ideal S128x128 .bf16} {ex : FVec Ideal S128x1024 .bf16} {s0 s1 : FVec Ideal S1x128x512 .f32}
    (ok : Ok (Ck m c t 0) (St m c t 0) cv dtr dtb alg lt ex s0 s1) (L L' : List (View.Piece (Elt Ideal) S136x1536 .f32)) (Ls Ls' : List (View.Piece (Elt Ideal) S2x128x512 .f32)) (g : FVec Ideal S1x128x512 .f32) :
    Ok (Ck m c t 1) (St m c t 1) (k0_pay5 (F := Ideal) (iblk m c 3 t) (View.readCov (View.whole cc0_scratch0) (pcHi (k0_pay54 (F := Ideal) (View.ld (X0_0 m c t) (Rect.unit (s := S256x1536) ![128, 0] ![128, 1536] inb_S256x1536_S128x1536_128_0))) :: pcLo (k0_pay6 (F := Ideal) (View.readCov (View.whole cc0_scratch0) (pcHi (k0_pay4 (F := Ideal) (View.ld (X0_0 m c t) (Rect.unit (s := S256x1536) ![0, 0] ![128, 1536] inb_S256x1536_S128x1536_0_0))) :: L') (Rect.unit (s := S136x1536) ![128, 0] ![8, 1536] inb_S136x1536_S8x1536_128_0).toLoadRect)) :: L) (Rect.unit (s := S136x1536) ![5, 0] ![128, 1536] inb_S136x1536_S128x1536_5_0).toLoadRect) (View.readCov (View.whole cc0_scratch0) (pcHi (k0_pay54 (F := Ideal) (View.ld (X0_0 m c t) (Rect.unit (s := S256x1536) ![128, 0] ![128, 1536] inb_S256x1536_S128x1536_128_0))) :: pcLo (k0_pay6 (F := Ideal) (View.readCov (View.whole cc0_scratch0) (pcHi (k0_pay4 (F := Ideal) (View.ld (X0_0 m c t) (Rect.unit (s := S256x1536) ![0, 0] ![128, 1536] inb_S256x1536_S128x1536_0_0))) :: L') (Rect.unit (s := S136x1536) ![128, 0] ![8, 1536] inb_S136x1536_S8x1536_128_0).toLoadRect)) :: L) (Rect.unit (s := S136x1536) ![6, 0] ![128, 1536] inb_S136x1536_S128x1536_6_0).toLoadRect) (View.readCov (View.whole cc0_scratch0) (pcHi (k0_pay54 (F := Ideal) (View.ld (X0_0 m c t) (Rect.unit (s := S256x1536) ![128, 0] ![128, 1536] inb_S256x1536_S128x1536_128_0))) :: pcLo (k0_pay6 (F := Ideal) (View.readCov (View.whole cc0_scratch0) (pcHi (k0_pay4 (F := Ideal) (View.ld (X0_0 m c t) (Rect.unit (s := S256x1536) ![0, 0] ![128, 1536] inb_S256x1536_S128x1536_0_0))) :: L') (Rect.unit (s := S136x1536) ![128, 0] ![8, 1536] inb_S136x1536_S8x1536_128_0).toLoadRect)) :: L) (Rect.unit (s := S136x1536) ![7, 0] ![128, 1536] inb_S136x1536_S128x1536_7_0).toLoadRect) (View.readCov (View.whole cc0_scratch0) (pcHi (k0_pay54 (F := Ideal) (View.ld (X0_0 m c t) (Rect.unit (s := S256x1536) ![128, 0] ![128, 1536] inb_S256x1536_S128x1536_128_0))) :: pcLo (k0_pay6 (F := Ideal) (View.readCov (View.whole cc0_scratch0) (pcHi (k0_pay4 (F := Ideal) (View.ld (X0_0 m c t) (Rect.unit (s := S256x1536) ![0, 0] ![128, 1536] inb_S256x1536_S128x1536_0_0))) :: L') (Rect.unit (s := S136x1536) ![128, 0] ![8, 1536] inb_S136x1536_S8x1536_128_0).toLoadRect)) :: L) (Rect.unit (s := S136x1536) ![8, 0] ![128, 1536] inb_S136x1536_S128x1536_8_0).toLoadRect) (iblk m c 4 t)) (View.ld (iblk m c 2 t) (Rect.unit (s := S256x128) ![128, 0] ![128, 128] inb_S256x128_S128x128_128_0)) (iblk m c 5 t) (iblk m c 6 t) (iblk m c 9 t) (iblk m c 10 t)
      (View.readCov (View.whole cc0_scratch1) (pcS1 (k0_pay42 (F := Ideal) (k0_pay40 (k0_pay9 cv) (k0_pay17 (k0_pay8 cv) (k0_pay11 dtr dtb) (k0_pay12 dtr dtb alg lt) ex)) (k0_pay41 (k0_pay15 (k0_pay11 dtr dtb) (k0_pay12 dtr dtb alg lt) ex) s1)) :: pcS0 (k0_pay25 (k0_pay24 (F := Ideal) (k0_pay8 cv) (k0_pay9 cv) (k0_pay11 dtr dtb) (k0_pay12 dtr dtb alg lt) ex s0)) :: Ls) (Rect.unit (s := S2x128x512) ![0, 0, 0] ![1, 128, 512] inb_S2x128x512_S1x128x512_0_0_0).toLoadRect)
      (View.readCov (View.whole cc0_scratch1) (pcS0 g :: pcS1 (k0_pay42 (F := Ideal) (k0_pay40 (k0_pay9 cv) (k0_pay17 (k0_pay8 cv) (k0_pay11 dtr dtb) (k0_pay12 dtr dtb alg lt) ex)) (k0_pay41 (k0_pay15 (k0_pay11 dtr dtb) (k0_pay12 dtr dtb alg lt) ex) s1)) :: Ls') (Rect.unit (s := S2x128x512) ![1, 0, 0] ![1, 128, 512] inb_S2x128x512_S1x128x512_1_0_0).toLoadRect) :=
  ok_of m c t 1 (by decide) _ _ _ _ _ (fun l ch => (rd_ext (Gx m c t 1) 5 (by decide) (by decide) _ _ (gx1 m c t) l ch _ L (fun r ch h5 => mid m c t L' r ch h5)).trans (gx_row m c t 1 5 l.val ch 0 (by omega))) (fun l ch => (rd_ext (Gx m c t 1) 6 (by decide) (by decide) _ _ (gx1 m c t) l ch _ L (fun r ch h5 => mid m c t L' r ch h5)).trans (gx_row m c t 1 6 l.val ch 1 (by omega))) (fun l ch => (rd_ext (Gx m c t 1) 7 (by decide) (by decide) _ _ (gx1 m c t) l ch _ L (fun r ch h5 => mid m c t L' r ch h5)).trans (gx_row m c t 1 7 l.val ch 2 (by omega))) (fun l ch => (congrFun (View.readCov_cons_toLoadRect _ _ _ _) _).trans ((gx1 m c t l ch).trans (gx_row m c t 1 8 l.val ch 3 (by omega)))) _ (dt1 m c t) _ _
    (fun n w => (congrFun (rd_s0 _ _ _) _).trans (ok.n0 n w)) (fun n w => (congrFun (rd_s1 _ _ _) _).trans (ok.n1 n w))

/-! ### A point -/

section
variable (c : Dev nD) (t : Fin cfg0.N)

theorem kd (ch : Fin 1024) (k : ℕ) : (iblk m c 7 t) (ix2 0 ch) = (chunk (A m c) (t.val / 16) k).dk (hd ch) := by
  rw [rd7]
  rfl
theorem kn (ch : Fin 1024) (k : ℕ) : (iblk m c 8 t) (ix2 0 ch) = (chunk (A m c) (t.val / 16) k).nw ch := by
  rw [rd8]
  rfl
theorem kz0 (l : Fin 128) (ch : Fin 1024) : (View.ld (X0_1 m c t) (Rect.unit (s := S256x1024) ![0, 0] ![128, 1024] inb_S256x1024_S128x1024_0_0)) (ix2 l ch) = (Ck m c t 0).Z l ch := by
  refine (View.ld_unit_apply_of _ _ _ _ _ (ix2 ⟨l.val, by omega⟩ ch) (fun a => by fin_cases a <;> exact (Nat.zero_add _).symm)).trans ((at1 m c t _ ch).trans ?_)
  show (A m c).P _ _ = (A m c).P _ _
  refine congrArg (fun z => (A m c).P z (3072 + ch.val)) ?_
  show t.val * 256 + l.val = t.val / 16 * 4096 + ((2 * (t.val % 16) + 0) * 128 + l.val)
  omega
theorem kz1 (l : Fin 128) (ch : Fin 1024) : (View.ld (X0_1 m c t) (Rect.unit (s := S256x1024) ![128, 0] ![128, 1024] inb_S256x1024_S128x1024_128_0)) (ix2 l ch) = (Ck m c t 1).Z l ch := by
  refine (View.ld_unit_apply_of _ _ _ _ _ (ix2 ⟨128 + l.val, by omega⟩ ch) (fun a => by fin_cases a; rfl; exact (Nat.zero_add _).symm)).trans ((at1 m c t _ ch).trans ?_)
  show (A m c).P _ _ = (A m c).P _ _
  refine congrArg (fun z => (A m c).P z (3072 + ch.val)) ?_
  show t.val * 256 + (128 + l.val) = t.val / 16 * 4096 + ((2 * (t.val % 16) + 1) * 128 + l.val)
  omega

theorem ext_A (h : t.val % 16 = 0) (r : Fin 136) (ch : Fin 1536) (h5 : 5 ≤ r.val) (h8 : r.val < 8) : (outsAt0 m c t.val t.isLt).2.1 (ix2 r ch) = Gx m c t 2 r.val ch := by
  rw [outsAt0_A m c t h]
  frame_out
  exact last m c t _ _ r ch h5 h8
theorem st0_A (h : t.val % 16 = 0) (n : Fin 128) (w : Fin 512) : (outsAt0 m c t.val t.isLt).2.2 (ix3 0 n w) = St m c t 2 n ⟨w.val, by omega⟩ := by
  rw [outsAt0_A m c t h]
  frame_out
  refine (st_zero _ _ _ n w).trans ?_
  exact Ok.n0B (ok1 m c t (ok0A m c t h _) _ _ _ [] (fun _ => (0 : EReal))) n w
theorem st1_A (h : t.val % 16 = 0) (n : Fin 128) (w : Fin 512) : (outsAt0 m c t.val t.isLt).2.2 (ix3 1 n w) = St m c t 2 n ⟨512 + w.val, by omega⟩ := by
  rw [outsAt0_A m c t h]
  frame_out
  refine (st_one _ _ n w).trans ?_
  exact Ok.n1B (ok1 m c t (ok0A m c t h _) _ _ [] _ _) n w
theorem out0_A (h : t.val % 16 = 0) (y : S256x1024.Idx) (l : Fin 128) (h0 : (y 0).val = l.val) : (outsAt0 m c t.val t.isLt).1 y = rows fold2 (Ck m c t 0) (St m c t 0) l (y 1) := by
  rw [outsAt0_A m c t h]
  frame_out
  refine (out_lo _ _ y l h0).trans ?_
  have ok := (ok0A m c t h (k0_pay25 (k0_pay24 (F := Ideal) (k0_pay8 (k0_pay5 (F := Ideal) (iblk m c 3 t) (View.readCov (View.whole cc0_scratch0) (pcHi (k0_pay4 (F := Ideal) (View.ld (X0_0 m c t) (Rect.unit (s := S256x1536) ![0, 0] ![128, 1536] inb_S256x1536_S128x1536_0_0))) :: pcLo (k0_pay2 (F := Ideal)) :: []) (Rect.unit (s := S136x1536) ![5, 0] ![128, 1536] inb_S136x1536_S128x1536_5_0).toLoadRect) (View.readCov (View.whole cc0_scratch0) (pcHi (k0_pay4 (F := Ideal) (View.ld (X0_0 m c t) (Rect.unit (s := S256x1536) ![0, 0] ![128, 1536] inb_S256x1536_S128x1536_0_0))) :: pcLo (k0_pay2 (F := Ideal)) :: []) (Rect.unit (s := S136x1536) ![6, 0] ![128, 1536] inb_S136x1536_S128x1536_6_0).toLoadRect) (View.readCov (View.whole cc0_scratch0) (pcHi (k0_pay4 (F := Ideal) (View.ld (X0_0 m c t) (Rect.unit (s := S256x1536) ![0, 0] ![128, 1536] inb_S256x1536_S128x1536_0_0))) :: pcLo (k0_pay2 (F := Ideal)) :: []) (Rect.unit (s := S136x1536) ![7, 0] ![128, 1536] inb_S136x1536_S128x1536_7_0).toLoadRect) (View.readCov (View.whole cc0_scratch0) (pcHi (k0_pay4 (F := Ideal) (View.ld (X0_0 m c t) (Rect.unit (s := S256x1536) ![0, 0] ![128, 1536] inb_S256x1536_S128x1536_0_0))) :: pcLo (k0_pay2 (F := Ideal)) :: []) (Rect.unit (s := S136x1536) ![8, 0] ![128, 1536] inb_S136x1536_S128x1536_8_0).toLoadRect) (iblk m c 4 t))) (k0_pay9 (k0_pay5 (F := Ideal) (iblk m c 3 t) (View.readCov (View.whole cc0_scratch0) (pcHi (k0_pay4 (F := Ideal) (View.ld (X0_0 m c t) (Rect.unit (s := S256x1536) ![0, 0] ![128, 1536] inb_S256x1536_S128x1536_0_0))) :: pcLo (k0_pay2 (F := Ideal)) :: []) (Rect.unit (s := S136x1536) ![5, 0] ![128, 1536] inb_S136x1536_S128x1536_5_0).toLoadRect) (View.readCov (View.whole cc0_scratch0) (pcHi (k0_pay4 (F := Ideal) (View.ld (X0_0 m c t) (Rect.unit (s := S256x1536) ![0, 0] ![128, 1536] inb_S256x1536_S128x1536_0_0))) :: pcLo (k0_pay2 (F := Ideal)) :: []) (Rect.unit (s := S136x1536) ![6, 0] ![128, 1536] inb_S136x1536_S128x1536_6_0).toLoadRect) (View.readCov (View.whole cc0_scratch0) (pcHi (k0_pay4 (F := Ideal) (View.ld (X0_0 m c t) (Rect.unit (s := S256x1536) ![0, 0] ![128, 1536] inb_S256x1536_S128x1536_0_0))) :: pcLo (k0_pay2 (F := Ideal)) :: []) (Rect.unit (s := S136x1536) ![7, 0] ![128, 1536] inb_S136x1536_S128x1536_7_0).toLoadRect) (View.readCov (View.whole cc0_scratch0) (pcHi (k0_pay4 (F := Ideal) (View.ld (X0_0 m c t) (Rect.unit (s := S256x1536) ![0, 0] ![128, 1536] inb_S256x1536_S128x1536_0_0))) :: pcLo (k0_pay2 (F := Ideal)) :: []) (Rect.unit (s := S136x1536) ![8, 0] ![128, 1536] inb_S136x1536_S128x1536_8_0).toLoadRect) (iblk m c 4 t))) (k0_pay11 (View.ld (iblk m c 2 t) (Rect.unit (s := S256x128) ![0, 0] ![128, 128] inb_S256x128_S128x128_0_0)) (iblk m c 5 t)) (k0_pay12 (View.ld (iblk m c 2 t) (Rect.unit (s := S256x128) ![0, 0] ![128, 128] inb_S256x128_S128x128_0_0)) (iblk m c 5 t) (iblk m c 6 t) (iblk m c 9 t)) (iblk m c 10 t) (View.readCov (View.whole cc0_scratch1) [pcS (k0_pay3 (F := Ideal))] (Rect.unit (s := S2x128x512) ![0, 0, 0] ![1, 128, 512] inb_S2x128x512_S1x128x512_0_0_0).toLoadRect))))
  exact ok.rows _ _ _ _ l (fun ch => y_at 0 _ (fun ch => ydiag fold2 (Ck m c t 0) l ch + yoff fold2 (Ck m c t 0) (St m c t 0) l ch) l _ _ _ _ _ _ _ _ _ (ok.pA0 l) (ok.pA1 l) (ok.pA2 l) (ok.pA3 l) (ok.pA4 l) (ok.pA5 l) (ok.pA6 l) (ok.pA7 l) ch) (fun ch => kd m c t ch _) (kz0 m c t l) (fun ch => kn m c t ch _) (y 1)
theorem out1_A (h : t.val % 16 = 0) (y : S256x1024.Idx) (l : Fin 128) (h0 : (y 0).val = 128 + l.val) : (outsAt0 m c t.val t.isLt).1 y = rows fold2 (Ck m c t 1) (St m c t 1) l (y 1) := by
  rw [outsAt0_A m c t h]
  frame_out
  refine (out_hi _ _ y l h0).trans ?_
  have ok := (ok0A m c t h (k0_pay25 (k0_pay24 (F := Ideal) (k0_pay8 (k0_pay5 (F := Ideal) (iblk m c 3 t) (View.readCov (View.whole cc0_scratch0) (pcHi (k0_pay4 (F := Ideal) (View.ld (X0_0 m c t) (Rect.unit (s := S256x1536) ![0, 0] ![128, 1536] inb_S256x1536_S128x1536_0_0))) :: pcLo (k0_pay2 (F := Ideal)) :: []) (Rect.unit (s := S136x1536) ![5, 0] ![128, 1536] inb_S136x1536_S128x1536_5_0).toLoadRect) (View.readCov (View.whole cc0_scratch0) (pcHi (k0_pay4 (F := Ideal) (View.ld (X0_0 m c t) (Rect.unit (s := S256x1536) ![0, 0] ![128, 1536] inb_S256x1536_S128x1536_0_0))) :: pcLo (k0_pay2 (F := Ideal)) :: []) (Rect.unit (s := S136x1536) ![6, 0] ![128, 1536] inb_S136x1536_S128x1536_6_0).toLoadRect) (View.readCov (View.whole cc0_scratch0) (pcHi (k0_pay4 (F := Ideal) (View.ld (X0_0 m c t) (Rect.unit (s := S256x1536) ![0, 0] ![128, 1536] inb_S256x1536_S128x1536_0_0))) :: pcLo (k0_pay2 (F := Ideal)) :: []) (Rect.unit (s := S136x1536) ![7, 0] ![128, 1536] inb_S136x1536_S128x1536_7_0).toLoadRect) (View.readCov (View.whole cc0_scratch0) (pcHi (k0_pay4 (F := Ideal) (View.ld (X0_0 m c t) (Rect.unit (s := S256x1536) ![0, 0] ![128, 1536] inb_S256x1536_S128x1536_0_0))) :: pcLo (k0_pay2 (F := Ideal)) :: []) (Rect.unit (s := S136x1536) ![8, 0] ![128, 1536] inb_S136x1536_S128x1536_8_0).toLoadRect) (iblk m c 4 t))) (k0_pay9 (k0_pay5 (F := Ideal) (iblk m c 3 t) (View.readCov (View.whole cc0_scratch0) (pcHi (k0_pay4 (F := Ideal) (View.ld (X0_0 m c t) (Rect.unit (s := S256x1536) ![0, 0] ![128, 1536] inb_S256x1536_S128x1536_0_0))) :: pcLo (k0_pay2 (F := Ideal)) :: []) (Rect.unit (s := S136x1536) ![5, 0] ![128, 1536] inb_S136x1536_S128x1536_5_0).toLoadRect) (View.readCov (View.whole cc0_scratch0) (pcHi (k0_pay4 (F := Ideal) (View.ld (X0_0 m c t) (Rect.unit (s := S256x1536) ![0, 0] ![128, 1536] inb_S256x1536_S128x1536_0_0))) :: pcLo (k0_pay2 (F := Ideal)) :: []) (Rect.unit (s := S136x1536) ![6, 0] ![128, 1536] inb_S136x1536_S128x1536_6_0).toLoadRect) (View.readCov (View.whole cc0_scratch0) (pcHi (k0_pay4 (F := Ideal) (View.ld (X0_0 m c t) (Rect.unit (s := S256x1536) ![0, 0] ![128, 1536] inb_S256x1536_S128x1536_0_0))) :: pcLo (k0_pay2 (F := Ideal)) :: []) (Rect.unit (s := S136x1536) ![7, 0] ![128, 1536] inb_S136x1536_S128x1536_7_0).toLoadRect) (View.readCov (View.whole cc0_scratch0) (pcHi (k0_pay4 (F := Ideal) (View.ld (X0_0 m c t) (Rect.unit (s := S256x1536) ![0, 0] ![128, 1536] inb_S256x1536_S128x1536_0_0))) :: pcLo (k0_pay2 (F := Ideal)) :: []) (Rect.unit (s := S136x1536) ![8, 0] ![128, 1536] inb_S136x1536_S128x1536_8_0).toLoadRect) (iblk m c 4 t))) (k0_pay11 (View.ld (iblk m c 2 t) (Rect.unit (s := S256x128) ![0, 0] ![128, 128] inb_S256x128_S128x128_0_0)) (iblk m c 5 t)) (k0_pay12 (View.ld (iblk m c 2 t) (Rect.unit (s := S256x128) ![0, 0] ![128, 128] inb_S256x128_S128x128_0_0)) (iblk m c 5 t) (iblk m c 6 t) (iblk m c 9 t)) (iblk m c 10 t) (View.readCov (View.whole cc0_scratch1) [pcS (k0_pay3 (F := Ideal))] (Rect.unit (s := S2x128x512) ![0, 0, 0] ![1, 128, 512] inb_S2x128x512_S1x128x512_0_0_0).toLoadRect))))
  have ok' := ok1 m c t ok
  refine Ok.rowsB (I := Ck m c t 1) (S := St m c t 1) (ok' _ _ [] [] (fun _ => (0 : EReal))) _ _ _ _ l ?_ (fun ch => kd m c t ch _) (kz1 m c t l) (fun ch => kn m c t ch _) (y 1)
  intro ch
  exact y_at 1 _ (fun ch => ydiag fold2 (Ck m c t 1) l ch + yoff fold2 (Ck m c t 1) (St m c t 1) l ch) l _ _ _ _ _ _ _ _ _ (Ok.pB0 (ok' _ _ _ [] (fun _ => (0 : EReal))) l) (Ok.pB1 (ok' _ _ _ [] (fun _ => (0 : EReal))) l) (Ok.pB2 (ok' _ _ _ [] (fun _ => (0 : EReal))) l) (Ok.pB3 (ok' _ _ _ [] (fun _ => (0 : EReal))) l) (Ok.pB4 (ok' _ _ [] _ _) l) (Ok.pB5 (ok' _ _ [] _ _) l) (Ok.pB6 (ok' _ _ [] _ _) l) (Ok.pB7 (ok' _ _ [] _ _) l) ch

theorem ext_B (h : ¬t.val % 16 = 0) (r : Fin 136) (ch : Fin 1536) (h5 : 5 ≤ r.val) (h8 : r.val < 8) : (outsAt0 m c t.val t.isLt).2.1 (ix2 r ch) = Gx m c t 2 r.val ch := by
  rw [outsAt0_B m c t h]
  frame_out
  exact last m c t _ _ r ch h5 h8
theorem st0_B (h : ¬t.val % 16 = 0)
    (hF : ∀ (r : Fin 136) ch, 5 ≤ r.val → r.val < 8 → (outsAt0 m c (t.val - 1) (Nat.lt_of_le_of_lt (Nat.sub_le _ _) t.isLt)).2.1 (ix2 r ch) = Gx m c t 0 r.val ch)
    (hS : ∀ (g : Fin 2) n (w : Fin 512), (outsAt0 m c (t.val - 1) (Nat.lt_of_le_of_lt (Nat.sub_le _ _) t.isLt)).2.2 (ix3 g n w) = St m c t 0 n ⟨g.val * 512 + w.val, by omega⟩) (n : Fin 128) (w : Fin 512) : (outsAt0 m c t.val t.isLt).2.2 (ix3 0 n w) = St m c t 2 n ⟨w.val, by omega⟩ := by
  rw [outsAt0_B m c t h]
  frame_out
  refine (st_zero _ _ _ n w).trans ?_
  exact Ok.n0B (ok1 m c t (ok0B m c t ((Memref.isWhole_whole cc0_scratch0).unread (outsAt0 m c (t.val - 1) (Nat.lt_of_le_of_lt (Nat.sub_le _ _) t.isLt)).2.1) ((Memref.isWhole_whole cc0_scratch1).unread (outsAt0 m c (t.val - 1) (Nat.lt_of_le_of_lt (Nat.sub_le _ _) t.isLt)).2.2) (fun r ch h5 h8 => (congrFun (read_unread_whole _ _ _) _).trans (hF r ch h5 h8)) (fun g n w => (congrFun (read_unread_whole _ _ _) _).trans (hS g n w))) _ _ _ [] (fun _ => (0 : EReal))) n w
theorem st1_B (h : ¬t.val % 16 = 0)
    (hF : ∀ (r : Fin 136) ch, 5 ≤ r.val → r.val < 8 → (outsAt0 m c (t.val - 1) (Nat.lt_of_le_of_lt (Nat.sub_le _ _) t.isLt)).2.1 (ix2 r ch) = Gx m c t 0 r.val ch)
    (hS : ∀ (g : Fin 2) n (w : Fin 512), (outsAt0 m c (t.val - 1) (Nat.lt_of_le_of_lt (Nat.sub_le _ _) t.isLt)).2.2 (ix3 g n w) = St m c t 0 n ⟨g.val * 512 + w.val, by omega⟩) (n : Fin 128) (w : Fin 512) : (outsAt0 m c t.val t.isLt).2.2 (ix3 1 n w) = St m c t 2 n ⟨512 + w.val, by omega⟩ := by
  rw [outsAt0_B m c t h]
  frame_out
  refine (st_one _ _ n w).trans ?_
  exact Ok.n1B (ok1 m c t (ok0B m c t ((Memref.isWhole_whole cc0_scratch0).unread (outsAt0 m c (t.val - 1) (Nat.lt_of_le_of_lt (Nat.sub_le _ _) t.isLt)).2.1) ((Memref.isWhole_whole cc0_scratch1).unread (outsAt0 m c (t.val - 1) (Nat.lt_of_le_of_lt (Nat.sub_le _ _) t.isLt)).2.2) (fun r ch h5 h8 => (congrFun (read_unread_whole _ _ _) _).trans (hF r ch h5 h8)) (fun g n w => (congrFun (read_unread_whole _ _ _) _).trans (hS g n w))) _ _ [] _ _) n w
theorem out0_B (h : ¬t.val % 16 = 0)
    (hF : ∀ (r : Fin 136) ch, 5 ≤ r.val → r.val < 8 → (outsAt0 m c (t.val - 1) (Nat.lt_of_le_of_lt (Nat.sub_le _ _) t.isLt)).2.1 (ix2 r ch) = Gx m c t 0 r.val ch)
    (hS : ∀ (g : Fin 2) n (w : Fin 512), (outsAt0 m c (t.val - 1) (Nat.lt_of_le_of_lt (Nat.sub_le _ _) t.isLt)).2.2 (ix3 g n w) = St m c t 0 n ⟨g.val * 512 + w.val, by omega⟩) (y : S256x1024.Idx) (l : Fin 128) (h0 : (y 0).val = l.val) : (outsAt0 m c t.val t.isLt).1 y = rows fold2 (Ck m c t 0) (St m c t 0) l (y 1) := by
  rw [outsAt0_B m c t h]
  frame_out
  refine (out_lo _ _ y l h0).trans ?_
  have ok := (ok0B m c t ((Memref.isWhole_whole cc0_scratch0).unread (outsAt0 m c (t.val - 1) (Nat.lt_of_le_of_lt (Nat.sub_le _ _) t.isLt)).2.1) ((Memref.isWhole_whole cc0_scratch1).unread (outsAt0 m c (t.val - 1) (Nat.lt_of_le_of_lt (Nat.sub_le _ _) t.isLt)).2.2) (fun r ch h5 h8 => (congrFun (read_unread_whole _ _ _) _).trans (hF r ch h5 h8)) (fun g n w => (congrFun (read_unread_whole _ _ _) _).trans (hS g n w)))
  exact ok.rows _ _ _ _ l (fun ch => y_at 0 _ (fun ch => ydiag fold2 (Ck m c t 0) l ch + yoff fold2 (Ck m c t 0) (St m c t 0) l ch) l _ _ _ _ _ _ _ _ _ (ok.pA0 l) (ok.pA1 l) (ok.pA2 l) (ok.pA3 l) (ok.pA4 l) (ok.pA5 l) (ok.pA6 l) (ok.pA7 l) ch) (fun ch => kd m c t ch _) (kz0 m c t l) (fun ch => kn m c t ch _) (y 1)
theorem out1_B (h : ¬t.val % 16 = 0)
    (hF : ∀ (r : Fin 136) ch, 5 ≤ r.val → r.val < 8 → (outsAt0 m c (t.val - 1) (Nat.lt_of_le_of_lt (Nat.sub_le _ _) t.isLt)).2.1 (ix2 r ch) = Gx m c t 0 r.val ch)
    (hS : ∀ (g : Fin 2) n (w : Fin 512), (outsAt0 m c (t.val - 1) (Nat.lt_of_le_of_lt (Nat.sub_le _ _) t.isLt)).2.2 (ix3 g n w) = St m c t 0 n ⟨g.val * 512 + w.val, by omega⟩) (y : S256x1024.Idx) (l : Fin 128) (h0 : (y 0).val = 128 + l.val) : (outsAt0 m c t.val t.isLt).1 y = rows fold2 (Ck m c t 1) (St m c t 1) l (y 1) := by
  rw [outsAt0_B m c t h]
  frame_out
  refine (out_hi _ _ y l h0).trans ?_
  have ok := (ok0B m c t ((Memref.isWhole_whole cc0_scratch0).unread (outsAt0 m c (t.val - 1) (Nat.lt_of_le_of_lt (Nat.sub_le _ _) t.isLt)).2.1) ((Memref.isWhole_whole cc0_scratch1).unread (outsAt0 m c (t.val - 1) (Nat.lt_of_le_of_lt (Nat.sub_le _ _) t.isLt)).2.2) (fun r ch h5 h8 => (congrFun (read_unread_whole _ _ _) _).trans (hF r ch h5 h8)) (fun g n w => (congrFun (read_unread_whole _ _ _) _).trans (hS g n w)))
  have ok' := ok1 m c t ok
  refine Ok.rowsB (I := Ck m c t 1) (S := St m c t 1) (ok' _ _ [] [] (fun _ => (0 : EReal))) _ _ _ _ l ?_ (fun ch => kd m c t ch _) (kz1 m c t l) (fun ch => kn m c t ch _) (y 1)
  intro ch
  exact y_at 1 _ (fun ch => ydiag fold2 (Ck m c t 1) l ch + yoff fold2 (Ck m c t 1) (St m c t 1) l ch) l _ _ _ _ _ _ _ _ _ (Ok.pB0 (ok' _ _ _ [] (fun _ => (0 : EReal))) l) (Ok.pB1 (ok' _ _ _ [] (fun _ => (0 : EReal))) l) (Ok.pB2 (ok' _ _ _ [] (fun _ => (0 : EReal))) l) (Ok.pB3 (ok' _ _ _ [] (fun _ => (0 : EReal))) l) (Ok.pB4 (ok' _ _ [] _ _) l) (Ok.pB5 (ok' _ _ [] _ _) l) (Ok.pB6 (ok' _ _ [] _ _) l) (Ok.pB7 (ok' _ _ [] _ _) l) ch

end

end Cert.Proof.Ssd
end
-- ==== Proof.SsdValue.lean ====
/- The scan, point after point: what the kernel leaves in its result array is the reference's result of the same arguments. -/
module

public import proofs.«01_k».proof.Proof.SsdPoint

@[expose] public section

set_option maxRecDepth 16384

noncomputable section

namespace Cert.Proof.Ssd

open Cert.SsdIdeal Cert.SsdIdeal.Gen Idealize.ShloMosaic Idealize.ShloMosaic.TcCoe Idealize.SL.Sem
open Idealize.ShloMosaic.Pipeline (Dat)

variable (m : (ℓ : Loc nD τ sig) → Buf (Elt Ideal) ℓ)

/-- The rows and the state carried out of a point. -/
def Left (c : Dev nD) (t : Fin cfg0.N) : Prop :=
  (∀ (r : Fin 136) ch, 5 ≤ r.val → r.val < 8 → (outsAt0 m c t.val t.isLt).2.1 (ix2 r ch) = Gx m c t 2 r.val ch) ∧
    ∀ (g : Fin 2) n (w : Fin 512), (outsAt0 m c t.val t.isLt).2.2 (ix3 g n w) = St m c t 2 n ⟨g.val * 512 + w.val, by omega⟩

/-- The rows and the state a point that continues a sequence finds. -/
def Found (c : Dev nD) (t : Fin cfg0.N) : Prop :=
  (∀ (r : Fin 136) ch, 5 ≤ r.val → r.val < 8 → (outsAt0 m c (t.val - 1) (Nat.lt_of_le_of_lt (Nat.sub_le _ _) t.isLt)).2.1 (ix2 r ch) = Gx m c t 0 r.val ch) ∧
    ∀ (g : Fin 2) n (w : Fin 512), (outsAt0 m c (t.val - 1) (Nat.lt_of_le_of_lt (Nat.sub_le _ _) t.isLt)).2.2 (ix3 g n w) = St m c t 0 n ⟨g.val * 512 + w.val, by omega⟩

theorem both {X : S2x128x512.Idx → EReal} {Y : Fin 128 → Fin 1024 → EReal} (h0 : ∀ n (w : Fin 512), X (ix3 0 n w) = Y n ⟨w.val, by omega⟩) (h1 : ∀ n (w : Fin 512), X (ix3 1 n w) = Y n ⟨512 + w.val, by omega⟩)
    (g : Fin 2) (n : Fin 128) (w : Fin 512) : X (ix3 g n w) = Y n ⟨g.val * 512 + w.val, by omega⟩ := by
  rcases (by omega : g.val = 0 ∨ g.val = 1) with h | h
  · obtain rfl : g = 0 := Fin.ext h
    exact (h0 n w).trans (congrArg (Y n) (Fin.ext (by show w.val = 0 * 512 + w.val; omega)))
  · obtain rfl : g = 1 := Fin.ext h
    exact (h1 n w).trans (congrArg (Y n) (Fin.ext (by show 512 + w.val = 1 * 512 + w.val; omega)))

theorem left_A (c : Dev nD) (t : Fin cfg0.N) (h : t.val % 16 = 0) : Left m c t :=
  ⟨ext_A m c t h, both (st0_A m c t h) (st1_A m c t h)⟩
theorem left_B (c : Dev nD) (t : Fin cfg0.N) (h : ¬t.val % 16 = 0) (f : Found m c t) : Left m c t :=
  ⟨ext_B m c t h, both (st0_B m c t h f.1 f.2) (st1_B m c t h f.1 f.2)⟩

theorem found_of (c : Dev nD) (n : ℕ) (hn : n + 1 < cfg0.N) (h : ¬(n + 1) % 16 = 0) (f : Left m c ⟨n, by omega⟩) : Found m c ⟨n + 1, hn⟩ := by
  have e1 : (n + 1) / 16 = n / 16 := by omega
  have e2 : 2 * ((n + 1) % 16) + 0 = 2 * (n % 16) + 2 := by omega
  refine ⟨fun r ch h5 h8 => (f.1 r ch h5 h8).trans ?_, fun g k w => (f.2 g k w).trans ?_⟩
  · show row (A m c) (n / 16) ((2 * (n % 16) + 2) * 128 + r.val - 5) ch = row (A m c) ((n + 1) / 16) ((2 * ((n + 1) % 16) + 0) * 128 + r.val - 5) ch
    rw [e1, e2]
  · show stateAt fold2 (chunk (A m c) (n / 16)) (2 * (n % 16) + 2) k _ = stateAt fold2 (chunk (A m c) ((n + 1) / 16)) (2 * ((n + 1) % 16) + 0) k _
    rw [e1, e2]

theorem left_at (c : Dev nD) : ∀ (n : ℕ) (hn : n < cfg0.N), Left m c ⟨n, hn⟩ := by
  intro n
  induction n with
  | zero => exact fun hn => left_A m c ⟨0, hn⟩ rfl
  | succ n ih =>
    intro hn
    by_cases h : (n + 1) % 16 = 0
    · exact left_A m c ⟨n + 1, hn⟩ h
    · exact left_B m c ⟨n + 1, hn⟩ h (found_of m c n hn h (ih (by omega)))

theorem found_at (c : Dev nD) (t : Fin cfg0.N) (h : ¬t.val % 16 = 0) : Found m c t := by
  obtain ⟨n, hn⟩ := t
  cases n with
  | zero => exact absurd rfl h
  | succ n => exact found_of m c n hn h (left_at m c n _)

/-- What the reference's result holds. -/
abbrev G (c : Dev nD) : FVec Ideal S8192x1024 .bf16 := fun j => out (A m c) (j 0) (j 1)

theorem out_row (a : Args) (b k : ℕ) (l : Fin 128) (r : Fin 8192) (ch : Fin 1024) (hk : k < 32) (h : r.val = b * 4096 + k * 128 + l.val) :
    out a r ch = rows id (chunk a b k) (stateAt id (chunk a b) k) l ch := by
  have hl := l.isLt
  have e1 : r.val / 4096 = b := by omega
  have e2 : r.val % 4096 / 128 = k := by omega
  have e3 : (⟨r.val % 128, Nat.mod_lt _ (by decide)⟩ : Fin 128) = l := Fin.ext (by show r.val % 128 = l.val; omega)
  unfold out
  rw [e1, e2, e3]

theorem core (c : Dev nD) (t : Fin cfg0.N) (y : S256x1024.Idx) (j : S8192x1024.Idx) (h0 : (j 0 : ℕ) = t.val * 256 + (y 0).val) (h1 : (j 1 : ℕ) = (y 1).val) :
    (outsAt0 m c t.val t.isLt).1 y = G m c j := by
  have b0 : (y 0).val < 256 := (y 0).isLt
  have ht : t.val < 32 := t.isLt
  have ej : j 1 = y 1 := Fin.ext h1
  show _ = out (A m c) (j 0) (j 1)
  rw [ej]
  by_cases hl : (y 0).val < 128
  · have e : (outsAt0 m c t.val t.isLt).1 y = rows fold2 (Ck m c t 0) (St m c t 0) ⟨(y 0).val, hl⟩ (y 1) := by
      by_cases h : t.val % 16 = 0
      · exact out0_A m c t h y ⟨(y 0).val, hl⟩ rfl
      · exact out0_B m c t h (found_at m c t h).1 (found_at m c t h).2 y ⟨(y 0).val, hl⟩ rfl
    refine e.trans ((rows_eq (chunk (A m c) (t.val / 16)) (2 * (t.val % 16) + 0) ⟨(y 0).val, hl⟩ (y 1)).trans
      (out_row (A m c) (t.val / 16) (2 * (t.val % 16) + 0) ⟨(y 0).val, hl⟩ (j 0) (y 1) (by omega) ?_).symm)
    show (j 0).val = t.val / 16 * 4096 + (2 * (t.val % 16) + 0) * 128 + (y 0).val
    omega
  · have hl' : (y 0).val = 128 + ((y 0).val - 128) := by omega
    have e : (outsAt0 m c t.val t.isLt).1 y = rows fold2 (Ck m c t 1) (St m c t 1) ⟨(y 0).val - 128, by omega⟩ (y 1) := by
      by_cases h : t.val % 16 = 0
      · exact out1_A m c t h y ⟨(y 0).val - 128, by omega⟩ hl'
      · exact out1_B m c t h (found_at m c t h).1 (found_at m c t h).2 y ⟨(y 0).val - 128, by omega⟩ hl'
    refine e.trans ((rows_eq (chunk (A m c) (t.val / 16)) (2 * (t.val % 16) + 1) ⟨(y 0).val - 128, by omega⟩ (y 1)).trans
      (out_row (A m c) (t.val / 16) (2 * (t.val % 16) + 1) ⟨(y 0).val - 128, by omega⟩ (j 0) (y 1) (by omega) ?_).symm)
    show (j 0).val = t.val / 16 * 4096 + (2 * (t.val % 16) + 1) * 128 + ((y 0).val - 128)
    omega

theorem final (c : Dev nD) : (dats m 0 c).arrAt 11 cfg0.N = G m c := by
  refine (dats m 0 c).arrAt_eq_of_covers 11 _ (by decide +kernel) fun t hf y => ?_
  blk_simp
  rw [after0_11]
  exact core m c t y _ (by blk_simp [idx t]) (by blk_simp [idx t])

end Cert.Proof.Ssd

end
-- ==== Proof.InProjValue.lean ====
/- The input projection: what the kernel leaves in its result array is the reference's term of the same arguments. -/
module

public import proofs.«01_k».proof.Proof.Gen.InProjIdeal.Value
public import proofs.«01_k».proof.Proof.Gen.InProjRefIdeal.Read
public import proofs.«01_k».proof.Proof.Gen.InProjRefIdeal.Run
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Claim
public import Idealize.ShloMosaic.Lib.StableHlo.RunRead

@[expose] public section

set_option maxRecDepth 16384

noncomputable section

namespace Cert.Proof.InProj

open Cert.InProjIdeal Cert.InProjIdeal.Gen Idealize.ShloMosaic Idealize.ShloMosaic.TcCoe Idealize.SL.Sem
open Idealize.ShloMosaic.Pipeline (Dat)
open Cert.InProjRefIdeal.Read

variable (m : (ℓ : Loc nD τ sig) → Buf (Elt Ideal) ℓ)

/-- The block indices of the windows at every point of the grid. -/
theorem idx : ∀ t : Fin cfg0.N, win0_0.index t = ![t.val / 3, 0] ∧ win0_1.index t = ![0, 0] ∧
    win0_2.index t = ![0, t.val % 3] ∧ win0_3.index t = ![t.val / 3, t.val % 3] :=
  (by decide +kernel : ∀ t : Fin grid0.N, _)

theorem V_v0 (c : Dev nD) : V m c main_v0 = shapeCast S8192x2048 (m ((c : Thread nD τ).loc main_arg0)) shapeCasts_S2x4096x2048_S8192x2048 := by
  show StableHlo.after _ _ _ = _
  simp only [List.flatten_cons, List.flatten_nil, List.cons_append, List.nil_append, List.append_nil]
  after_reads_simp
  rfl

theorem V_v13 (c : Dev nD) : V m c main_v13 = broadcastInDim S1x2048 ![1] bcast_S2048_S1x2048_1 (shapeCast S2048 (m ((c : Thread nD τ).loc main_arg1)) shapeCasts_S1x2048_S2048 : FVec Ideal S2048 .f32) := by
  show StableHlo.after _ _ _ = _
  simp only [List.flatten_cons, List.flatten_nil, List.cons_append, List.nil_append, List.append_nil]
  after_reads_simp
  rfl

/-- The columns of the weight side by side, as the kernel's host code joins them. -/
def cat6 (a b : FVec Ideal S2048x1536 .f32) (d e : FVec Ideal S2048x1024 .f32) (f g : FVec Ideal S2048x128 .f32) : FVec Ideal S2048x5376 .f32 :=
  concatenate S2048x5376 1 [⟨S2048x1536, a⟩, ⟨S2048x1536, b⟩, ⟨S2048x1024, d⟩, ⟨S2048x1024, e⟩, ⟨S2048x128, f⟩, ⟨S2048x128, g⟩] concatenates_S2048x1536_S2048x1536_S2048x1024_S2048x1024_S2048x128_S2048x128_S2048x5376_d1

theorem cat6_congr {a a' b b' : FVec Ideal S2048x1536 .f32} {d d' e e' : FVec Ideal S2048x1024 .f32} {f f' g g' : FVec Ideal S2048x128 .f32}
    (ha : a = a') (hb : b = b') (hd : d = d') (he : e = e') (hf : f = f') (hg : g = g') : cat6 a b d e f g = cat6 a' b' d' e' f' g' := by
  rw [ha, hb, hd, he, hf, hg]

/-- The weight that the kernel's host code builds: columns of the weight in another order, with columns of zeros. -/
def packed (W : FVec Ideal S2048x5184 .f32) : FVec Ideal S2048x5376 .f32 :=
  cat6
    (extractStridedSlice S2048x1536 ![0, 1024] W slices_S2048x5184_S2048x1536_0_1024)
    (extractStridedSlice S2048x1536 ![0, 3600] W slices_S2048x5184_S2048x1536_0_3600)
    (extractStridedSlice S2048x1024 ![0, 0] W slices_S2048x5184_S2048x1024_0_0)
    (extractStridedSlice S2048x1024 ![0, 2576] W slices_S2048x5184_S2048x1024_0_2576)
    (pad S2048x128 ![0, 0] ![0, 112] ![0, 0] (extractStridedSlice S2048x16 ![0, 2560] W slices_S2048x5184_S2048x16_0_2560) (sitofp .f32 (constantI S_ 32 0#32)) pads_S2048x16_S2048x128_000_01120 h_S_)
    (pad S2048x128 ![0, 0] ![0, 80] ![0, 0] (extractStridedSlice S2048x48 ![0, 5136] W slices_S2048x5184_S2048x48_0_5136) (sitofp .f32 (constantI S_ 32 0#32)) pads_S2048x48_S2048x128_000_0800 h_S_)

theorem V_v11 (c : Dev nD) : V m c main_v11 = truncf (F := Ideal) .bf16
    (packed (shapeCast S2048x5184 (m ((c : Thread nD τ).loc main_arg2)) shapeCasts_S1x2048x5184_S2048x5184)) bitsLt_bf16_f32 := by
  show StableHlo.after _ _ _ = _
  simp only [List.flatten_cons, List.flatten_nil, List.cons_append, List.nil_append, List.append_nil]
  after_reads_simp
  refine congrArg (fun z => truncf (F := Ideal) .bf16 z bitsLt_bf16_f32) (cat6_congr ?_ ?_ ?_ ?_ ?_ ?_)
  · show StableHlo.upto _ _ _ (Proc.devRef .tc main_v2) = _
    after_reads_simp
    rfl
  · show StableHlo.upto _ _ _ (Proc.devRef .tc main_v3) = _
    after_reads_simp
    rfl
  · show StableHlo.upto _ _ _ (Proc.devRef .tc main_v4) = _
    after_reads_simp
    rfl
  · show StableHlo.upto _ _ _ (Proc.devRef .tc main_v5) = _
    after_reads_simp
    rfl
  · show StableHlo.upto _ _ _ (Proc.devRef .tc main_v7) = _
    after_reads_simp
    rfl
  · show StableHlo.upto _ _ _ (Proc.devRef .tc main_v9) = _
    after_reads_simp
    rfl

theorem rows_at (X : FVec Ideal S2x4096x2048 .f32) (j : S8192x2048.Idx) (a : Fin 2) (b : Fin 4096) (l : Fin 2048)
    (h : a.val * 4096 + b.val = (j 0).val) (hl : l.val = (j 1).val) :
    shapeCast S8192x2048 X shapeCasts_S2x4096x2048_S8192x2048 j = X (ix3 a b l) := by
  pointwise
  blk_ext

theorem rd0 (c : Dev nD) (t : Fin cfg0.N) (y : S1024x2048.Idx) (a : Fin 2) (b : Fin 4096) (l : Fin 2048)
    (h : a.val * 4096 + b.val = t.val / 3 * 1024 + (y 0).val) (hl : l.val = (y 1).val) :
    iblk m c 0 t y = m ((c : Thread nD τ).loc main_arg0) (ix3 a b l) := by
  blk_simp [iblk]
  rw [V_v0]
  exact rows_at _ _ a b l (by blk_simp [idx t]; omega) (by blk_simp [idx t]; omega)

theorem rd1 (c : Dev nD) (t : Fin cfg0.N) (y : S1x2048.Idx) (l : Fin 2048) (hl : l.val = (y 1).val) :
    iblk m c 1 t y = m ((c : Thread nD τ).loc main_arg1) (ix2 0 l) := by
  blk_simp [iblk]
  rw [V_v13]
  pointwise
  blk_ext [idx t]

theorem rd2 (c : Dev nD) (t : Fin cfg0.N) (y : S2048x1792.Idx) (j : S2048x5376.Idx)
    (hk : (j 0).val = (y 0).val) (hl : (j 1).val = t.val % 3 * 1792 + (y 1).val) :
    iblk m c 2 t y = packed (shapeCast S2048x5184 (m ((c : Thread nD τ).loc main_arg2)) shapeCasts_S1x2048x5184_S2048x5184) j := by
  refine Eq.trans (b := V m c main_v11 j) (by blk_ext [iblk, idx t]) ?_
  rw [V_v11]
  rfl

theorem zero_word : FloatOps.sitofp (F := Ideal) FTy.f32 (0#32) = (0 : EReal) := by
  show (((0#32).toInt : ℝ) : EReal) = 0
  norm_num

theorem v15_at (X : FVec Ideal S2x4096x2048 .f32) (x1 : FVec Ideal S1x2048 .f32) (x2 : FVec Ideal S1x2048x5184 .f32) (a : Fin 2) (b : Fin 4096) (l : Fin 5184) :
    val_main_v15 (F := Ideal) X x1 x2 (ix3 a b l) = ∑ k : Fin 2048, val_main_v13 (F := Ideal) X x1 (ix3 a b k) * x2 (ix3 0 k l) := by
  pointwise [val_main_v15, val_main_v14]

/-- The column of the unpacked weight that a packed column is taken from; zero at the padding. -/
def pick (f : Fin 5184 → EReal) (l : Fin 5376) : EReal :=
  if h : l.val < 1536 then f ⟨1024 + l.val, by omega⟩
  else if h : l.val - 1536 < 1536 then f ⟨3600 + (l.val - 1536), by omega⟩
  else if h : l.val - 1536 - 1536 < 1024 then f ⟨l.val - 1536 - 1536, by omega⟩
  else if h : l.val - 1536 - 1536 - 1024 < 1024 then f ⟨2576 + (l.val - 1536 - 1536 - 1024), by omega⟩
  else if h : l.val - 1536 - 1536 - 1024 - 1024 < 128 then
    if h : l.val - 1536 - 1536 - 1024 - 1024 < 16 then f ⟨2560 + (l.val - 1536 - 1536 - 1024 - 1024), by omega⟩ else 0
  else if h : l.val - 1536 - 1536 - 1024 - 1024 - 128 < 48 then f ⟨5136 + (l.val - 1536 - 1536 - 1024 - 1024 - 128), by omega⟩ else 0

theorem pick_sum (u : Fin 2048 → EReal) (f : Fin 2048 → Fin 5184 → EReal) (l : Fin 5376) :
    pick (fun x => ∑ k, u k * f k x) l = ∑ k, u k * pick (f k) l := by
  unfold pick
  split_ifs <;> simp only [mul_zero, Finset.sum_const_zero]

theorem packed_at (x2 : FVec Ideal S1x2048x5184 .f32) (k : Fin 2048) (l : Fin 5376) :
    packed (shapeCast S2048x5184 x2 shapeCasts_S1x2048x5184_S2048x5184) (ix2 k l) = pick (fun x => x2 (ix3 0 k x)) l := by
  pointwise [packed, cat6]
  simp only [zero_word]
  rfl

/-- The reference's result at an index: the normalized row against the packed column. -/
theorem ref_at (X : FVec Ideal S2x4096x2048 .f32) (x1 : FVec Ideal S1x2048 .f32) (x2 : FVec Ideal S1x2048x5184 .f32) (j : S8192x5376.Idx)
    (hA : (j 0).val / 4096 < 2) (hB : (j 0).val % 4096 < 4096) :
    val_main_v25 (F := Ideal) X x1 x2 j = ∑ k : Fin 2048, val_main_v13 (F := Ideal) X x1 (ix3 ⟨(j 0).val / 4096, hA⟩ ⟨(j 0).val % 4096, hB⟩ k) *
      pick (fun x => x2 (ix3 0 k x)) (j 1) := by
  refine Eq.trans ?_ (pick_sum (fun k => val_main_v13 (F := Ideal) X x1 (ix3 ⟨(j 0).val / 4096, hA⟩ ⟨(j 0).val % 4096, hB⟩ k)) (fun k x => x2 (ix3 0 k x)) (j 1))
  pointwise [val_main_v25, val_main_v24, val_main_v23, val_main_v22, val_main_v21, val_main_v20, val_main_v19, val_main_v18, val_main_v17, val_main_v16, val_main_call0_v0, val_main_call1_v0, val_main_c, val_main_c_2]
  simp only [hA, hB, true_and, zero_word, v15_at]
  rfl

theorem core_u (c : Dev nD) (t : Fin cfg0.N) (y : S1024x2048.Idx) (a : Fin 2) (b : Fin 4096)
    (h : a.val * 4096 + b.val = t.val / 3 * 1024 + (y 0).val) :
    k0_pay1 (iblk m c 0 t) (iblk m c 1 t) y
      = val_main_v13 (F := Ideal) (m ((c : Thread nD τ).loc main_arg0)) (m ((c : Thread nD τ).loc main_arg1)) (ix3 a b (y 1)) := by
  pointwise [k0_pay1, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  have e : ∀ x : Fin 2048, iblk m c 0 t (ix2 (y 0) x) = m ((c : Thread nD τ).loc main_arg0) (ix3 a b x) := fun x => rd0 m c t _ a b x h rfl
  rw [rd1 m c t _ (y 1) rfl, rd0 m c t y a b (y 1) h rfl]
  simp only [e]

theorem flush_first (t : Fin cfg0.N) : 3 * (t.val / 3) / 3 = t.val / 3 := by omega

/-- What the carried scratch holds at a point: the normalized rows of the point's row block. -/
theorem held (c : Dev nD) (t : Fin cfg0.N) (y : S1024x2048.Idx) (a : Fin 2) (b : Fin 4096)
    (h : a.val * 4096 + b.val = t.val / 3 * 1024 + (y 0).val) :
    (outsAt0 m c t.val t.isLt).2 y
      = val_main_v13 (F := Ideal) (m ((c : Thread nD τ).loc main_arg0)) (m ((c : Thread nD τ).loc main_arg1)) (ix3 a b (y 1)) := by
  rw [Pipeline.eq_of_write_hold_apply (fun n h => (outsAt0 m c n h).2) 3 (fun t => k0_pay1 (iblk m c 0 t) (iblk m c 1 t))
    (fun t h i => by rw [outsAt0_A m c t h]; frame_out) (fun t h i => by rw [outsAt0_B m c t h]; rfl) t y]
  refine core_u m c _ y a b ?_
  rw [h]
  show _ = 3 * (t.val / 3) / 3 * 1024 + _
  rw [flush_first]

/-- What a point leaves in its output block: the held rows against the point's columns. -/
theorem out_at (c : Dev nD) (t : Fin cfg0.N) :
    (outsAt0 m c t.val t.isLt).1 = k0_pay2 (outsAt0 m c t.val t.isLt).2 (iblk m c 2 t) := by
  by_cases h : t.val % 3 = 0
  · rw [outsAt0_A m c t h]; frame_out
  · rw [outsAt0_B m c t h]; frame_out; simp only [read_unread_whole]; rfl

/-- The reference's term over the kernel's argument arrays. -/
abbrev G (c : Dev nD) : FVec Ideal S8192x5376 .f32 :=
  val_main_v25 (F := Ideal) (m ((c : Thread nD τ).loc main_arg0)) (m ((c : Thread nD τ).loc main_arg1)) (m ((c : Thread nD τ).loc main_arg2))

theorem core (c : Dev nD) (t : Fin cfg0.N) (y : S1024x1792.Idx) (j : S8192x5376.Idx)
    (h0 : (j 0 : ℕ) = t.val / 3 * 1024 + (y 0).val) (h1 : (j 1 : ℕ) = t.val % 3 * 1792 + (y 1).val) :
    (outsAt0 m c t.val t.isLt).1 y = G m c j := by
  have b0 : (j 0 : ℕ) < 8192 := (j 0).isLt
  rw [out_at, G, ref_at _ _ _ j (by omega) (by omega)]
  have e := held m c t
  generalize (outsAt0 m c t.val t.isLt).2 = u at e ⊢
  pointwise [k0_pay2]
  refine Finset.sum_congr rfl fun k _ => congrArg₂ _ (e (ix2 (y 0) k) _ _ ?_) ((rd2 m c t (ix2 k (y 1)) (ix2 k (j 1)) rfl h1).trans (packed_at _ k (j 1)))
  show (j 0).val / 4096 * 4096 + (j 0).val % 4096 = t.val / 3 * 1024 + (y 0).val
  omega

theorem final (c : Dev nD) : (dats m 0 c).arrAt 3 cfg0.N = G m c := by
  refine (dats m 0 c).arrAt_eq_of_covers 3 _ (by decide +kernel) fun t hf y => ?_
  blk_simp
  rw [after0_3]
  exact core m c t y _ (by blk_simp [idx t]) (by blk_simp [idx t])

end Cert.Proof.InProj

end
-- ==== Proof.OutProjValue.lean ====
/- The output projection: what the kernel leaves in its result array is the reference's term of the same arguments. -/
module

public import proofs.«01_k».proof.Proof.Gen.OutProjIdeal.Value
public import proofs.«01_k».proof.Proof.Gen.OutProjRefIdeal.Read
public import proofs.«01_k».proof.Proof.Gen.OutProjRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.Proof.OutProj

open Cert.OutProjIdeal Cert.OutProjIdeal.Gen Idealize.ShloMosaic Idealize.ShloMosaic.TcCoe Idealize.SL.Sem
open Idealize.ShloMosaic.Pipeline (Dat)
open Cert.OutProjRefIdeal.Read

variable (m : (ℓ : Loc nD τ sig) → Buf (Elt Ideal) ℓ)

/-- The reference's term over the kernel's argument arrays. -/
abbrev G (c : Dev nD) : FVec Ideal S8192x2048 .f32 :=
  val_main_v7 (F := Ideal) (m ((c : Thread nD τ).loc main_arg0)) (m ((c : Thread nD τ).loc main_arg1))
    (m ((c : Thread nD τ).loc main_arg2)) (m ((c : Thread nD τ).loc main_arg3))

/-- The block indices of the windows at every point of the grid. -/
theorem idx : ∀ t : Fin cfg0.N, win0_0.index t = ![t.val, 0] ∧ win0_1.index t = ![t.val, 0] ∧
    win0_2.index t = ![t.val, 0] ∧ win0_3.index t = ![0, 0] ∧ win0_4.index t = ![1, 0] ∧ win0_5.index t = ![t.val, 0] :=
  (by decide +kernel : ∀ t : Fin grid0.N, _)

/-- A sum over 2048 inner positions is the sum over the first 1024 plus the sum over the last. -/
theorem sum_halves (f : Fin 2048 → EReal) :
    (∑ k, f k) = (∑ k : Fin 1024, f ⟨k.val, by omega⟩) + ∑ k : Fin 1024, f ⟨1024 + k.val, by omega⟩ :=
  Fin.sum_univ_add (a := 1024) (b := 1024) f

theorem rd0 (c : Dev nD) (t : Fin cfg0.N) (y : S512x2048.Idx) (a : Fin 2) (b : Fin 4096) (l : Fin 2048)
    (h : a.val * 4096 + b.val = t.val * 512 + (y 0).val) (hl : l.val = (y 1).val) :
    iblk m c 0 t y = m ((c : Thread nD τ).loc main_arg0) (ix3 a b l) := by
  blk_simp [iblk]
  entry_read
  pointwise
  blk_ext [idx t]

theorem rd1 (c : Dev nD) (t : Fin cfg0.N) (y : S512x1024.Idx) (a : Fin 8192) (k : Fin 1024)
    (h : a.val = t.val * 512 + (y 0).val) (hk : k.val = (y 1).val) :
    iblk m c 1 t y = m ((c : Thread nD τ).loc main_arg1) (ix2 a k) := by
  blk_ext [iblk, V, idx t]

theorem rd2 (c : Dev nD) (t : Fin cfg0.N) (y : S512x1024.Idx) (a : Fin 8192) (k : Fin 1024)
    (h : a.val = t.val * 512 + (y 0).val) (hk : k.val = (y 1).val) :
    iblk m c 2 t y = m ((c : Thread nD τ).loc main_arg2) (ix2 a k) := by
  blk_ext [iblk, V, idx t]

theorem rd3 (c : Dev nD) (t : Fin cfg0.N) (y : S1024x2048.Idx) (k : Fin 2048) (l : Fin 2048)
    (hk : k.val = (y 0).val) (hl : l.val = (y 1).val) :
    iblk m c 3 t y = m ((c : Thread nD τ).loc main_arg3) (ix3 0 k l) := by
  blk_simp [iblk]
  entry_read
  pointwise
  blk_ext [idx t]

theorem rd4 (c : Dev nD) (t : Fin cfg0.N) (y : S1024x2048.Idx) (k : Fin 2048) (l : Fin 2048)
    (hk : k.val = 1024 + (y 0).val) (hl : l.val = (y 1).val) :
    iblk m c 4 t y = m ((c : Thread nD τ).loc main_arg3) (ix3 0 k l) := by
  blk_simp [iblk]
  entry_read
  pointwise
  blk_ext [idx t]

/-- The body's payload at a point is the reference's term at the array index where the block element sits. -/
theorem core (c : Dev nD) (t : Fin cfg0.N) (y : S512x2048.Idx) (j : S8192x2048.Idx)
    (h0 : (j 0 : ℕ) = t.val * 512 + (y 0).val) (h1 : (j 1 : ℕ) = (y 1).val) :
    k0_pay1 (iblk m c 0 t) (iblk m c 1 t) (iblk m c 3 t) (iblk m c 2 t) (iblk m c 4 t) y = G m c j := by
  pointwise [k0_pay1, G, val_main_v7, val_main_v6, val_main_v5, val_main_v4, val_main_v3, val_main_v2, val_main_v1, val_main_v0, sum_halves]
  refine Eq.trans ?_ (add_assoc _ _ _)
  have b0 : (j 0 : ℕ) < 8192 := (j 0).isLt
  refine congrArg₂ _ (congrArg₂ _ (rd0 m c t y _ _ _ ?_ h1) (Finset.sum_congr rfl fun k _ => congrArg₂ _ (rd1 m c t _ _ _ h0 rfl) (rd3 m c t _ _ _ rfl h1)))
    (Finset.sum_congr rfl fun k _ => congrArg₂ _ (rd2 m c t _ _ _ h0 rfl) (rd4 m c t _ _ _ rfl h1))
  show (j 0 : ℕ) / 4096 * 4096 + (j 0 : ℕ) % 4096 = _
  omega

theorem final (c : Dev nD) : (dats m 0 c).arrAt 5 cfg0.N = G m c := by
  refine (dats m 0 c).arrAt_eq_of_covers 5 _ (by decide +kernel) fun t hf y => ?_
  blk_simp
  rw [after0_5]; frame_out
  exact core m c t y _ (by blk_simp [idx t]) (by blk_simp [idx t])

end Cert.Proof.OutProj

end
-- ==== Proof.CmpModel.lean ====
/- The compression: the mathematics that kernel and reference share, on indices. -/
module

public import proofs.«01_k».proof.Proof.Gen.CmpIdeal.Value
public import Idealize.ShloMosaic.Lib.Pipeline.ValueKit
public import Idealize.ShloMosaic.Lib.Pointwise
public import Idealize.ShloMosaic.Lib.Claim

@[expose] public section

set_option maxRecDepth 16384

noncomputable section

namespace Cert.Proof.Cmp

open Cert.CmpIdeal Cert.CmpIdeal.Gen Idealize.ShloMosaic Idealize.ShloMosaic.TcCoe Idealize.SL.Sem

/-- `x` times the logistic of `x`, as the ideal programs spell it. -/
def silu (x : EReal) : EReal := x * Ideal.div 1 (1 + Ideal.exp (-x))

theorem sum_2048 (f : Fin 2048 → EReal) : ∑ q, f q = ∑ s : Fin 32, ∑ d : Fin 64, f ⟨s.val * 64 + d.val, by omega⟩ := by
  rw [← Fintype.sum_prod_type']
  refine (Fintype.sum_equiv (finProdFinEquiv (m := 32) (n := 64)) _ _ fun x => congrArg f (Fin.ext ?_)).symm
  show x.1.val * 64 + x.2.val = x.2.val + 64 * x.1.val
  ring

theorem sum_32 (f : Fin 32 → EReal) : ∑ s, f s = ∑ s : Fin 16, f ⟨s.val, by omega⟩ + ∑ s : Fin 16, f ⟨16 + s.val, by omega⟩ :=
  Fin.sum_univ_add (a := 16) (b := 16) f

section
variable (cb : ℕ) (hcb : cb ≤ 1792) (X : FVec Ideal S8192x5376 .f32) (PE : FVec Ideal S1x32x64 .f32)

/-- A block's first half: its own sixteen tokens with their positions added. -/
def lo (b : Fin 2) (i : Fin 256) (h : Fin 4) (s : Fin 16) (d : Fin 64) : EReal :=
  X (ix2 ⟨b.val * 4096 + (i.val * 16 + s.val), by omega⟩ ⟨cb + (h.val * 64 + d.val), by omega⟩) + PE (ix3 0 ⟨s.val, by omega⟩ d)

/-- A block's second half: the sixteen tokens of the next one; nothing past the end. -/
def hi (b : Fin 2) (i : Fin 256) (h : Fin 4) (s : Fin 16) (d : Fin 64) : EReal :=
  if hi : i.val < 255 then
    X (ix2 ⟨b.val * 4096 + ((1 + i.val) * 16 + s.val), by omega⟩ ⟨cb + (h.val * 64 + d.val), by omega⟩) + PE (ix3 0 ⟨16 + s.val, by omega⟩ d)
  else 0

/-- A block's tokens side by side. -/
def flat (b : Fin 2) (i : Fin 256) (h : Fin 4) (q : Fin 2048) : EReal :=
  if hq : q.val / 64 < 16 then lo cb hcb X PE b i h ⟨q.val / 64, hq⟩ ⟨q.val % 64, by omega⟩
  else hi cb hcb X PE b i h ⟨q.val / 64 - 16, by omega⟩ ⟨q.val % 64, by omega⟩

variable (W1 : FVec Ideal S1x2048x256 .f32) (W2 : FVec Ideal S1x256x64 .f32)

/-- The hidden layer. -/
def hid (b : Fin 2) (i : Fin 256) (h : Fin 4) (n : Fin 256) : EReal := ∑ q : Fin 2048, flat cb hcb X PE b i h q * W1 (ix3 0 q n)

/-- The compressed token. -/
def tok (b : Fin 2) (i : Fin 256) (h : Fin 4) (d : Fin 64) : EReal := ∑ n : Fin 256, silu (hid cb hcb X PE W1 b i h n) * W2 (ix3 0 n d)

/-- The hidden layer as two sums, one for each half of the block. -/
theorem hid_split (b : Fin 2) (i : Fin 256) (h : Fin 4) (n : Fin 256) :
    hid cb hcb X PE W1 b i h n = ∑ s : Fin 16, ∑ d : Fin 64, lo cb hcb X PE b i h s d * W1 (ix3 0 ⟨s.val * 64 + d.val, by omega⟩ n)
      + ∑ s : Fin 16, ∑ d : Fin 64, hi cb hcb X PE b i h s d * W1 (ix3 0 ⟨(16 + s.val) * 64 + d.val, by omega⟩ n) := by
  unfold hid
  rw [sum_2048, sum_32]
  refine congrArg₂ (· + ·) (Finset.sum_congr rfl fun s _ => Finset.sum_congr rfl fun d _ => ?_) (Finset.sum_congr rfl fun s _ => Finset.sum_congr rfl fun d _ => ?_)
  · refine congrArg (· * _) ?_
    have e1 : (s.val * 64 + d.val) / 64 = s.val := by omega
    have e2 : (s.val * 64 + d.val) % 64 = d.val := by omega
    unfold flat
    simp only [e1, e2]
    exact dif_pos s.isLt
  · refine congrArg (· * _) ?_
    have e1 : ((16 + s.val) * 64 + d.val) / 64 = 16 + s.val := by omega
    have e2 : ((16 + s.val) * 64 + d.val) % 64 = d.val := by omega
    have e3 : 16 + s.val - 16 = s.val := by omega
    unfold flat
    simp only [e1, e2, e3]
    exact dif_neg (by omega)

end

/-- The compressed keys: block-diagonal, with zeros off the diagonal. -/
def keys (X : FVec Ideal S8192x5376 .f32) (PE : FVec Ideal S1x32x64 .f32) (W1 : FVec Ideal S1x2048x256 .f32) (W2 : FVec Ideal S1x256x64 .f32)
    (b : Fin 2) (h : Fin 4) (p : Fin 256) (q : Fin 1024) : EReal :=
  if p.val / 64 = q.val / 256 then tok 1536 (by omega) X PE W1 W2 b ⟨q.val % 256, by omega⟩ h ⟨p.val % 64, by omega⟩ else 0

/-- The compressed values: block-diagonal, each padded with zeros to 128 columns. -/
def vals (X : FVec Ideal S8192x5376 .f32) (PE : FVec Ideal S1x32x64 .f32) (W1 : FVec Ideal S1x2048x256 .f32) (W2 : FVec Ideal S1x256x64 .f32)
    (b : Fin 2) (h : Fin 4) (p : Fin 1024) (q : Fin 512) : EReal :=
  if p.val / 256 = q.val / 128 then
    (if hq : q.val % 128 < 64 then tok 1792 (by omega) X PE W1 W2 b ⟨p.val % 256, by omega⟩ h ⟨q.val % 128, hq⟩ else 0)
  else 0

/-- A choice between two small words that are equal exactly when the numbers are. -/
theorem select_eq (a b : ℕ) (ha : a < 2 ^ 32) (hb : b < 2 ^ 32) (x y : EReal) :
    Scalar.select (α := EReal) (IntOp.cmpi CmpIPredicate.eq (BitVec.ofNat 32 a) (BitVec.ofNat 32 b)) x y = if a = b then x else y := by
  by_cases h : a = b
  · subst h
    rw [if_pos rfl]
    have : IntOp.cmpi CmpIPredicate.eq (BitVec.ofNat 32 a) (BitVec.ofNat 32 a) = 1#1 := by simp [IntOp.cmpi]
    rw [this]
    rfl
  · rw [if_neg h]
    have hne : BitVec.ofNat 32 a ≠ BitVec.ofNat 32 b := fun e => h (by
      have := congrArg BitVec.toNat e
      simp only [BitVec.toNat_ofNat] at this
      omega)
    have : IntOp.cmpi CmpIPredicate.eq (BitVec.ofNat 32 a) (BitVec.ofNat 32 b) = 0#1 := by
      have hf : (BitVec.ofNat 32 a == BitVec.ofNat 32 b) = false := by simpa using hne
      simp [IntOp.cmpi, hf]
    rw [this]
    rfl

theorem zero_w : FloatOps.sitofp (F := Ideal) FTy.f32 (0#32) = (0 : EReal) := by
  show (((0#32).toInt : ℝ) : EReal) = 0
  norm_num

end Cert.Proof.Cmp

end
-- ==== Proof.CmpKernel.lean ====
/- The compression: the arithmetic of one block of the kernel. -/
module

public import proofs.«01_k».proof.Proof.CmpModel
public import proofs.«01_k».proof.Proof.SsdView
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Claim

@[expose] public section

set_option maxRecDepth 16384

noncomputable section

namespace Cert.Proof.Cmp

open Cert.CmpIdeal Cert.CmpIdeal.Gen Idealize.ShloMosaic Idealize.ShloMosaic.TcCoe Idealize.SL.Sem
open Idealize.ShloMosaic.Pipeline (Dat)

/-! ### The chains of products -/

def topK (M : IVec S256x128 1) (x : Fin 16 → FVec Ideal S256x128 .f32) (p : Fin 32 → FVec Ideal S1x128 .f32) (w : Fin 32 → FVec Ideal S1x128x256 .bf16) : FVec Ideal S256x256 .f32 :=
  (k0_pay36 M (k0_pay34 M (k0_pay29 M (k0_pay28 M (k0_pay23 M (k0_pay22 M (k0_pay17 M (k0_pay12 M (k0_pay9 M (k0_pay5 M k0_pay3 (x 0) (p 0) (w 0)) (k0_pay7 M (x 1) (p 1)) (w 1) (x 2) (p 2) (w 2)) (x 3) (k0_pay11 (p 3)) (w 3)) (k0_pay14 M (x 4) (p 4)) (k0_pay16 (w 4)) (x 5) (p 5) (w 5)) (k0_pay19 (x 6) (p 6)) (Scalar.ofBits .f32 0x00000000#32) (w 6) (x 7) (p 7) (w 7)) (x 8) (p 8) (w 8)) (k0_pay25 M (x 9) (p 9)) (w 9) (x 10) (p 10) (w 10)) (x 11) (p 11) (w 11)) (k0_pay31 M (x 12) (p 12)) (w 12) (x 13) (p 13) (w 13)) (x 14) (p 14) (w 14))

def botK (M : IVec S256x128 1) (x : Fin 16 → FVec Ideal S256x128 .f32) (p : Fin 32 → FVec Ideal S1x128 .f32) (w : Fin 32 → FVec Ideal S1x128x256 .bf16) : FVec Ideal S256x256 .f32 :=
  (k0_pay40 M (k0_pay37 M (k0_pay32 M (k0_pay30 M (k0_pay26 M (k0_pay24 M (k0_pay20 M (k0_pay18 M (k0_pay13 M (k0_pay10 M (k0_pay6 M k0_pay4 (x 0) (p 16) (w 16)) (k0_pay8 M (x 1) (p 17)) (w 17) (x 2) (p 18) (w 18)) (x 3) (p 19) (w 19)) (k0_pay15 M (x 4) (p 20)) (w 20) (x 5) (p 21) (w 21)) (x 6) (p 22) (w 22)) (k0_pay21 M (x 7) (p 23)) (w 23) (x 8) (p 24) (w 24)) (x 9) (p 25) (w 25)) (k0_pay27 M (x 10) (p 26)) (w 26) (x 11) (p 27) (w 27)) (x 12) (p 28) (w 28)) (k0_pay33 M (x 13) (p 29)) (k0_pay35 (w 29)) (constant S256x256 .f32 0x00000000#32) (x 14) (p 30) (w 30)) (k0_pay39 (x 15) (p 31)) (w 31))

def topV (M : IVec S256x128 1) (x : Fin 16 → FVec Ideal S256x128 .f32) (p : Fin 32 → FVec Ideal S1x128 .f32) (w : Fin 32 → FVec Ideal S1x128x256 .bf16) : FVec Ideal S256x256 .f32 :=
  (k0_pay84 M (k0_pay80 M (k0_pay78 M (k0_pay73 M (k0_pay72 M (k0_pay67 M (k0_pay66 M (k0_pay61 M (k0_pay56 M (k0_pay53 M k0_pay49 (k0_pay51 M (x 0) (p 0)) (w 0) (x 1) (p 1) (w 1)) (x 2) (k0_pay55 (p 2)) (w 2)) (k0_pay58 M (x 3) (p 3)) (k0_pay60 (w 3)) (x 4) (p 4) (w 4)) (k0_pay63 (x 5) (p 5)) (Scalar.ofBits .f32 0x00000000#32) (w 5) (x 6) (p 6) (w 6)) (x 7) (p 7) (w 7)) (k0_pay69 M (x 8) (p 8)) (w 8) (x 9) (p 9) (w 9)) (x 10) (p 10) (w 10)) (k0_pay75 M (x 11) (p 11)) (w 11) (x 12) (p 12) (w 12)) (x 13) (p 13) (w 13)) (k0_pay82 M (x 14) (p 14)) (w 14) (x 15) (p 15) (w 15))

def botV (M : IVec S256x128 1) (x : Fin 16 → FVec Ideal S256x128 .f32) (p : Fin 32 → FVec Ideal S1x128 .f32) (w : Fin 32 → FVec Ideal S1x128x256 .bf16) : FVec Ideal S256x256 .f32 :=
  (k0_pay86 (k0_pay85 M (k0_pay81 M (k0_pay76 M (k0_pay74 M (k0_pay70 M (k0_pay68 M (k0_pay64 M (k0_pay62 M (k0_pay57 M (k0_pay54 M k0_pay50 (k0_pay52 M (x 0) (p 16)) (w 16) (x 1) (p 17) (w 17)) (x 2) (p 18) (w 18)) (k0_pay59 M (x 3) (p 19)) (w 19) (x 4) (p 20) (w 20)) (x 5) (p 21) (w 21)) (k0_pay65 M (x 6) (p 22)) (w 22) (x 7) (p 23) (w 23)) (x 8) (p 24) (w 24)) (k0_pay71 M (x 9) (p 25)) (w 25) (x 10) (p 26) (w 26)) (x 11) (p 27) (w 27)) (k0_pay77 M (x 12) (p 28)) (k0_pay79 (w 28)) (constant S256x256 .f32 0x00000000#32) (x 13) (p 29) (w 29)) (k0_pay83 (x 14) (p 30)) (w 30) (x 15) (p 31) (w 31)))

/-- Sixteen products added up from an array. -/
def chain15 (o : ℕ) (ho : o ≤ 16) (z : FVec Ideal S256x256 .f32) (M : IVec S256x128 1) (x : Fin 16 → FVec Ideal S256x128 .f32) (p : Fin 32 → FVec Ideal S1x128 .f32) (w : Fin 32 → FVec Ideal S1x128x256 .bf16) : FVec Ideal S256x256 .f32 :=
  (k0_pay5 M (k0_pay5 M (k0_pay5 M (k0_pay5 M (k0_pay5 M (k0_pay5 M (k0_pay5 M (k0_pay5 M (k0_pay5 M (k0_pay5 M (k0_pay5 M (k0_pay5 M (k0_pay5 M (k0_pay5 M (k0_pay5 M z (x 0) (p ⟨o + 0, by omega⟩) (w ⟨o + 0, by omega⟩)) (x 1) (p ⟨o + 1, by omega⟩) (w ⟨o + 1, by omega⟩)) (x 2) (p ⟨o + 2, by omega⟩) (w ⟨o + 2, by omega⟩)) (x 3) (p ⟨o + 3, by omega⟩) (w ⟨o + 3, by omega⟩)) (x 4) (p ⟨o + 4, by omega⟩) (w ⟨o + 4, by omega⟩)) (x 5) (p ⟨o + 5, by omega⟩) (w ⟨o + 5, by omega⟩)) (x 6) (p ⟨o + 6, by omega⟩) (w ⟨o + 6, by omega⟩)) (x 7) (p ⟨o + 7, by omega⟩) (w ⟨o + 7, by omega⟩)) (x 8) (p ⟨o + 8, by omega⟩) (w ⟨o + 8, by omega⟩)) (x 9) (p ⟨o + 9, by omega⟩) (w ⟨o + 9, by omega⟩)) (x 10) (p ⟨o + 10, by omega⟩) (w ⟨o + 10, by omega⟩)) (x 11) (p ⟨o + 11, by omega⟩) (w ⟨o + 11, by omega⟩)) (x 12) (p ⟨o + 12, by omega⟩) (w ⟨o + 12, by omega⟩)) (x 13) (p ⟨o + 13, by omega⟩) (w ⟨o + 13, by omega⟩)) (x 14) (p ⟨o + 14, by omega⟩) (w ⟨o + 14, by omega⟩))

def chain16 (o : ℕ) (ho : o ≤ 16) (z : FVec Ideal S256x256 .f32) (M : IVec S256x128 1) (x : Fin 16 → FVec Ideal S256x128 .f32) (p : Fin 32 → FVec Ideal S1x128 .f32) (w : Fin 32 → FVec Ideal S1x128x256 .bf16) : FVec Ideal S256x256 .f32 :=
  (k0_pay5 M (k0_pay5 M (k0_pay5 M (k0_pay5 M (k0_pay5 M (k0_pay5 M (k0_pay5 M (k0_pay5 M (k0_pay5 M (k0_pay5 M (k0_pay5 M (k0_pay5 M (k0_pay5 M (k0_pay5 M (k0_pay5 M (k0_pay5 M z (x 0) (p ⟨o + 0, by omega⟩) (w ⟨o + 0, by omega⟩)) (x 1) (p ⟨o + 1, by omega⟩) (w ⟨o + 1, by omega⟩)) (x 2) (p ⟨o + 2, by omega⟩) (w ⟨o + 2, by omega⟩)) (x 3) (p ⟨o + 3, by omega⟩) (w ⟨o + 3, by omega⟩)) (x 4) (p ⟨o + 4, by omega⟩) (w ⟨o + 4, by omega⟩)) (x 5) (p ⟨o + 5, by omega⟩) (w ⟨o + 5, by omega⟩)) (x 6) (p ⟨o + 6, by omega⟩) (w ⟨o + 6, by omega⟩)) (x 7) (p ⟨o + 7, by omega⟩) (w ⟨o + 7, by omega⟩)) (x 8) (p ⟨o + 8, by omega⟩) (w ⟨o + 8, by omega⟩)) (x 9) (p ⟨o + 9, by omega⟩) (w ⟨o + 9, by omega⟩)) (x 10) (p ⟨o + 10, by omega⟩) (w ⟨o + 10, by omega⟩)) (x 11) (p ⟨o + 11, by omega⟩) (w ⟨o + 11, by omega⟩)) (x 12) (p ⟨o + 12, by omega⟩) (w ⟨o + 12, by omega⟩)) (x 13) (p ⟨o + 13, by omega⟩) (w ⟨o + 13, by omega⟩)) (x 14) (p ⟨o + 14, by omega⟩) (w ⟨o + 14, by omega⟩)) (x 15) (p ⟨o + 15, by omega⟩) (w ⟨o + 15, by omega⟩))

theorem pay86_eq (a : FVec Ideal S256x256 .f32) : k0_pay86 a = a := by
  funext y
  pointwise [k0_pay86]

set_option maxHeartbeats 1000000
theorem pay36_eq (M : IVec S256x128 1) (a : FVec Ideal S256x256 .f32) (x0 : FVec Ideal S256x128 .f32) (p0 : FVec Ideal S1x128 .f32) (w0 : FVec Ideal S1x128x256 .bf16) :
    k0_pay36 M a x0 p0 w0 = k0_pay5 M a x0 p0 w0 := rfl
theorem pay34_eq (M : IVec S256x128 1) (a : FVec Ideal S256x256 .f32) (x0 x1 : FVec Ideal S256x128 .f32) (p0 p1 : FVec Ideal S1x128 .f32) (w0 w1 : FVec Ideal S1x128x256 .bf16) :
    k0_pay34 M a (k0_pay31 M x0 p0) w0 x1 p1 w1 = k0_pay5 M (k0_pay5 M a x0 p0 w0) x1 p1 w1 := rfl
theorem pay29_eq (M : IVec S256x128 1) (a : FVec Ideal S256x256 .f32) (x0 : FVec Ideal S256x128 .f32) (p0 : FVec Ideal S1x128 .f32) (w0 : FVec Ideal S1x128x256 .bf16) :
    k0_pay29 M a x0 p0 w0 = k0_pay5 M a x0 p0 w0 := rfl
theorem pay28_eq (M : IVec S256x128 1) (a : FVec Ideal S256x256 .f32) (x0 x1 : FVec Ideal S256x128 .f32) (p0 p1 : FVec Ideal S1x128 .f32) (w0 w1 : FVec Ideal S1x128x256 .bf16) :
    k0_pay28 M a (k0_pay25 M x0 p0) w0 x1 p1 w1 = k0_pay5 M (k0_pay5 M a x0 p0 w0) x1 p1 w1 := rfl
theorem pay23_eq (M : IVec S256x128 1) (a : FVec Ideal S256x256 .f32) (x0 : FVec Ideal S256x128 .f32) (p0 : FVec Ideal S1x128 .f32) (w0 : FVec Ideal S1x128x256 .bf16) :
    k0_pay23 M a x0 p0 w0 = k0_pay5 M a x0 p0 w0 := rfl
theorem pay22_eq (M : IVec S256x128 1) (a : FVec Ideal S256x256 .f32) (x0 x1 : FVec Ideal S256x128 .f32) (p0 p1 : FVec Ideal S1x128 .f32) (w0 w1 : FVec Ideal S1x128x256 .bf16) :
    k0_pay22 M a (k0_pay19 x0 p0) (Scalar.ofBits .f32 0x00000000#32) w0 x1 p1 w1 = k0_pay5 M (k0_pay5 M a x0 p0 w0) x1 p1 w1 := rfl
theorem pay17_eq (M : IVec S256x128 1) (a : FVec Ideal S256x256 .f32) (x0 x1 : FVec Ideal S256x128 .f32) (p0 p1 : FVec Ideal S1x128 .f32) (w0 w1 : FVec Ideal S1x128x256 .bf16) :
    k0_pay17 M a (k0_pay14 M x0 p0) (k0_pay16 w0) x1 p1 w1 = k0_pay5 M (k0_pay5 M a x0 p0 w0) x1 p1 w1 := rfl
theorem pay12_eq (M : IVec S256x128 1) (a : FVec Ideal S256x256 .f32) (x0 : FVec Ideal S256x128 .f32) (p0 : FVec Ideal S1x128 .f32) (w0 : FVec Ideal S1x128x256 .bf16) :
    k0_pay12 M a x0 (k0_pay11 p0) w0 = k0_pay5 M a x0 p0 w0 := rfl
theorem pay9_eq (M : IVec S256x128 1) (a : FVec Ideal S256x256 .f32) (x0 x1 : FVec Ideal S256x128 .f32) (p0 p1 : FVec Ideal S1x128 .f32) (w0 w1 : FVec Ideal S1x128x256 .bf16) :
    k0_pay9 M a (k0_pay7 M x0 p0) w0 x1 p1 w1 = k0_pay5 M (k0_pay5 M a x0 p0 w0) x1 p1 w1 := rfl
theorem pay40_eq (M : IVec S256x128 1) (a : FVec Ideal S256x256 .f32) (x0 : FVec Ideal S256x128 .f32) (p0 : FVec Ideal S1x128 .f32) (w0 : FVec Ideal S1x128x256 .bf16) :
    k0_pay40 M a (k0_pay39 x0 p0) w0 = k0_pay5 M a x0 p0 w0 := by
  funext y
  obtain ⟨i, n, rfl⟩ : ∃ i n, y = ix2 i n := ⟨y 0, y 1, by funext z; fin_cases z <;> rfl⟩
  pointwise [k0_pay40, k0_pay39, k0_pay5]
theorem pay37_eq (M : IVec S256x128 1) (a : FVec Ideal S256x256 .f32) (x0 x1 : FVec Ideal S256x128 .f32) (p0 p1 : FVec Ideal S1x128 .f32) (w0 w1 : FVec Ideal S1x128x256 .bf16) :
    k0_pay37 M a (k0_pay33 M x0 p0) (k0_pay35 w0) (constant S256x256 .f32 0x00000000#32) x1 p1 w1 = k0_pay5 M (k0_pay5 M a x0 p0 w0) x1 p1 w1 := rfl
theorem pay32_eq (M : IVec S256x128 1) (a : FVec Ideal S256x256 .f32) (x0 : FVec Ideal S256x128 .f32) (p0 : FVec Ideal S1x128 .f32) (w0 : FVec Ideal S1x128x256 .bf16) :
    k0_pay32 M a x0 p0 w0 = k0_pay5 M a x0 p0 w0 := rfl
theorem pay30_eq (M : IVec S256x128 1) (a : FVec Ideal S256x256 .f32) (x0 x1 : FVec Ideal S256x128 .f32) (p0 p1 : FVec Ideal S1x128 .f32) (w0 w1 : FVec Ideal S1x128x256 .bf16) :
    k0_pay30 M a (k0_pay27 M x0 p0) w0 x1 p1 w1 = k0_pay5 M (k0_pay5 M a x0 p0 w0) x1 p1 w1 := rfl
theorem pay26_eq (M : IVec S256x128 1) (a : FVec Ideal S256x256 .f32) (x0 : FVec Ideal S256x128 .f32) (p0 : FVec Ideal S1x128 .f32) (w0 : FVec Ideal S1x128x256 .bf16) :
    k0_pay26 M a x0 p0 w0 = k0_pay5 M a x0 p0 w0 := rfl
theorem pay24_eq (M : IVec S256x128 1) (a : FVec Ideal S256x256 .f32) (x0 x1 : FVec Ideal S256x128 .f32) (p0 p1 : FVec Ideal S1x128 .f32) (w0 w1 : FVec Ideal S1x128x256 .bf16) :
    k0_pay24 M a (k0_pay21 M x0 p0) w0 x1 p1 w1 = k0_pay5 M (k0_pay5 M a x0 p0 w0) x1 p1 w1 := rfl
theorem pay20_eq (M : IVec S256x128 1) (a : FVec Ideal S256x256 .f32) (x0 : FVec Ideal S256x128 .f32) (p0 : FVec Ideal S1x128 .f32) (w0 : FVec Ideal S1x128x256 .bf16) :
    k0_pay20 M a x0 p0 w0 = k0_pay5 M a x0 p0 w0 := rfl
theorem pay18_eq (M : IVec S256x128 1) (a : FVec Ideal S256x256 .f32) (x0 x1 : FVec Ideal S256x128 .f32) (p0 p1 : FVec Ideal S1x128 .f32) (w0 w1 : FVec Ideal S1x128x256 .bf16) :
    k0_pay18 M a (k0_pay15 M x0 p0) w0 x1 p1 w1 = k0_pay5 M (k0_pay5 M a x0 p0 w0) x1 p1 w1 := rfl
theorem pay13_eq (M : IVec S256x128 1) (a : FVec Ideal S256x256 .f32) (x0 : FVec Ideal S256x128 .f32) (p0 : FVec Ideal S1x128 .f32) (w0 : FVec Ideal S1x128x256 .bf16) :
    k0_pay13 M a x0 p0 w0 = k0_pay5 M a x0 p0 w0 := rfl
theorem pay10_eq (M : IVec S256x128 1) (a : FVec Ideal S256x256 .f32) (x0 x1 : FVec Ideal S256x128 .f32) (p0 p1 : FVec Ideal S1x128 .f32) (w0 w1 : FVec Ideal S1x128x256 .bf16) :
    k0_pay10 M a (k0_pay8 M x0 p0) w0 x1 p1 w1 = k0_pay5 M (k0_pay5 M a x0 p0 w0) x1 p1 w1 := rfl
theorem pay6_eq (M : IVec S256x128 1) (a : FVec Ideal S256x256 .f32) (x0 : FVec Ideal S256x128 .f32) (p0 : FVec Ideal S1x128 .f32) (w0 : FVec Ideal S1x128x256 .bf16) :
    k0_pay6 M a x0 p0 w0 = k0_pay5 M a x0 p0 w0 := rfl
theorem pay4_eq : k0_pay4 (F := Ideal) = k0_pay3 := rfl
theorem pay84_eq (M : IVec S256x128 1) (a : FVec Ideal S256x256 .f32) (x0 x1 : FVec Ideal S256x128 .f32) (p0 p1 : FVec Ideal S1x128 .f32) (w0 w1 : FVec Ideal S1x128x256 .bf16) :
    k0_pay84 M a (k0_pay82 M x0 p0) w0 x1 p1 w1 = k0_pay5 M (k0_pay5 M a x0 p0 w0) x1 p1 w1 := rfl
theorem pay80_eq (M : IVec S256x128 1) (a : FVec Ideal S256x256 .f32) (x0 : FVec Ideal S256x128 .f32) (p0 : FVec Ideal S1x128 .f32) (w0 : FVec Ideal S1x128x256 .bf16) :
    k0_pay80 M a x0 p0 w0 = k0_pay5 M a x0 p0 w0 := rfl
theorem pay78_eq (M : IVec S256x128 1) (a : FVec Ideal S256x256 .f32) (x0 x1 : FVec Ideal S256x128 .f32) (p0 p1 : FVec Ideal S1x128 .f32) (w0 w1 : FVec Ideal S1x128x256 .bf16) :
    k0_pay78 M a (k0_pay75 M x0 p0) w0 x1 p1 w1 = k0_pay5 M (k0_pay5 M a x0 p0 w0) x1 p1 w1 := rfl
theorem pay73_eq (M : IVec S256x128 1) (a : FVec Ideal S256x256 .f32) (x0 : FVec Ideal S256x128 .f32) (p0 : FVec Ideal S1x128 .f32) (w0 : FVec Ideal S1x128x256 .bf16) :
    k0_pay73 M a x0 p0 w0 = k0_pay5 M a x0 p0 w0 := rfl
theorem pay72_eq (M : IVec S256x128 1) (a : FVec Ideal S256x256 .f32) (x0 x1 : FVec Ideal S256x128 .f32) (p0 p1 : FVec Ideal S1x128 .f32) (w0 w1 : FVec Ideal S1x128x256 .bf16) :
    k0_pay72 M a (k0_pay69 M x0 p0) w0 x1 p1 w1 = k0_pay5 M (k0_pay5 M a x0 p0 w0) x1 p1 w1 := rfl
theorem pay67_eq (M : IVec S256x128 1) (a : FVec Ideal S256x256 .f32) (x0 : FVec Ideal S256x128 .f32) (p0 : FVec Ideal S1x128 .f32) (w0 : FVec Ideal S1x128x256 .bf16) :
    k0_pay67 M a x0 p0 w0 = k0_pay5 M a x0 p0 w0 := rfl
theorem pay66_eq (M : IVec S256x128 1) (a : FVec Ideal S256x256 .f32) (x0 x1 : FVec Ideal S256x128 .f32) (p0 p1 : FVec Ideal S1x128 .f32) (w0 w1 : FVec Ideal S1x128x256 .bf16) :
    k0_pay66 M a (k0_pay63 x0 p0) (Scalar.ofBits .f32 0x00000000#32) w0 x1 p1 w1 = k0_pay5 M (k0_pay5 M a x0 p0 w0) x1 p1 w1 := rfl
theorem pay61_eq (M : IVec S256x128 1) (a : FVec Ideal S256x256 .f32) (x0 x1 : FVec Ideal S256x128 .f32) (p0 p1 : FVec Ideal S1x128 .f32) (w0 w1 : FVec Ideal S1x128x256 .bf16) :
    k0_pay61 M a (k0_pay58 M x0 p0) (k0_pay60 w0) x1 p1 w1 = k0_pay5 M (k0_pay5 M a x0 p0 w0) x1 p1 w1 := rfl
theorem pay56_eq (M : IVec S256x128 1) (a : FVec Ideal S256x256 .f32) (x0 : FVec Ideal S256x128 .f32) (p0 : FVec Ideal S1x128 .f32) (w0 : FVec Ideal S1x128x256 .bf16) :
    k0_pay56 M a x0 (k0_pay55 p0) w0 = k0_pay5 M a x0 p0 w0 := rfl
theorem pay53_eq (M : IVec S256x128 1) (a : FVec Ideal S256x256 .f32) (x0 x1 : FVec Ideal S256x128 .f32) (p0 p1 : FVec Ideal S1x128 .f32) (w0 w1 : FVec Ideal S1x128x256 .bf16) :
    k0_pay53 M a (k0_pay51 M x0 p0) w0 x1 p1 w1 = k0_pay5 M (k0_pay5 M a x0 p0 w0) x1 p1 w1 := rfl
theorem pay49_eq : k0_pay49 (F := Ideal) = k0_pay3 := rfl
theorem pay85_eq (M : IVec S256x128 1) (a : FVec Ideal S256x256 .f32) (x0 x1 : FVec Ideal S256x128 .f32) (p0 p1 : FVec Ideal S1x128 .f32) (w0 w1 : FVec Ideal S1x128x256 .bf16) :
    k0_pay85 M a (k0_pay83 x0 p0) w0 x1 p1 w1 = k0_pay5 M (k0_pay5 M a x0 p0 w0) x1 p1 w1 := rfl
theorem pay81_eq (M : IVec S256x128 1) (a : FVec Ideal S256x256 .f32) (x0 x1 : FVec Ideal S256x128 .f32) (p0 p1 : FVec Ideal S1x128 .f32) (w0 w1 : FVec Ideal S1x128x256 .bf16) :
    k0_pay81 M a (k0_pay77 M x0 p0) (k0_pay79 w0) (constant S256x256 .f32 0x00000000#32) x1 p1 w1 = k0_pay5 M (k0_pay5 M a x0 p0 w0) x1 p1 w1 := rfl
theorem pay76_eq (M : IVec S256x128 1) (a : FVec Ideal S256x256 .f32) (x0 : FVec Ideal S256x128 .f32) (p0 : FVec Ideal S1x128 .f32) (w0 : FVec Ideal S1x128x256 .bf16) :
    k0_pay76 M a x0 p0 w0 = k0_pay5 M a x0 p0 w0 := rfl
theorem pay74_eq (M : IVec S256x128 1) (a : FVec Ideal S256x256 .f32) (x0 x1 : FVec Ideal S256x128 .f32) (p0 p1 : FVec Ideal S1x128 .f32) (w0 w1 : FVec Ideal S1x128x256 .bf16) :
    k0_pay74 M a (k0_pay71 M x0 p0) w0 x1 p1 w1 = k0_pay5 M (k0_pay5 M a x0 p0 w0) x1 p1 w1 := rfl
theorem pay70_eq (M : IVec S256x128 1) (a : FVec Ideal S256x256 .f32) (x0 : FVec Ideal S256x128 .f32) (p0 : FVec Ideal S1x128 .f32) (w0 : FVec Ideal S1x128x256 .bf16) :
    k0_pay70 M a x0 p0 w0 = k0_pay5 M a x0 p0 w0 := rfl
theorem pay68_eq (M : IVec S256x128 1) (a : FVec Ideal S256x256 .f32) (x0 x1 : FVec Ideal S256x128 .f32) (p0 p1 : FVec Ideal S1x128 .f32) (w0 w1 : FVec Ideal S1x128x256 .bf16) :
    k0_pay68 M a (k0_pay65 M x0 p0) w0 x1 p1 w1 = k0_pay5 M (k0_pay5 M a x0 p0 w0) x1 p1 w1 := rfl
theorem pay64_eq (M : IVec S256x128 1) (a : FVec Ideal S256x256 .f32) (x0 : FVec Ideal S256x128 .f32) (p0 : FVec Ideal S1x128 .f32) (w0 : FVec Ideal S1x128x256 .bf16) :
    k0_pay64 M a x0 p0 w0 = k0_pay5 M a x0 p0 w0 := rfl
theorem pay62_eq (M : IVec S256x128 1) (a : FVec Ideal S256x256 .f32) (x0 x1 : FVec Ideal S256x128 .f32) (p0 p1 : FVec Ideal S1x128 .f32) (w0 w1 : FVec Ideal S1x128x256 .bf16) :
    k0_pay62 M a (k0_pay59 M x0 p0) w0 x1 p1 w1 = k0_pay5 M (k0_pay5 M a x0 p0 w0) x1 p1 w1 := rfl
theorem pay57_eq (M : IVec S256x128 1) (a : FVec Ideal S256x256 .f32) (x0 : FVec Ideal S256x128 .f32) (p0 : FVec Ideal S1x128 .f32) (w0 : FVec Ideal S1x128x256 .bf16) :
    k0_pay57 M a x0 p0 w0 = k0_pay5 M a x0 p0 w0 := rfl
theorem pay54_eq (M : IVec S256x128 1) (a : FVec Ideal S256x256 .f32) (x0 x1 : FVec Ideal S256x128 .f32) (p0 p1 : FVec Ideal S1x128 .f32) (w0 w1 : FVec Ideal S1x128x256 .bf16) :
    k0_pay54 M a (k0_pay52 M x0 p0) w0 x1 p1 w1 = k0_pay5 M (k0_pay5 M a x0 p0 w0) x1 p1 w1 := rfl
theorem pay50_eq : k0_pay50 (F := Ideal) = k0_pay3 := rfl

theorem topK_eq (M : IVec S256x128 1) (x : Fin 16 → FVec Ideal S256x128 .f32) (p : Fin 32 → FVec Ideal S1x128 .f32) (w : Fin 32 → FVec Ideal S1x128x256 .bf16) : topK M x p w = chain15 0 (by omega) k0_pay3 M x p w := by
  unfold topK chain15
  simp only [pay36_eq, pay34_eq, pay29_eq, pay28_eq, pay23_eq, pay22_eq, pay17_eq, pay12_eq, pay9_eq, pay40_eq, pay37_eq, pay32_eq, pay30_eq, pay26_eq, pay24_eq, pay20_eq, pay18_eq, pay13_eq, pay10_eq, pay6_eq, pay4_eq, pay84_eq, pay80_eq, pay78_eq, pay73_eq, pay72_eq, pay67_eq, pay66_eq, pay61_eq, pay56_eq, pay53_eq, pay49_eq, pay85_eq, pay81_eq, pay76_eq, pay74_eq, pay70_eq, pay68_eq, pay64_eq, pay62_eq, pay57_eq, pay54_eq, pay50_eq]
  rfl

theorem botK_eq (M : IVec S256x128 1) (x : Fin 16 → FVec Ideal S256x128 .f32) (p : Fin 32 → FVec Ideal S1x128 .f32) (w : Fin 32 → FVec Ideal S1x128x256 .bf16) : botK M x p w = chain16 16 (by omega) k0_pay3 M x p w := by
  unfold botK chain16
  simp only [pay36_eq, pay34_eq, pay29_eq, pay28_eq, pay23_eq, pay22_eq, pay17_eq, pay12_eq, pay9_eq, pay40_eq, pay37_eq, pay32_eq, pay30_eq, pay26_eq, pay24_eq, pay20_eq, pay18_eq, pay13_eq, pay10_eq, pay6_eq, pay4_eq, pay84_eq, pay80_eq, pay78_eq, pay73_eq, pay72_eq, pay67_eq, pay66_eq, pay61_eq, pay56_eq, pay53_eq, pay49_eq, pay85_eq, pay81_eq, pay76_eq, pay74_eq, pay70_eq, pay68_eq, pay64_eq, pay62_eq, pay57_eq, pay54_eq, pay50_eq]
  rfl

theorem topV_eq (M : IVec S256x128 1) (x : Fin 16 → FVec Ideal S256x128 .f32) (p : Fin 32 → FVec Ideal S1x128 .f32) (w : Fin 32 → FVec Ideal S1x128x256 .bf16) : topV M x p w = chain16 0 (by omega) k0_pay3 M x p w := by
  unfold topV chain16
  simp only [pay36_eq, pay34_eq, pay29_eq, pay28_eq, pay23_eq, pay22_eq, pay17_eq, pay12_eq, pay9_eq, pay40_eq, pay37_eq, pay32_eq, pay30_eq, pay26_eq, pay24_eq, pay20_eq, pay18_eq, pay13_eq, pay10_eq, pay6_eq, pay4_eq, pay84_eq, pay80_eq, pay78_eq, pay73_eq, pay72_eq, pay67_eq, pay66_eq, pay61_eq, pay56_eq, pay53_eq, pay49_eq, pay85_eq, pay81_eq, pay76_eq, pay74_eq, pay70_eq, pay68_eq, pay64_eq, pay62_eq, pay57_eq, pay54_eq, pay50_eq]
  rfl

theorem botV_eq (M : IVec S256x128 1) (x : Fin 16 → FVec Ideal S256x128 .f32) (p : Fin 32 → FVec Ideal S1x128 .f32) (w : Fin 32 → FVec Ideal S1x128x256 .bf16) : botV M x p w = chain16 16 (by omega) k0_pay3 M x p w := by
  unfold botV chain16
  simp only [pay36_eq, pay34_eq, pay29_eq, pay28_eq, pay23_eq, pay22_eq, pay17_eq, pay12_eq, pay9_eq, pay40_eq, pay37_eq, pay32_eq, pay30_eq, pay26_eq, pay24_eq, pay20_eq, pay18_eq, pay13_eq, pay10_eq, pay6_eq, pay4_eq, pay84_eq, pay80_eq, pay78_eq, pay73_eq, pay72_eq, pay67_eq, pay66_eq, pay61_eq, pay56_eq, pay53_eq, pay49_eq, pay85_eq, pay81_eq, pay76_eq, pay74_eq, pay70_eq, pay68_eq, pay64_eq, pay62_eq, pay57_eq, pay54_eq, pay50_eq, pay86_eq]
  rfl

theorem stp_at (M : IVec S256x128 1) (a : FVec Ideal S256x256 .f32) (x : FVec Ideal S256x128 .f32) (p : FVec Ideal S1x128 .f32) (w : FVec Ideal S1x128x256 .bf16) (i n : Fin 256) :
    k0_pay5 (F := Ideal) M a x p w (ix2 i n) = a (ix2 i n) + ∑ l : Fin 128, Scalar.select (M (ix2 i l)) (x (ix2 i l) + p (ix2 0 l)) 0 * w (ix3 0 l n) := by
  pointwise [k0_pay5]

theorem zero_at (y : S256x256.Idx) : (k0_pay3 (F := Ideal)) y = 0 := by
  pointwise [k0_pay3]

theorem endK_at (M : IVec S256x128 1) (a : FVec Ideal S256x256 .f32) (x : FVec Ideal S256x128 .f32) (p : FVec Ideal S1x128 .f32) (w : FVec Ideal S1x128x256 .bf16)
    (sh : FVec Ideal S256x256 .f32) (w2 : FVec Ideal S64x256 .bf16) (d : Fin 64) (i : Fin 256) :
    k0_pay42 (F := Ideal) a (k0_pay38 M x p) w sh w2 (ix2 d i) = ∑ n : Fin 256, w2 (ix2 d n) * silu (k0_pay5 M a x p w (ix2 i n) + sh (ix2 i n)) := by
  simp only [stp_at]
  pointwise [k0_pay42, k0_pay38]
  rfl

theorem endV_at (a sh : FVec Ideal S256x256 .f32) (w2 : FVec Ideal S256x128 .bf16) (i : Fin 256) (d : Fin 128) :
    k0_pay88 (F := Ideal) a sh w2 (ix2 i d) = ∑ n : Fin 256, silu (a (ix2 i n) + sh (ix2 i n)) * w2 (ix2 n d) := by
  pointwise [k0_pay88]
  rfl

theorem sum16 (f : Fin 16 → EReal) : 0 + f 0 + f 1 + f 2 + f 3 + f 4 + f 5 + f 6 + f 7 + f 8 + f 9 + f 10 + f 11 + f 12 + f 13 + f 14 + f 15 = ∑ r, f r := by
  simp only [Fin.sum_univ_castSucc, Fin.sum_univ_zero]
  rfl

/-- One product of a chain, at an index. -/
def term (M : IVec S256x128 1) (x : Fin 16 → FVec Ideal S256x128 .f32) (p : Fin 32 → FVec Ideal S1x128 .f32) (w : Fin 32 → FVec Ideal S1x128x256 .bf16) (o : ℕ) (ho : o ≤ 16) (i n : Fin 256) (r : Fin 16) : EReal :=
  ∑ l : Fin 128, Scalar.select (M (ix2 i l)) (x r (ix2 i l) + p ⟨o + r.val, by omega⟩ (ix2 0 l)) 0 * w ⟨o + r.val, by omega⟩ (ix3 0 l n)

theorem chain16_at (M : IVec S256x128 1) (x : Fin 16 → FVec Ideal S256x128 .f32) (p : Fin 32 → FVec Ideal S1x128 .f32) (w : Fin 32 → FVec Ideal S1x128x256 .bf16) (o : ℕ) (ho : o ≤ 16) (i n : Fin 256) :
    chain16 o ho k0_pay3 M x p w (ix2 i n) = ∑ r, term M x p w o ho i n r := by
  rw [← sum16]
  unfold chain16
  simp only [stp_at, zero_at]
  rfl

end Cert.Proof.Cmp

end
-- ==== Proof.CmpReads.lean ====
/- The compression: what the kernel's windows hold of its arguments. -/
module

public import proofs.«01_k».proof.Proof.CmpModel
public import Idealize.ShloMosaic.Lib.Pipeline.ValueKit.Held
public import Idealize.ShloMosaic.Lib.Pipeline.ReadBack
public import Idealize.ShloMosaic.Lib.StableHlo.RunRead
public import Idealize.ShloMosaic.Lib.StableHlo.ReadAt
public import Idealize.ShloMosaic.Lib.ValueIdxRank6

@[expose] public section

set_option maxRecDepth 16384

noncomputable section

namespace Cert.Proof.Cmp

open Cert.CmpIdeal Cert.CmpIdeal.Gen Idealize.ShloMosaic Idealize.ShloMosaic.TcCoe Idealize.SL.Sem
open Idealize.ShloMosaic.Pipeline (Dat)

variable (m : (ℓ : Loc nD τ sig) → Buf (Elt Ideal) ℓ)

/-- The block indices of the windows at every point of the grid. -/
theorem idx : ∀ t : Fin cfg0.N, win0_0.index t = ![t.val / 4, 12 + t.val % 4 / 2] ∧ win0_1.index t = ![t.val / 4, 14 + t.val % 4 / 2] ∧
    win0_2.index t = ![0, 0] ∧ win0_3.index t = ![0, 0] ∧ win0_4.index t = ![0, 0, 0] ∧ win0_5.index t = ![0, 0, 0] ∧
    win0_6.index t = ![0, 0] ∧ win0_7.index t = ![0, 0] ∧ win0_8.index t = ![t.val / 4, t.val % 4, 0, 0] ∧ win0_9.index t = ![t.val / 4, t.val % 4, 0, 0] :=
  (by decide +kernel : ∀ t : Fin grid0.N, _)

theorem rd0 (c : Dev nD) (t : Fin cfg0.N) (y : S4096x128.Idx) (j : S8192x5376.Idx)
    (h0 : (j 0).val = t.val / 4 * 4096 + (y 0).val) (h1 : (j 1).val = 1536 + (t.val % 4 / 2 * 128 + (y 1).val)) :
    iblk m c 0 t y = m ((c : Thread nD τ).loc main_arg0) j := by
  blk_simp [iblk]
  entry_read
  blk_ext [idx t]

theorem rd1 (c : Dev nD) (t : Fin cfg0.N) (y : S4096x128.Idx) (j : S8192x5376.Idx)
    (h0 : (j 0).val = t.val / 4 * 4096 + (y 0).val) (h1 : (j 1).val = 1792 + (t.val % 4 / 2 * 128 + (y 1).val)) :
    iblk m c 1 t y = m ((c : Thread nD τ).loc main_arg0) j := by
  blk_simp [iblk]
  entry_read
  blk_ext [idx t]

theorem V_v8 (c : Dev nD) (s : Fin 32) (l : Fin 128) : V m c main_v8 (ix2 s l) = m ((c : Thread nD τ).loc main_arg5) (ix3 0 s ⟨l.val % 64, by omega⟩) := by
  unfold V
  simp only [List.flatten_cons, List.flatten_nil, List.cons_append, List.nil_append, List.append_nil]
  after_reads_at

theorem rd2 (c : Dev nD) (t : Fin cfg0.N) (s : Fin 32) (l : Fin 128) : iblk m c 2 t (ix2 s l) = m ((c : Thread nD τ).loc main_arg5) (ix3 0 s ⟨l.val % 64, by omega⟩) :=
  Eq.trans (b := V m c main_v8 (ix2 s l)) (by blk_ext [iblk, idx t]) (V_v8 m c s l)

theorem V_v11 (c : Dev nD) (s : Fin 32) (l : Fin 128) : V m c main_v11 (ix2 s l) = m ((c : Thread nD τ).loc main_arg6) (ix3 0 s ⟨l.val % 64, by omega⟩) := by
  unfold V
  simp only [List.flatten_cons, List.flatten_nil, List.cons_append, List.nil_append, List.append_nil]
  after_reads_at

theorem rd3 (c : Dev nD) (t : Fin cfg0.N) (s : Fin 32) (l : Fin 128) : iblk m c 3 t (ix2 s l) = m ((c : Thread nD τ).loc main_arg6) (ix3 0 s ⟨l.val % 64, by omega⟩) :=
  Eq.trans (b := V m c main_v11 (ix2 s l)) (by blk_ext [iblk, idx t]) (V_v11 m c s l)

theorem V_v16 (c : Dev nD) (s : Fin 32) (l : Fin 128) (n : Fin 256) : V m c main_v16 (ix3 s l n) = m ((c : Thread nD τ).loc main_arg1) (ix3 0 ⟨s.val * 64 + l.val % 64, by omega⟩ n) := by
  unfold V
  simp only [List.flatten_cons, List.flatten_nil, List.cons_append, List.nil_append, List.append_nil]
  after_reads_at

theorem rd4 (c : Dev nD) (t : Fin cfg0.N) (s : Fin 32) (l : Fin 128) (n : Fin 256) : iblk m c 4 t (ix3 s l n) = m ((c : Thread nD τ).loc main_arg1) (ix3 0 ⟨s.val * 64 + l.val % 64, by omega⟩ n) :=
  Eq.trans (b := V m c main_v16 (ix3 s l n)) (by blk_ext [iblk, idx t]) (V_v16 m c s l n)

theorem V_v21 (c : Dev nD) (s : Fin 32) (l : Fin 128) (n : Fin 256) : V m c main_v21 (ix3 s l n) = m ((c : Thread nD τ).loc main_arg3) (ix3 0 ⟨s.val * 64 + l.val % 64, by omega⟩ n) := by
  unfold V
  simp only [List.flatten_cons, List.flatten_nil, List.cons_append, List.nil_append, List.append_nil]
  after_reads_at

theorem rd5 (c : Dev nD) (t : Fin cfg0.N) (s : Fin 32) (l : Fin 128) (n : Fin 256) : iblk m c 5 t (ix3 s l n) = m ((c : Thread nD τ).loc main_arg3) (ix3 0 ⟨s.val * 64 + l.val % 64, by omega⟩ n) :=
  Eq.trans (b := V m c main_v21 (ix3 s l n)) (by blk_ext [iblk, idx t]) (V_v21 m c s l n)

theorem V_v23 (c : Dev nD) (d : Fin 64) (n : Fin 256) : V m c main_v23 (ix2 d n) = m ((c : Thread nD τ).loc main_arg2) (ix3 0 n d) := by
  unfold V
  simp only [List.flatten_cons, List.flatten_nil, List.cons_append, List.nil_append, List.append_nil]
  after_reads_at

theorem rd6 (c : Dev nD) (t : Fin cfg0.N) (d : Fin 64) (n : Fin 256) : iblk m c 6 t (ix2 d n) = m ((c : Thread nD τ).loc main_arg2) (ix3 0 n d) :=
  Eq.trans (b := V m c main_v23 (ix2 d n)) (by blk_ext [iblk, idx t]) (V_v23 m c d n)

theorem V_v25 (c : Dev nD) (n : Fin 256) (d : Fin 128) : V m c main_v25 (ix2 n d) = if hd : d.val < 64 then m ((c : Thread nD τ).loc main_arg4) (ix3 0 n ⟨d.val, hd⟩) else (0 : EReal) := by
  unfold V
  simp only [List.flatten_cons, List.flatten_nil, List.cons_append, List.nil_append, List.append_nil]
  after_reads_at
  simp only [zero_w]

theorem rd7 (c : Dev nD) (t : Fin cfg0.N) (n : Fin 256) (d : Fin 128) : iblk m c 7 t (ix2 n d) = if hd : d.val < 64 then m ((c : Thread nD τ).loc main_arg4) (ix3 0 n ⟨d.val, hd⟩) else (0 : EReal) :=
  Eq.trans (b := V m c main_v25 (ix2 n d)) (by blk_ext [iblk, idx t]) (V_v25 m c n d)

end Cert.Proof.Cmp

end
-- ==== Proof.CmpOut.lean ====
/- The compression: the blocks of a point of the grid, as terms of what its windows hold. -/
module

public import proofs.«01_k».proof.Proof.CmpKernel
public import proofs.«01_k».proof.Proof.CmpReads

@[expose] public section

set_option maxRecDepth 16384

noncomputable section

namespace Cert.Proof.Cmp

open Cert.CmpIdeal Cert.CmpIdeal.Gen Idealize.ShloMosaic Idealize.ShloMosaic.TcCoe Idealize.SL.Sem
open Idealize.ShloMosaic.Pipeline (Dat)

variable (m : (ℓ : Loc nD τ sig) → Buf (Elt Ideal) ℓ)

/-- Every sixteenth row of the keys' columns, from the `r`-th on. -/
def xK (c : Dev nD) (t : Fin cfg0.N) (r : Fin 16) : FVec Ideal S256x128 .f32 :=
  View.readAt (Elt Ideal) (ms0_0 t).view (⟨![r.val, 0], S256x128.size, ![16, 1], by
    intro a
    right
    fin_cases a
    · show r.val + 16 * (256 - 1) < 4096
      omega
    · show 0 + 1 * (128 - 1) < 128
      omega⟩ : LoadRect S4096x128) ((hs0_0 t).unread (iblk m c 0 t))

/-- The same of the values' columns. -/
def xV (c : Dev nD) (t : Fin cfg0.N) (r : Fin 16) : FVec Ideal S256x128 .f32 :=
  View.readAt (Elt Ideal) (ms0_1 t).view (⟨![r.val, 0], S256x128.size, ![16, 1], by
    intro a
    right
    fin_cases a
    · show r.val + 16 * (256 - 1) < 4096
      omega
    · show 0 + 1 * (128 - 1) < 128
      omega⟩ : LoadRect S4096x128) ((hs0_1 t).unread (iblk m c 1 t))

theorem inb_row (s : Fin 32) : ∀ a, (![s.val, 0] : Fin 2 → ℕ) a + S1x128.size a ≤ S32x128.size a := by
  intro a
  fin_cases a
  · show s.val + 1 ≤ 32
    omega
  · exact le_refl 128

theorem inb_slab (s : Fin 32) : ∀ a, (![s.val, 0, 0] : Fin 3 → ℕ) a + S1x128x256.size a ≤ S32x128x256.size a := by
  intro a
  fin_cases a
  · show s.val + 1 ≤ 32
    omega
  · exact le_refl 128
  · exact le_refl 256

def row (P : FVec Ideal S32x128 .f32) (s : Fin 32) : FVec Ideal S1x128 .f32 := View.ld (Val := Elt Ideal) (e' := .f32) P (Rect.unit (s := S32x128) ![s.val, 0] S1x128.size (inb_row s))
def slab (W : FVec Ideal S32x128x256 .bf16) (s : Fin 32) : FVec Ideal S1x128x256 .bf16 := View.ld (Val := Elt Ideal) (e' := .bf16) W (Rect.unit (s := S32x128x256) ![s.val, 0, 0] S1x128x256.size (inb_slab s))

abbrev pBot (p : FVec Ideal S256x256 .f32) : View.Piece (Elt Ideal) S264x256 .f32 := ⟨Rect.unit ![0, 0] ![256, 256] inb_S264x256_S256x256_0_0, p⟩
abbrev pEnd (p : FVec Ideal S8x256 .f32) : View.Piece (Elt Ideal) S264x256 .f32 := ⟨Rect.unit ![256, 0] ![8, 256] inb_S264x256_S8x256_256_0, p⟩

/-- The second halves' hidden layer read one row further down. -/
def shift (L : List (View.Piece (Elt Ideal) S264x256 .f32)) : FVec Ideal S256x256 .f32 :=
  View.readCov (View.whole cc0_scratch0) L (Rect.unit (s := S264x256) ![1, 0] S256x256.size inb_S264x256_S256x256_1_0).toLoadRect

abbrev mk (t : Fin cfg0.N) : IVec S256x128 1 := k0_pay2 (grid0.coords t)

abbrev LK (c : Dev nD) (t : Fin cfg0.N) : List (View.Piece (Elt Ideal) S264x256 .f32) :=
  [pEnd k0_pay41, pBot (botK (mk t) (xK m c t) (row (iblk m c 2 t)) (slab (iblk m c 4 t)))]
abbrev LV (c : Dev nD) (t : Fin cfg0.N) : List (View.Piece (Elt Ideal) S264x256 .f32) :=
  pEnd k0_pay87 :: pBot (botV (mk t) (xV m c t) (row (iblk m c 3 t)) (slab (iblk m c 5 t))) :: LK m c t

/-- The keys of a point, one row per dimension. -/
def kt (c : Dev nD) (t : Fin cfg0.N) : FVec Ideal S64x256 .f32 :=
  k0_pay42 (topK (mk t) (xK m c t) (row (iblk m c 2 t)) (slab (iblk m c 4 t))) (k0_pay38 (mk t) (xK m c t 15) (row (iblk m c 2 t) 15)) (slab (iblk m c 4 t) 15)
    (shift (LK m c t)) (iblk m c 6 t)

/-- The same, as the first of the four stores takes it. -/
def kt16 (c : Dev nD) (t : Fin cfg0.N) : FVec Ideal S64x256 .bf16 :=
  k0_pay44 (topK (mk t) (xK m c t) (row (iblk m c 2 t)) (slab (iblk m c 4 t))) (k0_pay38 (mk t) (xK m c t 15) (row (iblk m c 2 t) 15)) (slab (iblk m c 4 t) 15)
    (shift (LK m c t)) (iblk m c 6 t)

/-- The values of a point. -/
def vt (c : Dev nD) (t : Fin cfg0.N) : FVec Ideal S256x128 .f32 :=
  k0_pay88 (topV (mk t) (xV m c t) (row (iblk m c 3 t)) (slab (iblk m c 5 t))) (shift (LV m c t)) (iblk m c 7 t)

theorem outK (c : Dev nD) (t : Fin cfg0.N) : (outsAt0 m c t).1 = View.canon (Val := Elt Ideal) (s := S1x1x256x1024) (e := .bf16)
    [⟨Rect.unit ![0, 0, 192, 768] ![1, 1, 64, 256] inb_S1x1x256x1024_S1x1x64x256_0_0_192_768, k0_pay48 (kt m c t)⟩,
     ⟨Rect.unit ![0, 0, 128, 512] ![1, 1, 64, 256] inb_S1x1x256x1024_S1x1x64x256_0_0_128_512, k0_pay47 (kt m c t)⟩,
     ⟨Rect.unit ![0, 0, 64, 256] ![1, 1, 64, 256] inb_S1x1x256x1024_S1x1x64x256_0_0_64_256, k0_pay46 (kt m c t)⟩,
     ⟨Rect.unit ![0, 0, 0, 0] ![1, 1, 64, 256] inb_S1x1x256x1024_S1x1x64x256_0_0_0_0, k0_pay45 (kt16 m c t)⟩,
     ⟨Rect.unit ![0, 0, 0, 0] ![1, 1, 256, 1024] inb_S1x1x256x1024_S1x1x256x1024_0_0_0_0, (k0_pay43 (F := Ideal))⟩] := by
  unfold outsAt0
  unfold out0_A_8
  frame_out
  unfold kt kt16 shift topK
  dsimp only [LK, mk, pEnd, pBot]
  unfold botK
  dsimp only [xK, row, slab, Fin.isValue, Fin.coe_ofNat_eq_mod, Nat.reduceMod]

theorem outV (c : Dev nD) (t : Fin cfg0.N) : (outsAt0 m c t).2 = View.canon (Val := Elt Ideal) (s := S1x1x1024x512) (e := .bf16)
    [⟨Rect.unit ![0, 0, 768, 384] ![1, 1, 256, 128] inb_S1x1x1024x512_S1x1x256x128_0_0_768_384, k0_pay1 (vt m c t)⟩,
     ⟨Rect.unit ![0, 0, 512, 256] ![1, 1, 256, 128] inb_S1x1x1024x512_S1x1x256x128_0_0_512_256, k0_pay92 (topV (mk t) (xV m c t) (row (iblk m c 3 t)) (slab (iblk m c 5 t))) (shift (LV m c t)) (iblk m c 7 t)⟩,
     ⟨Rect.unit ![0, 0, 256, 128] ![1, 1, 256, 128] inb_S1x1x1024x512_S1x1x256x128_0_0_256_128, k0_pay91 (topV (mk t) (xV m c t) (row (iblk m c 3 t)) (slab (iblk m c 5 t))) (shift (LV m c t)) (iblk m c 7 t)⟩,
     ⟨Rect.unit ![0, 0, 0, 0] ![1, 1, 256, 128] inb_S1x1x1024x512_S1x1x256x128_0_0_0_0, k0_pay90 (topV (mk t) (xV m c t) (row (iblk m c 3 t)) (slab (iblk m c 5 t))) (shift (LV m c t)) (iblk m c 7 t)⟩,
     ⟨Rect.unit ![0, 0, 0, 0] ![1, 1, 1024, 512] inb_S1x1x1024x512_S1x1x1024x512_0_0_0_0, (k0_pay89 (F := Ideal))⟩] := by
  unfold outsAt0
  unfold out0_A_9
  frame_out
  unfold vt shift topV
  dsimp only [LV, LK, mk, pEnd, pBot]
  unfold botV botK
  dsimp only [xK, xV, row, slab, Fin.isValue, Fin.coe_ofNat_eq_mod, Nat.reduceMod]

end Cert.Proof.Cmp

end
-- ==== Proof.CmpPoint.lean ====
/- The compression: what a point of the grid writes, in terms of the arguments. -/
module

public import proofs.«01_k».proof.Proof.CmpOut
public import proofs.«01_k».proof.Proof.SsdView

@[expose] public section

set_option maxRecDepth 16384

noncomputable section

namespace Cert.Proof.Cmp

open Cert.CmpIdeal Cert.CmpIdeal.Gen Idealize.ShloMosaic Idealize.ShloMosaic.TcCoe Idealize.SL.Sem
open Idealize.ShloMosaic.Pipeline (Dat)
open Cert.Proof.Ssd (canon_mem canon_off)

variable (m : (ℓ : Loc nD τ sig) → Buf (Elt Ideal) ℓ)

/-! ### Reads -/

theorem xK_at (c : Dev nD) (t : Fin cfg0.N) (r : Fin 16) (i : Fin 256) (l : Fin 128) (j : S8192x5376.Idx)
    (h0 : (j 0).val = t.val / 4 * 4096 + (16 * i.val + r.val)) (h1 : (j 1).val = 1536 + (t.val % 4 / 2 * 128 + l.val)) :
    xK m c t r (ix2 i l) = m ((c : Thread nD τ).loc main_arg0) j := by
  unfold xK
  rw [View.readAt_apply, (hs0_0 t).read_unread]
  refine rd0 m c t _ j (h0.trans ?_) (h1.trans ?_)
  · show _ = t.val / 4 * 4096 + (r.val + 16 * i.val)
    omega
  · show _ = 1536 + (t.val % 4 / 2 * 128 + (0 + 1 * l.val))
    omega

theorem xV_at (c : Dev nD) (t : Fin cfg0.N) (r : Fin 16) (i : Fin 256) (l : Fin 128) (j : S8192x5376.Idx)
    (h0 : (j 0).val = t.val / 4 * 4096 + (16 * i.val + r.val)) (h1 : (j 1).val = 1792 + (t.val % 4 / 2 * 128 + l.val)) :
    xV m c t r (ix2 i l) = m ((c : Thread nD τ).loc main_arg0) j := by
  unfold xV
  rw [View.readAt_apply, (hs0_1 t).read_unread]
  refine rd1 m c t _ j (h0.trans ?_) (h1.trans ?_)
  · show _ = t.val / 4 * 4096 + (r.val + 16 * i.val)
    omega
  · show _ = 1792 + (t.val % 4 / 2 * 128 + (0 + 1 * l.val))
    omega

theorem row_at (P : FVec Ideal S32x128 .f32) (s : Fin 32) (l : Fin 128) : row P s (ix2 0 l) = P (ix2 s l) :=
  congrArg P (funext fun a => Fin.ext (by
    fin_cases a
    · show s.val + 1 * 0 = s.val
      omega
    · show 0 + 1 * l.val = l.val
      omega))

theorem slab_at (W : FVec Ideal S32x128x256 .bf16) (s : Fin 32) (l : Fin 128) (n : Fin 256) : slab W s (ix3 0 l n) = W (ix3 s l n) :=
  congrArg W (funext fun a => Fin.ext (by
    fin_cases a
    · show s.val + 1 * 0 = s.val
      omega
    · show 0 + 1 * l.val = l.val
      omega
    · show 0 + 1 * n.val = n.val
      omega))

theorem mask_at (t : Fin cfg0.N) (i : Fin 256) (l : Fin 128) : mk t (ix2 i l) = if l.val / 64 = t.val % 4 % 2 then 1#1 else 0#1 := by
  pointwise [mk, k0_pay2]
  clear i
  revert l
  revert t
  decide +kernel

/-- A masked sum over the two halves of the lanes is the sum over the half that the mask keeps. -/
theorem sum_half (g : ℕ) (hg : g < 2) (F W : Fin 128 → EReal) :
    ∑ l : Fin 128, Scalar.select (if l.val / 64 = g then 1#1 else 0#1) (F l) 0 * W l = ∑ d : Fin 64, F ⟨g * 64 + d.val, by omega⟩ * W ⟨g * 64 + d.val, by omega⟩ := by
  have on : ∀ l : Fin 128, l.val / 64 = g → Scalar.select (if l.val / 64 = g then 1#1 else 0#1) (F l) 0 * W l = F l * W l := fun l h => by rw [if_pos h]; rfl
  have off : ∀ l : Fin 128, l.val / 64 ≠ g → Scalar.select (if l.val / 64 = g then 1#1 else 0#1) (F l) 0 * W l = 0 := fun l h => by
    rw [if_neg h]
    exact zero_mul _
  refine (Fin.sum_univ_add (a := 64) (b := 64) (fun l : Fin 128 => Scalar.select (if l.val / 64 = g then 1#1 else 0#1) (F l) 0 * W l)).trans ?_
  rcases (by omega : g = 0 ∨ g = 1) with h | h
  · have z : ∑ d : Fin 64, Scalar.select (if (Fin.natAdd 64 d : Fin 128).val / 64 = g then 1#1 else 0#1) (F (Fin.natAdd 64 d)) 0 * W (Fin.natAdd 64 d) = 0 :=
      Finset.sum_eq_zero fun d _ => off _ (by show (64 + d.val) / 64 ≠ g; omega)
    refine (congrArg (_ + ·) z).trans ((add_zero _).trans (Finset.sum_congr rfl fun d _ => (on _ (by show d.val / 64 = g; omega)).trans ?_))
    have e : (Fin.castAdd 64 d : Fin 128) = ⟨g * 64 + d.val, by omega⟩ := Fin.ext (by show d.val = g * 64 + d.val; omega)
    rw [e]
  · have z : ∑ d : Fin 64, Scalar.select (if (Fin.castAdd 64 d : Fin 128).val / 64 = g then 1#1 else 0#1) (F (Fin.castAdd 64 d)) 0 * W (Fin.castAdd 64 d) = 0 :=
      Finset.sum_eq_zero fun d _ => off _ (by show d.val / 64 ≠ g; omega)
    refine (congrArg (· + _) z).trans ((zero_add _).trans (Finset.sum_congr rfl fun d _ => (on _ (by show (64 + d.val) / 64 = g; omega)).trans ?_))
    have e : (Fin.natAdd 64 d : Fin 128) = ⟨g * 64 + d.val, by omega⟩ := Fin.ext (by show 64 + d.val = g * 64 + d.val; omega)
    rw [e]

/-! ### The hidden layer -/

theorem pay41_at (y : S8x256.Idx) : (k0_pay41 (F := Ideal)) y = 0 := by
  obtain ⟨i, n, rfl⟩ : ∃ i n, y = ix2 i n := ⟨y 0, y 1, by funext z; fin_cases z <;> rfl⟩
  pointwise [k0_pay41]
theorem pay87_at (y : S8x256.Idx) : (k0_pay87 (F := Ideal)) y = 0 := by
  obtain ⟨i, n, rfl⟩ : ∃ i n, y = ix2 i n := ⟨y 0, y 1, by funext z; fin_cases z <;> rfl⟩
  pointwise [k0_pay87]

theorem shift_at (z : FVec Ideal S8x256 .f32) (hz : ∀ y, z y = 0) (p : FVec Ideal S256x256 .f32) (L : List (View.Piece (Elt Ideal) S264x256 .f32)) (i n : Fin 256) :
    shift (pEnd z :: pBot p :: L) (ix2 i n) = if hi : i.val < 255 then p (ix2 ⟨1 + i.val, by omega⟩ n) else 0 := by
  unfold shift
  rw [View.readCov_eq_canon']
  have e0 : (((Rect.unit (s := S264x256) ![1, 0] S256x256.size inb_S264x256_S256x256_1_0).toLoadRect.idx (ix2 i n)) 0).val = 1 + i.val := by
    show 1 + 1 * i.val = _
    omega
  have e1 : (((Rect.unit (s := S264x256) ![1, 0] S256x256.size inb_S264x256_S256x256_1_0).toLoadRect.idx (ix2 i n)) 1).val = n.val := by
    show 0 + 1 * n.val = _
    omega
  by_cases hi : i.val < 255
  · rw [dif_pos hi]
    refine (canon_off (s := S264x256) (off := ![256, 0]) (size := ![8, 256]) (e := .f32) inb_S264x256_S8x256_256_0 z _ _ 0 (Or.inl (by rw [e0]; show _ < 256; omega))).trans ?_
    exact canon_mem (s := S264x256) (off := ![0, 0]) (size := ![256, 256]) (e := .f32) inb_S264x256_S256x256_0_0 p L _ (ix2 ⟨1 + i.val, by omega⟩ n)
      (fun a => by fin_cases a; exact e0.trans (Nat.zero_add _).symm; exact e1.trans (Nat.zero_add _).symm)
  · rw [dif_neg hi]
    refine (canon_mem (s := S264x256) (off := ![256, 0]) (size := ![8, 256]) (e := .f32) inb_S264x256_S8x256_256_0 z _ _ (ix2 0 n)
      (fun a => by fin_cases a; exact e0.trans (by show _ = 256 + 0; omega); exact e1.trans (Nat.zero_add _).symm)).trans (hz _)

section
variable (t : Fin cfg0.N) (cb : ℕ) (hcb : cb ≤ 1792) (X : FVec Ideal S8192x5376 .f32) (PE : FVec Ideal S1x32x64 .f32) (W1 : FVec Ideal S1x2048x256 .f32)
  (x : Fin 16 → FVec Ideal S256x128 .f32) (p : Fin 32 → FVec Ideal S1x128 .f32) (w : Fin 32 → FVec Ideal S1x128x256 .bf16)
  (hx : ∀ (r : Fin 16) (i : Fin 256) (l : Fin 128) (j : S8192x5376.Idx), (j 0).val = t.val / 4 * 4096 + (16 * i.val + r.val) →
    (j 1).val = cb + (t.val % 4 / 2 * 128 + l.val) → x r (ix2 i l) = X j)
  (hp : ∀ (s : Fin 32) (l : Fin 128), p s (ix2 0 l) = PE (ix3 0 s ⟨l.val % 64, by omega⟩))
  (hw : ∀ (s : Fin 32) (l : Fin 128) (n : Fin 256), w s (ix3 0 l n) = W1 (ix3 0 ⟨s.val * 64 + l.val % 64, by omega⟩ n))
  (b : Fin 2) (hb : b.val = t.val / 4) (h : Fin 4) (hh : h.val = t.val % 4)
include hx hp hw hb hh

theorem chain_lo (i n : Fin 256) : chain16 0 (by omega) k0_pay3 (mk t) x p w (ix2 i n)
    = ∑ s : Fin 16, ∑ d : Fin 64, lo cb hcb X PE b i h s d * W1 (ix3 0 ⟨s.val * 64 + d.val, by omega⟩ n) := by
  rw [chain16_at]
  refine Finset.sum_congr rfl fun s _ => ?_
  unfold term
  simp only [mask_at]
  rw [sum_half (t.val % 4 % 2) (by omega) (fun l => x s (ix2 i l) + p ⟨0 + s.val, by omega⟩ (ix2 0 l)) (fun l => w ⟨0 + s.val, by omega⟩ (ix3 0 l n))]
  refine Finset.sum_congr rfl fun d _ => ?_
  have ed : (t.val % 4 % 2 * 64 + d.val) % 64 = d.val := by omega
  rw [hp, hw, hx s i _ (ix2 ⟨b.val * 4096 + (i.val * 16 + s.val), by omega⟩ ⟨cb + (h.val * 64 + d.val), by omega⟩)
    (by show b.val * 4096 + (i.val * 16 + s.val) = _; omega) (by show cb + (h.val * 64 + d.val) = cb + (t.val % 4 / 2 * 128 + (t.val % 4 % 2 * 64 + d.val)); omega)]
  unfold lo
  simp only [ed, Nat.zero_add]

theorem chain_hi (i n : Fin 256) (hi' : i.val < 255) : chain16 16 (by omega) k0_pay3 (mk t) x p w (ix2 ⟨1 + i.val, by omega⟩ n)
    = ∑ s : Fin 16, ∑ d : Fin 64, hi cb hcb X PE b i h s d * W1 (ix3 0 ⟨(16 + s.val) * 64 + d.val, by omega⟩ n) := by
  rw [chain16_at]
  refine Finset.sum_congr rfl fun s _ => ?_
  unfold term
  simp only [mask_at]
  rw [sum_half (t.val % 4 % 2) (by omega) (fun l => x s (ix2 ⟨1 + i.val, by omega⟩ l) + p ⟨16 + s.val, by omega⟩ (ix2 0 l)) (fun l => w ⟨16 + s.val, by omega⟩ (ix3 0 l n))]
  refine Finset.sum_congr rfl fun d _ => ?_
  have ed : (t.val % 4 % 2 * 64 + d.val) % 64 = d.val := by omega
  rw [hp, hw, hx s _ _ (ix2 ⟨b.val * 4096 + ((1 + i.val) * 16 + s.val), by omega⟩ ⟨cb + (h.val * 64 + d.val), by omega⟩)
    (by show b.val * 4096 + ((1 + i.val) * 16 + s.val) = t.val / 4 * 4096 + (16 * (1 + i.val) + s.val); omega) (by show cb + (h.val * 64 + d.val) = cb + (t.val % 4 / 2 * 128 + (t.val % 4 % 2 * 64 + d.val)); omega)]
  unfold hi
  rw [dif_pos hi']
  simp only [ed]

theorem hid_eq (z : FVec Ideal S8x256 .f32) (hz : ∀ y, z y = 0) (L : List (View.Piece (Elt Ideal) S264x256 .f32)) (i n : Fin 256) :
    chain16 0 (by omega) k0_pay3 (mk t) x p w (ix2 i n) + shift (pEnd z :: pBot (chain16 16 (by omega) k0_pay3 (mk t) x p w) :: L) (ix2 i n)
      = hid cb hcb X PE W1 b i h n := by
  rw [hid_split, chain_lo t cb hcb X PE W1 x p w hx hp hw b hb h hh, shift_at z hz]
  refine congrArg (_ + ·) ?_
  by_cases hi' : i.val < 255
  · rw [dif_pos hi']
    exact chain_hi t cb hcb X PE W1 x p w hx hp hw b hb h hh i n hi'
  · rw [dif_neg hi']
    refine (Finset.sum_eq_zero fun s _ => Finset.sum_eq_zero fun d _ => ?_).symm
    unfold hi
    rw [dif_neg hi', zero_mul]

end

/-! ### The tokens -/

abbrev aX (c : Dev nD) : FVec Ideal S8192x5376 .f32 := m ((c : Thread nD τ).loc main_arg0)
abbrev aW1k (c : Dev nD) : FVec Ideal S1x2048x256 .f32 := m ((c : Thread nD τ).loc main_arg1)
abbrev aW2k (c : Dev nD) : FVec Ideal S1x256x64 .f32 := m ((c : Thread nD τ).loc main_arg2)
abbrev aW1v (c : Dev nD) : FVec Ideal S1x2048x256 .f32 := m ((c : Thread nD τ).loc main_arg3)
abbrev aW2v (c : Dev nD) : FVec Ideal S1x256x64 .f32 := m ((c : Thread nD τ).loc main_arg4)
abbrev aPk (c : Dev nD) : FVec Ideal S1x32x64 .f32 := m ((c : Thread nD τ).loc main_arg5)
abbrev aPv (c : Dev nD) : FVec Ideal S1x32x64 .f32 := m ((c : Thread nD τ).loc main_arg6)

theorem last_eq (M : IVec S256x128 1) (x : Fin 16 → FVec Ideal S256x128 .f32) (p : Fin 32 → FVec Ideal S1x128 .f32) (w : Fin 32 → FVec Ideal S1x128x256 .bf16) (z : FVec Ideal S256x256 .f32) :
    k0_pay5 M (chain15 0 (by omega) z M x p w) (x 15) (p 15) (w 15) = chain16 0 (by omega) z M x p w := by
  unfold chain15 chain16
  rfl

theorem kt_at (c : Dev nD) (t : Fin cfg0.N) (b : Fin 2) (hb : b.val = t.val / 4) (h : Fin 4) (hh : h.val = t.val % 4) (d : Fin 64) (i : Fin 256) :
    kt m c t (ix2 d i) = tok 1536 (by omega) (aX m c) (aPk m c) (aW1k m c) (aW2k m c) b i h d := by
  unfold kt
  rw [endK_at, topK_eq, last_eq]
  unfold tok
  refine Finset.sum_congr rfl fun n _ => ?_
  rw [rd6, mul_comm]
  refine congrArg (fun z => silu z * _) ?_
  dsimp only [LK]
  rw [botK_eq]
  exact hid_eq t 1536 (by omega) (aX m c) (aPk m c) (aW1k m c) _ _ _ (fun r i l j h0 h1 => xK_at m c t r i l j h0 h1)
    (fun s l => (row_at _ s l).trans (rd2 m c t s l)) (fun s l n => (slab_at _ s l n).trans (rd4 m c t s l n)) b hb h hh _ pay41_at _ i n

theorem vt_at (c : Dev nD) (t : Fin cfg0.N) (b : Fin 2) (hb : b.val = t.val / 4) (h : Fin 4) (hh : h.val = t.val % 4) (i : Fin 256) (d : Fin 128) :
    vt m c t (ix2 i d) = if hd : d.val < 64 then tok 1792 (by omega) (aX m c) (aPv m c) (aW1v m c) (aW2v m c) b i h ⟨d.val, hd⟩ else 0 := by
  unfold vt
  rw [endV_at]
  simp only [rd7]
  by_cases hd : d.val < 64
  · rw [dif_pos hd]
    unfold tok
    refine Finset.sum_congr rfl fun n _ => ?_
    rw [dif_pos hd]
    refine congrArg (fun z => silu z * _) ?_
    dsimp only [LV]
    rw [topV_eq, botV_eq]
    exact hid_eq t 1792 (by omega) (aX m c) (aPv m c) (aW1v m c) _ _ _ (fun r i l j h0 h1 => xV_at m c t r i l j h0 h1)
      (fun s l => (row_at _ s l).trans (rd3 m c t s l)) (fun s l n => (slab_at _ s l n).trans (rd5 m c t s l n)) b hb h hh _ pay87_at _ i n
  · rw [dif_neg hd]
    refine Finset.sum_eq_zero fun n _ => ?_
    rw [dif_neg hd, mul_zero]

end Cert.Proof.Cmp

end
-- ==== Proof.CmpFlatK.lean ====
/- The compression: the reference's blocks of keys. -/
module

public import proofs.«01_k».proof.Proof.CmpModel
public import proofs.«01_k».proof.Proof.Gen.CmpRefIdeal.Read
public import Idealize.ShloMosaic.Lib.ValueIdxRank6

@[expose] public section

set_option maxRecDepth 16384

noncomputable section

namespace Cert.Proof.Cmp

open Cert.CmpRefIdeal Cert.CmpRefIdeal.Gen Idealize.ShloMosaic Idealize.ShloMosaic.TcCoe Idealize.SL.Sem
open Cert.CmpRefIdeal.Read

theorem loK_at (x0 : FVec Ideal S8192x5376 .f32) (pe : FVec Ideal S1x32x64 .f32) (b : Fin 2) (i : Fin 256) (s : Fin 16) (h : Fin 4) (d : Fin 64) :
    val_main_v11 (F := Ideal) x0 pe (ix5 b i s h d) = lo 1536 (by omega) x0 pe b i h s d := by
  pointwise [val_main_v11, val_main_v10, val_main_v9, val_main_v8, val_main_v7, val_main_v5, val_main_v6, val_main_v1, val_main_v0]
  rfl

theorem hiK_at (x0 : FVec Ideal S8192x5376 .f32) (pe : FVec Ideal S1x32x64 .f32) (b : Fin 2) (i : Fin 256) (s : Fin 16) (h : Fin 4) (d : Fin 64) :
    val_main_v18 (F := Ideal) x0 pe (ix5 b i s h d) = hi 1536 (by omega) x0 pe b i h s d := by
  pointwise [val_main_v18, val_main_v17, val_main_v16, val_main_v15, val_main_v14, val_main_v13, val_main_v12, val_main_v5, val_main_v6, val_main_v1, val_main_v0, val_main_call0_v0, val_main_c]
  unfold hi
  by_cases h1 : i.val < 255
  · rw [dif_pos h1, dif_pos (by omega)]
  · rw [dif_neg h1, dif_neg (by omega)]
    exact zero_w

theorem flatK_at (x0 : FVec Ideal S8192x5376 .f32) (pe : FVec Ideal S1x32x64 .f32) (b : Fin 2) (i : Fin 256) (h : Fin 4) (q : Fin 2048) :
    val_main_v21 (F := Ideal) x0 pe (ix4 b i h q) = flat 1536 (by omega) x0 pe b i h q := by
  pointwise [val_main_v21, val_main_v20, val_main_v19]
  simp only [loK_at, hiK_at]
  rfl

end Cert.Proof.Cmp

end
-- ==== Proof.CmpFlatV.lean ====
/- The compression: the reference's blocks of values. -/
module

public import proofs.«01_k».proof.Proof.CmpModel
public import proofs.«01_k».proof.Proof.Gen.CmpRefIdeal.Read
public import Idealize.ShloMosaic.Lib.ValueIdxRank6

@[expose] public section

set_option maxRecDepth 16384

noncomputable section

namespace Cert.Proof.Cmp

open Cert.CmpRefIdeal Cert.CmpRefIdeal.Gen Idealize.ShloMosaic Idealize.ShloMosaic.TcCoe Idealize.SL.Sem
open Cert.CmpRefIdeal.Read

theorem loV_at (x0 : FVec Ideal S8192x5376 .f32) (pe : FVec Ideal S1x32x64 .f32) (b : Fin 2) (i : Fin 256) (s : Fin 16) (h : Fin 4) (d : Fin 64) :
    val_main_v33 (F := Ideal) x0 pe (ix5 b i s h d) = lo 1792 (by omega) x0 pe b i h s d := by
  pointwise [val_main_v33, val_main_v32, val_main_v31, val_main_v30, val_main_v29, val_main_v27, val_main_v28, val_main_v2, val_main_v0]
  rfl

theorem hiV_at (x0 : FVec Ideal S8192x5376 .f32) (pe : FVec Ideal S1x32x64 .f32) (b : Fin 2) (i : Fin 256) (s : Fin 16) (h : Fin 4) (d : Fin 64) :
    val_main_v40 (F := Ideal) x0 pe (ix5 b i s h d) = hi 1792 (by omega) x0 pe b i h s d := by
  pointwise [val_main_v40, val_main_v39, val_main_v38, val_main_v37, val_main_v36, val_main_v35, val_main_v34, val_main_v27, val_main_v28, val_main_v2, val_main_v0, val_main_call2_v0, val_main_c_0]
  unfold hi
  by_cases h1 : i.val < 255
  · rw [dif_pos h1, dif_pos (by omega)]
  · rw [dif_neg h1, dif_neg (by omega)]
    exact zero_w

theorem flatV_at (x0 : FVec Ideal S8192x5376 .f32) (pe : FVec Ideal S1x32x64 .f32) (b : Fin 2) (i : Fin 256) (h : Fin 4) (q : Fin 2048) :
    val_main_v43 (F := Ideal) x0 pe (ix4 b i h q) = flat 1792 (by omega) x0 pe b i h q := by
  pointwise [val_main_v43, val_main_v42, val_main_v41]
  simp only [loV_at, hiV_at]
  rfl

end Cert.Proof.Cmp

end
-- ==== Proof.CmpTok.lean ====
/- The compression: the reference's compressed tokens. -/
module

public import proofs.«01_k».proof.Proof.CmpFlatK
public import proofs.«01_k».proof.Proof.CmpFlatV
public import Idealize.ShloMosaic.Lib.ValueIdxRank6

@[expose] public section

set_option maxRecDepth 16384

noncomputable section

namespace Cert.Proof.Cmp

open Cert.CmpRefIdeal Cert.CmpRefIdeal.Gen Idealize.ShloMosaic Idealize.ShloMosaic.TcCoe Idealize.SL.Sem
open Cert.CmpRefIdeal.Read

theorem hidK_at (x0 : FVec Ideal S8192x5376 .f32) (pe : FVec Ideal S1x32x64 .f32) (w1 : FVec Ideal S1x2048x256 .f32) (b : Fin 2) (i : Fin 256) (h : Fin 4) (n : Fin 256) :
    val_main_v22 (F := Ideal) x0 w1 pe (ix4 b i h n) = hid 1536 (by omega) x0 pe w1 b i h n := by
  pointwise [val_main_v22, val_main_v3]
  simp only [flatK_at]
  rfl

theorem siluK_at (x0 : FVec Ideal S8192x5376 .f32) (pe : FVec Ideal S1x32x64 .f32) (w1 : FVec Ideal S1x2048x256 .f32) (b : Fin 2) (i : Fin 256) (h : Fin 4) (n : Fin 256) :
    val_main_v23 (F := Ideal) x0 w1 pe (ix4 b i h n) = silu (hid 1536 (by omega) x0 pe w1 b i h n) := by
  rw [← hidK_at]
  pointwise [val_main_v23, val_main_call1_v0, val_main_call1_v1, val_main_call1_cst, val_main_call1_v2, val_main_call1_v3, val_main_call1_cst_0, val_main_call1_v4, val_main_call1_v5]
  rfl

theorem tokK_at (x0 : FVec Ideal S8192x5376 .f32) (pe : FVec Ideal S1x32x64 .f32) (w1 : FVec Ideal S1x2048x256 .f32) (w2 : FVec Ideal S1x256x64 .f32) (b : Fin 2) (i : Fin 256) (h : Fin 4) (d : Fin 64) :
    val_main_v24 (F := Ideal) x0 w1 w2 pe (ix4 b i h d) = tok 1536 (by omega) x0 pe w1 w2 b i h d := by
  pointwise [val_main_v24, val_main_v4]
  simp only [siluK_at]
  rfl

theorem hidV_at (x0 : FVec Ideal S8192x5376 .f32) (pe : FVec Ideal S1x32x64 .f32) (w1 : FVec Ideal S1x2048x256 .f32) (b : Fin 2) (i : Fin 256) (h : Fin 4) (n : Fin 256) :
    val_main_v44 (F := Ideal) x0 w1 pe (ix4 b i h n) = hid 1792 (by omega) x0 pe w1 b i h n := by
  pointwise [val_main_v44, val_main_v25]
  simp only [flatV_at]
  rfl

theorem siluV_at (x0 : FVec Ideal S8192x5376 .f32) (pe : FVec Ideal S1x32x64 .f32) (w1 : FVec Ideal S1x2048x256 .f32) (b : Fin 2) (i : Fin 256) (h : Fin 4) (n : Fin 256) :
    val_main_v45 (F := Ideal) x0 w1 pe (ix4 b i h n) = silu (hid 1792 (by omega) x0 pe w1 b i h n) := by
  rw [← hidV_at]
  pointwise [val_main_v45, val_main_call3_v0, val_main_call3_v1, val_main_call3_cst, val_main_call3_v2, val_main_call3_v3, val_main_call3_cst_0, val_main_call3_v4, val_main_call3_v5]
  rfl

theorem tokV_at (x0 : FVec Ideal S8192x5376 .f32) (pe : FVec Ideal S1x32x64 .f32) (w1 : FVec Ideal S1x2048x256 .f32) (w2 : FVec Ideal S1x256x64 .f32) (b : Fin 2) (i : Fin 256) (h : Fin 4) (d : Fin 64) :
    val_main_v46 (F := Ideal) x0 w1 w2 pe (ix4 b i h d) = tok 1792 (by omega) x0 pe w1 w2 b i h d := by
  pointwise [val_main_v46, val_main_v26]
  simp only [siluV_at]
  rfl

end Cert.Proof.Cmp

end
-- ==== Proof.CmpRef.lean ====
/- The compression: the reference's results, place by place. -/
module

public import proofs.«01_k».proof.Proof.CmpTok
public import Idealize.ShloMosaic.Lib.ValueIdxRank6

@[expose] public section

set_option maxRecDepth 16384

noncomputable section

namespace Cert.Proof.Cmp

open Cert.CmpRefIdeal Cert.CmpRefIdeal.Gen Idealize.ShloMosaic Idealize.ShloMosaic.TcCoe Idealize.SL.Sem
open Cert.CmpRefIdeal.Read

theorem refK_at (x0 : FVec Ideal S8192x5376 .f32) (x1 : FVec Ideal S1x2048x256 .f32) (x2 : FVec Ideal S1x256x64 .f32) (x5 : FVec Ideal S1x32x64 .f32) (b : Fin 2) (h : Fin 4) (p : Fin 256) (q : Fin 1024) :
    val_main_v58 (F := Ideal) x0 x1 x2 x5 (ix4 b h p q) = keys x0 x5 x1 x2 b h p q := by
  pointwise [val_main_v58, val_main_v57, val_main_v56, val_main_v55, val_main_v54, val_main_v53, val_main_v52, val_main_v48, val_main_v47, val_main_cst, val_main_call5_v0]
  rw [select_eq _ _ (by omega) (by omega), tokK_at]
  rfl

theorem padV_at (x0 : FVec Ideal S8192x5376 .f32) (x3 : FVec Ideal S1x2048x256 .f32) (x4 : FVec Ideal S1x256x64 .f32) (x6 : FVec Ideal S1x32x64 .f32) (b : Fin 2) (h : Fin 4) (i : Fin 256) (q : Fin 128) :
    val_main_v51 (F := Ideal) x0 x3 x4 x6 (ix4 b h i q) = if hq : q.val < 64 then tok 1792 (by omega) x0 x6 x3 x4 b i h ⟨q.val, hq⟩ else 0 := by
  pointwise [val_main_v51, val_main_v50, val_main_v49, val_main_call4_v0, val_main_c_1]
  by_cases hq : q.val < 64
  · rw [dif_pos hq, dif_pos (by omega), tokV_at]
  · rw [dif_neg hq, dif_neg (by omega)]
    exact zero_w

theorem refV_at (x0 : FVec Ideal S8192x5376 .f32) (x3 : FVec Ideal S1x2048x256 .f32) (x4 : FVec Ideal S1x256x64 .f32) (x6 : FVec Ideal S1x32x64 .f32) (b : Fin 2) (h : Fin 4) (p : Fin 1024) (q : Fin 512) :
    val_main_v65 (F := Ideal) x0 x3 x4 x6 (ix4 b h p q) = vals x0 x6 x3 x4 b h p q := by
  pointwise [val_main_v65, val_main_v64, val_main_v63, val_main_v62, val_main_v61, val_main_v60, val_main_v59, val_main_cst_2, val_main_call6_v0]
  rw [select_eq _ _ (by omega) (by omega), padV_at]
  rfl

end Cert.Proof.Cmp

end
-- ==== Proof.CmpValue.lean ====
/- The compression: what the kernel leaves in its result arrays are the reference's terms of the same arguments. -/
module

public import proofs.«01_k».proof.Proof.CmpPoint
public import proofs.«01_k».proof.Proof.CmpRef
public import proofs.«01_k».proof.Proof.Gen.CmpRefIdeal.Run

@[expose] public section

set_option maxRecDepth 16384

noncomputable section

namespace Cert.Proof.Cmp

open Cert.CmpIdeal Cert.CmpIdeal.Gen Idealize.ShloMosaic Idealize.ShloMosaic.TcCoe Idealize.SL.Sem
open Idealize.ShloMosaic.Pipeline (Dat)
open Cert.Proof.Ssd (canon_mem canon_off)
open Cert.CmpRefIdeal.Read

variable (m : (ℓ : Loc nD τ sig) → Buf (Elt Ideal) ℓ)

/-! ### The stores of a block -/

section
variable (g o1 o2 : ℕ) (y : S1x1x256x1024.Idx) (p : Fin 256) (q : Fin 1024) (h1 : o1 = g * 64) (h2 : o2 = g * 256)
  (hp : (y 2).val = p.val) (hq : (y 3).val = q.val) (inb : ∀ a, (![0, 0, o1, o2] : Fin 4 → ℕ) a + (![1, 1, 64, 256] : Fin 4 → ℕ) a ≤ S1x1x256x1024.size a)
  (w : FVec Ideal S1x1x64x256 .bf16) (L : List (View.Piece (Elt Ideal) S1x1x256x1024 .bf16))
include h1 h2 hp hq

theorem onK (hg : p.val / 64 = g ∧ q.val / 256 = g) :
    View.canon ((⟨Rect.unit ![0, 0, o1, o2] ![1, 1, 64, 256] inb, w⟩ : View.Piece (Elt Ideal) S1x1x256x1024 .bf16) :: L) y = w (ix4 0 0 ⟨p.val % 64, by omega⟩ ⟨q.val % 256, by omega⟩) := by
  have y0 : (y 0).val < 1 := (y 0).isLt
  have y1 : (y 1).val < 1 := (y 1).isLt
  refine canon_mem (s := S1x1x256x1024) (off := ![0, 0, o1, o2]) (size := ![1, 1, 64, 256]) (e := .bf16) inb w L y _ fun a => ?_
  fin_cases a
  · show (y 0).val = 0 + 0
    omega
  · show (y 1).val = 0 + 0
    omega
  · show (y 2).val = o1 + p.val % 64
    omega
  · show (y 3).val = o2 + q.val % 256
    omega

theorem offK (hg : ¬(p.val / 64 = g ∧ q.val / 256 = g)) :
    View.canon ((⟨Rect.unit ![0, 0, o1, o2] ![1, 1, 64, 256] inb, w⟩ : View.Piece (Elt Ideal) S1x1x256x1024 .bf16) :: L) y = View.canon L y := by
  by_cases hpg : p.val / 64 = g
  · refine canon_off (s := S1x1x256x1024) (off := ![0, 0, o1, o2]) (size := ![1, 1, 64, 256]) (e := .bf16) inb w L y 3 ?_
    show (y 3).val < o2 ∨ o2 + 256 ≤ (y 3).val
    omega
  · refine canon_off (s := S1x1x256x1024) (off := ![0, 0, o1, o2]) (size := ![1, 1, 64, 256]) (e := .bf16) inb w L y 2 ?_
    show (y 2).val < o1 ∨ o1 + 64 ≤ (y 2).val
    omega
end

section
variable (g o1 o2 : ℕ) (y : S1x1x1024x512.Idx) (p : Fin 1024) (q : Fin 512) (h1 : o1 = g * 256) (h2 : o2 = g * 128)
  (hp : (y 2).val = p.val) (hq : (y 3).val = q.val) (inb : ∀ a, (![0, 0, o1, o2] : Fin 4 → ℕ) a + (![1, 1, 256, 128] : Fin 4 → ℕ) a ≤ S1x1x1024x512.size a)
  (w : FVec Ideal S1x1x256x128 .bf16) (L : List (View.Piece (Elt Ideal) S1x1x1024x512 .bf16))
include h1 h2 hp hq

theorem onV (hg : p.val / 256 = g ∧ q.val / 128 = g) :
    View.canon ((⟨Rect.unit ![0, 0, o1, o2] ![1, 1, 256, 128] inb, w⟩ : View.Piece (Elt Ideal) S1x1x1024x512 .bf16) :: L) y = w (ix4 0 0 ⟨p.val % 256, by omega⟩ ⟨q.val % 128, by omega⟩) := by
  have y0 : (y 0).val < 1 := (y 0).isLt
  have y1 : (y 1).val < 1 := (y 1).isLt
  refine canon_mem (s := S1x1x1024x512) (off := ![0, 0, o1, o2]) (size := ![1, 1, 256, 128]) (e := .bf16) inb w L y _ fun a => ?_
  fin_cases a
  · show (y 0).val = 0 + 0
    omega
  · show (y 1).val = 0 + 0
    omega
  · show (y 2).val = o1 + p.val % 256
    omega
  · show (y 3).val = o2 + q.val % 128
    omega

theorem offV (hg : ¬(p.val / 256 = g ∧ q.val / 128 = g)) :
    View.canon ((⟨Rect.unit ![0, 0, o1, o2] ![1, 1, 256, 128] inb, w⟩ : View.Piece (Elt Ideal) S1x1x1024x512 .bf16) :: L) y = View.canon L y := by
  by_cases hpg : p.val / 256 = g
  · refine canon_off (s := S1x1x1024x512) (off := ![0, 0, o1, o2]) (size := ![1, 1, 256, 128]) (e := .bf16) inb w L y 3 ?_
    show (y 3).val < o2 ∨ o2 + 128 ≤ (y 3).val
    omega
  · refine canon_off (s := S1x1x1024x512) (off := ![0, 0, o1, o2]) (size := ![1, 1, 256, 128]) (e := .bf16) inb w L y 2 ?_
    show (y 2).val < o1 ∨ o1 + 256 ≤ (y 2).val
    omega
end

theorem zeroK (y : S1x1x256x1024.Idx) : View.canon [(⟨Rect.unit ![0, 0, 0, 0] ![1, 1, 256, 1024] inb_S1x1x256x1024_S1x1x256x1024_0_0_0_0, k0_pay43 (F := Ideal)⟩ : View.Piece (Elt Ideal) S1x1x256x1024 .bf16)] y = (0 : EReal) := by
  refine (canon_mem (s := S1x1x256x1024) (off := ![0, 0, 0, 0]) (size := ![1, 1, 256, 1024]) (e := .bf16) inb_S1x1x256x1024_S1x1x256x1024_0_0_0_0 (k0_pay43 (F := Ideal)) [] y (ix4 (y 0) (y 1) (y 2) (y 3))
    (fun a => by fin_cases a <;> exact (Nat.zero_add _).symm)).trans ?_
  pointwise [k0_pay43]

theorem zeroV (y : S1x1x1024x512.Idx) : View.canon [(⟨Rect.unit ![0, 0, 0, 0] ![1, 1, 1024, 512] inb_S1x1x1024x512_S1x1x1024x512_0_0_0_0, k0_pay89 (F := Ideal)⟩ : View.Piece (Elt Ideal) S1x1x1024x512 .bf16)] y = (0 : EReal) := by
  refine (canon_mem (s := S1x1x1024x512) (off := ![0, 0, 0, 0]) (size := ![1, 1, 1024, 512]) (e := .bf16) inb_S1x1x1024x512_S1x1x1024x512_0_0_0_0 (k0_pay89 (F := Ideal)) [] y (ix4 (y 0) (y 1) (y 2) (y 3))
    (fun a => by fin_cases a <;> exact (Nat.zero_add _).symm)).trans ?_
  pointwise [k0_pay89]

theorem pay46_at (v : FVec Ideal S64x256 .f32) (d : Fin 64) (i : Fin 256) : k0_pay46 (F := Ideal) v (ix4 0 0 d i) = v (ix2 d i) := by
  pointwise [k0_pay46]
theorem pay47_at (v : FVec Ideal S64x256 .f32) (d : Fin 64) (i : Fin 256) : k0_pay47 (F := Ideal) v (ix4 0 0 d i) = v (ix2 d i) := by
  pointwise [k0_pay47]
theorem pay48_at (v : FVec Ideal S64x256 .f32) (d : Fin 64) (i : Fin 256) : k0_pay48 (F := Ideal) v (ix4 0 0 d i) = v (ix2 d i) := by
  pointwise [k0_pay48]
theorem pay45_at (c : Dev nD) (t : Fin cfg0.N) (d : Fin 64) (i : Fin 256) : k0_pay45 (F := Ideal) (kt16 m c t) (ix4 0 0 d i) = kt m c t (ix2 d i) := by
  pointwise [k0_pay45]
  rfl

theorem pay1_at (v : FVec Ideal S256x128 .f32) (i : Fin 256) (d : Fin 128) : k0_pay1 (F := Ideal) v (ix4 0 0 i d) = v (ix2 i d) := by
  pointwise [k0_pay1]
theorem pay90_eq (a sh : FVec Ideal S256x256 .f32) (w2 : FVec Ideal S256x128 .bf16) : k0_pay90 (F := Ideal) a sh w2 = k0_pay1 (k0_pay88 a sh w2) := rfl
theorem pay91_eq (a sh : FVec Ideal S256x256 .f32) (w2 : FVec Ideal S256x128 .bf16) : k0_pay91 (F := Ideal) a sh w2 = k0_pay1 (k0_pay88 a sh w2) := rfl
theorem pay92_eq (a sh : FVec Ideal S256x256 .f32) (w2 : FVec Ideal S256x128 .bf16) : k0_pay92 (F := Ideal) a sh w2 = k0_pay1 (k0_pay88 a sh w2) := rfl

/-! ### The results -/

theorem blockK (c : Dev nD) (t : Fin cfg0.N) (y : S1x1x256x1024.Idx) (p : Fin 256) (q : Fin 1024) (hp : (y 2).val = p.val) (hq : (y 3).val = q.val) :
    (outsAt0 m c t).1 y = if p.val / 64 = q.val / 256 then kt m c t (ix2 ⟨p.val % 64, by omega⟩ ⟨q.val % 256, by omega⟩) else 0 := by
  rw [outK]
  by_cases h3 : p.val / 64 = 3 ∧ q.val / 256 = 3
  · rw [if_pos (h3.1.trans h3.2.symm)]
    exact (onK 3 192 768 y p q rfl rfl hp hq _ _ _ h3).trans (pay48_at _ _ _)
  rw [offK 3 192 768 y p q rfl rfl hp hq _ _ _ h3]
  by_cases h2 : p.val / 64 = 2 ∧ q.val / 256 = 2
  · rw [if_pos (h2.1.trans h2.2.symm)]
    exact (onK 2 128 512 y p q rfl rfl hp hq _ _ _ h2).trans (pay47_at _ _ _)
  rw [offK 2 128 512 y p q rfl rfl hp hq _ _ _ h2]
  by_cases h1 : p.val / 64 = 1 ∧ q.val / 256 = 1
  · rw [if_pos (h1.1.trans h1.2.symm)]
    exact (onK 1 64 256 y p q rfl rfl hp hq _ _ _ h1).trans (pay46_at _ _ _)
  rw [offK 1 64 256 y p q rfl rfl hp hq _ _ _ h1]
  by_cases h0 : p.val / 64 = 0 ∧ q.val / 256 = 0
  · rw [if_pos (h0.1.trans h0.2.symm)]
    exact (onK 0 0 0 y p q rfl rfl hp hq _ _ _ h0).trans (pay45_at m c t _ _)
  rw [offK 0 0 0 y p q rfl rfl hp hq _ _ _ h0, if_neg (by omega)]
  exact zeroK y

theorem blockV (c : Dev nD) (t : Fin cfg0.N) (y : S1x1x1024x512.Idx) (p : Fin 1024) (q : Fin 512) (hp : (y 2).val = p.val) (hq : (y 3).val = q.val) :
    (outsAt0 m c t).2 y = if p.val / 256 = q.val / 128 then vt m c t (ix2 ⟨p.val % 256, by omega⟩ ⟨q.val % 128, by omega⟩) else 0 := by
  rw [outV]
  by_cases h3 : p.val / 256 = 3 ∧ q.val / 128 = 3
  · rw [if_pos (h3.1.trans h3.2.symm)]
    exact (onV 3 768 384 y p q rfl rfl hp hq _ _ _ h3).trans (pay1_at _ _ _)
  rw [offV 3 768 384 y p q rfl rfl hp hq _ _ _ h3, pay92_eq, pay91_eq, pay90_eq]
  by_cases h2 : p.val / 256 = 2 ∧ q.val / 128 = 2
  · rw [if_pos (h2.1.trans h2.2.symm)]
    exact (onV 2 512 256 y p q rfl rfl hp hq _ _ _ h2).trans (pay1_at _ _ _)
  rw [offV 2 512 256 y p q rfl rfl hp hq _ _ _ h2]
  by_cases h1 : p.val / 256 = 1 ∧ q.val / 128 = 1
  · rw [if_pos (h1.1.trans h1.2.symm)]
    exact (onV 1 256 128 y p q rfl rfl hp hq _ _ _ h1).trans (pay1_at _ _ _)
  rw [offV 1 256 128 y p q rfl rfl hp hq _ _ _ h1]
  by_cases h0 : p.val / 256 = 0 ∧ q.val / 128 = 0
  · rw [if_pos (h0.1.trans h0.2.symm)]
    exact (onV 0 0 0 y p q rfl rfl hp hq _ _ _ h0).trans (pay1_at _ _ _)
  rw [offV 0 0 0 y p q rfl rfl hp hq _ _ _ h0, if_neg (by omega)]
  exact zeroV y

/-- The reference's terms over the kernel's argument arrays. -/
abbrev GK (c : Dev nD) : FVec Ideal S2x4x256x1024 .bf16 := val_main_v58 (F := Ideal) (aX m c) (aW1k m c) (aW2k m c) (aPk m c)
abbrev GV (c : Dev nD) : FVec Ideal S2x4x1024x512 .bf16 := val_main_v65 (F := Ideal) (aX m c) (aW1v m c) (aW2v m c) (aPv m c)

theorem coreK (c : Dev nD) (t : Fin cfg0.N) (y : S1x1x256x1024.Idx) (j : S2x4x256x1024.Idx)
    (h0 : (j 0).val = t.val / 4 + (y 0).val) (h1 : (j 1).val = t.val % 4 + (y 1).val) (h2 : (j 2).val = (y 2).val) (h3 : (j 3).val = (y 3).val) :
    (outsAt0 m c t).1 y = GK m c j := by
  have y0 : (y 0).val < 1 := (y 0).isLt
  have y1 : (y 1).val < 1 := (y 1).isLt
  obtain ⟨b, h, p, q, rfl⟩ : ∃ b h p q, j = ix4 b h p q := ⟨j 0, j 1, j 2, j 3, by funext z; fin_cases z <;> rfl⟩
  have e0 : b.val = t.val / 4 + (y 0).val := h0
  have e1 : h.val = t.val % 4 + (y 1).val := h1
  refine (blockK m c t y p q h2.symm h3.symm).trans (Eq.trans ?_ (refK_at _ _ _ _ b h p q).symm)
  unfold keys
  refine if_congr Iff.rfl ?_ rfl
  exact kt_at m c t b (by omega) h (by omega) _ _

theorem coreV (c : Dev nD) (t : Fin cfg0.N) (y : S1x1x1024x512.Idx) (j : S2x4x1024x512.Idx)
    (h0 : (j 0).val = t.val / 4 + (y 0).val) (h1 : (j 1).val = t.val % 4 + (y 1).val) (h2 : (j 2).val = (y 2).val) (h3 : (j 3).val = (y 3).val) :
    (outsAt0 m c t).2 y = GV m c j := by
  have y0 : (y 0).val < 1 := (y 0).isLt
  have y1 : (y 1).val < 1 := (y 1).isLt
  obtain ⟨b, h, p, q, rfl⟩ : ∃ b h p q, j = ix4 b h p q := ⟨j 0, j 1, j 2, j 3, by funext z; fin_cases z <;> rfl⟩
  have e0 : b.val = t.val / 4 + (y 0).val := h0
  have e1 : h.val = t.val % 4 + (y 1).val := h1
  refine (blockV m c t y p q h2.symm h3.symm).trans (Eq.trans ?_ (refV_at _ _ _ _ b h p q).symm)
  unfold vals
  refine if_congr Iff.rfl ?_ rfl
  exact vt_at m c t b (by omega) h (by omega) _ _

theorem finalK (c : Dev nD) : (dats m 0 c).arrAt 8 cfg0.N = GK m c := by
  refine (dats m 0 c).arrAt_eq_of_covers 8 _ (by decide +kernel) fun t hf y => ?_
  blk_simp
  rw [after0_8]
  exact coreK m c t y _ (by blk_simp [idx t]) (by blk_simp [idx t]) (by blk_simp [idx t]) (by blk_simp [idx t])

theorem finalV (c : Dev nD) : (dats m 0 c).arrAt 9 cfg0.N = GV m c := by
  refine (dats m 0 c).arrAt_eq_of_covers 9 _ (by decide +kernel) fun t hf y => ?_
  blk_simp
  rw [after0_9]
  exact coreV m c t y _ (by blk_simp [idx t]) (by blk_simp [idx t]) (by blk_simp [idx t]) (by blk_simp [idx t])

end Cert.Proof.Cmp

end
-- ==== Proof.lean ====
module

public import proofs.«01_k».proof.Defs
public import proofs.«01_k».proof.Proof.Gen.Ssd
public import proofs.«01_k».proof.Proof.Gen.Ssd.Skeleton
public import proofs.«01_k».proof.Proof.Gen.Ssd.Launch
public import proofs.«01_k».proof.Proof.Gen.Ssd.Points
public import proofs.«01_k».proof.Proof.Gen.Ssd.Frame
public import proofs.«01_k».proof.Proof.Gen.SsdIdeal
public import proofs.«01_k».proof.Proof.Gen.SsdIdeal.Skeleton
public import proofs.«01_k».proof.Proof.Gen.SsdIdeal.Launch
public import proofs.«01_k».proof.Proof.Gen.SsdIdeal.Points
public import proofs.«01_k».proof.Proof.Gen.SsdIdeal.Frame
public import proofs.«01_k».proof.Proof.Gen.SsdRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.Cmp
public import proofs.«01_k».proof.Proof.Gen.Cmp.Skeleton
public import proofs.«01_k».proof.Proof.Gen.Cmp.Launch
public import proofs.«01_k».proof.Proof.Gen.Cmp.Points
public import proofs.«01_k».proof.Proof.Gen.Cmp.Frame
public import proofs.«01_k».proof.Proof.Gen.CmpIdeal
public import proofs.«01_k».proof.Proof.Gen.CmpIdeal.Skeleton
public import proofs.«01_k».proof.Proof.Gen.CmpIdeal.Launch
public import proofs.«01_k».proof.Proof.Gen.CmpIdeal.Points
public import proofs.«01_k».proof.Proof.Gen.CmpIdeal.Frame
public import proofs.«01_k».proof.Proof.Gen.CmpRefIdeal
public import proofs.«01_k».proof.Proof.Gen.CmpIdeal.Value
public import proofs.«01_k».proof.Proof.Gen.CmpRefIdeal.Read
public import proofs.«01_k».proof.Proof.Gen.CmpRefIdeal.Run
public import proofs.«01_k».proof.Proof.Gen.SsdIdeal.Value
public import proofs.«01_k».proof.Proof.Gen.SsdRefIdeal.Run
public import proofs.«01_k».proof.Proof.Gen.SsdRefIdeal.Step
public import proofs.«01_k».proof.Proof.Gen.FfnIdeal.Value
public import proofs.«01_k».proof.Proof.Gen.FfnRefIdeal.Read
public import proofs.«01_k».proof.Proof.Gen.FfnRefIdeal.Run
public import proofs.«01_k».proof.Proof.Gen.InProjIdeal.Value
public import proofs.«01_k».proof.Proof.Gen.InProjRefIdeal.Read
public import proofs.«01_k».proof.Proof.Gen.InProjRefIdeal.Run
public import proofs.«01_k».proof.Proof.Gen.OutProjIdeal.Value
public import proofs.«01_k».proof.Proof.Gen.OutProjRefIdeal.Read
public import proofs.«01_k».proof.Proof.Gen.OutProjRefIdeal.Run
public import proofs.«01_k».proof.Proof.FfnValue
public import proofs.«01_k».proof.Proof.SsdRun
public import proofs.«01_k».proof.Proof.SsdRef
public import proofs.«01_k».proof.Proof.SsdValue
public import proofs.«01_k».proof.Proof.InProjValue
public import proofs.«01_k».proof.Proof.OutProjValue
public import proofs.«01_k».proof.Proof.CmpValue
public import Idealize.ShloMosaic.Lib.Quiescent
public import Idealize.ShloMosaic.Adequacy
public import Idealize.ShloMosaic.Init

@[expose] public section

noncomputable section

namespace Cert.Proof

open Idealize.ShloMosaic Idealize.SL.Sem Cert.Ssd

theorem quiescent_Ssd : Cert.quiescent_Ssd (hSsd := Cert.Ssd.Gen.facts) := fun m ρ _ => Cert.Ssd.Gen.frame m ρ

theorem quiescent_SsdIdeal : Cert.quiescent_SsdIdeal (hSsdIdeal := Cert.SsdIdeal.Gen.facts) := fun m ρ _ => Cert.SsdIdeal.Gen.frame m ρ

theorem quiescent_SsdRefIdeal : Cert.quiescent_SsdRefIdeal (hSsdRefIdeal := Cert.SsdRefIdeal.Gen.facts) := fun m ρ _ =>
  (θ_run Cert.SsdRefIdeal.defs _ _).mono (fun r h => ⟨fun c => (h c).2, Idealize.ShloMosaic.sem_eq_zero_of_no_sems (by decide) r.2⟩)
    (Cert.SsdRefIdeal.Value.run (F := Ideal) m ρ)

theorem quiescent_Ffn : Cert.quiescent_Ffn (hFfn := Cert.Ffn.Gen.facts) := fun m ρ _ => Cert.Ffn.Gen.frame m ρ

theorem quiescent_FfnIdeal : Cert.quiescent_FfnIdeal (hFfnIdeal := Cert.FfnIdeal.Gen.facts) := fun m ρ _ => Cert.FfnIdeal.Gen.frame m ρ

theorem quiescent_FfnRefIdeal : Cert.quiescent_FfnRefIdeal (hFfnRefIdeal := Cert.FfnRefIdeal.Gen.facts) := fun m ρ _ =>
  (θ_run Cert.FfnRefIdeal.defs _ _).mono (fun r h => ⟨fun c => (h c).2, Idealize.ShloMosaic.sem_eq_zero_of_no_sems (by decide) r.2⟩)
    (Cert.FfnRefIdeal.Value.run (F := Ideal) m ρ)

theorem quiescent_InProj : Cert.quiescent_InProj (hInProj := Cert.InProj.Gen.facts) := fun m ρ _ => Cert.InProj.Gen.frame m ρ

theorem quiescent_InProjIdeal : Cert.quiescent_InProjIdeal (hInProjIdeal := Cert.InProjIdeal.Gen.facts) := fun m ρ _ => Cert.InProjIdeal.Gen.frame m ρ

theorem quiescent_InProjRefIdeal : Cert.quiescent_InProjRefIdeal (hInProjRefIdeal := Cert.InProjRefIdeal.Gen.facts) := fun m ρ _ =>
  (θ_run Cert.InProjRefIdeal.defs _ _).mono (fun r h => ⟨fun c => (h c).2, Idealize.ShloMosaic.sem_eq_zero_of_no_sems (by decide) r.2⟩)
    (Cert.InProjRefIdeal.Value.run (F := Ideal) m ρ)

theorem quiescent_OutProj : Cert.quiescent_OutProj (hOutProj := Cert.OutProj.Gen.facts) := fun m ρ _ => Cert.OutProj.Gen.frame m ρ

theorem quiescent_OutProjIdeal : Cert.quiescent_OutProjIdeal (hOutProjIdeal := Cert.OutProjIdeal.Gen.facts) := fun m ρ _ => Cert.OutProjIdeal.Gen.frame m ρ

theorem quiescent_OutProjRefIdeal : Cert.quiescent_OutProjRefIdeal (hOutProjRefIdeal := Cert.OutProjRefIdeal.Gen.facts) := fun m ρ _ =>
  (θ_run Cert.OutProjRefIdeal.defs _ _).mono (fun r h => ⟨fun c => (h c).2, Idealize.ShloMosaic.sem_eq_zero_of_no_sems (by decide) r.2⟩)
    (Cert.OutProjRefIdeal.Value.run (F := Ideal) m ρ)

theorem quiescent_Cmp : Cert.quiescent_Cmp (hCmp := Cert.Cmp.Gen.facts) := fun m ρ _ => Cert.Cmp.Gen.frame m ρ

theorem quiescent_CmpIdeal : Cert.quiescent_CmpIdeal (hCmpIdeal := Cert.CmpIdeal.Gen.facts) := fun m ρ _ => Cert.CmpIdeal.Gen.frame m ρ

theorem quiescent_CmpRefIdeal : Cert.quiescent_CmpRefIdeal (hCmpRefIdeal := Cert.CmpRefIdeal.Gen.facts) := fun m ρ _ =>
  (θ_run Cert.CmpRefIdeal.defs _ _).mono (fun r h => ⟨fun c => (h c).2.2, Idealize.ShloMosaic.sem_eq_zero_of_no_sems (by decide) r.2⟩)
    (Cert.CmpRefIdeal.Value.run (F := Ideal) m ρ)

theorem algebraic_SsdIdeal_SsdRefIdeal :
    Cert.algebraic_SsdIdeal_SsdRefIdeal (hSsdIdeal := Cert.SsdIdeal.Gen.facts) (hSsdRefIdeal := Cert.SsdRefIdeal.Gen.facts) := by
  intro m ρ m' ρ' _ hagree
  refine ⟨fun c => Cert.Proof.Ssd.G m c,
    (θ_run _ _ _).mono (fun r h c => ⟨(h c).1.trans (Cert.Proof.Ssd.final m c), (h c).2⟩) (Cert.SsdIdeal.Value.run_blocks m ρ), ?_⟩
  refine (θ_run _ _ _).mono (fun _ h c => ⟨(h c).1.trans ?_, (h c).2⟩) (Cert.SsdRefIdeal.StepRun.run_iter m' ρ' (fun c => Cert.Proof.Ssd.it _ _ _ _ _ _ _) (fun c => rfl) (fun c n => rfl))
  obtain ⟨h0, h1, h2, h3, h4, h5, h6⟩ := hagree c
  funext j
  have ej : j = Idealize.ShloMosaic.ix2 (j 0) (j 1) := by funext a; fin_cases a <;> rfl
  rw [ej]
  refine (Cert.Proof.Ssd.ref_at _ _ _ _ _ _ _ (j 0) (j 1)).trans ?_
  show _ = Cert.Proof.Ssd.out (Cert.Proof.Ssd.A m c) (j 0) (j 1)
  unfold Cert.Proof.Ssd.A
  rw [h0, h1, h2, h3, h4, h5, h6]

theorem algebraic_FfnIdeal_FfnRefIdeal :
    Cert.algebraic_FfnIdeal_FfnRefIdeal (hFfnIdeal := Cert.FfnIdeal.Gen.facts) (hFfnRefIdeal := Cert.FfnRefIdeal.Gen.facts) := by
  intro m ρ m' ρ' _ hagree
  refine ⟨fun c => Cert.Proof.Ffn.G m c,
    (θ_run _ _ _).mono (fun r h c => ⟨(h c).1.trans (Cert.Proof.Ffn.final m c), (h c).2⟩) (Cert.FfnIdeal.Value.run_blocks m ρ), ?_⟩
  refine (θ_run _ _ _).mono (fun _ h c => ⟨(h c).1.trans ?_, (h c).2⟩) (Cert.FfnRefIdeal.Value.run (F := Ideal) m' ρ')
  obtain ⟨h0, h1, h2, h3, h4, h5⟩ := hagree c
  refine (Cert.FfnRefIdeal.Read.val_main_v36_eq m' c).trans ?_
  unfold Cert.Proof.Ffn.G
  rw [h0, h1, h2, h3, h4, h5]

theorem algebraic_InProjIdeal_InProjRefIdeal :
    Cert.algebraic_InProjIdeal_InProjRefIdeal (hInProjIdeal := Cert.InProjIdeal.Gen.facts) (hInProjRefIdeal := Cert.InProjRefIdeal.Gen.facts) := by
  intro m ρ m' ρ' _ hagree
  refine ⟨fun c => Cert.Proof.InProj.G m c,
    (θ_run _ _ _).mono (fun r h c => ⟨(h c).1.trans (Cert.Proof.InProj.final m c), (h c).2⟩) (Cert.InProjIdeal.Value.run_blocks m ρ), ?_⟩
  refine (θ_run _ _ _).mono (fun _ h c => ⟨(h c).1.trans ?_, (h c).2⟩) (Cert.InProjRefIdeal.Value.run (F := Ideal) m' ρ')
  obtain ⟨h0, h1, h2⟩ := hagree c
  refine (Cert.InProjRefIdeal.Read.val_main_v25_eq m' c).trans ?_
  unfold Cert.Proof.InProj.G
  rw [h0, h1, h2]

theorem algebraic_OutProjIdeal_OutProjRefIdeal :
    Cert.algebraic_OutProjIdeal_OutProjRefIdeal (hOutProjIdeal := Cert.OutProjIdeal.Gen.facts) (hOutProjRefIdeal := Cert.OutProjRefIdeal.Gen.facts) := by
  intro m ρ m' ρ' _ hagree
  refine ⟨fun c => Cert.Proof.OutProj.G m c,
    (θ_run _ _ _).mono (fun r h c => ⟨(h c).1.trans (Cert.Proof.OutProj.final m c), (h c).2⟩) (Cert.OutProjIdeal.Value.run_blocks m ρ), ?_⟩
  refine (θ_run _ _ _).mono (fun _ h c => ⟨(h c).1.trans ?_, (h c).2⟩) (Cert.OutProjRefIdeal.Value.run (F := Ideal) m' ρ')
  obtain ⟨h0, h1, h2, h3⟩ := hagree c
  refine (Cert.OutProjRefIdeal.Read.val_main_v7_eq _ _ _ _).trans ?_
  unfold Cert.Proof.OutProj.G
  rw [h0, h1, h2, h3]

theorem algebraic_CmpIdeal_CmpRefIdeal :
    Cert.algebraic_CmpIdeal_CmpRefIdeal (hCmpIdeal := Cert.CmpIdeal.Gen.facts) (hCmpRefIdeal := Cert.CmpRefIdeal.Gen.facts) := by
  intro m ρ m' ρ' _ hagree
  refine ⟨fun c => Cert.Proof.Cmp.GK m c, fun c => Cert.Proof.Cmp.GV m c,
    (θ_run _ _ _).mono (fun r h c => ⟨(h c).1.trans (Cert.Proof.Cmp.finalK m c), (h c).2.1.trans (Cert.Proof.Cmp.finalV m c), (h c).2.2⟩) (Cert.CmpIdeal.Value.run_blocks m ρ), ?_⟩
  refine (θ_run _ _ _).mono (fun _ h c => ⟨(h c).1.trans ?_, (h c).2.1.trans ?_, (h c).2.2⟩) (Cert.CmpRefIdeal.Value.run (F := Ideal) m' ρ')
  · obtain ⟨h0, h1, h2, h3, h4, h5, h6⟩ := hagree c
    refine (Cert.CmpRefIdeal.Read.val_main_v58_eq m' c).trans ?_
    unfold Cert.Proof.Cmp.GK
    rw [h0, h1, h2, h5]
  · obtain ⟨h0, h1, h2, h3, h4, h5, h6⟩ := hagree c
    refine (Cert.CmpRefIdeal.Read.val_main_v65_eq m' c).trans ?_
    unfold Cert.Proof.Cmp.GV
    rw [h0, h3, h4, h6]

theorem claim : Cert.Claim := ⟨Cert.Ssd.Gen.facts, Cert.SsdIdeal.Gen.facts, Cert.SsdRefIdeal.Gen.facts, Cert.Ffn.Gen.facts, Cert.FfnIdeal.Gen.facts, Cert.FfnRefIdeal.Gen.facts, Cert.InProj.Gen.facts, Cert.InProjIdeal.Gen.facts, Cert.InProjRefIdeal.Gen.facts, Cert.OutProj.Gen.facts, Cert.OutProjIdeal.Gen.facts, Cert.OutProjRefIdeal.Gen.facts, Cert.Cmp.Gen.facts, Cert.CmpIdeal.Gen.facts, Cert.CmpRefIdeal.Gen.facts,
  quiescent_Ssd, quiescent_SsdIdeal, quiescent_SsdRefIdeal, quiescent_Ffn, quiescent_FfnIdeal, quiescent_FfnRefIdeal, quiescent_InProj, quiescent_InProjIdeal, quiescent_InProjRefIdeal, quiescent_OutProj, quiescent_OutProjIdeal, quiescent_OutProjRefIdeal, quiescent_Cmp, quiescent_CmpIdeal, quiescent_CmpRefIdeal,
  trivial, algebraic_SsdIdeal_SsdRefIdeal, trivial, algebraic_FfnIdeal_FfnRefIdeal, trivial, algebraic_InProjIdeal_InProjRefIdeal, trivial, algebraic_OutProjIdeal_OutProjRefIdeal, trivial, algebraic_CmpIdeal_CmpRefIdeal⟩

end Cert.Proof

end
